-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_factors_finite [hPre_factors_finite : Cert.Pre_factors_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_factors_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_factors_finite [hPre_factors_finite : Cert.Pre_factors_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_factors_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_factors_finite [hKernel6Ideal : Cert.Kernel6Ideal.Facts] [hPre_factors_finite : Cert.Pre_factors_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_factors_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_factors_finite [hReference6Ideal : Cert.Reference6Ideal.Facts] [hPre_factors_finite : Cert.Pre_factors_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_factors_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v87_0)) (v1 : (c : Dev Cert.Kernel2Ideal.nD) → Buf (Elt Ideal) ((c.tc : Thread Cert.Kernel2Ideal.nD Cert.Kernel2Ideal.τ).loc Cert.Kernel2Ideal.main_v87_1)) (v2 : (c : Dev Cert.Kernel2Ideal.nD) → Buf (Elt Ideal) ((c.tc : Thread Cert.Kernel2Ideal.nD Cert.Kernel2Ideal.τ).loc Cert.Kernel2Ideal.main_v87_2)) (v3 : (c : Dev Cert.Kernel2Ideal.nD) → Buf (Elt Ideal) ((c.tc : Thread Cert.Kernel2Ideal.nD Cert.Kernel2Ideal.τ).loc Cert.Kernel2Ideal.main_v87_4)) (v4 : (c : Dev Cert.Kernel2Ideal.nD) → Buf (Elt Ideal) ((c.tc : Thread Cert.Kernel2Ideal.nD Cert.Kernel2Ideal.τ).loc Cert.Kernel2Ideal.main_v87_5)) (v5 : (c : Dev Cert.Kernel2Ideal.nD) → Buf (Elt Ideal) ((c.tc : Thread Cert.Kernel2Ideal.nD Cert.Kernel2Ideal.τ).loc Cert.Kernel2Ideal.main_v87_6)) (v6 : (c : Dev Cert.Kernel2Ideal.nD) → Buf (Elt Ideal) ((c.tc : Thread Cert.Kernel2Ideal.nD Cert.Kernel2Ideal.τ).loc Cert.Kernel2Ideal.main_v87_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v87_0) = v0 c
          ∧ r.2.mem ((c.tc : Thread Cert.Kernel2Ideal.nD Cert.Kernel2Ideal.τ).loc Cert.Kernel2Ideal.main_v87_1) = v1 c
          ∧ r.2.mem ((c.tc : Thread Cert.Kernel2Ideal.nD Cert.Kernel2Ideal.τ).loc Cert.Kernel2Ideal.main_v87_2) = v2 c
          ∧ r.2.mem ((c.tc : Thread Cert.Kernel2Ideal.nD Cert.Kernel2Ideal.τ).loc Cert.Kernel2Ideal.main_v87_4) = v3 c
          ∧ r.2.mem ((c.tc : Thread Cert.Kernel2Ideal.nD Cert.Kernel2Ideal.τ).loc Cert.Kernel2Ideal.main_v87_5) = v4 c
          ∧ r.2.mem ((c.tc : Thread Cert.Kernel2Ideal.nD Cert.Kernel2Ideal.τ).loc Cert.Kernel2Ideal.main_v87_6) = v5 c
          ∧ r.2.mem ((c.tc : Thread Cert.Kernel2Ideal.nD Cert.Kernel2Ideal.τ).loc Cert.Kernel2Ideal.main_v87_3) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v176) = v0 c
          ∧ r.2.mem ((c.tc : Thread Cert.Reference2Ideal.nD Cert.Reference2Ideal.τ).loc Cert.Reference2Ideal.main_v178) = v1 c
          ∧ r.2.mem ((c.tc : Thread Cert.Reference2Ideal.nD Cert.Reference2Ideal.τ).loc Cert.Reference2Ideal.main_v180) = v2 c
          ∧ r.2.mem ((c.tc : Thread Cert.Reference2Ideal.nD Cert.Reference2Ideal.τ).loc Cert.Reference2Ideal.main_v182) = v3 c
          ∧ r.2.mem ((c.tc : Thread Cert.Reference2Ideal.nD Cert.Reference2Ideal.τ).loc Cert.Reference2Ideal.main_v184) = v4 c
          ∧ r.2.mem ((c.tc : Thread Cert.Reference2Ideal.nD Cert.Reference2Ideal.τ).loc Cert.Reference2Ideal.main_v186) = v5 c
          ∧ r.2.mem ((c.tc : Thread Cert.Reference2Ideal.nD Cert.Reference2Ideal.τ).loc Cert.Reference2Ideal.main_v194) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v21_0)) (v1 : (c : Dev Cert.Kernel5Ideal.nD) → Buf (Elt Ideal) ((c.tc : Thread Cert.Kernel5Ideal.nD Cert.Kernel5Ideal.τ).loc Cert.Kernel5Ideal.main_v21_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v21_0) = v0 c
          ∧ r.2.mem ((c.tc : Thread Cert.Kernel5Ideal.nD Cert.Kernel5Ideal.τ).loc Cert.Kernel5Ideal.main_v21_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal_pre_factors_finite [hKernel6Ideal : Cert.Kernel6Ideal.Facts] [hReference6Ideal : Cert.Reference6Ideal.Facts] [hPre_factors_finite : Cert.Pre_factors_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_factors_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) →
    ∃ (v0 : (c : Dev Cert.Kernel7Ideal.nD) → Buf (Elt Ideal) ((c.tc : Thread Cert.Kernel7Ideal.nD Cert.Kernel7Ideal.τ).loc Cert.Kernel7Ideal.main_v21_0)) (v1 : (c : Dev Cert.Kernel7Ideal.nD) → Buf (Elt Ideal) ((c.tc : Thread Cert.Kernel7Ideal.nD Cert.Kernel7Ideal.τ).loc Cert.Kernel7Ideal.main_v21_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21_0) = v0 c
          ∧ r.2.mem ((c.tc : Thread Cert.Kernel7Ideal.nD Cert.Kernel7Ideal.τ).loc Cert.Kernel7Ideal.main_v21_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v67) = v0 c
          ∧ r.2.mem ((c.tc : Thread Cert.Reference7Ideal.nD Cert.Reference7Ideal.τ).loc Cert.Reference7Ideal.main_v69) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v11)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v11) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v49_0)) (v1 : (c : Dev Cert.Kernel9Ideal.nD) → Buf (Elt Ideal) ((c.tc : Thread Cert.Kernel9Ideal.nD Cert.Kernel9Ideal.τ).loc Cert.Kernel9Ideal.main_v49_1)) (v2 : (c : Dev Cert.Kernel9Ideal.nD) → Buf (Elt Ideal) ((c.tc : Thread Cert.Kernel9Ideal.nD Cert.Kernel9Ideal.τ).loc Cert.Kernel9Ideal.main_v49_2)) (v3 : (c : Dev Cert.Kernel9Ideal.nD) → Buf (Elt Ideal) ((c.tc : Thread Cert.Kernel9Ideal.nD Cert.Kernel9Ideal.τ).loc Cert.Kernel9Ideal.main_v49_4)) (v4 : (c : Dev Cert.Kernel9Ideal.nD) → Buf (Elt Ideal) ((c.tc : Thread Cert.Kernel9Ideal.nD Cert.Kernel9Ideal.τ).loc Cert.Kernel9Ideal.main_v49_5)) (v5 : (c : Dev Cert.Kernel9Ideal.nD) → Buf (Elt Ideal) ((c.tc : Thread Cert.Kernel9Ideal.nD Cert.Kernel9Ideal.τ).loc Cert.Kernel9Ideal.main_v49_6)) (v6 : (c : Dev Cert.Kernel9Ideal.nD) → Buf (Elt Ideal) ((c.tc : Thread Cert.Kernel9Ideal.nD Cert.Kernel9Ideal.τ).loc Cert.Kernel9Ideal.main_v49_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v49_0) = v0 c
          ∧ r.2.mem ((c.tc : Thread Cert.Kernel9Ideal.nD Cert.Kernel9Ideal.τ).loc Cert.Kernel9Ideal.main_v49_1) = v1 c
          ∧ r.2.mem ((c.tc : Thread Cert.Kernel9Ideal.nD Cert.Kernel9Ideal.τ).loc Cert.Kernel9Ideal.main_v49_2) = v2 c
          ∧ r.2.mem ((c.tc : Thread Cert.Kernel9Ideal.nD Cert.Kernel9Ideal.τ).loc Cert.Kernel9Ideal.main_v49_4) = v3 c
          ∧ r.2.mem ((c.tc : Thread Cert.Kernel9Ideal.nD Cert.Kernel9Ideal.τ).loc Cert.Kernel9Ideal.main_v49_5) = v4 c
          ∧ r.2.mem ((c.tc : Thread Cert.Kernel9Ideal.nD Cert.Kernel9Ideal.τ).loc Cert.Kernel9Ideal.main_v49_6) = v5 c
          ∧ r.2.mem ((c.tc : Thread Cert.Kernel9Ideal.nD Cert.Kernel9Ideal.τ).loc Cert.Kernel9Ideal.main_v49_3) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v65) = v0 c
          ∧ r.2.mem ((c.tc : Thread Cert.Reference9Ideal.nD Cert.Reference9Ideal.τ).loc Cert.Reference9Ideal.main_v67) = v1 c
          ∧ r.2.mem ((c.tc : Thread Cert.Reference9Ideal.nD Cert.Reference9Ideal.τ).loc Cert.Reference9Ideal.main_v69) = v2 c
          ∧ r.2.mem ((c.tc : Thread Cert.Reference9Ideal.nD Cert.Reference9Ideal.τ).loc Cert.Reference9Ideal.main_v71) = v3 c
          ∧ r.2.mem ((c.tc : Thread Cert.Reference9Ideal.nD Cert.Reference9Ideal.τ).loc Cert.Reference9Ideal.main_v73) = v4 c
          ∧ r.2.mem ((c.tc : Thread Cert.Reference9Ideal.nD Cert.Reference9Ideal.τ).loc Cert.Reference9Ideal.main_v75) = v5 c
          ∧ r.2.mem ((c.tc : Thread Cert.Reference9Ideal.nD Cert.Reference9Ideal.τ).loc Cert.Reference9Ideal.main_v83) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_scores_finite : Cert.Pre_scores_finite.Facts) (hPre_factors_finite : Cert.Pre_factors_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_factors_finite (hKernel6Ideal := hKernel6Ideal) (hPre_factors_finite := hPre_factors_finite)
    ∧ quiescent_Reference6Ideal (hReference6Ideal := hReference6Ideal)
    ∧ quiescent_Reference6Ideal_pre_factors_finite (hReference6Ideal := hReference6Ideal) (hPre_factors_finite := hPre_factors_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_factors_finite (hKernel6Ideal := hKernel6Ideal) (hReference6Ideal := hReference6Ideal) (hPre_factors_finite := hPre_factors_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_factors_finite.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_

variable [Facts]

def fn {F : FTy → Type} [FloatOps F] (main_arg0 : FVec F S8x1024 .f32) (main_arg1 : FVec F S1024 .f32) (main_arg2 : FVec F S1024x6144 .f32) (main_arg3 : FVec F S6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  main_v13
-- ==== Pre_scores_finite.lean ====
abbrev S8x8192x16x64 : Shape := ⟨4, ![8, 8192, 16, 64]⟩
abbrev S8x256x16x64 : Shape := ⟨4, ![8, 256, 16, 64]⟩
abbrev S16x15x31 : Shape := ⟨3, ![16, 15, 31]⟩
abbrev S_ : Shape := ⟨0, ![]⟩

class Facts : Prop where
  bcast_S_S8x8192x16x64 : S_.BroadcastsInDim S8x8192x16x64 (![] : Fin 0 → Fin S8x8192x16x64.rank)
  reducesTo_S8x8192x16x64_S_d0_1_2_3 : S8x8192x16x64.ReducesTo [0, 1, 2, 3] S_
  h_S_ : 0 < S_.numel
  bcast_S_S8x256x16x64 : S_.BroadcastsInDim S8x256x16x64 (![] : Fin 0 → Fin S8x256x16x64.rank)
  reducesTo_S8x256x16x64_S_d0_1_2_3 : S8x256x16x64.ReducesTo [0, 1, 2, 3] S_
  bcast_S_S16x15x31 : S_.BroadcastsInDim S16x15x31 (![] : Fin 0 → Fin S16x15x31.rank)
  reducesTo_S16x15x31_S_d0_1_2 : S16x15x31.ReducesTo [0, 1, 2] S_

variable [Facts]

def fn_part1 {F : FTy → Type} [FloatOps F] (main_v13 : IVec S_ 1) (main_v16 : IVec S16x15x31 1) : IVec S_ 1 :=
  let main_c_5 : IVec S_ 1 := constantI S_ 1 1#1
  let main_v17 : IVec S_ 1 := (fun x v => Host.reduce IntOp.andi x v reducesTo_S16x15x31_S_d0_1_2 h_S_) main_v16 main_c_5
  let main_v18 : IVec S_ 1 := andi main_v13 main_v17
  main_v18

def fn {F : FTy → Type} [FloatOps F] (main_arg0 : FVec F S8x8192x16x64 .f32) (main_arg1 : FVec F S8x8192x16x64 .f32) (main_arg2 : FVec F S8x8192x16x64 .f32) (main_arg3 : FVec F S8x256x16x64 .f32) (main_arg4 : FVec F S8x256x16x64 .f32) (main_arg5 : FVec F S16x15x31 .f32) : IVec S_ 1 :=
  let main_v0 : FVec F S8x8192x16x64 .f32 := Host.absf main_arg0
  let main_cst : FVec F S_ .f32 := constant S_ .f32 0x7F800000#32
  let main_v1 : FVec F S8x8192x16x64 .f32 := broadcastInDim S8x8192x16x64 ![] bcast_S_S8x8192x16x64 main_cst
  let main_v2 : IVec S8x8192x16x64 1 := cmpf .olt main_v0 main_v1
  let main_c : IVec S_ 1 := constantI S_ 1 1#1
  let main_v3 : IVec S_ 1 := (fun x v => Host.reduce IntOp.andi x v reducesTo_S8x8192x16x64_S_d0_1_2_3 h_S_) main_v2 main_c
  let main_v4 : FVec F S8x8192x16x64 .f32 := Host.absf main_arg1
  let main_cst_0 : FVec F S_ .f32 := constant S_ .f32 0x7F800000#32
  let main_v5 : FVec F S8x8192x16x64 .f32 := broadcastInDim S8x8192x16x64 ![] bcast_S_S8x8192x16x64 main_cst_0
  let main_v6 : IVec S8x8192x16x64 1 := cmpf .olt main_v4 main_v5
  let main_c_1 : IVec S_ 1 := constantI S_ 1 1#1
  let main_v7 : IVec S_ 1 := (fun x v => Host.reduce IntOp.andi x v reducesTo_S8x8192x16x64_S_d0_1_2_3 h_S_) main_v6 main_c_1
  let main_v8 : IVec S_ 1 := andi main_v3 main_v7
  let main_v9 : FVec F S8x256x16x64 .f32 := Host.absf main_arg3
  let main_cst_2 : FVec F S_ .f32 := constant S_ .f32 0x7F800000#32
  let main_v10 : FVec F S8x256x16x64 .f32 := broadcastInDim S8x256x16x64 ![] bcast_S_S8x256x16x64 main_cst_2
  let main_v11 : IVec S8x256x16x64 1 := cmpf .olt main_v9 main_v10
  let main_c_3 : IVec S_ 1 := constantI S_ 1 1#1
  let main_v12 : IVec S_ 1 := (fun x v => Host.reduce IntOp.andi x v reducesTo_S8x256x16x64_S_d0_1_2_3 h_S_) main_v11 main_c_3
  let main_v13 : IVec S_ 1 := andi main_v8 main_v12
  let main_v14 : FVec F S16x15x31 .f32 := Host.absf main_arg5
  let main_cst_4 : FVec F S_ .f32 := constant S_ .f32 0x7F800000#32
  let main_v15 : FVec F S16x15x31 .f32 := broadcastInDim S16x15x31 ![] bcast_S_S16x15x31 main_cst_4
  let main_v16 : IVec S16x15x31 1 := cmpf .olt main_v14 main_v15
  fn_part1 (F := F) main_v13 main_v16
-- ==== Kernel.lean ====
abbrev S8x8192x16x64 : Shape := ⟨4, ![8, 8192, 16, 64]⟩
abbrev S8x256x16x64 : Shape := ⟨4, ![8, 256, 16, 64]⟩
abbrev S16x15x31 : Shape := ⟨3, ![16, 15, 31]⟩
abbrev S65536x1024 : Shape := ⟨2, ![65536, 1024]⟩
abbrev S_ : Shape := ⟨0, ![]⟩
abbrev S2048x1024 : Shape := ⟨2, ![2048, 1024]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S8x8x1 : Shape := ⟨3, ![8, 8, 1]⟩
abbrev S16x8x8x64x64 : Shape := ⟨5, ![16, 8, 8, 64, 64]⟩
abbrev S1x1x1x64x64 : Shape := ⟨5, ![1, 1, 1, 64, 64]⟩
abbrev S8x16x64x8x64 : Shape := ⟨5, ![8, 16, 64, 8, 64]⟩
abbrev S8x16x64x512 : Shape := ⟨4, ![8, 16, 64, 512]⟩
abbrev S1024x128 : Shape := ⟨2, ![1024, 128]⟩
abbrev S1536x128 : Shape := ⟨2, ![1536, 128]⟩
abbrev S256x128 : Shape := ⟨2, ![256, 128]⟩
abbrev S8x2x64x512 : Shape := ⟨4, ![8, 2, 64, 512]⟩
abbrev S64x128 : Shape := ⟨2, ![64, 128]⟩
abbrev S2048x128 : Shape := ⟨2, ![2048, 128]⟩
abbrev S2048x256 : Shape := ⟨2, ![2048, 256]⟩
abbrev S512x128 : Shape := ⟨2, ![512, 128]⟩
abbrev S128x128 : Shape := ⟨2, ![128, 128]⟩
abbrev S128x512 : Shape := ⟨2, ![128, 512]⟩
abbrev S1x2x64x512 : Shape := ⟨4, ![1, 2, 64, 512]⟩
abbrev S2x64x512 : Shape := ⟨3, ![2, 64, 512]⟩
abbrev S128x256 : Shape := ⟨2, ![128, 256]⟩
abbrev S128 : Shape := ⟨1, ![128]⟩
abbrev S128x1 : Shape := ⟨2, ![128, 1]⟩

abbrev nBuf : Space → Nat
  | .hbm => 98
  | .vmem => 14
  | .smem => 0
  | _ => 0

abbrev bufTy : (tb : Table) → Fin (tcTables nBuf tb) → BufTy
  | .hbm, ⟨0, _⟩ => ⟨S8x8192x16x64, .f32⟩
  | .hbm, ⟨1, _⟩ => ⟨S8x8192x16x64, .f32⟩
  | .hbm, ⟨2, _⟩ => ⟨S8x8192x16x64, .f32⟩
  | .hbm, ⟨3, _⟩ => ⟨S8x256x16x64, .f32⟩
  | .hbm, ⟨4, _⟩ => ⟨S8x256x16x64, .f32⟩
  | .hbm, ⟨5, _⟩ => ⟨S16x15x31, .f32⟩
  | .hbm, ⟨6, _⟩ => ⟨S65536x1024, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S65536x1024, .bf16⟩
  | .hbm, ⟨11, _⟩ => ⟨S65536x1024, .f32⟩
  | .hbm, ⟨12, _⟩ => ⟨S65536x1024, .bf16⟩
  | .hbm, ⟨13, _⟩ => ⟨S65536x1024, .f32⟩
  | .hbm, ⟨14, _⟩ => ⟨S65536x1024, .bf16⟩
  | .hbm, ⟨15, _⟩ => ⟨S2048x1024, .f32⟩
  | .hbm, ⟨16, _⟩ => ⟨S2048x1024, .bf16⟩
  | .hbm, ⟨17, _⟩ => ⟨S2048x1024, .f32⟩
  | .hbm, ⟨18, _⟩ => ⟨S2048x1024, .bf16⟩
  | .hbm, ⟨19, _⟩ => ⟨S64, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S_, .i32⟩
  | .hbm, ⟨29, _⟩ => ⟨S64, .i32⟩
  | .hbm, ⟨30, _⟩ => ⟨S64, .i32⟩
  | .hbm, ⟨31, _⟩ => ⟨S1x64, .i32⟩
  | .hbm, ⟨32, _⟩ => ⟨S64x1, .i32⟩
  | .hbm, ⟨33, _⟩ => ⟨S64x64, .i32⟩
  | .hbm, ⟨34, _⟩ => ⟨S64x64, .i32⟩
  | .hbm, ⟨35, _⟩ => ⟨S64x64, .i1⟩
  | .hbm, ⟨36, _⟩ => ⟨S1x64, .i32⟩
  | .hbm, ⟨37, _⟩ => ⟨S64x1, .i32⟩
  | .hbm, ⟨38, _⟩ => ⟨S_, .i32⟩
  | .hbm, ⟨39, _⟩ => ⟨S64x1, .i32⟩
  | .hbm, ⟨40, _⟩ => ⟨S64x1, .i32⟩
  | .hbm, ⟨41, _⟩ => ⟨S64x64, .i32⟩
  | .hbm, ⟨42, _⟩ => ⟨S64x64, .i32⟩
  | .hbm, ⟨43, _⟩ => ⟨S64x64, .i1⟩
  | .hbm, ⟨44, _⟩ => ⟨S64x64, .i1⟩
  | .hbm, ⟨45, _⟩ => ⟨S1x64, .i32⟩
  | .hbm, ⟨46, _⟩ => ⟨S64x1, .i32⟩
  | .hbm, ⟨47, _⟩ => ⟨S64x64, .i32⟩
  | .hbm, ⟨48, _⟩ => ⟨S64x64, .i32⟩
  | .hbm, ⟨49, _⟩ => ⟨S64x64, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S64x64, .i32⟩
  | .hbm, ⟨54, _⟩ => ⟨S64x64, .i32⟩
  | .hbm, ⟨55, _⟩ => ⟨S_, .i32⟩
  | .hbm, ⟨56, _⟩ => ⟨S64x64, .i32⟩
  | .hbm, ⟨57, _⟩ => ⟨S64x64, .i32⟩
  | .hbm, ⟨58, _⟩ => ⟨S_, .i32⟩
  | .hbm, ⟨59, _⟩ => ⟨S64x64, .i32⟩
  | .hbm, ⟨60, _⟩ => ⟨S64x64, .i32⟩
  | .hbm, ⟨61, _⟩ => ⟨S_, .i32⟩
  | .hbm, ⟨62, _⟩ => ⟨S64x64, .i32⟩
  | .hbm, ⟨63, _⟩ => ⟨S64x64, .i32⟩
  | .hbm, ⟨64, _⟩ => ⟨S_, .i32⟩
  | .hbm, ⟨65, _⟩ => ⟨S64x64, .i32⟩
  | .hbm, ⟨66, _⟩ => ⟨S64x64, .i1⟩
  | .hbm, ⟨67, _⟩ => ⟨S_, .i32⟩
  | .hbm, ⟨68, _⟩ => ⟨S64x64, .i32⟩
  | .hbm, ⟨69, _⟩ => ⟨S64x64, .i32⟩
  | .hbm, ⟨70, _⟩ => ⟨S64x64, .i32⟩
  | .hbm, ⟨71, _⟩ => ⟨S64x64x1, .i32⟩
  | .hbm, ⟨72, _⟩ => ⟨S16x15x64x64, .f32⟩
  | .hbm, ⟨73, _⟩ => ⟨S8, .i32⟩
  | .hbm, ⟨74, _⟩ => ⟨S8x1, .i32⟩
  | .hbm, ⟨75, _⟩ => ⟨S8, .i32⟩
  | .hbm, ⟨76, _⟩ => ⟨S1x8, .i32⟩
  | .hbm, ⟨77, _⟩ => ⟨S8x8, .i32⟩
  | .hbm, ⟨78, _⟩ => ⟨S8x8, .i32⟩
  | .hbm, ⟨79, _⟩ => ⟨S8x8, .i32⟩
  | .hbm, ⟨80, _⟩ => ⟨S_, .i32⟩
  | .hbm, ⟨81, _⟩ => ⟨S8x8, .i32⟩
  | .hbm, ⟨82, _⟩ => ⟨S8x8, .i1⟩
  | .hbm, ⟨83, _⟩ => ⟨S_, .i32⟩
  | .hbm, ⟨84, _⟩ => ⟨S8x8, .i32⟩
  | .hbm, ⟨85, _⟩ => ⟨S8x8, .i32⟩
  | .hbm, ⟨86, _⟩ => ⟨S8x8, .i32⟩
  | .hbm, ⟨87, _⟩ => ⟨S8x8x1, .i32⟩
  | .hbm, ⟨88, _⟩ => ⟨S16x8x8x64x64, .f32⟩
  | .hbm, ⟨89, _⟩ => ⟨S1x1x1x64x64, .i1⟩
  | .hbm, ⟨90, _⟩ => ⟨S_, .f32⟩
  | .hbm, ⟨91, _⟩ => ⟨S_, .f32⟩
  | .hbm, ⟨92, _⟩ => ⟨S16x8x8x64x64, .i1⟩
  | .hbm, ⟨93, _⟩ => ⟨S16x8x8x64x64, .f32⟩
  | .hbm, ⟨94, _⟩ => ⟨S16x8x8x64x64, .f32⟩
  | .hbm, ⟨95, _⟩ => ⟨S8x16x64x8x64, .f32⟩
  | .hbm, ⟨96, _⟩ => ⟨S8x16x64x512, .f32⟩
  | .hbm, ⟨97, _⟩ => ⟨S65536x1024, .bf16⟩
  | .local _ .vmem, ⟨0, _⟩ => ⟨S1024x128, .bf16⟩
  | .local _ .vmem, ⟨1, _⟩ => ⟨S1024x128, .bf16⟩
  | .local _ .vmem, ⟨2, _⟩ => ⟨S1536x128, .bf16⟩
  | .local _ .vmem, ⟨3, _⟩ => ⟨S1536x128, .bf16⟩
  | .local _ .vmem, ⟨4, _⟩ => ⟨S1536x128, .bf16⟩
  | .local _ .vmem, ⟨5, _⟩ => ⟨S1536x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S8x2x64x512, .f32⟩
  | .local _ .vmem, ⟨11, _⟩ => ⟨S8x2x64x512, .f32⟩
  | .local _ .vmem, ⟨12, _⟩ => ⟨S1024x128, .bf16⟩
  | .local _ .vmem, ⟨13, _⟩ => ⟨S1024x128, .bf16⟩
  | _, _ => ⟨S8x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_3 : Ref sig .tc := ⟨.hbm, 50, rfl⟩
abbrev main_c_4 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v34 : Ref sig .tc := ⟨.hbm, 57, rfl⟩
abbrev main_c_5 : Ref sig .tc := ⟨.hbm, 58, rfl⟩
abbrev main_v35 : Ref sig .tc := ⟨.hbm, 59, rfl⟩
abbrev main_v36 : Ref sig .tc := ⟨.hbm, 60, rfl⟩
abbrev main_c_6 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_11 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let c120_i32 : BitVec 32 := 120#32
  let c0_i32_26 : BitVec 32 := 0#32
  let arg2 : BitVec 32 := BitVec.ofNat 32 (i 2).val
  let c16_i32_23 : BitVec 32 := 16#32
  let v84 : BitVec 32 := Scalar.muli arg2 c16_i32_23
  let c0_i32_24 : BitVec 32 := 0#32
  let v85 : BitVec 32 := Scalar.addi v84 c0_i32_24
  let c4_i32_25 : BitVec 32 := 4#32
  let v86 : BitVec 32 := Scalar.subi v85 c4_i32_25
  let v87 : BitVec 32 := Scalar.maxsi c0_i32_26 v86
  let v88 : BitVec 32 := Scalar.minsi c120_i32 v87
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v89 : BitVec 32 := Scalar.subi v88 v3
  let c64_i32_27 : BitVec 32 := 64#32
  let v90 : BitVec 32 := Scalar.muli v89 c64_i32_27
  v90
def k0_off1 (i : grid0.Coords) (c0_i32_24 : BitVec 32) : Fin 2 → Nat :=
  let c120_i32 : BitVec 32 := 120#32
  let c0_i32_26 : BitVec 32 := 0#32
  let arg2 : BitVec 32 := BitVec.ofNat 32 (i 2).val
  let c16_i32_23 : BitVec 32 := 16#32
  let v84 : BitVec 32 := Scalar.muli arg2 c16_i32_23
  let v85 : BitVec 32 := Scalar.addi v84 c0_i32_24
  let c4_i32_25 : BitVec 32 := 4#32
  let v86 : BitVec 32 := Scalar.subi v85 c4_i32_25
  let v87 : BitVec 32 := Scalar.maxsi c0_i32_26 v86
  let v88 : BitVec 32 := Scalar.minsi c120_i32 v87
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v89 : BitVec 32 := Scalar.subi v88 v3
  let c64_i32_27 : BitVec 32 := 64#32
  let v90 : BitVec 32 := Scalar.muli v89 c64_i32_27
  let v91 : BitVec 32 := v90
  let v95 : Index := Scalar.indexCast v91
  let c0_28 : Index := 0#32
  ![v95.toNat, 0]
def k0_off2 (i : grid0.Coords) (c0_i32_24 : BitVec 32) : Fin 4 → Nat :=
  let c120_i32 : BitVec 32 := 120#32
  let c0_i32_26 : BitVec 32 := 0#32
  let arg2 : BitVec 32 := BitVec.ofNat 32 (i 2).val
  let c16_i32_23 : BitVec 32 := 16#32
  let v84 : BitVec 32 := Scalar.muli arg2 c16_i32_23
  let v85 : BitVec 32 := Scalar.addi v84 c0_i32_24
  let c4_i32_25 : BitVec 32 := 4#32
  let v86 : BitVec 32 := Scalar.subi v85 c4_i32_25
  let v87 : BitVec 32 := Scalar.maxsi c0_i32_26 v86
  let v88 : BitVec 32 := Scalar.minsi c120_i32 v87
  let v92 : BitVec 32 := Scalar.subi v88 v85
  let c8_i32 : BitVec 32 := 8#32
  let v93 : BitVec 32 := Scalar.addi v92 c8_i32
  let c1_i32 : BitVec 32 := 1#32
  let v94 : BitVec 32 := Scalar.subi v93 c1_i32
  let v103 : Index := Scalar.indexCast v94
  let c0_31 : Index := 0#32
  let c0_32 : Index := 0#32
  let c0_33 : Index := 0#32
  ![v103.toNat, 0, 0, 0]
def k0_mult2 (i : grid0.Coords) : BitVec 32 :=
  let c120_i32_46 : BitVec 32 := 120#32
  let c0_i32_45 : BitVec 32 := 0#32
  let arg2 : BitVec 32 := BitVec.ofNat 32 (i 2).val
  let c16_i32_42 : BitVec 32 := 16#32
  let v137 : BitVec 32 := Scalar.muli arg2 c16_i32_42
  let c1_i32_43 : BitVec 32 := 1#32
  let v138 : BitVec 32 := Scalar.addi v137 c1_i32_43
  let c4_i32_44 : BitVec 32 := 4#32
  let v139 : BitVec 32 := Scalar.subi v138 c4_i32_44
  let v140 : BitVec 32 := Scalar.maxsi c0_i32_45 v139
  let v141 : BitVec 32 := Scalar.minsi c120_i32_46 v140
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v142 : BitVec 32 := Scalar.subi v141 v3
  let c64_i32_47 : BitVec 32 := 64#32
  let v143 : BitVec 32 := Scalar.muli v142 c64_i32_47
  v143
def k0_mult3 (i : grid0.Coords) : BitVec 32 :=
  let c120_i32_67 : BitVec 32 := 120#32
  let c0_i32_66 : BitVec 32 := 0#32
  let arg2 : BitVec 32 := BitVec.ofNat 32 (i 2).val
  let c16_i32_64 : BitVec 32 := 16#32
  let v190 : BitVec 32 := Scalar.muli arg2 c16_i32_64
  let c2_i32 : BitVec 32 := 2#32
  let v191 : BitVec 32 := Scalar.addi v190 c2_i32
  let c4_i32_65 : BitVec 32 := 4#32
  let v192 : BitVec 32 := Scalar.subi v191 c4_i32_65
  let v193 : BitVec 32 := Scalar.maxsi c0_i32_66 v192
  let v194 : BitVec 32 := Scalar.minsi c120_i32_67 v193
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v195 : BitVec 32 := Scalar.subi v194 v3
  let c64_i32_68 : BitVec 32 := 64#32
  let v196 : BitVec 32 := Scalar.muli v195 c64_i32_68
  v196
def k0_mult4 (i : grid0.Coords) : BitVec 32 :=
  let c120_i32_88 : BitVec 32 := 120#32
  let c0_i32_87 : BitVec 32 := 0#32
  let arg2 : BitVec 32 := BitVec.ofNat 32 (i 2).val
  let c16_i32_85 : BitVec 32 := 16#32
  let v243 : BitVec 32 := Scalar.muli arg2 c16_i32_85
  let c3_i32 : BitVec 32 := 3#32
  let v244 : BitVec 32 := Scalar.addi v243 c3_i32
  let c4_i32_86 : BitVec 32 := 4#32
  let v245 : BitVec 32 := Scalar.subi v244 c4_i32_86
  let v246 : BitVec 32 := Scalar.maxsi c0_i32_87 v245
  let v247 : BitVec 32 := Scalar.minsi c120_i32_88 v246
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v248 : BitVec 32 := Scalar.subi v247 v3
  let c64_i32_89 : BitVec 32 := 64#32
  let v249 : BitVec 32 := Scalar.muli v248 c64_i32_89
  v249
def k0_mult5 (i : grid0.Coords) : BitVec 32 :=
  let c120_i32_110 : BitVec 32 := 120#32
  let c0_i32_109 : BitVec 32 := 0#32
  let arg2 : BitVec 32 := BitVec.ofNat 32 (i 2).val
  let c16_i32_106 : BitVec 32 := 16#32
  let v296 : BitVec 32 := Scalar.muli arg2 c16_i32_106
  let c4_i32_107 : BitVec 32 := 4#32
  let v297 : BitVec 32 := Scalar.addi v296 c4_i32_107
  let c4_i32_108 : BitVec 32 := 4#32
  let v298 : BitVec 32 := Scalar.subi v297 c4_i32_108
  let v299 : BitVec 32 := Scalar.maxsi c0_i32_109 v298
  let v300 : BitVec 32 := Scalar.minsi c120_i32_110 v299
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v301 : BitVec 32 := Scalar.subi v300 v3
  let c64_i32_111 : BitVec 32 := 64#32
  let v302 : BitVec 32 := Scalar.muli v301 c64_i32_111
  v302
def k0_mult6 (i : grid0.Coords) : BitVec 32 :=
  let c120_i32_131 : BitVec 32 := 120#32
  let c0_i32_130 : BitVec 32 := 0#32
  let arg2 : BitVec 32 := BitVec.ofNat 32 (i 2).val
  let c16_i32_128 : BitVec 32 := 16#32
  let v349 : BitVec 32 := Scalar.muli arg2 c16_i32_128
  let c5_i32 : BitVec 32 := 5#32
  let v350 : BitVec 32 := Scalar.addi v349 c5_i32
  let c4_i32_129 : BitVec 32 := 4#32
  let v351 : BitVec 32 := Scalar.subi v350 c4_i32_129
  let v352 : BitVec 32 := Scalar.maxsi c0_i32_130 v351
  let v353 : BitVec 32 := Scalar.minsi c120_i32_131 v352
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v354 : BitVec 32 := Scalar.subi v353 v3
  let c64_i32_132 : BitVec 32 := 64#32
  let v355 : BitVec 32 := Scalar.muli v354 c64_i32_132
  v355
def k0_mult7 (i : grid0.Coords) : BitVec 32 :=
  let c120_i32_152 : BitVec 32 := 120#32
  let c0_i32_151 : BitVec 32 := 0#32
  let arg2 : BitVec 32 := BitVec.ofNat 32 (i 2).val
  let c16_i32_149 : BitVec 32 := 16#32
  let v402 : BitVec 32 := Scalar.muli arg2 c16_i32_149
  let c6_i32 : BitVec 32 := 6#32
  let v403 : BitVec 32 := Scalar.addi v402 c6_i32
  let c4_i32_150 : BitVec 32 := 4#32
  let v404 : BitVec 32 := Scalar.subi v403 c4_i32_150
  let v405 : BitVec 32 := Scalar.maxsi c0_i32_151 v404
  let v406 : BitVec 32 := Scalar.minsi c120_i32_152 v405
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v407 : BitVec 32 := Scalar.subi v406 v3
  let c64_i32_153 : BitVec 32 := 64#32
  let v408 : BitVec 32 := Scalar.muli v407 c64_i32_153
  v408
def k0_mult8 (i : grid0.Coords) : BitVec 32 :=
  let c120_i32_173 : BitVec 32 := 120#32
  let c0_i32_172 : BitVec 32 := 0#32
  let arg2 : BitVec 32 := BitVec.ofNat 32 (i 2).val
  let c16_i32_170 : BitVec 32 := 16#32
  let v455 : BitVec 32 := Scalar.muli arg2 c16_i32_170
  let c7_i32 : BitVec 32 := 7#32
  let v456 : BitVec 32 := Scalar.addi v455 c7_i32
  let c4_i32_171 : BitVec 32 := 4#32
  let v457 : BitVec 32 := Scalar.subi v456 c4_i32_171
  let v458 : BitVec 32 := Scalar.maxsi c0_i32_172 v457
  let v459 : BitVec 32 := Scalar.minsi c120_i32_173 v458
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v460 : BitVec 32 := Scalar.subi v459 v3
  let c64_i32_174 : BitVec 32 := 64#32
  let v461 : BitVec 32 := Scalar.muli v460 c64_i32_174
  v461
def k0_mult9 (i : grid0.Coords) : BitVec 32 :=
  let c120_i32_195 : BitVec 32 := 120#32
  let c0_i32_194 : BitVec 32 := 0#32
  let arg2 : BitVec 32 := BitVec.ofNat 32 (i 2).val
  let c16_i32_191 : BitVec 32 := 16#32
  let v508 : BitVec 32 := Scalar.muli arg2 c16_i32_191
  let c8_i32_192 : BitVec 32 := 8#32
  let v509 : BitVec 32 := Scalar.addi v508 c8_i32_192
  let c4_i32_193 : BitVec 32 := 4#32
  let v510 : BitVec 32 := Scalar.subi v509 c4_i32_193
  let v511 : BitVec 32 := Scalar.maxsi c0_i32_194 v510
  let v512 : BitVec 32 := Scalar.minsi c120_i32_195 v511
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v513 : BitVec 32 := Scalar.subi v512 v3
  let c64_i32_196 : BitVec 32 := 64#32
  let v514 : BitVec 32 := Scalar.muli v513 c64_i32_196
  v514
def k0_mult10 (i : grid0.Coords) : BitVec 32 :=
  let c120_i32_216 : BitVec 32 := 120#32
  let c0_i32_215 : BitVec 32 := 0#32
  let arg2 : BitVec 32 := BitVec.ofNat 32 (i 2).val
  let c16_i32_213 : BitVec 32 := 16#32
  let v561 : BitVec 32 := Scalar.muli arg2 c16_i32_213
  let c9_i32 : BitVec 32 := 9#32
  let v562 : BitVec 32 := Scalar.addi v561 c9_i32
  let c4_i32_214 : BitVec 32 := 4#32
  let v563 : BitVec 32 := Scalar.subi v562 c4_i32_214
  let v564 : BitVec 32 := Scalar.maxsi c0_i32_215 v563
  let v565 : BitVec 32 := Scalar.minsi c120_i32_216 v564
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v566 : BitVec 32 := Scalar.subi v565 v3
  let c64_i32_217 : BitVec 32 := 64#32
  let v567 : BitVec 32 := Scalar.muli v566 c64_i32_217
  v567
def k0_mult11 (i : grid0.Coords) : BitVec 32 :=
  let c120_i32_237 : BitVec 32 := 120#32
  let c0_i32_236 : BitVec 32 := 0#32
  let arg2 : BitVec 32 := BitVec.ofNat 32 (i 2).val
  let c16_i32_234 : BitVec 32 := 16#32
  let v614 : BitVec 32 := Scalar.muli arg2 c16_i32_234
  let c10_i32 : BitVec 32 := 10#32
  let v615 : BitVec 32 := Scalar.addi v614 c10_i32
  let c4_i32_235 : BitVec 32 := 4#32
  let v616 : BitVec 32 := Scalar.subi v615 c4_i32_235
  let v617 : BitVec 32 := Scalar.maxsi c0_i32_236 v616
  let v618 : BitVec 32 := Scalar.minsi c120_i32_237 v617
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v619 : BitVec 32 := Scalar.subi v618 v3
  let c64_i32_238 : BitVec 32 := 64#32
  let v620 : BitVec 32 := Scalar.muli v619 c64_i32_238
  v620
def k0_mult12 (i : grid0.Coords) : BitVec 32 :=
  let c120_i32_258 : BitVec 32 := 120#32
  let c0_i32_257 : BitVec 32 := 0#32
  let arg2 : BitVec 32 := BitVec.ofNat 32 (i 2).val
  let c16_i32_255 : BitVec 32 := 16#32
  let v667 : BitVec 32 := Scalar.muli arg2 c16_i32_255
  let c11_i32 : BitVec 32 := 11#32
  let v668 : BitVec 32 := Scalar.addi v667 c11_i32
  let c4_i32_256 : BitVec 32 := 4#32
  let v669 : BitVec 32 := Scalar.subi v668 c4_i32_256
  let v670 : BitVec 32 := Scalar.maxsi c0_i32_257 v669
  let v671 : BitVec 32 := Scalar.minsi c120_i32_258 v670
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v672 : BitVec 32 := Scalar.subi v671 v3
  let c64_i32_259 : BitVec 32 := 64#32
  let v673 : BitVec 32 := Scalar.muli v672 c64_i32_259
  v673
def k0_mult13 (i : grid0.Coords) : BitVec 32 :=
  let c120_i32_279 : BitVec 32 := 120#32
  let c0_i32_278 : BitVec 32 := 0#32
  let arg2 : BitVec 32 := BitVec.ofNat 32 (i 2).val
  let c16_i32_276 : BitVec 32 := 16#32
  let v720 : BitVec 32 := Scalar.muli arg2 c16_i32_276
  let c12_i32 : BitVec 32 := 12#32
  let v721 : BitVec 32 := Scalar.addi v720 c12_i32
  let c4_i32_277 : BitVec 32 := 4#32
  let v722 : BitVec 32 := Scalar.subi v721 c4_i32_277
  let v723 : BitVec 32 := Scalar.maxsi c0_i32_278 v722
  let v724 : BitVec 32 := Scalar.minsi c120_i32_279 v723
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v725 : BitVec 32 := Scalar.subi v724 v3
  let c64_i32_280 : BitVec 32 := 64#32
  let v726 : BitVec 32 := Scalar.muli v725 c64_i32_280
  v726
def k0_mult14 (i : grid0.Coords) : BitVec 32 :=
  let c120_i32_300 : BitVec 32 := 120#32
  let c0_i32_299 : BitVec 32 := 0#32
  let arg2 : BitVec 32 := BitVec.ofNat 32 (i 2).val
  let c16_i32_297 : BitVec 32 := 16#32
  let v773 : BitVec 32 := Scalar.muli arg2 c16_i32_297
  let c13_i32 : BitVec 32 := 13#32
  let v774 : BitVec 32 := Scalar.addi v773 c13_i32
  let c4_i32_298 : BitVec 32 := 4#32
  let v775 : BitVec 32 := Scalar.subi v774 c4_i32_298
  let v776 : BitVec 32 := Scalar.maxsi c0_i32_299 v775
  let v777 : BitVec 32 := Scalar.minsi c120_i32_300 v776
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v778 : BitVec 32 := Scalar.subi v777 v3
  let c64_i32_301 : BitVec 32 := 64#32
  let v779 : BitVec 32 := Scalar.muli v778 c64_i32_301
  v779
def k0_mult15 (i : grid0.Coords) : BitVec 32 :=
  let c120_i32_321 : BitVec 32 := 120#32
  let c0_i32_320 : BitVec 32 := 0#32
  let arg2 : BitVec 32 := BitVec.ofNat 32 (i 2).val
  let c16_i32_318 : BitVec 32 := 16#32
  let v826 : BitVec 32 := Scalar.muli arg2 c16_i32_318
  let c14_i32 : BitVec 32 := 14#32
  let v827 : BitVec 32 := Scalar.addi v826 c14_i32
  let c4_i32_319 : BitVec 32 := 4#32
  let v828 : BitVec 32 := Scalar.subi v827 c4_i32_319
  let v829 : BitVec 32 := Scalar.maxsi c0_i32_320 v828
  let v830 : BitVec 32 := Scalar.minsi c120_i32_321 v829
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v831 : BitVec 32 := Scalar.subi v830 v3
  let c64_i32_322 : BitVec 32 := 64#32
  let v832 : BitVec 32 := Scalar.muli v831 c64_i32_322
  v832
def k0_mult16 (i : grid0.Coords) : BitVec 32 :=
  let c120_i32_342 : BitVec 32 := 120#32
  let c0_i32_341 : BitVec 32 := 0#32
  let arg2 : BitVec 32 := BitVec.ofNat 32 (i 2).val
  let c16_i32_339 : BitVec 32 := 16#32
  let v879 : BitVec 32 := Scalar.muli arg2 c16_i32_339
  let c15_i32 : BitVec 32 := 15#32
  let v880 : BitVec 32 := Scalar.addi v879 c15_i32
  let c4_i32_340 : BitVec 32 := 4#32
  let v881 : BitVec 32 := Scalar.subi v880 c4_i32_340
  let v882 : BitVec 32 := Scalar.maxsi c0_i32_341 v881
  let v883 : BitVec 32 := Scalar.minsi c120_i32_342 v882
  let c104_i32 : BitVec 32 := 104#32
  let c0_i32 : BitVec 32 := 0#32
  let c16_i32 : BitVec 32 := 16#32
  let v0 : BitVec 32 := Scalar.muli arg2 c16_i32
  let c4_i32 : BitVec 32 := 4#32
  let v1 : BitVec 32 := Scalar.subi v0 c4_i32
  let v2 : BitVec 32 := Scalar.maxsi c0_i32 v1
  let v3 : BitVec 32 := Scalar.minsi c104_i32 v2
  let v884 : BitVec 32 := Scalar.subi v883 v3
  let c64_i32_343 : BitVec 32 := 64#32
  let v885 : BitVec 32 := Scalar.muli v884 c64_i32_343
  v885
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c16_i32 : BitVec 32 := 16#32
  let v1 : BitVec 32 := Scalar.muli arg2 c16_i32
  let c4_i32 : BitVec 32 := 4#32
  let v2 : BitVec 32 := Scalar.subi v1 c4_i32
  let c0_i32 : BitVec 32 := 0#32
  let c104_i32 : BitVec 32 := 104#32
  let v3 : BitVec 32 := Scalar.maxsi c0_i32 v2
  let v4 : BitVec 32 := Scalar.minsi c104_i32 v3
  let v5 : BitVec 32 := Scalar.addi v0 v4
  let c64_i32 : BitVec 32 := 64#32
  let v6 : BitVec 32 := Scalar.muli v5 c64_i32
  let c128_i32_0 : BitVec 32 := 128#32
  let v7 : BitVec 32 := Scalar.muli arg0 c128_i32_0
  let c0_i32_1 : BitVec 32 := 0#32
  ![v6.toNat, v7.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c16_i32 : BitVec 32 := 16#32
  let v1 : BitVec 32 := Scalar.muli arg2 c16_i32
  let c4_i32 : BitVec 32 := 4#32
  let v2 : BitVec 32 := Scalar.subi v1 c4_i32
  let c0_i32 : BitVec 32 := 0#32
  let c104_i32 : BitVec 32 := 104#32
  let v3 : BitVec 32 := Scalar.maxsi c0_i32 v2
  let v4 : BitVec 32 := Scalar.minsi c104_i32 v3
  let v5 : BitVec 32 := Scalar.addi v0 v4
  let c64_i32 : BitVec 32 := 64#32
  let v6 : BitVec 32 := Scalar.muli v5 c64_i32
  let c128_i32_0 : BitVec 32 := 128#32
  let v7 : BitVec 32 := Scalar.muli arg0 c128_i32_0
  let c0_i32_1 : BitVec 32 := 0#32
  ![v6.toNat, v7.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1536x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1536x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8x2x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S8x8192x16x64 : Shape := ⟨4, ![8, 8192, 16, 64]⟩
abbrev S8x256x16x64 : Shape := ⟨4, ![8, 256, 16, 64]⟩
abbrev S16x15x31 : Shape := ⟨3, ![16, 15, 31]⟩
abbrev S8x128x64x16x64 : Shape := ⟨5, ![8, 128, 64, 16, 64]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S16x15x64x64 : Shape := ⟨4, ![16, 15, 64, 64]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S8x128x8x64x16x64 : Shape := ⟨6, ![8, 128, 8, 64, 16, 64]⟩
abbrev S8x128x512x16x64 : Shape := ⟨5, ![8, 128, 512, 16, 64]⟩
abbrev S16x128x8x64x64 : Shape := ⟨5, ![16, 128, 8, 64, 64]⟩
abbrev S1x1x1x64x64 : Shape := ⟨5, ![1, 1, 1, 64, 64]⟩
abbrev S128x16x64x8x64 : Shape := ⟨5, ![128, 16, 64, 8, 64]⟩
abbrev S128x16x64x512 : Shape := ⟨4, ![128, 16, 64, 512]⟩
abbrev S8x128x16x64x512 : Shape := ⟨5, ![8, 128, 16, 64, 512]⟩
abbrev S1x128x16x64x512 : Shape := ⟨5, ![1, 128, 16, 64, 512]⟩
abbrev S8x16x256x128x64 : Shape := ⟨5, ![8, 16, 256, 128, 64]⟩
abbrev S8x128x16x64x256 : Shape := ⟨5, ![8, 128, 16, 64, 256]⟩
abbrev S8x128x16x64x768 : Shape := ⟨5, ![8, 128, 16, 64, 768]⟩
abbrev S8x128x16x64 : Shape := ⟨4, ![8, 128, 16, 64]⟩
abbrev S8x128x16x64x1 : Shape := ⟨5, ![8, 128, 16, 64, 1]⟩
abbrev S8x128x16x64x64 : Shape := ⟨5, ![8, 128, 16, 64, 64]⟩
abbrev S8x16x64x128x64 : Shape := ⟨5, ![8, 16, 64, 128, 64]⟩
abbrev S65536x1024 : Shape := ⟨2, ![65536, 1024]⟩

abbrev nBuf : Space → Nat
  | .hbm => 163
  | .vmem => 0
  | .smem => 0
  | _ => 0

abbrev hbmTy0_0 (i : Nat) : BufTy := match i % 128 with
  | 0 => ⟨S8x8192x16x64, .f32⟩
  | 1 => ⟨S8x8192x16x64, .f32⟩
  | 2 => ⟨S8x8192x16x64, .f32⟩
  | 3 => ⟨S8x256x16x64, .f32⟩
  | 4 => ⟨S8x256x16x64, .f32⟩
  | 5 => ⟨S16x15x31, .f32⟩
  | 6 => ⟨S8x128x64x16x64, .f32⟩
  | 7 => ⟨S8x128x64x16x64, .f32⟩
  | 8 => ⟨S8x128x64x16x64, .f32⟩
  | 9 => ⟨S64, .i32⟩
  | 10 => ⟨S_, .i32⟩
  | 11 => ⟨S64, .i32⟩
  | 12 => ⟨S64, .i32⟩
  | 13 => ⟨S_, .i32⟩
  | 14 => ⟨S_, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S1x64, .i32⟩
  | 22 => ⟨S64x1, .i32⟩
  | 23 => ⟨S64x64, .i32⟩
  | 24 => ⟨S64x64, .i32⟩
  | 25 => ⟨S64x64, .i1⟩
  | 26 => ⟨S1x64, .i32⟩
  | 27 => ⟨S64x1, .i32⟩
  | 28 => ⟨S_, .i32⟩
  | 29 => ⟨S64x1, .i32⟩
  | 30 => ⟨S64x1, .i32⟩
  | 31 => ⟨S64x64, .i32⟩
  | 32 => ⟨S64x64, .i32⟩
  | 33 => ⟨S64x64, .i1⟩
  | 34 => ⟨S64x64, .i1⟩
  | 35 => ⟨S1x64, .i32⟩
  | 36 => ⟨S64x1, .i32⟩
  | 37 => ⟨S64x64, .i32⟩
  | 38 => ⟨S64x64, .i32⟩
  | 39 => ⟨S64x64, .i32⟩
  | 40 => ⟨S_, .i32⟩
  | 41 => ⟨S_, .i32⟩
  | 42 => ⟨S_, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S_, .i32⟩
  | 52 => ⟨S64x64, .i32⟩
  | 53 => ⟨S64x64, .i32⟩
  | 54 => ⟨S_, .i32⟩
  | 55 => ⟨S64x64, .i32⟩
  | 56 => ⟨S64x64, .i1⟩
  | 57 => ⟨S_, .i32⟩
  | 58 => ⟨S64x64, .i32⟩
  | 59 => ⟨S64x64, .i32⟩
  | 60 => ⟨S64x64, .i32⟩
  | 61 => ⟨S64x64x1, .i32⟩
  | 62 => ⟨S16x15x64x64, .f32⟩
  | 63 => ⟨S128, .i32⟩
  | 64 => ⟨S_, .i32⟩
  | 65 => ⟨S128, .i32⟩
  | 66 => ⟨S128, .i32⟩
  | 67 => ⟨S_, .i32⟩
  | 68 => ⟨S_, .i32⟩
  | 69 => ⟨S_, .i32⟩
  | 70 => ⟨S128, .i32⟩
  | 71 => ⟨S128, .i32⟩
  | 72 => ⟨S_, .i32⟩
  | 73 => ⟨S128, .i32⟩
  | 74 => ⟨S128, .i32⟩
  | 75 => ⟨S128x1, .i32⟩
  | 76 => ⟨S8, .i32⟩
  | 77 => ⟨S1x8, .i32⟩
  | 78 => ⟨S128x8, .i32⟩
  | 79 => ⟨S128x8, .i32⟩
  | 80 => ⟨S128x8, .i32⟩
  | 81 => ⟨S_, .i32⟩
  | 82 => ⟨S128x8, .i32⟩
  | 83 => ⟨S128x8, .i1⟩
  | 84 => ⟨S_, .i32⟩
  | 85 => ⟨S128x8, .i32⟩
  | 86 => ⟨S128x8, .i32⟩
  | 87 => ⟨S128x8, .i32⟩
  | 88 => ⟨S128x8x1, .i32⟩
  | 89 => ⟨S8x128x8x64x16x64, .f32⟩
  | 90 => ⟨S8x128x512x16x64, .f32⟩
  | 91 => ⟨S_, .i32⟩
  | 92 => ⟨S128x8, .i32⟩
  | 93 => ⟨S128x8, .i1⟩
  | 94 => ⟨S_, .i32⟩
  | 95 => ⟨S128x8, .i32⟩
  | 96 => ⟨S128x8, .i32⟩
  | 97 => ⟨S128x8, .i32⟩
  | 98 => ⟨S128x8x1, .i32⟩
  | 99 => ⟨S8x128x8x64x16x64, .f32⟩
  | 100 => ⟨S8x128x512x16x64, .f32⟩
  | 101 => ⟨S128x1, .i32⟩
  | 102 => ⟨S128x8, .i32⟩
  | 103 => ⟨S128x8, .i32⟩
  | 104 => ⟨S_, .i32⟩
  | 105 => ⟨S128x8, .i32⟩
  | 106 => ⟨S128x8, .i32⟩
  | 107 => ⟨S_, .i32⟩
  | 108 => ⟨S128x8, .i32⟩
  | 109 => ⟨S128x8, .i32⟩
  | 110 => ⟨S_, .i32⟩
  | 111 => ⟨S128x8, .i32⟩
  | 112 => ⟨S128x8, .i1⟩
  | 113 => ⟨S_, .i32⟩
  | 114 => ⟨S128x8, .i32⟩
  | 115 => ⟨S128x8, .i32⟩
  | 116 => ⟨S128x8, .i32⟩
  | 117 => ⟨S128x8x1, .i32⟩
  | 118 => ⟨S16x128x8x64x64, .f32⟩
  | 119 => ⟨S1x1x1x64x64, .i1⟩
  | 120 => ⟨S_, .f32⟩
  | 121 => ⟨S_, .f32⟩
  | 122 => ⟨S16x128x8x64x64, .i1⟩
  | 123 => ⟨S16x128x8x64x64, .f32⟩
  | 124 => ⟨S16x128x8x64x64, .f32⟩
  | 125 => ⟨S128x16x64x8x64, .f32⟩
  | 126 => ⟨S128x16x64x512, .f32⟩
  | 127 => ⟨S8x128x16x64x512, .f32⟩
  | _ => ⟨S8x8192x16x64, .f32⟩

abbrev hbmTy0_1 (i : Nat) : BufTy := match i % 128 with
  | 0 => ⟨S_, .f32⟩
  | 1 => ⟨S8x128x16x64x512, .f32⟩
  | 2 => ⟨S8x128x16x64x512, .f32⟩
  | 3 => ⟨S1x128x16x64x512, .f32⟩
  | 4 => ⟨S8x128x16x64x512, .f32⟩
  | 5 => ⟨S8x128x16x64x512, .f32⟩
  | 6 => ⟨S8x16x256x128x64, .f32⟩
  | 7 => ⟨S8x128x16x64x256, .f32⟩
  | 8 => ⟨S_, .f32⟩
  | 9 => ⟨S8x128x16x64x256, .f32⟩
  | 10 => ⟨S8x128x16x64x256, .f32⟩
  | 11 => ⟨S8x128x16x64x768, .f32⟩
  | 12 => ⟨S_, .f32⟩
  | 13 => ⟨S8x128x16x64, .f32⟩
  | 14 => ⟨S_, .f32⟩
  | 15 => ⟨S8x128x16x64, .f32⟩
  | 16 => ⟨S8x128x16x64, .f32⟩
  | 17 => ⟨S8x128x16x64x1, .f32⟩
  | 18 => ⟨S8x128x16x64x768, .f32⟩
  | 19 => ⟨S8x128x16x64x768, .f32⟩
  | 20 => ⟨S8x128x16x64x768, .f32⟩
  | 21 => ⟨S_, .f32⟩
  | 22 => ⟨S8x128x16x64, .f32⟩
  | 23 => ⟨S8x128x16x64x1, .f32⟩
  | 24 => ⟨S8x128x16x64x768, .f32⟩
  | 25 => ⟨S8x128x16x64x768, .f32⟩
  | 26 => ⟨S8x128x16x64x512, .f32⟩
  | 27 => ⟨S8x128x16x64x64, .f32⟩
  | 28 => ⟨S8x128x64x16x64, .f32⟩
  | 29 => ⟨S8x128x16x64x256, .f32⟩
  | 30 => ⟨S8x16x64x128x64, .f32⟩
  | 31 => ⟨S8x128x64x16x64, .f32⟩
  | 32 => ⟨S8x128x64x16x64, .f32⟩
  | 33 => ⟨S65536x1024, .f32⟩
  | 34 => ⟨S65536x1024, .bf16⟩
  | _ => ⟨S8x8192x16x64, .f32⟩

abbrev hbmTy (i : Nat) : BufTy := match i / 128 with
  | 0 => hbmTy0_0 i
  | 1 => hbmTy0_1 i
  | _ => ⟨S8x8192x16x64, .f32⟩

abbrev bufTy : (tb : Table) → Fin (tcTables nBuf tb) → BufTy
  | .hbm, ⟨i, _⟩ => hbmTy i
  | _, _ => ⟨S8x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_c_7 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_c_11 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_c_13 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_14 : Ref sig .tc := ⟨.hbm, 91, rfl⟩
abbrev main_v55 : Ref sig .tc := ⟨.hbm, 92, rfl⟩
abbrev main_v56 : Ref sig .tc := ⟨.hbm, 93, rfl⟩
abbrev main_c_15 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_16 : Ref sig .tc := ⟨.hbm, 104, rfl⟩
abbrev main_v66 : Ref sig .tc := ⟨.hbm, 105, rfl⟩
abbrev main_v67 : Ref sig .tc := ⟨.hbm, 106, rfl⟩
abbrev main_c_17 : Ref sig .tc := ⟨.hbm, 107, rfl⟩
abbrev main_v68 : Ref sig .tc := ⟨.hbm, 108, rfl⟩
abbrev main_v69 : Ref sig .tc := ⟨.hbm, 109, rfl⟩
abbrev main_c_18 : Ref sig .tc := ⟨.hbm, 110, rfl⟩
abbrev main_v70 : Ref sig .tc := ⟨.hbm, 111, rfl⟩
abbrev main_v71 : Ref sig .tc := ⟨.hbm, 112, rfl⟩
abbrev main_c_19 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_20 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_21 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_cst_22 : Ref sig .tc := ⟨.hbm, 140, rfl⟩
abbrev main_v92 : Ref sig .tc := ⟨.hbm, 141, rfl⟩
abbrev main_cst_23 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_24 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩

abbrev nD : Nat := 1
abbrev τ : Topo := Topo.v7x

variable {F : FTy → Type} [FloatOps F]
-- ==== Kernel2.lean ====
abbrev S8x8192x1024 : Shape := ⟨3, ![8, 8192, 1024]⟩
abbrev S8x6144 : Shape := ⟨2, ![8, 6144]⟩
abbrev S1024 : Shape := ⟨1, ![1024]⟩
abbrev S1024x7712 : Shape := ⟨2, ![1024, 7712]⟩
abbrev S2x16 : Shape := ⟨2, ![2, 16]⟩
abbrev S64 : Shape := ⟨1, ![64]⟩
abbrev S1024x2048 : Shape := ⟨2, ![1024, 2048]⟩
abbrev S1024x1024 : Shape := ⟨2, ![1024, 1024]⟩
abbrev S1024x1536 : Shape := ⟨2, ![1024, 1536]⟩
abbrev S1024x32 : Shape := ⟨2, ![1024, 32]⟩
abbrev S_ : Shape := ⟨0, ![]⟩
abbrev S1024x112 : Shape := ⟨2, ![1024, 112]⟩
abbrev S1024x16 : Shape := ⟨2, ![1024, 16]⟩
abbrev S1024x256 : Shape := ⟨2, ![1024, 256]⟩
abbrev S112 : Shape := ⟨1, ![112]⟩
abbrev S1x16 : Shape := ⟨2, ![1, 16]⟩
abbrev S16 : Shape := ⟨1, ![16]⟩
abbrev S256 : Shape := ⟨1, ![256]⟩
abbrev S1x256 : Shape := ⟨2, ![1, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S2x64 : Shape := ⟨2, ![2, 64]⟩
abbrev S16x6144 : Shape := ⟨2, ![16, 6144]⟩
abbrev S16x6x1024 : Shape := ⟨3, ![16, 6, 1024]⟩
abbrev S65536x1024 : Shape := ⟨2, ![65536, 1024]⟩
abbrev S1x1024 : Shape := ⟨2, ![1, 1024]⟩
abbrev S8192 : Shape := ⟨1, ![8192]⟩
abbrev S8192x1 : Shape := ⟨2, ![8192, 1]⟩
abbrev S8192x128 : Shape := ⟨2, ![8192, 128]⟩
abbrev S65536x2048 : Shape := ⟨2, ![65536, 2048]⟩
abbrev S65536x1536 : Shape := ⟨2, ![65536, 1536]⟩
abbrev S65536x256 : Shape := ⟨2, ![65536, 256]⟩
abbrev S512x1024 : Shape := ⟨2, ![512, 1024]⟩
abbrev S1x6x1024 : Shape := ⟨3, ![1, 6, 1024]⟩
abbrev S512x128 : Shape := ⟨2, ![512, 128]⟩
abbrev S512x2048 : Shape := ⟨2, ![512, 2048]⟩
abbrev S512x1536 : Shape := ⟨2, ![512, 1536]⟩
abbrev S512x256 : Shape := ⟨2, ![512, 256]⟩
abbrev S6x1024 : Shape := ⟨2, ![6, 1024]⟩
abbrev S512 : Shape := ⟨1, ![512]⟩
abbrev S512x1 : Shape := ⟨2, ![512, 1]⟩

abbrev nBuf : Space → Nat
  | .hbm => 252
  | .vmem => 34
  | .smem => 0
  | _ => 0

abbrev hbmTy0_0 (i : Nat) : BufTy := match i % 128 with
  | 0 => ⟨S8x8192x1024, .f32⟩
  | 1 => ⟨S8x6144, .f32⟩
  | 2 => ⟨S1024, .f32⟩
  | 3 => ⟨S1024x7712, .f32⟩
  | 4 => ⟨S2x16, .f32⟩
  | 5 => ⟨S64, .f32⟩
  | 6 => ⟨S64, .f32⟩
  | 7 => ⟨S1024x2048, .f32⟩
  | 8 => ⟨S1024x1024, .f32⟩
  | 9 => ⟨S1024x1536, .f32⟩
  | 10 => ⟨S1024x32, .f32⟩
  | 11 => ⟨S1024x1024, .f32⟩
  | 12 => ⟨S1024x1024, .f32⟩
  | 13 => ⟨S1024x1024, .f32⟩
  | 14 => ⟨S_, .f32⟩
  | 15 => ⟨S1024x112, .f32⟩
  | 16 => ⟨S1024x16, .f32⟩
  | 17 => ⟨S1024x16, .f32⟩
  | 18 => ⟨S1024x256, .f32⟩
  | 19 => ⟨S_, .f32⟩
  | 20 => ⟨S112, .f32⟩
  | 21 => ⟨S1x16, .f32⟩
  | 22 => ⟨S16, .f32⟩
  | 23 => ⟨S1x16, .f32⟩
  | 24 => ⟨S16, .f32⟩
  | 25 => ⟨S256, .f32⟩
  | 26 => ⟨S1x256, .f32⟩
  | 27 => ⟨S128, .i32⟩
  | 28 => ⟨S128x1, .i32⟩
  | 29 => ⟨S_, .i32⟩
  | 30 => ⟨S_, .i32⟩
  | 31 => ⟨S128x1, .i32⟩
  | 32 => ⟨S128x1, .i32⟩
  | 33 => ⟨S128x1, .i32⟩
  | 34 => ⟨S_, .i32⟩
  | 35 => ⟨S128x1, .i32⟩
  | 36 => ⟨S128x1, .i1⟩
  | 37 => ⟨S128x1, .i32⟩
  | 38 => ⟨S128x1, .i32⟩
  | 39 => ⟨S_, .i32⟩
  | 40 => ⟨S128x1, .i32⟩
  | 41 => ⟨S128x1, .i1⟩
  | 42 => ⟨S128x1, .i1⟩
  | 43 => ⟨S_, .i32⟩
  | 44 => ⟨S128x1, .i32⟩
  | 45 => ⟨S128x1, .i32⟩
  | 46 => ⟨S128x1, .i32⟩
  | 47 => ⟨S1x128, .i32⟩
  | 48 => ⟨S_, .i32⟩
  | 49 => ⟨S_, .i32⟩
  | 50 => ⟨S1x128, .i32⟩
  | 51 => ⟨S1x128, .i32⟩
  | 52 => ⟨S1x128, .i32⟩
  | 53 => ⟨S_, .i32⟩
  | 54 => ⟨S1x128, .i32⟩
  | 55 => ⟨S1x128, .i1⟩
  | 56 => ⟨S1x128, .i32⟩
  | 57 => ⟨S1x128, .i32⟩
  | 58 => ⟨S_, .i32⟩
  | 59 => ⟨S1x128, .i32⟩
  | 60 => ⟨S1x128, .i1⟩
  | 61 => ⟨S1x128, .i1⟩
  | 62 => ⟨S_, .i32⟩
  | 63 => ⟨S1x128, .i32⟩
  | 64 => ⟨S1x128, .i32⟩
  | 65 => ⟨S1x128, .i32⟩
  | 66 => ⟨S128x128, .i32⟩
  | 67 => ⟨S128x128, .i32⟩
  | 68 => ⟨S128x128, .i1⟩
  | 69 => ⟨S128x128, .bf16⟩
  | 70 => ⟨S1x64, .f32⟩
  | 71 => ⟨S2x64, .f32⟩
  | 72 => ⟨S128, .f32⟩
  | 73 => ⟨S1x128, .f32⟩
  | 74 => ⟨S1x64, .f32⟩
  | 75 => ⟨S2x64, .f32⟩
  | 76 => ⟨S128, .f32⟩
  | 77 => ⟨S1x128, .f32⟩
  | 78 => ⟨S1024x2048, .bf16⟩
  | 79 => ⟨S1024x1024, .bf16⟩
  | 80 => ⟨S1024x1536, .bf16⟩
  | 81 => ⟨S1024x256, .bf16⟩
  | 82 => ⟨S1024x1024, .bf16⟩
  | 83 => ⟨S1024x1024, .bf16⟩
  | 84 => ⟨S1024x1024, .bf16⟩
  | 85 => ⟨S_, .f32⟩
  | 86 => ⟨S8x6144, .f32⟩
  | 87 => ⟨S16x6144, .f32⟩
  | 88 => ⟨S16x6x1024, .f32⟩
  | 89 => ⟨S65536x1024, .f32⟩
  | 90 => ⟨S1x1024, .f32⟩
  | 91 => ⟨S16, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S8192, .i32⟩
  | 100 => ⟨S_, .i32⟩
  | 101 => ⟨S_, .i32⟩
  | 102 => ⟨S8192, .i32⟩
  | 103 => ⟨S8192, .i32⟩
  | 104 => ⟨S8192, .i32⟩
  | 105 => ⟨S_, .i32⟩
  | 106 => ⟨S8192, .i32⟩
  | 107 => ⟨S8192, .i1⟩
  | 108 => ⟨S8192, .i32⟩
  | 109 => ⟨S8192, .i32⟩
  | 110 => ⟨S_, .i32⟩
  | 111 => ⟨S8192, .i32⟩
  | 112 => ⟨S8192, .i1⟩
  | 113 => ⟨S8192, .i1⟩
  | 114 => ⟨S_, .i32⟩
  | 115 => ⟨S8192, .i32⟩
  | 116 => ⟨S8192, .i32⟩
  | 117 => ⟨S8192, .i32⟩
  | 118 => ⟨S8192, .f32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S8192, .i32⟩
  | 126 => ⟨S8192, .i32⟩
  | 127 => ⟨S_, .i32⟩
  | _ => ⟨S8x8192x1024, .f32⟩

abbrev hbmTy0_1 (i : Nat) : BufTy := match i % 128 with
  | 0 => ⟨S8192, .i32⟩
  | 1 => ⟨S8192, .i1⟩
  | 2 => ⟨S_, .i32⟩
  | 3 => ⟨S8192, .i32⟩
  | 4 => ⟨S8192, .i1⟩
  | 5 => ⟨S_, .i32⟩
  | 6 => ⟨S_, .i1⟩
  | 7 => ⟨S8192, .i1⟩
  | 8 => ⟨S8192, .i1⟩
  | 9 => ⟨S8192, .i1⟩
  | 10 => ⟨S8192, .i32⟩
  | 11 => ⟨S8192, .i32⟩
  | 12 => ⟨S8192, .i32⟩
  | 13 => ⟨S8192, .f32⟩
  | 14 => ⟨S128, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S128, .i32⟩
  | 22 => ⟨S128, .i32⟩
  | 23 => ⟨S_, .i32⟩
  | 24 => ⟨S128, .i32⟩
  | 25 => ⟨S128, .i1⟩
  | 26 => ⟨S_, .i32⟩
  | 27 => ⟨S128, .i32⟩
  | 28 => ⟨S128, .i1⟩
  | 29 => ⟨S_, .i32⟩
  | 30 => ⟨S_, .i1⟩
  | 31 => ⟨S128, .i1⟩
  | 32 => ⟨S128, .i1⟩
  | 33 => ⟨S128, .i1⟩
  | 34 => ⟨S128, .i32⟩
  | 35 => ⟨S128, .i32⟩
  | 36 => ⟨S128, .i32⟩
  | 37 => ⟨S_, .i32⟩
  | 38 => ⟨S128, .i32⟩
  | 39 => ⟨S128, .i1⟩
  | 40 => ⟨S1x128, .i1⟩
  | 41 => ⟨S8192x1, .f32⟩
  | 42 => ⟨S8192x1, .f32⟩
  | 43 => ⟨S8192x128, .i1⟩
  | 44 => ⟨S8192x128, .f32⟩
  | 45 => ⟨S8192x128, .f32⟩
  | 46 => ⟨S8192x128, .f32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S128, .i32⟩
  | 54 => ⟨S128, .i32⟩
  | 55 => ⟨S_, .i32⟩
  | 56 => ⟨S128, .i32⟩
  | 57 => ⟨S128, .i1⟩
  | 58 => ⟨S_, .i32⟩
  | 59 => ⟨S128, .i32⟩
  | 60 => ⟨S128, .i1⟩
  | 61 => ⟨S_, .i32⟩
  | 62 => ⟨S_, .i1⟩
  | 63 => ⟨S128, .i1⟩
  | 64 => ⟨S128, .i1⟩
  | 65 => ⟨S128, .i1⟩
  | 66 => ⟨S128, .i32⟩
  | 67 => ⟨S128, .i32⟩
  | 68 => ⟨S128, .i32⟩
  | 69 => ⟨S_, .i32⟩
  | 70 => ⟨S128, .i32⟩
  | 71 => ⟨S128, .i1⟩
  | 72 => ⟨S_, .i32⟩
  | 73 => ⟨S128, .i32⟩
  | 74 => ⟨S128, .i32⟩
  | 75 => ⟨S128, .i32⟩
  | 76 => ⟨S128x1, .i32⟩
  | 77 => ⟨S128, .f32⟩
  | 78 => ⟨S1x128, .f32⟩
  | 79 => ⟨S8192x128, .f32⟩
  | 80 => ⟨S8192x128, .f32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S128, .i32⟩
  | 88 => ⟨S128, .i32⟩
  | 89 => ⟨S_, .i32⟩
  | 90 => ⟨S128, .i32⟩
  | 91 => ⟨S128, .i1⟩
  | 92 => ⟨S_, .i32⟩
  | 93 => ⟨S128, .i32⟩
  | 94 => ⟨S128, .i1⟩
  | 95 => ⟨S_, .i32⟩
  | 96 => ⟨S_, .i1⟩
  | 97 => ⟨S128, .i1⟩
  | 98 => ⟨S128, .i1⟩
  | 99 => ⟨S128, .i1⟩
  | 100 => ⟨S128, .i32⟩
  | 101 => ⟨S128, .i32⟩
  | 102 => ⟨S128, .i32⟩
  | 103 => ⟨S_, .i32⟩
  | 104 => ⟨S128, .i32⟩
  | 105 => ⟨S128, .i1⟩
  | 106 => ⟨S_, .f32⟩
  | 107 => ⟨S_, .f32⟩
  | 108 => ⟨S128, .f32⟩
  | 109 => ⟨S128, .f32⟩
  | 110 => ⟨S128, .f32⟩
  | 111 => ⟨S1x128, .f32⟩
  | 112 => ⟨S8192x128, .f32⟩
  | 113 => ⟨S8192x128, .f32⟩
  | 114 => ⟨S1x128, .f32⟩
  | 115 => ⟨S8192x128, .f32⟩
  | 116 => ⟨S8192x128, .f32⟩
  | 117 => ⟨S65536x2048, .bf16⟩
  | 118 => ⟨S65536x1024, .bf16⟩
  | 119 => ⟨S65536x1536, .bf16⟩
  | 120 => ⟨S65536x256, .f32⟩
  | 121 => ⟨S65536x1024, .bf16⟩
  | 122 => ⟨S65536x1024, .bf16⟩
  | 123 => ⟨S65536x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1024x1024, .bf16⟩
  | .local _ .vmem, ⟨7, _⟩ => ⟨S1024x1536, .bf16⟩
  | .local _ .vmem, ⟨8, _⟩ => ⟨S1024x256, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S128x128, .bf16⟩
  | .local _ .vmem, ⟨17, _⟩ => ⟨S1x128, .f32⟩
  | .local _ .vmem, ⟨18, _⟩ => ⟨S1x128, .f32⟩
  | .local _ .vmem, ⟨19, _⟩ => ⟨S1x256, .f32⟩
  | .local _ .vmem, ⟨20, _⟩ => ⟨S512x2048, .bf16⟩
  | .local _ .vmem, ⟨21, _⟩ => ⟨S512x2048, .bf16⟩
  | .local _ .vmem, ⟨22, _⟩ => ⟨S512x1024, .bf16⟩
  | .local _ .vmem, ⟨23, _⟩ => ⟨S512x1024, .bf16⟩
  | .local _ .vmem, ⟨24, _⟩ => ⟨S512x1536, .bf16⟩
  | .local _ .vmem, ⟨25, _⟩ => ⟨S512x1536, .bf16⟩
  | .local _ .vmem, ⟨26, _⟩ => ⟨S512x256, .f32⟩
  | .local _ .vmem, ⟨27, _⟩ => ⟨S512x256, .f32⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v20 : Ref sig .tc := ⟨.hbm, 46, rfl⟩
abbrev main_v21 : Ref sig .tc := ⟨.hbm, 47, rfl⟩
abbrev main_c_1 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_2 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_3 : Ref sig .tc := ⟨.hbm, 93, rfl⟩
abbrev main_v49 : Ref sig .tc := ⟨.hbm, 94, rfl⟩
abbrev main_v50 : Ref sig .tc := ⟨.hbm, 95, rfl⟩
abbrev main_cst_4 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_5 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_c : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_0 : Ref sig .tc := ⟨.hbm, 114, rfl⟩
abbrev main_call2_v12 : Ref sig .tc := ⟨.hbm, 115, rfl⟩
abbrev main_call2_v13 : Ref sig .tc := ⟨.hbm, 116, rfl⟩
abbrev main_v54 : Ref sig .tc := ⟨.hbm, 117, rfl⟩
abbrev main_v55 : Ref sig .tc := ⟨.hbm, 118, rfl⟩
abbrev main_c_6 : Ref sig .tc := ⟨.hbm, 119, rfl⟩
abbrev main_call3_v0 : Ref sig .tc := ⟨.hbm, 120, rfl⟩
abbrev main_call3_c : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_c_1 : Ref sig .tc := ⟨.hbm, 127, rfl⟩
abbrev main_call3_v5 : Ref sig .tc := ⟨.hbm, 128, rfl⟩
abbrev main_call3_v6 : Ref sig .tc := ⟨.hbm, 129, rfl⟩
abbrev main_call3_c_2 : Ref sig .tc := ⟨.hbm, 130, rfl⟩
abbrev main_call3_v7 : Ref sig .tc := ⟨.hbm, 131, rfl⟩
abbrev main_call3_v8 : Ref sig .tc := ⟨.hbm, 132, rfl⟩
abbrev main_call3_c_3 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_c_7 : Ref sig .tc := ⟨.hbm, 143, rfl⟩
abbrev main_call4_v0 : Ref sig .tc := ⟨.hbm, 144, rfl⟩
abbrev main_call4_c : Ref sig .tc := ⟨.hbm, 145, rfl⟩
abbrev main_call4_v1 : Ref sig .tc := ⟨.hbm, 146, rfl⟩
abbrev main_call4_c_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_c_1 : Ref sig .tc := ⟨.hbm, 151, rfl⟩
abbrev main_call4_v5 : Ref sig .tc := ⟨.hbm, 152, rfl⟩
abbrev main_call4_v6 : Ref sig .tc := ⟨.hbm, 153, rfl⟩
abbrev main_call4_c_2 : Ref sig .tc := ⟨.hbm, 154, rfl⟩
abbrev main_call4_v7 : Ref sig .tc := ⟨.hbm, 155, rfl⟩
abbrev main_call4_v8 : Ref sig .tc := ⟨.hbm, 156, rfl⟩
abbrev main_call4_c_3 : Ref sig .tc := ⟨.hbm, 157, rfl⟩
abbrev main_call4_v9 : Ref sig .tc := ⟨.hbm, 158, rfl⟩
abbrev main_call4_v10 : Ref sig .tc := ⟨.hbm, 159, rfl⟩
abbrev main_call4_v11 : Ref sig .tc := ⟨.hbm, 160, rfl⟩
abbrev main_call4_v12 : Ref sig .tc := ⟨.hbm, 161, rfl⟩
abbrev main_call4_v13 : Ref sig .tc := ⟨.hbm, 162, rfl⟩
abbrev main_call4_v14 : Ref sig .tc := ⟨.hbm, 163, rfl⟩
abbrev main_v59 : Ref sig .tc := ⟨.hbm, 164, rfl⟩
abbrev main_c_8 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_call5_v0 : Ref sig .tc := ⟨.hbm, 171, rfl⟩
abbrev main_call5_v1 : Ref sig .tc := ⟨.hbm, 172, rfl⟩
abbrev main_call5_v2 : Ref sig .tc := ⟨.hbm, 173, rfl⟩
abbrev main_v65 : Ref sig .tc := ⟨.hbm, 174, rfl⟩
abbrev main_c_9 : Ref sig .tc := ⟨.hbm, 175, rfl⟩
abbrev main_call6_v0 : Ref sig .tc := ⟨.hbm, 176, rfl⟩
abbrev main_call6_c : Ref sig .tc := ⟨.hbm, 177, rfl⟩
abbrev main_call6_v1 : Ref sig .tc := ⟨.hbm, 178, rfl⟩
abbrev main_call6_c_0 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_call6_c_1 : Ref sig .tc := ⟨.hbm, 183, rfl⟩
abbrev main_call6_v5 : Ref sig .tc := ⟨.hbm, 184, rfl⟩
abbrev main_call6_v6 : Ref sig .tc := ⟨.hbm, 185, rfl⟩
abbrev main_call6_c_2 : Ref sig .tc := ⟨.hbm, 186, rfl⟩
abbrev main_call6_v7 : Ref sig .tc := ⟨.hbm, 187, rfl⟩
abbrev main_call6_v8 : Ref sig .tc := ⟨.hbm, 188, rfl⟩
abbrev main_call6_c_3 : Ref sig .tc := ⟨.hbm, 189, rfl⟩
abbrev main_call6_v9 : Ref sig .tc := ⟨.hbm, 190, rfl⟩
abbrev main_call6_v10 : Ref sig .tc := ⟨.hbm, 191, rfl⟩
abbrev main_call6_v11 : Ref sig .tc := ⟨.hbm, 192, rfl⟩
abbrev main_call6_v12 : Ref sig .tc := ⟨.hbm, 193, rfl⟩
abbrev main_call6_v13 : Ref sig .tc := ⟨.hbm, 194, rfl⟩
abbrev main_call6_v14 : Ref sig .tc := ⟨.hbm, 195, rfl⟩
abbrev main_v66 : Ref sig .tc := ⟨.hbm, 196, rfl⟩
abbrev main_c_10 : Ref sig .tc := ⟨.hbm, 197, rfl⟩
abbrev main_v67 : Ref sig .tc := ⟨.hbm, 198, rfl⟩
abbrev main_v68 : Ref sig .tc := ⟨.hbm, 199, rfl⟩
abbrev main_c_11 : Ref sig .tc := ⟨.hbm, 200, rfl⟩
abbrev main_v69 : Ref sig .tc := ⟨.hbm, 201, rfl⟩
abbrev main_v70 : Ref sig .tc := ⟨.hbm, 202, rfl⟩
abbrev main_v71 : Ref sig .tc := ⟨.hbm, 203, rfl⟩
abbrev main_v72 : Ref sig .tc := ⟨.hbm, 204, rfl⟩
abbrev main_v73 : Ref sig .tc := ⟨.hbm, 205, rfl⟩
abbrev main_v74 : Ref sig .tc := ⟨.hbm, 206, rfl⟩
abbrev main_v75 : Ref sig .tc := ⟨.hbm, 207, rfl⟩
abbrev main_v76 : Ref sig .tc := ⟨.hbm, 208, rfl⟩
abbrev main_c_12 : Ref sig .tc := ⟨.hbm, 209, rfl⟩
abbrev main_call7_v0 : Ref sig .tc := ⟨.hbm, 210, rfl⟩
abbrev main_call7_c : Ref sig .tc := ⟨.hbm, 211, rfl⟩
abbrev main_call7_v1 : Ref sig .tc := ⟨.hbm, 212, rfl⟩
abbrev main_call7_c_0 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_call7_c_1 : Ref sig .tc := ⟨.hbm, 217, rfl⟩
abbrev main_call7_v5 : Ref sig .tc := ⟨.hbm, 218, rfl⟩
abbrev main_call7_v6 : Ref sig .tc := ⟨.hbm, 219, rfl⟩
abbrev main_call7_c_2 : Ref sig .tc := ⟨.hbm, 220, rfl⟩
abbrev main_call7_v7 : Ref sig .tc := ⟨.hbm, 221, rfl⟩
abbrev main_call7_v8 : Ref sig .tc := ⟨.hbm, 222, rfl⟩
abbrev main_call7_c_3 : Ref sig .tc := ⟨.hbm, 223, rfl⟩
abbrev main_call7_v9 : Ref sig .tc := ⟨.hbm, 224, rfl⟩
abbrev main_call7_v10 : Ref sig .tc := ⟨.hbm, 225, rfl⟩
abbrev main_call7_v11 : Ref sig .tc := ⟨.hbm, 226, rfl⟩
abbrev main_call7_v12 : Ref sig .tc := ⟨.hbm, 227, rfl⟩
abbrev main_call7_v13 : Ref sig .tc := ⟨.hbm, 228, rfl⟩
abbrev main_call7_v14 : Ref sig .tc := ⟨.hbm, 229, rfl⟩
abbrev main_v77 : Ref sig .tc := ⟨.hbm, 230, rfl⟩
abbrev main_c_13 : Ref sig .tc := ⟨.hbm, 231, rfl⟩
abbrev main_v78 : Ref sig .tc := ⟨.hbm, 232, rfl⟩
abbrev main_v79 : Ref sig .tc := ⟨.hbm, 233, rfl⟩
abbrev main_cst_14 : Ref sig .tc := ⟨.hbm, 234, rfl⟩
abbrev main_cst_15 : Ref sig .tc := ⟨.hbm, 235, rfl⟩
abbrev main_call8_v0 : Ref sig .tc := ⟨.hbm, 236, rfl⟩
abbrev main_call8_v1 : Ref sig .tc := ⟨.hbm, 237, rfl⟩
abbrev main_v80 : Ref sig .tc := ⟨.hbm, 238, rfl⟩
abbrev main_v81 : Ref sig .tc := ⟨.hbm, 239, rfl⟩
abbrev main_v82 : Ref sig .tc := ⟨.hbm, 240, rfl⟩
abbrev main_v83 : Ref sig .tc := ⟨.hbm, 241, rfl⟩
abbrev main_v84 : Ref sig .tc := ⟨.hbm, 242, rfl⟩
abbrev main_v85 : Ref sig .tc := ⟨.hbm, 243, rfl⟩
abbrev main_v86 : Ref sig .tc := ⟨.hbm, 244, rfl⟩
abbrev main_v87_0 : Ref sig .tc := ⟨.hbm, 245, rfl⟩
abbrev main_v87_1 : Ref sig .tc := ⟨.hbm, 246, rfl⟩
abbrev main_v87_2 : Ref sig .tc := ⟨.hbm, 247, rfl⟩
abbrev main_v87_3 : Ref sig .tc := ⟨.hbm, 248, rfl⟩
abbrev main_v87_4 : Ref sig .tc := ⟨.hbm, 249, rfl⟩
abbrev main_v87_5 : Ref sig .tc := ⟨.hbm, 250, rfl⟩
abbrev main_v87_6 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1536 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== Reference2Ideal.lean ====
abbrev S8x8192x1024 : Shape := ⟨3, ![8, 8192, 1024]⟩
abbrev S8x6144 : Shape := ⟨2, ![8, 6144]⟩
abbrev S1024 : Shape := ⟨1, ![1024]⟩
abbrev S1024x7712 : Shape := ⟨2, ![1024, 7712]⟩
abbrev S2x16 : Shape := ⟨2, ![2, 16]⟩
abbrev S64 : Shape := ⟨1, ![64]⟩
abbrev S8192 : Shape := ⟨1, ![8192]⟩
abbrev S_ : Shape := ⟨0, ![]⟩
abbrev S8x1x6144 : Shape := ⟨3, ![8, 1, 6144]⟩
abbrev S8x1x1024 : Shape := ⟨3, ![8, 1, 1024]⟩
abbrev S8x8192 : Shape := ⟨2, ![8, 8192]⟩
abbrev S8x8192x1 : Shape := ⟨3, ![8, 8192, 1]⟩
abbrev S1x1x1024 : Shape := ⟨3, ![1, 1, 1024]⟩
abbrev S8x8192x7712 : Shape := ⟨3, ![8, 8192, 7712]⟩
abbrev S8x8192x2048 : Shape := ⟨3, ![8, 8192, 2048]⟩
abbrev S8x8192x1536 : Shape := ⟨3, ![8, 8192, 1536]⟩
abbrev S8x8192x32 : Shape := ⟨3, ![8, 8192, 32]⟩
abbrev S8x8192x16x64 : Shape := ⟨4, ![8, 8192, 16, 64]⟩
abbrev S8x8192x16 : Shape := ⟨3, ![8, 8192, 16]⟩
abbrev S8x8192x16x1 : Shape := ⟨4, ![8, 8192, 16, 1]⟩
abbrev S1x1x1x64 : Shape := ⟨4, ![1, 1, 1, 64]⟩
abbrev S16 : Shape := ⟨1, ![16]⟩
abbrev S8x8192x16x32 : Shape := ⟨4, ![8, 8192, 16, 32]⟩
abbrev S8192x1 : Shape := ⟨2, ![8192, 1]⟩
abbrev S1x16 : Shape := ⟨2, ![1, 16]⟩
abbrev S8192x16 : Shape := ⟨2, ![8192, 16]⟩
abbrev S1x8192x1x16 : Shape := ⟨4, ![1, 8192, 1, 16]⟩
abbrev S8x8192x16x16 : Shape := ⟨4, ![8, 8192, 16, 16]⟩
abbrev S65536x2048 : Shape := ⟨2, ![65536, 2048]⟩
abbrev S65536x1024 : Shape := ⟨2, ![65536, 1024]⟩
abbrev S65536x1536 : Shape := ⟨2, ![65536, 1536]⟩
abbrev S32 : Shape := ⟨1, ![32]⟩
abbrev S1x1x32 : Shape := ⟨3, ![1, 1, 32]⟩
abbrev S8x8192x2x16 : Shape := ⟨4, ![8, 8192, 2, 16]⟩
abbrev S8x8192x2x128 : Shape := ⟨4, ![8, 8192, 2, 128]⟩
abbrev S65536x256 : Shape := ⟨2, ![65536, 256]⟩

abbrev nBuf : Space → Nat
  | .hbm => 270
  | .vmem => 0
  | .smem => 0
  | _ => 0

abbrev hbmTy0_0 (i : Nat) : BufTy := match i % 128 with
  | 0 => ⟨S8x8192x1024, .f32⟩
  | 1 => ⟨S8x6144, .f32⟩
  | 2 => ⟨S1024, .f32⟩
  | 3 => ⟨S1024x7712, .f32⟩
  | 4 => ⟨S2x16, .f32⟩
  | 5 => ⟨S64, .f32⟩
  | 6 => ⟨S64, .f32⟩
  | 7 => ⟨S8192, .i32⟩
  | 8 => ⟨S_, .i32⟩
  | 9 => ⟨S_, .i32⟩
  | 10 => ⟨S8192, .i32⟩
  | 11 => ⟨S8192, .i32⟩
  | 12 => ⟨S8192, .i32⟩
  | 13 => ⟨S_, .i32⟩
  | 14 => ⟨S8192, .i32⟩
  | 15 => ⟨S8192, .i1⟩
  | 16 => ⟨S8192, .i32⟩
  | 17 => ⟨S8192, .i32⟩
  | 18 => ⟨S_, .i32⟩
  | 19 => ⟨S8192, .i32⟩
  | 20 => ⟨S8192, .i1⟩
  | 21 => ⟨S8192, .i1⟩
  | 22 => ⟨S_, .i32⟩
  | 23 => ⟨S8192, .i32⟩
  | 24 => ⟨S8192, .i32⟩
  | 25 => ⟨S8192, .i32⟩
  | 26 => ⟨S8192, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S8192, .i32⟩
  | 34 => ⟨S8192, .i32⟩
  | 35 => ⟨S_, .i32⟩
  | 36 => ⟨S8192, .i32⟩
  | 37 => ⟨S8192, .i1⟩
  | 38 => ⟨S_, .i32⟩
  | 39 => ⟨S8192, .i32⟩
  | 40 => ⟨S8192, .i1⟩
  | 41 => ⟨S_, .i32⟩
  | 42 => ⟨S_, .i1⟩
  | 43 => ⟨S8192, .i1⟩
  | 44 => ⟨S8192, .i1⟩
  | 45 => ⟨S8192, .i1⟩
  | 46 => ⟨S8192, .i32⟩
  | 47 => ⟨S8192, .i32⟩
  | 48 => ⟨S8192, .i32⟩
  | 49 => ⟨S8192, .f32⟩
  | 50 => ⟨S8x1x6144, .f32⟩
  | 51 => ⟨S8x1x1024, .f32⟩
  | 52 => ⟨S8x1x1024, .f32⟩
  | 53 => ⟨S8x1x1024, .f32⟩
  | 54 => ⟨S8x1x1024, .f32⟩
  | 55 => ⟨S8x1x1024, .f32⟩
  | 56 => ⟨S8x1x1024, .f32⟩
  | 57 => ⟨S8x8192x1024, .f32⟩
  | 58 => ⟨S_, .f32⟩
  | 59 => ⟨S8x8192, .f32⟩
  | 60 => ⟨S8x8192x1, .f32⟩
  | 61 => ⟨S_, .f32⟩
  | 62 => ⟨S8x8192x1, .f32⟩
  | 63 => ⟨S8x8192x1, .f32⟩
  | 64 => ⟨S_, .f32⟩
  | 65 => ⟨S8x8192x1, .f32⟩
  | 66 => ⟨S8x8192x1, .f32⟩
  | 67 => ⟨S8x8192x1, .f32⟩
  | 68 => ⟨S8x8192x1024, .f32⟩
  | 69 => ⟨S8x8192x1024, .f32⟩
  | 70 => ⟨S1x1x1024, .f32⟩
  | 71 => ⟨S8x8192x1024, .f32⟩
  | 72 => ⟨S8x8192x1024, .f32⟩
  | 73 => ⟨S_, .f32⟩
  | 74 => ⟨S8x1x1024, .f32⟩
  | 75 => ⟨S8x1x1024, .f32⟩
  | 76 => ⟨S8x8192x1024, .f32⟩
  | 77 => ⟨S8x8192x1024, .f32⟩
  | 78 => ⟨S8x8192x1024, .f32⟩
  | 79 => ⟨S8x8192x1024, .f32⟩
  | 80 => ⟨S8x8192x7712, .f32⟩
  | 81 => ⟨S8x8192x2048, .f32⟩
  | 82 => ⟨S8x8192x1024, .f32⟩
  | 83 => ⟨S8x8192x1536, .f32⟩
  | 84 => ⟨S8x8192x32, .f32⟩
  | 85 => ⟨S8x8192x1024, .f32⟩
  | 86 => ⟨S8x8192x1024, .f32⟩
  | 87 => ⟨S8x8192x1024, .f32⟩
  | 88 => ⟨S8x8192x16x64, .f32⟩
  | 89 => ⟨S8x8192x16x64, .f32⟩
  | 90 => ⟨S_, .f32⟩
  | 91 => ⟨S8x8192x16, .f32⟩
  | 92 => ⟨S8x8192x16x1, .f32⟩
  | 93 => ⟨S_, .f32⟩
  | 94 => ⟨S8x8192x16x1, .f32⟩
  | 95 => ⟨S8x8192x16x1, .f32⟩
  | 96 => ⟨S_, .f32⟩
  | 97 => ⟨S8x8192x16x1, .f32⟩
  | 98 => ⟨S8x8192x16x1, .f32⟩
  | 99 => ⟨S8x8192x16x1, .f32⟩
  | 100 => ⟨S8x8192x16x64, .f32⟩
  | 101 => ⟨S8x8192x16x64, .f32⟩
  | 102 => ⟨S1x1x1x64, .f32⟩
  | 103 => ⟨S8x8192x16x64, .f32⟩
  | 104 => ⟨S8x8192x16x64, .f32⟩
  | 105 => ⟨S16, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S8x8192x16x32, .f32⟩
  | 114 => ⟨S8192x1, .f32⟩
  | 115 => ⟨S1x16, .f32⟩
  | 116 => ⟨S8192x16, .f32⟩
  | 117 => ⟨S8192x16, .f32⟩
  | 118 => ⟨S8192x16, .f32⟩
  | 119 => ⟨S8192x16, .f32⟩
  | 120 => ⟨S1x8192x1x16, .f32⟩
  | 121 => ⟨S8192x16, .f32⟩
  | 122 => ⟨S1x8192x1x16, .f32⟩
  | 123 => ⟨S8x8192x16x16, .f32⟩
  | 124 => ⟨S8x8192x16x16, .f32⟩
  | 125 => ⟨S8x8192x16x16, .f32⟩
  | 126 => ⟨S8x8192x16x16, .f32⟩
  | 127 => ⟨S8x8192x16x16, .f32⟩
  | _ => ⟨S8x8192x1024, .f32⟩

abbrev hbmTy0_1 (i : Nat) : BufTy := match i % 128 with
  | 0 => ⟨S8x8192x16x16, .f32⟩
  | 1 => ⟨S8x8192x16x16, .f32⟩
  | 2 => ⟨S8x8192x16x16, .f32⟩
  | 3 => ⟨S8x8192x16x16, .f32⟩
  | 4 => ⟨S8x8192x16x16, .f32⟩
  | 5 => ⟨S8x8192x16x16, .f32⟩
  | 6 => ⟨S8x8192x16x16, .f32⟩
  | 7 => ⟨S8x8192x16x32, .f32⟩
  | 8 => ⟨S8x8192x16x32, .f32⟩
  | 9 => ⟨S8192x1, .f32⟩
  | 10 => ⟨S1x16, .f32⟩
  | 11 => ⟨S8192x16, .f32⟩
  | 12 => ⟨S8192x16, .f32⟩
  | 13 => ⟨S8192x16, .f32⟩
  | 14 => ⟨S8192x16, .f32⟩
  | 15 => ⟨S1x8192x1x16, .f32⟩
  | 16 => ⟨S8192x16, .f32⟩
  | 17 => ⟨S1x8192x1x16, .f32⟩
  | 18 => ⟨S8x8192x16x16, .f32⟩
  | 19 => ⟨S8x8192x16x16, .f32⟩
  | 20 => ⟨S8x8192x16x16, .f32⟩
  | 21 => ⟨S8x8192x16x16, .f32⟩
  | 22 => ⟨S8x8192x16x16, .f32⟩
  | 23 => ⟨S8x8192x16x16, .f32⟩
  | 24 => ⟨S8x8192x16x16, .f32⟩
  | 25 => ⟨S8x8192x16x16, .f32⟩
  | 26 => ⟨S8x8192x16x16, .f32⟩
  | 27 => ⟨S8x8192x16x16, .f32⟩
  | 28 => ⟨S8x8192x16x16, .f32⟩
  | 29 => ⟨S8x8192x16x16, .f32⟩
  | 30 => ⟨S8x8192x16x32, .f32⟩
  | 31 => ⟨S8x8192x16x64, .f32⟩
  | 32 => ⟨S_, .f32⟩
  | 33 => ⟨S8x8192x16x64, .f32⟩
  | 34 => ⟨S8x8192x16x64, .f32⟩
  | 35 => ⟨S8x8192x16x64, .f32⟩
  | 36 => ⟨S8x8192x16x64, .f32⟩
  | 37 => ⟨S_, .f32⟩
  | 38 => ⟨S8x8192x16, .f32⟩
  | 39 => ⟨S8x8192x16x1, .f32⟩
  | 40 => ⟨S_, .f32⟩
  | 41 => ⟨S8x8192x16x1, .f32⟩
  | 42 => ⟨S8x8192x16x1, .f32⟩
  | 43 => ⟨S_, .f32⟩
  | 44 => ⟨S8x8192x16x1, .f32⟩
  | 45 => ⟨S8x8192x16x1, .f32⟩
  | 46 => ⟨S8x8192x16x1, .f32⟩
  | 47 => ⟨S8x8192x16x64, .f32⟩
  | 48 => ⟨S8x8192x16x64, .f32⟩
  | 49 => ⟨S1x1x1x64, .f32⟩
  | 50 => ⟨S8x8192x16x64, .f32⟩
  | 51 => ⟨S8x8192x16x64, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S8x8192x16x32, .f32⟩
  | 61 => ⟨S8192x1, .f32⟩
  | 62 => ⟨S1x16, .f32⟩
  | 63 => ⟨S8192x16, .f32⟩
  | 64 => ⟨S8192x16, .f32⟩
  | 65 => ⟨S8192x16, .f32⟩
  | 66 => ⟨S8192x16, .f32⟩
  | 67 => ⟨S1x8192x1x16, .f32⟩
  | 68 => ⟨S8192x16, .f32⟩
  | 69 => ⟨S1x8192x1x16, .f32⟩
  | 70 => ⟨S8x8192x16x16, .f32⟩
  | 71 => ⟨S8x8192x16x16, .f32⟩
  | 72 => ⟨S8x8192x16x16, .f32⟩
  | 73 => ⟨S8x8192x16x16, .f32⟩
  | 74 => ⟨S8x8192x16x16, .f32⟩
  | 75 => ⟨S8x8192x16x16, .f32⟩
  | 76 => ⟨S8x8192x16x16, .f32⟩
  | 77 => ⟨S8x8192x16x16, .f32⟩
  | 78 => ⟨S8x8192x16x16, .f32⟩
  | 79 => ⟨S8x8192x16x16, .f32⟩
  | 80 => ⟨S8x8192x16x16, .f32⟩
  | 81 => ⟨S8x8192x16x16, .f32⟩
  | 82 => ⟨S8x8192x16x32, .f32⟩
  | 83 => ⟨S8x8192x16x32, .f32⟩
  | 84 => ⟨S8192x1, .f32⟩
  | 85 => ⟨S1x16, .f32⟩
  | 86 => ⟨S8192x16, .f32⟩
  | 87 => ⟨S8192x16, .f32⟩
  | 88 => ⟨S8192x16, .f32⟩
  | 89 => ⟨S8192x16, .f32⟩
  | 90 => ⟨S1x8192x1x16, .f32⟩
  | 91 => ⟨S8192x16, .f32⟩
  | 92 => ⟨S1x8192x1x16, .f32⟩
  | 93 => ⟨S8x8192x16x16, .f32⟩
  | 94 => ⟨S8x8192x16x16, .f32⟩
  | 95 => ⟨S8x8192x16x16, .f32⟩
  | 96 => ⟨S8x8192x16x16, .f32⟩
  | 97 => ⟨S8x8192x16x16, .f32⟩
  | 98 => ⟨S8x8192x16x16, .f32⟩
  | 99 => ⟨S8x8192x16x16, .f32⟩
  | 100 => ⟨S8x8192x16x16, .f32⟩
  | 101 => ⟨S8x8192x16x16, .f32⟩
  | 102 => ⟨S8x8192x16x16, .f32⟩
  | 103 => ⟨S8x8192x16x16, .f32⟩
  | 104 => ⟨S8x8192x16x16, .f32⟩
  | 105 => ⟨S8x8192x16x32, .f32⟩
  | 106 => ⟨S8x8192x16x64, .f32⟩
  | 107 => ⟨S65536x2048, .f32⟩
  | 108 => ⟨S65536x2048, .bf16⟩
  | 109 => ⟨S65536x1024, .f32⟩
  | 110 => ⟨S65536x1024, .bf16⟩
  | 111 => ⟨S65536x1536, .f32⟩
  | 112 => ⟨S65536x1536, .bf16⟩
  | 113 => ⟨S65536x1024, .f32⟩
  | 114 => ⟨S65536x1024, .bf16⟩
  | 115 => ⟨S65536x1024, .f32⟩
  | 116 => ⟨S65536x1024, .bf16⟩
  | 117 => ⟨S65536x1024, .f32⟩
  | 118 => ⟨S65536x1024, .bf16⟩
  | 119 => ⟨S32, .f32⟩
  | 120 => ⟨S1x1x32, .f32⟩
  | 121 => ⟨S8x8192x32, .f32⟩
  | 122 => ⟨S8x8192x32, .f32⟩
  | 123 => ⟨S8x8192x2x16, .f32⟩
  | 124 => ⟨S_, .i32⟩
  | 125 => ⟨S_, .f32⟩
  | 126 => ⟨S8x8192x2x128, .f32⟩
  | 127 => ⟨S_, .f32⟩
  | _ => ⟨S8x8192x1024, .f32⟩

abbrev hbmTy0_2 (i : Nat) : BufTy := match i % 128 with
  | 0 => ⟨S8x8192x2x128, .f32⟩
  | 1 => ⟨S8x8192x2x128, .f32⟩
  | 2 => ⟨S8x8192x2x128, .f32⟩
  | 3 => ⟨S8x8192x2x128, .f32⟩
  | 4 => ⟨S8x8192x2x128, .i1⟩
  | 5 => ⟨S8x8192x2x128, .f32⟩
  | 6 => ⟨S8x8192x2x128, .f32⟩
  | 7 => ⟨S8x8192x2x128, .f32⟩
  | 8 => ⟨S8x8192x2x128, .f32⟩
  | 9 => ⟨S8x8192x2x128, .f32⟩
  | 10 => ⟨S8x8192x2x128, .f32⟩
  | 11 => ⟨S8x8192x2x128, .f32⟩
  | 12 => ⟨S8x8192x2x128, .f32⟩
  | 13 => ⟨S65536x256, .f32⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_cst : Ref sig .tc := ⟨.hbm, 58, rfl⟩
abbrev main_v13 : Ref sig .tc := ⟨.hbm, 59, rfl⟩
abbrev main_v14 : Ref sig .tc := ⟨.hbm, 60, rfl⟩
abbrev main_cst_1 : Ref sig .tc := ⟨.hbm, 61, rfl⟩
abbrev main_v15 : Ref sig .tc := ⟨.hbm, 62, rfl⟩
abbrev main_v16 : Ref sig .tc := ⟨.hbm, 63, rfl⟩
abbrev main_cst_2 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_cst_3 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_cst_4 : Ref sig .tc := ⟨.hbm, 90, rfl⟩
abbrev main_v41 : Ref sig .tc := ⟨.hbm, 91, rfl⟩
abbrev main_v42 : Ref sig .tc := ⟨.hbm, 92, rfl⟩
abbrev main_cst_5 : Ref sig .tc := ⟨.hbm, 93, rfl⟩
abbrev main_v43 : Ref sig .tc := ⟨.hbm, 94, rfl⟩
abbrev main_v44 : Ref sig .tc := ⟨.hbm, 95, rfl⟩
abbrev main_cst_6 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_7 : Ref sig .tc := ⟨.hbm, 107, rfl⟩
abbrev main_v55 : Ref sig .tc := ⟨.hbm, 108, rfl⟩
abbrev main_v56 : Ref sig .tc := ⟨.hbm, 109, rfl⟩
abbrev main_cst_8 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_9 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_10 : Ref sig .tc := ⟨.hbm, 165, rfl⟩
abbrev main_v110 : Ref sig .tc := ⟨.hbm, 166, rfl⟩
abbrev main_v111 : Ref sig .tc := ⟨.hbm, 167, rfl⟩
abbrev main_cst_11 : Ref sig .tc := ⟨.hbm, 168, rfl⟩
abbrev main_v112 : Ref sig .tc := ⟨.hbm, 169, rfl⟩
abbrev main_v113 : Ref sig .tc := ⟨.hbm, 170, rfl⟩
abbrev main_cst_12 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_13 : Ref sig .tc := ⟨.hbm, 182, rfl⟩
abbrev main_v124 : Ref sig .tc := ⟨.hbm, 183, rfl⟩
abbrev main_v125 : Ref sig .tc := ⟨.hbm, 184, rfl⟩
abbrev main_cst_14 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_c_15 : Ref sig .tc := ⟨.hbm, 252, rfl⟩
abbrev main_call2_v0 : Ref sig .tc := ⟨.hbm, 253, rfl⟩
abbrev main_v192 : Ref sig .tc := ⟨.hbm, 254, rfl⟩
abbrev main_call3_cst : Ref sig .tc := ⟨.hbm, 255, rfl⟩
abbrev main_call3_v0 : Ref sig .tc := ⟨.hbm, 256, rfl⟩
abbrev main_call3_v1 : Ref sig .tc := ⟨.hbm, 257, rfl⟩
abbrev main_call3_v2 : Ref sig .tc := ⟨.hbm, 258, rfl⟩
abbrev main_call3_v3 : Ref sig .tc := ⟨.hbm, 259, rfl⟩
abbrev main_call3_v4 : Ref sig .tc := ⟨.hbm, 260, rfl⟩
abbrev main_call3_v5 : Ref sig .tc := ⟨.hbm, 261, rfl⟩
abbrev main_call3_v6 : Ref sig .tc := ⟨.hbm, 262, rfl⟩
abbrev main_call3_v7 : Ref sig .tc := ⟨.hbm, 263, rfl⟩
abbrev main_call3_v8 : Ref sig .tc := ⟨.hbm, 264, rfl⟩
abbrev main_call3_v9 : Ref sig .tc := ⟨.hbm, 265, rfl⟩
abbrev main_call3_v10 : Ref sig .tc := ⟨.hbm, 266, rfl⟩
abbrev main_call3_v11 : Ref sig .tc := ⟨.hbm, 267, rfl⟩
abbrev main_v193 : Ref sig .tc := ⟨.hbm, 268, rfl⟩
abbrev main_v194 : Ref sig .tc := ⟨.hbm, 269, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x6144 : Shape := ⟨2, ![8, 6144]⟩
abbrev S1024x2816 : Shape := ⟨2, ![1024, 2816]⟩
abbrev S2816x1024 : Shape := ⟨2, ![2816, 1024]⟩
abbrev S_ : Shape := ⟨0, ![]⟩
abbrev S16x6144 : Shape := ⟨2, ![16, 6144]⟩
abbrev S16x6x1024 : Shape := ⟨3, ![16, 6, 1024]⟩
abbrev S65536x1024 : Shape := ⟨2, ![65536, 1024]⟩
abbrev S512x1024 : Shape := ⟨2, ![512, 1024]⟩
abbrev S1x6x1024 : Shape := ⟨3, ![1, 6, 1024]⟩
abbrev S512x2816 : Shape := ⟨2, ![512, 2816]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S6x1024 : Shape := ⟨2, ![6, 1024]⟩
abbrev S1x1024 : Shape := ⟨2, ![1, 1024]⟩

abbrev nBuf : Space → Nat
  | .hbm => 17
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S8x6144, .f32⟩
  | .hbm, ⟨8, _⟩ => ⟨S16x6144, .f32⟩
  | .hbm, ⟨9, _⟩ => ⟨S16x6x1024, .f32⟩
  | .hbm, ⟨10, _⟩ => ⟨S65536x1024, .f32⟩
  | .hbm, ⟨11, _⟩ => ⟨S65536x1024, .bf16⟩
  | .hbm, ⟨12, _⟩ => ⟨S65536x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S65536x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x6x1024, .f32⟩
  | .local _ .vmem, ⟨5, _⟩ => ⟨S1x6x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S512x2816, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x8192x1024 : Shape := ⟨3, ![8, 8192, 1024]⟩
abbrev S8x6144 : Shape := ⟨2, ![8, 6144]⟩
abbrev S1024x2816 : Shape := ⟨2, ![1024, 2816]⟩
abbrev S2816x1024 : Shape := ⟨2, ![2816, 1024]⟩
abbrev S8x1x6144 : Shape := ⟨3, ![8, 1, 6144]⟩
abbrev S8x1x1024 : Shape := ⟨3, ![8, 1, 1024]⟩
abbrev S8x8192x2816 : Shape := ⟨3, ![8, 8192, 2816]⟩
abbrev S_ : Shape := ⟨0, ![]⟩
abbrev S65536x1024 : Shape := ⟨2, ![65536, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .f32⟩
  | .hbm, ⟨2, _⟩ => ⟨S8x6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x8192x2816, .f32⟩
  | .hbm, ⟨14, _⟩ => ⟨S8x8192x2816, .f32⟩
  | .hbm, ⟨15, _⟩ => ⟨S8x8192x2816, .f32⟩
  | .hbm, ⟨16, _⟩ => ⟨S_, .f32⟩
  | .hbm, ⟨17, _⟩ => ⟨S8x8192x2816, .f32⟩
  | .hbm, ⟨18, _⟩ => ⟨S8x8192x2816, .f32⟩
  | .hbm, ⟨19, _⟩ => ⟨S_, .f32⟩
  | .hbm, ⟨20, _⟩ => ⟨S8x8192x2816, .f32⟩
  | .hbm, ⟨21, _⟩ => ⟨S8x8192x2816, .f32⟩
  | .hbm, ⟨22, _⟩ => ⟨S8x8192x2816, .f32⟩
  | .hbm, ⟨23, _⟩ => ⟨S8x8192x2816, .f32⟩
  | .hbm, ⟨24, _⟩ => ⟨S8x8192x2816, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Kernel4.lean ====
abbrev S8x8192x1024 : Shape := ⟨3, ![8, 8192, 1024]⟩
abbrev S8x6144 : Shape := ⟨2, ![8, 6144]⟩
abbrev S8x8192x2048 : Shape := ⟨3, ![8, 8192, 2048]⟩
abbrev S1024 : Shape := ⟨1, ![1024]⟩
abbrev S1024x1024 : Shape := ⟨2, ![1024, 1024]⟩
abbrev S_ : Shape := ⟨0, ![]⟩
abbrev S16x6144 : Shape := ⟨2, ![16, 6144]⟩
abbrev S16x6x1024 : Shape := ⟨3, ![16, 6, 1024]⟩
abbrev S65536x1024 : Shape := ⟨2, ![65536, 1024]⟩
abbrev S65536x2048 : Shape := ⟨2, ![65536, 2048]⟩
abbrev S1x1024 : Shape := ⟨2, ![1, 1024]⟩
abbrev S512x1024 : Shape := ⟨2, ![512, 1024]⟩
abbrev S512x2048 : Shape := ⟨2, ![512, 2048]⟩
abbrev S1x6x1024 : Shape := ⟨3, ![1, 6, 1024]⟩
abbrev S6x1024 : Shape := ⟨2, ![6, 1024]⟩
abbrev S512x512 : Shape := ⟨2, ![512, 512]⟩
abbrev S512 : Shape := ⟨1, ![512]⟩
abbrev S512x1 : Shape := ⟨2, ![512, 1]⟩

abbrev nBuf : Space → Nat
  | .hbm => 34
  | .vmem => 23
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S8x8192x1024, .f32⟩
  | .hbm, ⟨3, _⟩ => ⟨S8x8192x1024, .f32⟩
  | .hbm, ⟨4, _⟩ => ⟨S8x8192x1024, .f32⟩
  | .hbm, ⟨5, _⟩ => ⟨S8x8192x2048, .f32⟩
  | .hbm, ⟨6, _⟩ => ⟨S8x8192x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S_, .f32⟩
  | .hbm, ⟨13, _⟩ => ⟨S8x6144, .f32⟩
  | .hbm, ⟨14, _⟩ => ⟨S16x6144, .f32⟩
  | .hbm, ⟨15, _⟩ => ⟨S16x6x1024, .f32⟩
  | .hbm, ⟨16, _⟩ => ⟨S65536x1024, .f32⟩
  | .hbm, ⟨17, _⟩ => ⟨S65536x1024, .bf16⟩
  | .hbm, ⟨18, _⟩ => ⟨S65536x1024, .f32⟩
  | .hbm, ⟨19, _⟩ => ⟨S65536x1024, .bf16⟩
  | .hbm, ⟨20, _⟩ => ⟨S65536x1024, .f32⟩
  | .hbm, ⟨21, _⟩ => ⟨S65536x1024, .bf16⟩
  | .hbm, ⟨22, _⟩ => ⟨S65536x2048, .f32⟩
  | .hbm, ⟨23, _⟩ => ⟨S65536x2048, .bf16⟩
  | .hbm, ⟨24, _⟩ => ⟨S65536x1024, .f32⟩
  | .hbm, ⟨25, _⟩ => ⟨S65536x1024, .bf16⟩
  | .hbm, ⟨26, _⟩ => ⟨S65536x1024, .f32⟩
  | .hbm, ⟨27, _⟩ => ⟨S1x1024, .f32⟩
  | .hbm, ⟨28, _⟩ => ⟨S1024x1024, .bf16⟩
  | .hbm, ⟨29, _⟩ => ⟨S1024x1024, .bf16⟩
  | .hbm, ⟨30, _⟩ => ⟨S1024x1024, .bf16⟩
  | .hbm, ⟨31, _⟩ => ⟨S1x1024, .f32⟩
  | .hbm, ⟨32, _⟩ => ⟨S65536x1024, .f32⟩
  | .hbm, ⟨33, _⟩ => ⟨S65536x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S8x8192x1024 : Shape := ⟨3, ![8, 8192, 1024]⟩
abbrev S8x6144 : Shape := ⟨2, ![8, 6144]⟩
abbrev S8x8192x2048 : Shape := ⟨3, ![8, 8192, 2048]⟩
abbrev S1024 : Shape := ⟨1, ![1024]⟩
abbrev S1024x1024 : Shape := ⟨2, ![1024, 1024]⟩
abbrev S8x1x6144 : Shape := ⟨3, ![8, 1, 6144]⟩
abbrev S8x1x1024 : Shape := ⟨3, ![8, 1, 1024]⟩
abbrev S_ : Shape := ⟨0, ![]⟩
abbrev S8x8192x2x512 : Shape := ⟨4, ![8, 8192, 2, 512]⟩
abbrev S8x8192x2 : Shape := ⟨3, ![8, 8192, 2]⟩
abbrev S8x8192x2x1 : Shape := ⟨4, ![8, 8192, 2, 1]⟩
abbrev S1x1x1024 : Shape := ⟨3, ![1, 1, 1024]⟩
abbrev S8x8192 : Shape := ⟨2, ![8, 8192]⟩
abbrev S8x8192x1 : Shape := ⟨3, ![8, 8192, 1]⟩
abbrev S65536x1024 : Shape := ⟨2, ![65536, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S8x8192x1024, .f32⟩
  | .hbm, ⟨3, _⟩ => ⟨S8x8192x1024, .f32⟩
  | .hbm, ⟨4, _⟩ => ⟨S8x8192x1024, .f32⟩
  | .hbm, ⟨5, _⟩ => ⟨S8x8192x2048, .f32⟩
  | .hbm, ⟨6, _⟩ => ⟨S8x8192x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S8x8192x1024, .f32⟩
  | .hbm, ⟨13, _⟩ => ⟨S8x8192x1024, .f32⟩
  | .hbm, ⟨14, _⟩ => ⟨S8x1x6144, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x8192x1024, .f32⟩
  | .hbm, ⟨22, _⟩ => ⟨S8x8192x1024, .f32⟩
  | .hbm, ⟨23, _⟩ => ⟨S8x8192x1024, .f32⟩
  | .hbm, ⟨24, _⟩ => ⟨S_, .f32⟩
  | .hbm, ⟨25, _⟩ => ⟨S8x8192x1024, .f32⟩
  | .hbm, ⟨26, _⟩ => ⟨S8x8192x1024, .f32⟩
  | .hbm, ⟨27, _⟩ => ⟨S_, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x2x512, .f32⟩
  | .hbm, ⟨33, _⟩ => ⟨S8x8192x2x512, .f32⟩
  | .hbm, ⟨34, _⟩ => ⟨S_, .f32⟩
  | .hbm, ⟨35, _⟩ => ⟨S8x8192x2, .f32⟩
  | .hbm, ⟨36, _⟩ => ⟨S8x8192x2x1, .f32⟩
  | .hbm, ⟨37, _⟩ => ⟨S_, .f32⟩
  | .hbm, ⟨38, _⟩ => ⟨S8x8192x2x1, .f32⟩
  | .hbm, ⟨39, _⟩ => ⟨S8x8192x2x1, .f32⟩
  | .hbm, ⟨40, _⟩ => ⟨S_, .f32⟩
  | .hbm, ⟨41, _⟩ => ⟨S8x8192x2x1, .f32⟩
  | .hbm, ⟨42, _⟩ => ⟨S8x8192x2x1, .f32⟩
  | .hbm, ⟨43, _⟩ => ⟨S8x8192x2x1, .f32⟩
  | .hbm, ⟨44, _⟩ => ⟨S8x8192x2x512, .f32⟩
  | .hbm, ⟨45, _⟩ => ⟨S8x8192x2x512, .f32⟩
  | .hbm, ⟨46, _⟩ => ⟨S8x8192x1024, .f32⟩
  | .hbm, ⟨47, _⟩ => ⟨S1x1x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S_, .f32⟩
  | .hbm, ⟨53, _⟩ => ⟨S8x8192x1024, .f32⟩
  | .hbm, ⟨54, _⟩ => ⟨S8x8192x1024, .f32⟩
  | .hbm, ⟨55, _⟩ => ⟨S_, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S_, .f32⟩
  | .hbm, ⟨63, _⟩ => ⟨S8x8192x1024, .f32⟩
  | .hbm, ⟨64, _⟩ => ⟨S8x8192x1024, .f32⟩
  | .hbm, ⟨65, _⟩ => ⟨S_, .f32⟩
  | .hbm, ⟨66, _⟩ => ⟨S8x8192x1024, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | .hbm, ⟨76, _⟩ => ⟨S_, .f32⟩
  | .hbm, ⟨77, _⟩ => ⟨S8x8192, .f32⟩
  | .hbm, ⟨78, _⟩ => ⟨S8x8192x1, .f32⟩
  | .hbm, ⟨79, _⟩ => ⟨S_, .f32⟩
  | .hbm, ⟨80, _⟩ => ⟨S8x8192x1, .f32⟩
  | .hbm, ⟨81, _⟩ => ⟨S8x8192x1, .f32⟩
  | .hbm, ⟨82, _⟩ => ⟨S_, .f32⟩
  | .hbm, ⟨83, _⟩ => ⟨S8x8192x1, .f32⟩
  | .hbm, ⟨84, _⟩ => ⟨S8x8192x1, .f32⟩
  | .hbm, ⟨85, _⟩ => ⟨S8x8192x1, .f32⟩
  | .hbm, ⟨86, _⟩ => ⟨S8x8192x1024, .f32⟩
  | .hbm, ⟨87, _⟩ => ⟨S8x8192x1024, .f32⟩
  | .hbm, ⟨88, _⟩ => ⟨S1x1x1024, .f32⟩
  | .hbm, ⟨89, _⟩ => ⟨S8x8192x1024, .f32⟩
  | .hbm, ⟨90, _⟩ => ⟨S8x8192x1024, .f32⟩
  | .hbm, ⟨91, _⟩ => ⟨S_, .f32⟩
  | .hbm, ⟨92, _⟩ => ⟨S8x1x1024, .f32⟩
  | .hbm, ⟨93, _⟩ => ⟨S8x1x1024, .f32⟩
  | .hbm, ⟨94, _⟩ => ⟨S8x8192x1024, .f32⟩
  | .hbm, ⟨95, _⟩ => ⟨S8x8192x1024, .f32⟩
  | .hbm, ⟨96, _⟩ => ⟨S8x8192x1024, .f32⟩
  | .hbm, ⟨97, _⟩ => ⟨S8x8192x1024, .f32⟩
  | .hbm, ⟨98, _⟩ => ⟨S65536x1024, .f32⟩
  | .hbm, ⟨99, _⟩ => ⟨S65536x1024, .f32⟩
  | .hbm, ⟨100, _⟩ => ⟨S65536x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== Kernel5.lean ====
abbrev S8x8192x1024 : Shape := ⟨3, ![8, 8192, 1024]⟩
abbrev S8x6144 : Shape := ⟨2, ![8, 6144]⟩
abbrev S8x8192x2048 : Shape := ⟨3, ![8, 8192, 2048]⟩
abbrev S1024 : Shape := ⟨1, ![1024]⟩
abbrev S1024x1024 : Shape := ⟨2, ![1024, 1024]⟩
abbrev S1024x8 : Shape := ⟨2, ![1024, 8]⟩
abbrev S_ : Shape := ⟨0, ![]⟩
abbrev S16x6144 : Shape := ⟨2, ![16, 6144]⟩
abbrev S16x6x1024 : Shape := ⟨3, ![16, 6, 1024]⟩
abbrev S1024x120 : Shape := ⟨2, ![1024, 120]⟩
abbrev S1024x128 : Shape := ⟨2, ![1024, 128]⟩
abbrev S65536x1024 : Shape := ⟨2, ![65536, 1024]⟩
abbrev S65536x2048 : Shape := ⟨2, ![65536, 2048]⟩
abbrev S1x1024 : Shape := ⟨2, ![1, 1024]⟩
abbrev S65536x128 : Shape := ⟨2, ![65536, 128]⟩
abbrev S512x1024 : Shape := ⟨2, ![512, 1024]⟩
abbrev S512x2048 : Shape := ⟨2, ![512, 2048]⟩
abbrev S1x6x1024 : Shape := ⟨3, ![1, 6, 1024]⟩
abbrev S512x128 : Shape := ⟨2, ![512, 128]⟩
abbrev S6x1024 : Shape := ⟨2, ![6, 1024]⟩
abbrev S512x512 : Shape := ⟨2, ![512, 512]⟩
abbrev S512 : Shape := ⟨1, ![512]⟩
abbrev S512x1 : Shape := ⟨2, ![512, 1]⟩

abbrev nBuf : Space → Nat
  | .hbm => 39
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S8x8192x1024, .f32⟩
  | .hbm, ⟨3, _⟩ => ⟨S8x8192x1024, .f32⟩
  | .hbm, ⟨4, _⟩ => ⟨S8x8192x1024, .f32⟩
  | .hbm, ⟨5, _⟩ => ⟨S8x8192x2048, .f32⟩
  | .hbm, ⟨6, _⟩ => ⟨S8x8192x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x8, .f32⟩
  | .hbm, ⟨13, _⟩ => ⟨S_, .f32⟩
  | .hbm, ⟨14, _⟩ => ⟨S8x6144, .f32⟩
  | .hbm, ⟨15, _⟩ => ⟨S16x6144, .f32⟩
  | .hbm, ⟨16, _⟩ => ⟨S16x6x1024, .f32⟩
  | .hbm, ⟨17, _⟩ => ⟨S_, .f32⟩
  | .hbm, ⟨18, _⟩ => ⟨S1024x120, .f32⟩
  | .hbm, ⟨19, _⟩ => ⟨S1024x128, .f32⟩
  | .hbm, ⟨20, _⟩ => ⟨S65536x1024, .f32⟩
  | .hbm, ⟨21, _⟩ => ⟨S65536x1024, .bf16⟩
  | .hbm, ⟨22, _⟩ => ⟨S65536x1024, .f32⟩
  | .hbm, ⟨23, _⟩ => ⟨S65536x1024, .bf16⟩
  | .hbm, ⟨24, _⟩ => ⟨S65536x1024, .f32⟩
  | .hbm, ⟨25, _⟩ => ⟨S65536x1024, .bf16⟩
  | .hbm, ⟨26, _⟩ => ⟨S65536x2048, .f32⟩
  | .hbm, ⟨27, _⟩ => ⟨S65536x2048, .bf16⟩
  | .hbm, ⟨28, _⟩ => ⟨S65536x1024, .f32⟩
  | .hbm, ⟨29, _⟩ => ⟨S65536x1024, .bf16⟩
  | .hbm, ⟨30, _⟩ => ⟨S65536x1024, .f32⟩
  | .hbm, ⟨31, _⟩ => ⟨S1x1024, .f32⟩
  | .hbm, ⟨32, _⟩ => ⟨S1024x1024, .bf16⟩
  | .hbm, ⟨33, _⟩ => ⟨S1024x1024, .bf16⟩
  | .hbm, ⟨34, _⟩ => ⟨S1024x1024, .bf16⟩
  | .hbm, ⟨35, _⟩ => ⟨S1x1024, .f32⟩
  | .hbm, ⟨36, _⟩ => ⟨S65536x1024, .f32⟩
  | .hbm, ⟨37, _⟩ => ⟨S65536x1024, .f32⟩
  | .hbm, ⟨38, _⟩ => ⟨S65536x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x6x1024, .f32⟩
  | .local _ .vmem, ⟨13, _⟩ => ⟨S1x6x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1024x128, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x128, .f32⟩
  | .local _ .vmem, ⟨25, _⟩ => ⟨S512x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S8x8192x1024 : Shape := ⟨3, ![8, 8192, 1024]⟩
abbrev S8x6144 : Shape := ⟨2, ![8, 6144]⟩
abbrev S8x8192x2048 : Shape := ⟨3, ![8, 8192, 2048]⟩
abbrev S1024 : Shape := ⟨1, ![1024]⟩
abbrev S1024x1024 : Shape := ⟨2, ![1024, 1024]⟩
abbrev S1024x8 : Shape := ⟨2, ![1024, 8]⟩
abbrev S8x1x6144 : Shape := ⟨3, ![8, 1, 6144]⟩
abbrev S8x1x1024 : Shape := ⟨3, ![8, 1, 1024]⟩
abbrev S_ : Shape := ⟨0, ![]⟩
abbrev S8x8192x2x512 : Shape := ⟨4, ![8, 8192, 2, 512]⟩
abbrev S8x8192x2 : Shape := ⟨3, ![8, 8192, 2]⟩
abbrev S8x8192x2x1 : Shape := ⟨4, ![8, 8192, 2, 1]⟩
abbrev S1x1x1024 : Shape := ⟨3, ![1, 1, 1024]⟩
abbrev S8x8192 : Shape := ⟨2, ![8, 8192]⟩
abbrev S8x8192x1 : Shape := ⟨3, ![8, 8192, 1]⟩
abbrev S65536x1024 : Shape := ⟨2, ![65536, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S8x8192x1024, .f32⟩
  | .hbm, ⟨3, _⟩ => ⟨S8x8192x1024, .f32⟩
  | .hbm, ⟨4, _⟩ => ⟨S8x8192x1024, .f32⟩
  | .hbm, ⟨5, _⟩ => ⟨S8x8192x2048, .f32⟩
  | .hbm, ⟨6, _⟩ => ⟨S8x8192x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x8, .f32⟩
  | .hbm, ⟨13, _⟩ => ⟨S8x8192x1024, .f32⟩
  | .hbm, ⟨14, _⟩ => ⟨S8x8192x1024, .f32⟩
  | .hbm, ⟨15, _⟩ => ⟨S8x1x6144, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S_, .f32⟩
  | .hbm, ⟨26, _⟩ => ⟨S8x8192x1024, .f32⟩
  | .hbm, ⟨27, _⟩ => ⟨S8x8192x1024, .f32⟩
  | .hbm, ⟨28, _⟩ => ⟨S_, .f32⟩
  | .hbm, ⟨29, _⟩ => ⟨S8x8192x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x2x512, .f32⟩
  | .hbm, ⟨34, _⟩ => ⟨S8x8192x2x512, .f32⟩
  | .hbm, ⟨35, _⟩ => ⟨S_, .f32⟩
  | .hbm, ⟨36, _⟩ => ⟨S8x8192x2, .f32⟩
  | .hbm, ⟨37, _⟩ => ⟨S8x8192x2x1, .f32⟩
  | .hbm, ⟨38, _⟩ => ⟨S_, .f32⟩
  | .hbm, ⟨39, _⟩ => ⟨S8x8192x2x1, .f32⟩
  | .hbm, ⟨40, _⟩ => ⟨S8x8192x2x1, .f32⟩
  | .hbm, ⟨41, _⟩ => ⟨S_, .f32⟩
  | .hbm, ⟨42, _⟩ => ⟨S8x8192x2x1, .f32⟩
  | .hbm, ⟨43, _⟩ => ⟨S8x8192x2x1, .f32⟩
  | .hbm, ⟨44, _⟩ => ⟨S8x8192x2x1, .f32⟩
  | .hbm, ⟨45, _⟩ => ⟨S8x8192x2x512, .f32⟩
  | .hbm, ⟨46, _⟩ => ⟨S8x8192x2x512, .f32⟩
  | .hbm, ⟨47, _⟩ => ⟨S8x8192x1024, .f32⟩
  | .hbm, ⟨48, _⟩ => ⟨S1x1x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S8x8192x1024, .f32⟩
  | .hbm, ⟨53, _⟩ => ⟨S_, .f32⟩
  | .hbm, ⟨54, _⟩ => ⟨S8x8192x1024, .f32⟩
  | .hbm, ⟨55, _⟩ => ⟨S8x8192x1024, .f32⟩
  | .hbm, ⟨56, _⟩ => ⟨S_, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S8x8192x1024, .f32⟩
  | .hbm, ⟨63, _⟩ => ⟨S_, .f32⟩
  | .hbm, ⟨64, _⟩ => ⟨S8x8192x1024, .f32⟩
  | .hbm, ⟨65, _⟩ => ⟨S8x8192x1024, .f32⟩
  | .hbm, ⟨66, _⟩ => ⟨S_, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | .hbm, ⟨70, _⟩ => ⟨S8x8192x1024, .f32⟩
  | .hbm, ⟨71, _⟩ => ⟨S8x8192x1024, .f32⟩
  | .hbm, ⟨72, _⟩ => ⟨S8x8192x1024, .f32⟩
  | .hbm, ⟨73, _⟩ => ⟨S8x8192x1024, .f32⟩
  | .hbm, ⟨74, _⟩ => ⟨S8x8192x1024, .f32⟩
  | .hbm, ⟨75, _⟩ => ⟨S8x8192x1024, .f32⟩
  | .hbm, ⟨76, _⟩ => ⟨S8x8192x1024, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S_, .f32⟩
  | .hbm, ⟨81, _⟩ => ⟨S8x8192x1, .f32⟩
  | .hbm, ⟨82, _⟩ => ⟨S8x8192x1, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S8x8192x1, .f32⟩
  | .hbm, ⟨87, _⟩ => ⟨S8x8192x1024, .f32⟩
  | .hbm, ⟨88, _⟩ => ⟨S8x8192x1024, .f32⟩
  | .hbm, ⟨89, _⟩ => ⟨S1x1x1024, .f32⟩
  | .hbm, ⟨90, _⟩ => ⟨S8x8192x1024, .f32⟩
  | .hbm, ⟨91, _⟩ => ⟨S8x8192x1024, .f32⟩
  | .hbm, ⟨92, _⟩ => ⟨S_, .f32⟩
  | .hbm, ⟨93, _⟩ => ⟨S8x1x1024, .f32⟩
  | .hbm, ⟨94, _⟩ => ⟨S8x1x1024, .f32⟩
  | .hbm, ⟨95, _⟩ => ⟨S8x8192x1024, .f32⟩
  | .hbm, ⟨96, _⟩ => ⟨S8x8192x1024, .f32⟩
  | .hbm, ⟨97, _⟩ => ⟨S8x8192x1024, .f32⟩
  | .hbm, ⟨98, _⟩ => ⟨S8x8192x1024, .f32⟩
  | .hbm, ⟨99, _⟩ => ⟨S65536x1024, .f32⟩
  | .hbm, ⟨100, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_2 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]
-- ==== Kernel6.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x6144 : Shape := ⟨2, ![1, 6144]⟩
abbrev S16x6144 : Shape := ⟨2, ![16, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S1x6144, .f32⟩
  | .hbm, ⟨9, _⟩ => ⟨S16x6144, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x1024 : Shape := ⟨2, ![8, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S16x6144 : Shape := ⟨2, ![16, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S16x6144, .f32⟩
  | .hbm, ⟨18, _⟩ => ⟨S1x6144, .f32⟩
  | .hbm, ⟨19, _⟩ => ⟨S16x6144, .f32⟩
  | .hbm, ⟨20, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Kernel7.lean ====
abbrev S8x256x1024 : Shape := ⟨3, ![8, 256, 1024]⟩
abbrev S6144 : Shape := ⟨1, ![6144]⟩
abbrev S8x256x2048 : Shape := ⟨3, ![8, 256, 2048]⟩
abbrev S1024 : Shape := ⟨1, ![1024]⟩
abbrev S1024x1024 : Shape := ⟨2, ![1024, 1024]⟩
abbrev S_ : Shape := ⟨0, ![]⟩
abbrev S8x6144 : Shape := ⟨2, ![8, 6144]⟩
abbrev S1x6144 : Shape := ⟨2, ![1, 6144]⟩
abbrev S7x6144 : Shape := ⟨2, ![7, 6144]⟩
abbrev S16x6144 : Shape := ⟨2, ![16, 6144]⟩
abbrev S16x6x1024 : Shape := ⟨3, ![16, 6, 1024]⟩
abbrev S2048x1024 : Shape := ⟨2, ![2048, 1024]⟩
abbrev S2048x2048 : Shape := ⟨2, ![2048, 2048]⟩
abbrev S1x1024 : Shape := ⟨2, ![1, 1024]⟩
abbrev S256x1024 : Shape := ⟨2, ![256, 1024]⟩
abbrev S256x2048 : Shape := ⟨2, ![256, 2048]⟩
abbrev S1x6x1024 : Shape := ⟨3, ![1, 6, 1024]⟩
abbrev S6x1024 : Shape := ⟨2, ![6, 1024]⟩
abbrev S256x512 : Shape := ⟨2, ![256, 512]⟩
abbrev S256 : Shape := ⟨1, ![256]⟩
abbrev S256x1 : Shape := ⟨2, ![256, 1]⟩

abbrev nBuf : Space → Nat
  | .hbm => 37
  | .vmem => 22
  | .smem => 0
  | _ => 0

abbrev bufTy : (tb : Table) → Fin (tcTables nBuf tb) → BufTy
  | .hbm, ⟨0, _⟩ => ⟨S8x256x1024, .f32⟩
  | .hbm, ⟨1, _⟩ => ⟨S6144, .f32⟩
  | .hbm, ⟨2, _⟩ => ⟨S8x256x1024, .f32⟩
  | .hbm, ⟨3, _⟩ => ⟨S8x256x1024, .f32⟩
  | .hbm, ⟨4, _⟩ => ⟨S8x256x1024, .f32⟩
  | .hbm, ⟨5, _⟩ => ⟨S8x256x2048, .f32⟩
  | .hbm, ⟨6, _⟩ => ⟨S8x256x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S_, .f32⟩
  | .hbm, ⟨13, _⟩ => ⟨S8x6144, .f32⟩
  | .hbm, ⟨14, _⟩ => ⟨S1x6144, .f32⟩
  | .hbm, ⟨15, _⟩ => ⟨S_, .f32⟩
  | .hbm, ⟨16, _⟩ => ⟨S7x6144, .f32⟩
  | .hbm, ⟨17, _⟩ => ⟨S16x6144, .f32⟩
  | .hbm, ⟨18, _⟩ => ⟨S16x6x1024, .f32⟩
  | .hbm, ⟨19, _⟩ => ⟨S2048x1024, .f32⟩
  | .hbm, ⟨20, _⟩ => ⟨S2048x1024, .bf16⟩
  | .hbm, ⟨21, _⟩ => ⟨S2048x1024, .f32⟩
  | .hbm, ⟨22, _⟩ => ⟨S2048x1024, .bf16⟩
  | .hbm, ⟨23, _⟩ => ⟨S2048x1024, .f32⟩
  | .hbm, ⟨24, _⟩ => ⟨S2048x1024, .bf16⟩
  | .hbm, ⟨25, _⟩ => ⟨S2048x2048, .f32⟩
  | .hbm, ⟨26, _⟩ => ⟨S2048x2048, .bf16⟩
  | .hbm, ⟨27, _⟩ => ⟨S2048x1024, .f32⟩
  | .hbm, ⟨28, _⟩ => ⟨S2048x1024, .bf16⟩
  | .hbm, ⟨29, _⟩ => ⟨S2048x1024, .f32⟩
  | .hbm, ⟨30, _⟩ => ⟨S1x1024, .f32⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1x1024, .f32⟩
  | .hbm, ⟨35, _⟩ => ⟨S2048x1024, .f32⟩
  | .hbm, ⟨36, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1x6x1024, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S8x256x1024 : Shape := ⟨3, ![8, 256, 1024]⟩
abbrev S6144 : Shape := ⟨1, ![6144]⟩
abbrev S8x256x2048 : Shape := ⟨3, ![8, 256, 2048]⟩
abbrev S1024 : Shape := ⟨1, ![1024]⟩
abbrev S1024x1024 : Shape := ⟨2, ![1024, 1024]⟩
abbrev S1x1x6144 : Shape := ⟨3, ![1, 1, 6144]⟩
abbrev S1x1x1024 : Shape := ⟨3, ![1, 1, 1024]⟩
abbrev S_ : Shape := ⟨0, ![]⟩
abbrev S8x256x2x512 : Shape := ⟨4, ![8, 256, 2, 512]⟩
abbrev S8x256x2 : Shape := ⟨3, ![8, 256, 2]⟩
abbrev S8x256x2x1 : Shape := ⟨4, ![8, 256, 2, 1]⟩
abbrev S8x256 : Shape := ⟨2, ![8, 256]⟩
abbrev S8x256x1 : Shape := ⟨3, ![8, 256, 1]⟩
abbrev S2048x1024 : Shape := ⟨2, ![2048, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S6144, .f32⟩
  | .hbm, ⟨2, _⟩ => ⟨S8x256x1024, .f32⟩
  | .hbm, ⟨3, _⟩ => ⟨S8x256x1024, .f32⟩
  | .hbm, ⟨4, _⟩ => ⟨S8x256x1024, .f32⟩
  | .hbm, ⟨5, _⟩ => ⟨S8x256x2048, .f32⟩
  | .hbm, ⟨6, _⟩ => ⟨S8x256x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S8x256x1024, .f32⟩
  | .hbm, ⟨13, _⟩ => ⟨S8x256x1024, .f32⟩
  | .hbm, ⟨14, _⟩ => ⟨S1x1x6144, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x1x1024, .f32⟩
  | .hbm, ⟨20, _⟩ => ⟨S1x1x1024, .f32⟩
  | .hbm, ⟨21, _⟩ => ⟨S8x256x1024, .f32⟩
  | .hbm, ⟨22, _⟩ => ⟨S8x256x1024, .f32⟩
  | .hbm, ⟨23, _⟩ => ⟨S8x256x1024, .f32⟩
  | .hbm, ⟨24, _⟩ => ⟨S_, .f32⟩
  | .hbm, ⟨25, _⟩ => ⟨S8x256x1024, .f32⟩
  | .hbm, ⟨26, _⟩ => ⟨S8x256x1024, .f32⟩
  | .hbm, ⟨27, _⟩ => ⟨S_, .f32⟩
  | .hbm, ⟨28, _⟩ => ⟨S8x256x1024, .f32⟩
  | .hbm, ⟨29, _⟩ => ⟨S8x256x1024, .f32⟩
  | .hbm, ⟨30, _⟩ => ⟨S8x256x1024, .f32⟩
  | .hbm, ⟨31, _⟩ => ⟨S8x256x1024, .f32⟩
  | .hbm, ⟨32, _⟩ => ⟨S8x256x2x512, .f32⟩
  | .hbm, ⟨33, _⟩ => ⟨S8x256x2x512, .f32⟩
  | .hbm, ⟨34, _⟩ => ⟨S_, .f32⟩
  | .hbm, ⟨35, _⟩ => ⟨S8x256x2, .f32⟩
  | .hbm, ⟨36, _⟩ => ⟨S8x256x2x1, .f32⟩
  | .hbm, ⟨37, _⟩ => ⟨S_, .f32⟩
  | .hbm, ⟨38, _⟩ => ⟨S8x256x2x1, .f32⟩
  | .hbm, ⟨39, _⟩ => ⟨S8x256x2x1, .f32⟩
  | .hbm, ⟨40, _⟩ => ⟨S_, .f32⟩
  | .hbm, ⟨41, _⟩ => ⟨S8x256x2x1, .f32⟩
  | .hbm, ⟨42, _⟩ => ⟨S8x256x2x1, .f32⟩
  | .hbm, ⟨43, _⟩ => ⟨S8x256x2x1, .f32⟩
  | .hbm, ⟨44, _⟩ => ⟨S8x256x2x512, .f32⟩
  | .hbm, ⟨45, _⟩ => ⟨S8x256x2x512, .f32⟩
  | .hbm, ⟨46, _⟩ => ⟨S8x256x1024, .f32⟩
  | .hbm, ⟨47, _⟩ => ⟨S1x1x1024, .f32⟩
  | .hbm, ⟨48, _⟩ => ⟨S8x256x1024, .f32⟩
  | .hbm, ⟨49, _⟩ => ⟨S8x256x1024, .f32⟩
  | .hbm, ⟨50, _⟩ => ⟨S8x256x1024, .f32⟩
  | .hbm, ⟨51, _⟩ => ⟨S8x256x1024, .f32⟩
  | .hbm, ⟨52, _⟩ => ⟨S_, .f32⟩
  | .hbm, ⟨53, _⟩ => ⟨S8x256x1024, .f32⟩
  | .hbm, ⟨54, _⟩ => ⟨S8x256x1024, .f32⟩
  | .hbm, ⟨55, _⟩ => ⟨S_, .f32⟩
  | .hbm, ⟨56, _⟩ => ⟨S8x256x1024, .f32⟩
  | .hbm, ⟨57, _⟩ => ⟨S8x256x1024, .f32⟩
  | .hbm, ⟨58, _⟩ => ⟨S8x256x1024, .f32⟩
  | .hbm, ⟨59, _⟩ => ⟨S8x256x1024, .f32⟩
  | .hbm, ⟨60, _⟩ => ⟨S8x256x1024, .f32⟩
  | .hbm, ⟨61, _⟩ => ⟨S8x256x1024, .f32⟩
  | .hbm, ⟨62, _⟩ => ⟨S_, .f32⟩
  | .hbm, ⟨63, _⟩ => ⟨S8x256x1024, .f32⟩
  | .hbm, ⟨64, _⟩ => ⟨S8x256x1024, .f32⟩
  | .hbm, ⟨65, _⟩ => ⟨S_, .f32⟩
  | .hbm, ⟨66, _⟩ => ⟨S8x256x1024, .f32⟩
  | .hbm, ⟨67, _⟩ => ⟨S8x256x1024, .f32⟩
  | .hbm, ⟨68, _⟩ => ⟨S8x256x1024, .f32⟩
  | .hbm, ⟨69, _⟩ => ⟨S8x256x1024, .f32⟩
  | .hbm, ⟨70, _⟩ => ⟨S8x256x1024, .f32⟩
  | .hbm, ⟨71, _⟩ => ⟨S8x256x1024, .f32⟩
  | .hbm, ⟨72, _⟩ => ⟨S8x256x1024, .f32⟩
  | .hbm, ⟨73, _⟩ => ⟨S8x256x1024, .f32⟩
  | .hbm, ⟨74, _⟩ => ⟨S8x256x1024, .f32⟩
  | .hbm, ⟨75, _⟩ => ⟨S8x256x1024, .f32⟩
  | .hbm, ⟨76, _⟩ => ⟨S_, .f32⟩
  | .hbm, ⟨77, _⟩ => ⟨S8x256, .f32⟩
  | .hbm, ⟨78, _⟩ => ⟨S8x256x1, .f32⟩
  | .hbm, ⟨79, _⟩ => ⟨S_, .f32⟩
  | .hbm, ⟨80, _⟩ => ⟨S8x256x1, .f32⟩
  | .hbm, ⟨81, _⟩ => ⟨S8x256x1, .f32⟩
  | .hbm, ⟨82, _⟩ => ⟨S_, .f32⟩
  | .hbm, ⟨83, _⟩ => ⟨S8x256x1, .f32⟩
  | .hbm, ⟨84, _⟩ => ⟨S8x256x1, .f32⟩
  | .hbm, ⟨85, _⟩ => ⟨S8x256x1, .f32⟩
  | .hbm, ⟨86, _⟩ => ⟨S8x256x1024, .f32⟩
  | .hbm, ⟨87, _⟩ => ⟨S8x256x1024, .f32⟩
  | .hbm, ⟨88, _⟩ => ⟨S1x1x1024, .f32⟩
  | .hbm, ⟨89, _⟩ => ⟨S8x256x1024, .f32⟩
  | .hbm, ⟨90, _⟩ => ⟨S8x256x1024, .f32⟩
  | .hbm, ⟨91, _⟩ => ⟨S_, .f32⟩
  | .hbm, ⟨92, _⟩ => ⟨S1x1x1024, .f32⟩
  | .hbm, ⟨93, _⟩ => ⟨S1x1x1024, .f32⟩
  | .hbm, ⟨94, _⟩ => ⟨S8x256x1024, .f32⟩
  | .hbm, ⟨95, _⟩ => ⟨S8x256x1024, .f32⟩
  | .hbm, ⟨96, _⟩ => ⟨S8x256x1024, .f32⟩
  | .hbm, ⟨97, _⟩ => ⟨S8x256x1024, .f32⟩
  | .hbm, ⟨98, _⟩ => ⟨S2048x1024, .f32⟩
  | .hbm, ⟨99, _⟩ => ⟨S2048x1024, .f32⟩
  | .hbm, ⟨100, _⟩ => ⟨S2048x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_cst_0 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_2 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_9 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== Kernel8.lean ====
abbrev S8x256x1024 : Shape := ⟨3, ![8, 256, 1024]⟩
abbrev S6144 : Shape := ⟨1, ![6144]⟩
abbrev S1024x2816 : Shape := ⟨2, ![1024, 2816]⟩
abbrev S2816x1024 : Shape := ⟨2, ![2816, 1024]⟩
abbrev S_ : Shape := ⟨0, ![]⟩
abbrev S8x6144 : Shape := ⟨2, ![8, 6144]⟩
abbrev S1x6144 : Shape := ⟨2, ![1, 6144]⟩
abbrev S7x6144 : Shape := ⟨2, ![7, 6144]⟩
abbrev S16x6144 : Shape := ⟨2, ![16, 6144]⟩
abbrev S16x6x1024 : Shape := ⟨3, ![16, 6, 1024]⟩
abbrev S2048x1024 : Shape := ⟨2, ![2048, 1024]⟩
abbrev S256x1024 : Shape := ⟨2, ![256, 1024]⟩
abbrev S1x6x1024 : Shape := ⟨3, ![1, 6, 1024]⟩
abbrev S256x2816 : Shape := ⟨2, ![256, 2816]⟩
abbrev S1024x512 : Shape := ⟨2, ![1024, 512]⟩
abbrev S256x512 : Shape := ⟨2, ![256, 512]⟩
abbrev S1024x256 : Shape := ⟨2, ![1024, 256]⟩
abbrev S256x256 : Shape := ⟨2, ![256, 256]⟩
abbrev S6x1024 : Shape := ⟨2, ![6, 1024]⟩
abbrev S1x1024 : Shape := ⟨2, ![1, 1024]⟩

abbrev nBuf : Space → Nat
  | .hbm => 20
  | .vmem => 11
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S8x6144, .f32⟩
  | .hbm, ⟨8, _⟩ => ⟨S1x6144, .f32⟩
  | .hbm, ⟨9, _⟩ => ⟨S_, .f32⟩
  | .hbm, ⟨10, _⟩ => ⟨S7x6144, .f32⟩
  | .hbm, ⟨11, _⟩ => ⟨S16x6144, .f32⟩
  | .hbm, ⟨12, _⟩ => ⟨S16x6x1024, .f32⟩
  | .hbm, ⟨13, _⟩ => ⟨S2048x1024, .f32⟩
  | .hbm, ⟨14, _⟩ => ⟨S2048x1024, .bf16⟩
  | .hbm, ⟨15, _⟩ => ⟨S2048x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x6x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S8x256x1024 : Shape := ⟨3, ![8, 256, 1024]⟩
abbrev S6144 : Shape := ⟨1, ![6144]⟩
abbrev S1024x2816 : Shape := ⟨2, ![1024, 2816]⟩
abbrev S2816x1024 : Shape := ⟨2, ![2816, 1024]⟩
abbrev S1x1x6144 : Shape := ⟨3, ![1, 1, 6144]⟩
abbrev S1x1x1024 : Shape := ⟨3, ![1, 1, 1024]⟩
abbrev S8x256x2816 : Shape := ⟨3, ![8, 256, 2816]⟩
abbrev S_ : Shape := ⟨0, ![]⟩
abbrev S2048x1024 : Shape := ⟨2, ![2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x1024, .f32⟩
  | .hbm, ⟨2, _⟩ => ⟨S6144, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S8x256x2816, .f32⟩
  | .hbm, ⟨14, _⟩ => ⟨S8x256x2816, .f32⟩
  | .hbm, ⟨15, _⟩ => ⟨S8x256x2816, .f32⟩
  | .hbm, ⟨16, _⟩ => ⟨S_, .f32⟩
  | .hbm, ⟨17, _⟩ => ⟨S8x256x2816, .f32⟩
  | .hbm, ⟨18, _⟩ => ⟨S8x256x2816, .f32⟩
  | .hbm, ⟨19, _⟩ => ⟨S_, .f32⟩
  | .hbm, ⟨20, _⟩ => ⟨S8x256x2816, .f32⟩
  | .hbm, ⟨21, _⟩ => ⟨S8x256x2816, .f32⟩
  | .hbm, ⟨22, _⟩ => ⟨S8x256x2816, .f32⟩
  | .hbm, ⟨23, _⟩ => ⟨S8x256x2816, .f32⟩
  | .hbm, ⟨24, _⟩ => ⟨S8x256x2816, .f32⟩
  | .hbm, ⟨25, _⟩ => ⟨S8x256x1024, .f32⟩
  | .hbm, ⟨26, _⟩ => ⟨S8x256x1024, .f32⟩
  | .hbm, ⟨27, _⟩ => ⟨S8x256x1024, .f32⟩
  | .hbm, ⟨28, _⟩ => ⟨S8x256x1024, .f32⟩
  | .hbm, ⟨29, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Kernel9.lean ====
abbrev S8x256x1024 : Shape := ⟨3, ![8, 256, 1024]⟩
abbrev S6144 : Shape := ⟨1, ![6144]⟩
abbrev S1024 : Shape := ⟨1, ![1024]⟩
abbrev S1024x7712 : Shape := ⟨2, ![1024, 7712]⟩
abbrev S2x16 : Shape := ⟨2, ![2, 16]⟩
abbrev S64 : Shape := ⟨1, ![64]⟩
abbrev S_ : Shape := ⟨0, ![]⟩
abbrev S8x6144 : Shape := ⟨2, ![8, 6144]⟩
abbrev S1x6144 : Shape := ⟨2, ![1, 6144]⟩
abbrev S7x6144 : Shape := ⟨2, ![7, 6144]⟩
abbrev S16x6144 : Shape := ⟨2, ![16, 6144]⟩
abbrev S16x6x1024 : Shape := ⟨3, ![16, 6, 1024]⟩
abbrev S2048x1024 : Shape := ⟨2, ![2048, 1024]⟩
abbrev S1x1024 : Shape := ⟨2, ![1, 1024]⟩
abbrev S1024x2048 : Shape := ⟨2, ![1024, 2048]⟩
abbrev S1024x1024 : Shape := ⟨2, ![1024, 1024]⟩
abbrev S1024x1536 : Shape := ⟨2, ![1024, 1536]⟩
abbrev S1024x32 : Shape := ⟨2, ![1024, 32]⟩
abbrev S1024x112 : Shape := ⟨2, ![1024, 112]⟩
abbrev S1024x16 : Shape := ⟨2, ![1024, 16]⟩
abbrev S1024x256 : Shape := ⟨2, ![1024, 256]⟩
abbrev S112 : Shape := ⟨1, ![112]⟩
abbrev S1x16 : Shape := ⟨2, ![1, 16]⟩
abbrev S16 : Shape := ⟨1, ![16]⟩
abbrev S256 : Shape := ⟨1, ![256]⟩
abbrev S1x256 : Shape := ⟨2, ![1, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S2x64 : Shape := ⟨2, ![2, 64]⟩
abbrev S2048x2048 : Shape := ⟨2, ![2048, 2048]⟩
abbrev S2048x1536 : Shape := ⟨2, ![2048, 1536]⟩
abbrev S2048x256 : Shape := ⟨2, ![2048, 256]⟩
abbrev S256x1024 : Shape := ⟨2, ![256, 1024]⟩
abbrev S1x6x1024 : Shape := ⟨3, ![1, 6, 1024]⟩
abbrev S256x2048 : Shape := ⟨2, ![256, 2048]⟩
abbrev S256x1536 : Shape := ⟨2, ![256, 1536]⟩
abbrev S256x256 : Shape := ⟨2, ![256, 256]⟩
abbrev S6x1024 : Shape := ⟨2, ![6, 1024]⟩
abbrev S256x1 : Shape := ⟨2, ![256, 1]⟩
abbrev S256x128 : Shape := ⟨2, ![256, 128]⟩

abbrev nBuf : Space → Nat
  | .hbm => 101
  | .vmem => 29
  | .smem => 0
  | _ => 0

abbrev bufTy : (tb : Table) → Fin (tcTables nBuf tb) → BufTy
  | .hbm, ⟨0, _⟩ => ⟨S8x256x1024, .f32⟩
  | .hbm, ⟨1, _⟩ => ⟨S6144, .f32⟩
  | .hbm, ⟨2, _⟩ => ⟨S1024, .f32⟩
  | .hbm, ⟨3, _⟩ => ⟨S1024x7712, .f32⟩
  | .hbm, ⟨4, _⟩ => ⟨S2x16, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S8x6144, .f32⟩
  | .hbm, ⟨9, _⟩ => ⟨S1x6144, .f32⟩
  | .hbm, ⟨10, _⟩ => ⟨S_, .f32⟩
  | .hbm, ⟨11, _⟩ => ⟨S7x6144, .f32⟩
  | .hbm, ⟨12, _⟩ => ⟨S16x6144, .f32⟩
  | .hbm, ⟨13, _⟩ => ⟨S16x6x1024, .f32⟩
  | .hbm, ⟨14, _⟩ => ⟨S2048x1024, .f32⟩
  | .hbm, ⟨15, _⟩ => ⟨S1x1024, .f32⟩
  | .hbm, ⟨16, _⟩ => ⟨S1024x2048, .f32⟩
  | .hbm, ⟨17, _⟩ => ⟨S1024x1024, .f32⟩
  | .hbm, ⟨18, _⟩ => ⟨S1024x1536, .f32⟩
  | .hbm, ⟨19, _⟩ => ⟨S1024x32, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x112, .f32⟩
  | .hbm, ⟨25, _⟩ => ⟨S1024x16, .f32⟩
  | .hbm, ⟨26, _⟩ => ⟨S1024x16, .f32⟩
  | .hbm, ⟨27, _⟩ => ⟨S1024x256, .f32⟩
  | .hbm, ⟨28, _⟩ => ⟨S_, .f32⟩
  | .hbm, ⟨29, _⟩ => ⟨S112, .f32⟩
  | .hbm, ⟨30, _⟩ => ⟨S1x16, .f32⟩
  | .hbm, ⟨31, _⟩ => ⟨S16, .f32⟩
  | .hbm, ⟨32, _⟩ => ⟨S1x16, .f32⟩
  | .hbm, ⟨33, _⟩ => ⟨S16, .f32⟩
  | .hbm, ⟨34, _⟩ => ⟨S256, .f32⟩
  | .hbm, ⟨35, _⟩ => ⟨S1x256, .f32⟩
  | .hbm, ⟨36, _⟩ => ⟨S128, .i32⟩
  | .hbm, ⟨37, _⟩ => ⟨S128x1, .i32⟩
  | .hbm, ⟨38, _⟩ => ⟨S_, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S128x1, .i32⟩
  | .hbm, ⟨43, _⟩ => ⟨S_, .i32⟩
  | .hbm, ⟨44, _⟩ => ⟨S128x1, .i32⟩
  | .hbm, ⟨45, _⟩ => ⟨S128x1, .i1⟩
  | .hbm, ⟨46, _⟩ => ⟨S128x1, .i32⟩
  | .hbm, ⟨47, _⟩ => ⟨S128x1, .i32⟩
  | .hbm, ⟨48, _⟩ => ⟨S_, .i32⟩
  | .hbm, ⟨49, _⟩ => ⟨S128x1, .i32⟩
  | .hbm, ⟨50, _⟩ => ⟨S128x1, .i1⟩
  | .hbm, ⟨51, _⟩ => ⟨S128x1, .i1⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S128x1, .i32⟩
  | .hbm, ⟨56, _⟩ => ⟨S1x128, .i32⟩
  | .hbm, ⟨57, _⟩ => ⟨S_, .i32⟩
  | .hbm, ⟨58, _⟩ => ⟨S_, .i32⟩
  | .hbm, ⟨59, _⟩ => ⟨S1x128, .i32⟩
  | .hbm, ⟨60, _⟩ => ⟨S1x128, .i32⟩
  | .hbm, ⟨61, _⟩ => ⟨S1x128, .i32⟩
  | .hbm, ⟨62, _⟩ => ⟨S_, .i32⟩
  | .hbm, ⟨63, _⟩ => ⟨S1x128, .i32⟩
  | .hbm, ⟨64, _⟩ => ⟨S1x128, .i1⟩
  | .hbm, ⟨65, _⟩ => ⟨S1x128, .i32⟩
  | .hbm, ⟨66, _⟩ => ⟨S1x128, .i32⟩
  | .hbm, ⟨67, _⟩ => ⟨S_, .i32⟩
  | .hbm, ⟨68, _⟩ => ⟨S1x128, .i32⟩
  | .hbm, ⟨69, _⟩ => ⟨S1x128, .i1⟩
  | .hbm, ⟨70, _⟩ => ⟨S1x128, .i1⟩
  | .hbm, ⟨71, _⟩ => ⟨S_, .i32⟩
  | .hbm, ⟨72, _⟩ => ⟨S1x128, .i32⟩
  | .hbm, ⟨73, _⟩ => ⟨S1x128, .i32⟩
  | .hbm, ⟨74, _⟩ => ⟨S1x128, .i32⟩
  | .hbm, ⟨75, _⟩ => ⟨S128x128, .i32⟩
  | .hbm, ⟨76, _⟩ => ⟨S128x128, .i32⟩
  | .hbm, ⟨77, _⟩ => ⟨S128x128, .i1⟩
  | .hbm, ⟨78, _⟩ => ⟨S128x128, .bf16⟩
  | .hbm, ⟨79, _⟩ => ⟨S1x64, .f32⟩
  | .hbm, ⟨80, _⟩ => ⟨S2x64, .f32⟩
  | .hbm, ⟨81, _⟩ => ⟨S128, .f32⟩
  | .hbm, ⟨82, _⟩ => ⟨S1x128, .f32⟩
  | .hbm, ⟨83, _⟩ => ⟨S1x64, .f32⟩
  | .hbm, ⟨84, _⟩ => ⟨S2x64, .f32⟩
  | .hbm, ⟨85, _⟩ => ⟨S128, .f32⟩
  | .hbm, ⟨86, _⟩ => ⟨S1x128, .f32⟩
  | .hbm, ⟨87, _⟩ => ⟨S1024x2048, .bf16⟩
  | .hbm, ⟨88, _⟩ => ⟨S1024x1024, .bf16⟩
  | .hbm, ⟨89, _⟩ => ⟨S1024x1536, .bf16⟩
  | .hbm, ⟨90, _⟩ => ⟨S1024x256, .bf16⟩
  | .hbm, ⟨91, _⟩ => ⟨S1024x1024, .bf16⟩
  | .hbm, ⟨92, _⟩ => ⟨S1024x1024, .bf16⟩
  | .hbm, ⟨93, _⟩ => ⟨S1024x1024, .bf16⟩
  | .hbm, ⟨94, _⟩ => ⟨S2048x2048, .bf16⟩
  | .hbm, ⟨95, _⟩ => ⟨S2048x1024, .bf16⟩
  | .hbm, ⟨96, _⟩ => ⟨S2048x1536, .bf16⟩
  | .hbm, ⟨97, _⟩ => ⟨S2048x256, .f32⟩
  | .hbm, ⟨98, _⟩ => ⟨S2048x1024, .bf16⟩
  | .hbm, ⟨99, _⟩ => ⟨S2048x1024, .bf16⟩
  | .hbm, ⟨100, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x1024, .f32⟩
  | .local _ .vmem, ⟨4, _⟩ => ⟨S1024x2048, .bf16⟩
  | .local _ .vmem, ⟨5, _⟩ => ⟨S1024x1024, .bf16⟩
  | .local _ .vmem, ⟨6, _⟩ => ⟨S1024x1536, .bf16⟩
  | .local _ .vmem, ⟨7, _⟩ => ⟨S1024x256, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S128x128, .bf16⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | .local _ .vmem, ⟨19, _⟩ => ⟨S256x1536, .bf16⟩
  | .local _ .vmem, ⟨20, _⟩ => ⟨S256x1536, .bf16⟩
  | .local _ .vmem, ⟨21, _⟩ => ⟨S256x256, .f32⟩
  | .local _ .vmem, ⟨22, _⟩ => ⟨S256x256, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v27 : Ref sig .tc := ⟨.hbm, 55, rfl⟩
abbrev main_v28 : Ref sig .tc := ⟨.hbm, 56, rfl⟩
abbrev main_c_3 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49_0 : Ref sig .tc := ⟨.hbm, 94, rfl⟩
abbrev main_v49_1 : Ref sig .tc := ⟨.hbm, 95, rfl⟩
abbrev main_v49_2 : Ref sig .tc := ⟨.hbm, 96, rfl⟩
abbrev main_v49_3 : Ref sig .tc := ⟨.hbm, 97, rfl⟩
abbrev main_v49_4 : Ref sig .tc := ⟨.hbm, 98, rfl⟩
abbrev main_v49_5 : Ref sig .tc := ⟨.hbm, 99, rfl⟩
abbrev main_v49_6 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference9Ideal.lean ====
abbrev S8x256x1024 : Shape := ⟨3, ![8, 256, 1024]⟩
abbrev S6144 : Shape := ⟨1, ![6144]⟩
abbrev S1024 : Shape := ⟨1, ![1024]⟩
abbrev S1024x7712 : Shape := ⟨2, ![1024, 7712]⟩
abbrev S2x16 : Shape := ⟨2, ![2, 16]⟩
abbrev S64 : Shape := ⟨1, ![64]⟩
abbrev S1x1x6144 : Shape := ⟨3, ![1, 1, 6144]⟩
abbrev S1x1x1024 : Shape := ⟨3, ![1, 1, 1024]⟩
abbrev S_ : Shape := ⟨0, ![]⟩
abbrev S8x256 : Shape := ⟨2, ![8, 256]⟩
abbrev S8x256x1 : Shape := ⟨3, ![8, 256, 1]⟩
abbrev S8x256x7712 : Shape := ⟨3, ![8, 256, 7712]⟩
abbrev S8x256x2048 : Shape := ⟨3, ![8, 256, 2048]⟩
abbrev S8x256x1536 : Shape := ⟨3, ![8, 256, 1536]⟩
abbrev S8x256x32 : Shape := ⟨3, ![8, 256, 32]⟩
abbrev S8x256x16x64 : Shape := ⟨4, ![8, 256, 16, 64]⟩
abbrev S8x256x16 : Shape := ⟨3, ![8, 256, 16]⟩
abbrev S8x256x16x1 : Shape := ⟨4, ![8, 256, 16, 1]⟩
abbrev S1x1x1x64 : Shape := ⟨4, ![1, 1, 1, 64]⟩
abbrev S2048x2048 : Shape := ⟨2, ![2048, 2048]⟩
abbrev S2048x1024 : Shape := ⟨2, ![2048, 1024]⟩
abbrev S2048x1536 : Shape := ⟨2, ![2048, 1536]⟩
abbrev S32 : Shape := ⟨1, ![32]⟩
abbrev S1x1x32 : Shape := ⟨3, ![1, 1, 32]⟩
abbrev S8x256x2x16 : Shape := ⟨4, ![8, 256, 2, 16]⟩
abbrev S8x256x2x128 : Shape := ⟨4, ![8, 256, 2, 128]⟩
abbrev S2048x256 : Shape := ⟨2, ![2048, 256]⟩

abbrev nBuf : Space → Nat
  | .hbm => 117
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S6144, .f32⟩
  | .hbm, ⟨2, _⟩ => ⟨S1024, .f32⟩
  | .hbm, ⟨3, _⟩ => ⟨S1024x7712, .f32⟩
  | .hbm, ⟨4, _⟩ => ⟨S2x16, .f32⟩
  | .hbm, ⟨5, _⟩ => ⟨S64, .f32⟩
  | .hbm, ⟨6, _⟩ => ⟨S64, .f32⟩
  | .hbm, ⟨7, _⟩ => ⟨S1x1x6144, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S8x256x1024, .f32⟩
  | .hbm, ⟨15, _⟩ => ⟨S_, .f32⟩
  | .hbm, ⟨16, _⟩ => ⟨S8x256, .f32⟩
  | .hbm, ⟨17, _⟩ => ⟨S8x256x1, .f32⟩
  | .hbm, ⟨18, _⟩ => ⟨S_, .f32⟩
  | .hbm, ⟨19, _⟩ => ⟨S8x256x1, .f32⟩
  | .hbm, ⟨20, _⟩ => ⟨S8x256x1, .f32⟩
  | .hbm, ⟨21, _⟩ => ⟨S_, .f32⟩
  | .hbm, ⟨22, _⟩ => ⟨S8x256x1, .f32⟩
  | .hbm, ⟨23, _⟩ => ⟨S8x256x1, .f32⟩
  | .hbm, ⟨24, _⟩ => ⟨S8x256x1, .f32⟩
  | .hbm, ⟨25, _⟩ => ⟨S8x256x1024, .f32⟩
  | .hbm, ⟨26, _⟩ => ⟨S8x256x1024, .f32⟩
  | .hbm, ⟨27, _⟩ => ⟨S1x1x1024, .f32⟩
  | .hbm, ⟨28, _⟩ => ⟨S8x256x1024, .f32⟩
  | .hbm, ⟨29, _⟩ => ⟨S8x256x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S8x256x1024, .f32⟩
  | .hbm, ⟨34, _⟩ => ⟨S8x256x1024, .f32⟩
  | .hbm, ⟨35, _⟩ => ⟨S8x256x1024, .f32⟩
  | .hbm, ⟨36, _⟩ => ⟨S8x256x1024, .f32⟩
  | .hbm, ⟨37, _⟩ => ⟨S8x256x7712, .f32⟩
  | .hbm, ⟨38, _⟩ => ⟨S8x256x2048, .f32⟩
  | .hbm, ⟨39, _⟩ => ⟨S8x256x1024, .f32⟩
  | .hbm, ⟨40, _⟩ => ⟨S8x256x1536, .f32⟩
  | .hbm, ⟨41, _⟩ => ⟨S8x256x32, .f32⟩
  | .hbm, ⟨42, _⟩ => ⟨S8x256x1024, .f32⟩
  | .hbm, ⟨43, _⟩ => ⟨S8x256x1024, .f32⟩
  | .hbm, ⟨44, _⟩ => ⟨S8x256x1024, .f32⟩
  | .hbm, ⟨45, _⟩ => ⟨S8x256x16x64, .f32⟩
  | .hbm, ⟨46, _⟩ => ⟨S8x256x16x64, .f32⟩
  | .hbm, ⟨47, _⟩ => ⟨S_, .f32⟩
  | .hbm, ⟨48, _⟩ => ⟨S8x256x16, .f32⟩
  | .hbm, ⟨49, _⟩ => ⟨S8x256x16x1, .f32⟩
  | .hbm, ⟨50, _⟩ => ⟨S_, .f32⟩
  | .hbm, ⟨51, _⟩ => ⟨S8x256x16x1, .f32⟩
  | .hbm, ⟨52, _⟩ => ⟨S8x256x16x1, .f32⟩
  | .hbm, ⟨53, _⟩ => ⟨S_, .f32⟩
  | .hbm, ⟨54, _⟩ => ⟨S8x256x16x1, .f32⟩
  | .hbm, ⟨55, _⟩ => ⟨S8x256x16x1, .f32⟩
  | .hbm, ⟨56, _⟩ => ⟨S8x256x16x1, .f32⟩
  | .hbm, ⟨57, _⟩ => ⟨S8x256x16x64, .f32⟩
  | .hbm, ⟨58, _⟩ => ⟨S8x256x16x64, .f32⟩
  | .hbm, ⟨59, _⟩ => ⟨S1x1x1x64, .f32⟩
  | .hbm, ⟨60, _⟩ => ⟨S8x256x16x64, .f32⟩
  | .hbm, ⟨61, _⟩ => ⟨S8x256x16x64, .f32⟩
  | .hbm, ⟨62, _⟩ => ⟨S_, .f32⟩
  | .hbm, ⟨63, _⟩ => ⟨S8x256x16x64, .f32⟩
  | .hbm, ⟨64, _⟩ => ⟨S8x256x16x64, .f32⟩
  | .hbm, ⟨65, _⟩ => ⟨S8x256x16x64, .f32⟩
  | .hbm, ⟨66, _⟩ => ⟨S8x256x16x64, .f32⟩
  | .hbm, ⟨67, _⟩ => ⟨S_, .f32⟩
  | .hbm, ⟨68, _⟩ => ⟨S8x256x16, .f32⟩
  | .hbm, ⟨69, _⟩ => ⟨S8x256x16x1, .f32⟩
  | .hbm, ⟨70, _⟩ => ⟨S_, .f32⟩
  | .hbm, ⟨71, _⟩ => ⟨S8x256x16x1, .f32⟩
  | .hbm, ⟨72, _⟩ => ⟨S8x256x16x1, .f32⟩
  | .hbm, ⟨73, _⟩ => ⟨S_, .f32⟩
  | .hbm, ⟨74, _⟩ => ⟨S8x256x16x1, .f32⟩
  | .hbm, ⟨75, _⟩ => ⟨S8x256x16x1, .f32⟩
  | .hbm, ⟨76, _⟩ => ⟨S8x256x16x1, .f32⟩
  | .hbm, ⟨77, _⟩ => ⟨S8x256x16x64, .f32⟩
  | .hbm, ⟨78, _⟩ => ⟨S8x256x16x64, .f32⟩
  | .hbm, ⟨79, _⟩ => ⟨S1x1x1x64, .f32⟩
  | .hbm, ⟨80, _⟩ => ⟨S8x256x16x64, .f32⟩
  | .hbm, ⟨81, _⟩ => ⟨S8x256x16x64, .f32⟩
  | .hbm, ⟨82, _⟩ => ⟨S2048x2048, .f32⟩
  | .hbm, ⟨83, _⟩ => ⟨S2048x2048, .bf16⟩
  | .hbm, ⟨84, _⟩ => ⟨S2048x1024, .f32⟩
  | .hbm, ⟨85, _⟩ => ⟨S2048x1024, .bf16⟩
  | .hbm, ⟨86, _⟩ => ⟨S2048x1536, .f32⟩
  | .hbm, ⟨87, _⟩ => ⟨S2048x1536, .bf16⟩
  | .hbm, ⟨88, _⟩ => ⟨S2048x1024, .f32⟩
  | .hbm, ⟨89, _⟩ => ⟨S2048x1024, .bf16⟩
  | .hbm, ⟨90, _⟩ => ⟨S2048x1024, .f32⟩
  | .hbm, ⟨91, _⟩ => ⟨S2048x1024, .bf16⟩
  | .hbm, ⟨92, _⟩ => ⟨S2048x1024, .f32⟩
  | .hbm, ⟨93, _⟩ => ⟨S2048x1024, .bf16⟩
  | .hbm, ⟨94, _⟩ => ⟨S32, .f32⟩
  | .hbm, ⟨95, _⟩ => ⟨S1x1x32, .f32⟩
  | .hbm, ⟨96, _⟩ => ⟨S8x256x32, .f32⟩
  | .hbm, ⟨97, _⟩ => ⟨S8x256x32, .f32⟩
  | .hbm, ⟨98, _⟩ => ⟨S8x256x2x16, .f32⟩
  | .hbm, ⟨99, _⟩ => ⟨S_, .i32⟩
  | .hbm, ⟨100, _⟩ => ⟨S_, .f32⟩
  | .hbm, ⟨101, _⟩ => ⟨S8x256x2x128, .f32⟩
  | .hbm, ⟨102, _⟩ => ⟨S_, .f32⟩
  | .hbm, ⟨103, _⟩ => ⟨S8x256x2x128, .f32⟩
  | .hbm, ⟨104, _⟩ => ⟨S8x256x2x128, .f32⟩
  | .hbm, ⟨105, _⟩ => ⟨S8x256x2x128, .f32⟩
  | .hbm, ⟨106, _⟩ => ⟨S8x256x2x128, .f32⟩
  | .hbm, ⟨107, _⟩ => ⟨S8x256x2x128, .i1⟩
  | .hbm, ⟨108, _⟩ => ⟨S8x256x2x128, .f32⟩
  | .hbm, ⟨109, _⟩ => ⟨S8x256x2x128, .f32⟩
  | .hbm, ⟨110, _⟩ => ⟨S8x256x2x128, .f32⟩
  | .hbm, ⟨111, _⟩ => ⟨S8x256x2x128, .f32⟩
  | .hbm, ⟨112, _⟩ => ⟨S8x256x2x128, .f32⟩
  | .hbm, ⟨113, _⟩ => ⟨S8x256x2x128, .f32⟩
  | .hbm, ⟨114, _⟩ => ⟨S8x256x2x128, .f32⟩
  | .hbm, ⟨115, _⟩ => ⟨S8x256x2x128, .f32⟩
  | .hbm, ⟨116, _⟩ => ⟨S2048x256, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_c : Ref sig .tc := ⟨.hbm, 99, rfl⟩
abbrev main_call0_v0 : Ref sig .tc := ⟨.hbm, 100, rfl⟩
abbrev main_v81 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_v8 : Ref sig .tc := ⟨.hbm, 111, rfl⟩
abbrev main_call1_v9 : Ref sig .tc := ⟨.hbm, 112, rfl⟩
abbrev main_call1_v10 : Ref sig .tc := ⟨.hbm, 113, rfl⟩
abbrev main_call1_v11 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Proof.Spec.lean ====
/- The attention of one query over its window's 512 keys and the context's 256, as the kernel divides: the weighted
   values first, the sum of the weights last. -/
module

public import Idealize.ShloMosaic.Lib.Pipeline.ValueKit

@[expose] public section

noncomputable section

namespace Cert.Attn

open Idealize.ShloMosaic

/-- The greatest of a query's scores. -/
def topScore (sw : Fin 512 → EReal) (sc : Fin 256 → EReal) : EReal :=
  max (Finset.univ.fold max ⊥ sw) (Finset.univ.fold max ⊥ sc)

/-- The attention of one query: scores `sw` over the window and `sc` over the context, values `vw` and `vc`. -/
def attendOne (sw : Fin 512 → EReal) (sc : Fin 256 → EReal) (vw : Fin 512 → EReal) (vc : Fin 256 → EReal) : EReal :=
  Ideal.div
    ((∑ k : Fin 512, Ideal.exp (sw k - topScore sw sc) * vw k) + ∑ k : Fin 256, Ideal.exp (sc k - topScore sw sc) * vc k)
    ((∑ k : Fin 512, Ideal.exp (sw k - topScore sw sc)) + ∑ k : Fin 256, Ideal.exp (sc k - topScore sw sc))

end Cert.Attn

end
-- ==== Proof.Equation.lean ====
/- The one equation between the two programs' results: a sum of weighted values divided by the weights' total is the sum of
   the values weighted by each weight over the total, when the scores are finite. -/
module

public import proofs.«01_k».proof.Proof.Spec

@[expose] public section

noncomputable section

namespace Cert.Attn

open Idealize.ShloMosaic

/-- A finite value: one that is a real number. -/
def Fin' (x : EReal) : Prop := ∃ a : ℝ, x = (a : EReal)

theorem fold_max_eq_sup {n : ℕ} (f : Fin n → EReal) : Finset.univ.fold max ⊥ f = Finset.univ.sup f := rfl

/-- The maximum over two runs of scores is the maximum over one run that holds both. -/
theorem topScore_eq (s : Fin 768 → EReal) (sw : Fin 512 → EReal) (sc : Fin 256 → EReal)
    (hl : ∀ j : Fin 512, s ⟨j.val, by omega⟩ = sw j) (hr : ∀ j : Fin 256, s ⟨512 + j.val, by omega⟩ = sc j) :
    topScore sw sc = max ⊥ (Finset.univ.fold max ⊥ s) := by
  unfold topScore
  rw [fold_max_eq_sup, fold_max_eq_sup, fold_max_eq_sup, max_eq_right bot_le]
  refine le_antisymm (max_le ?_ ?_) ?_
  · refine Finset.sup_le fun j _ => ?_
    rw [← hl j]
    exact Finset.le_sup (f := s) (Finset.mem_univ _)
  · refine Finset.sup_le fun j _ => ?_
    rw [← hr j]
    exact Finset.le_sup (f := s) (Finset.mem_univ _)
  · refine Finset.sup_le fun j _ => ?_
    by_cases h : j.val < 512
    · refine le_max_of_le_left ?_
      rw [show s j = sw ⟨j.val, h⟩ from hl ⟨j.val, h⟩]
      exact Finset.le_sup (f := sw) (Finset.mem_univ _)
    · refine le_max_of_le_right ?_
      have hj := hr ⟨j.val - 512, by omega⟩
      rw [show (⟨512 + (j.val - 512), by omega⟩ : Fin 768) = j from Fin.ext (by simp only; omega)] at hj
      rw [hj]
      exact Finset.le_sup (f := sc) (Finset.mem_univ _)

/-- The maximum of finite scores is finite. -/
theorem topScore_finite (sw : Fin 512 → EReal) (sc : Fin 256 → EReal) (hw : ∀ j, Fin' (sw j)) (hc : ∀ j, Fin' (sc j)) :
    Fin' (topScore sw sc) := by
  unfold topScore
  rw [fold_max_eq_sup, fold_max_eq_sup]
  refine ⟨(max (Finset.univ.sup sw) (Finset.univ.sup sc)).toReal, (EReal.coe_toReal ?_ ?_).symm⟩
  · refine ne_of_lt (max_lt ?_ ?_)
    · refine (Finset.sup_lt_iff bot_lt_top).2 fun j _ => ?_
      obtain ⟨a, ha⟩ := hw j
      rw [ha]; exact EReal.coe_lt_top a
    · refine (Finset.sup_lt_iff bot_lt_top).2 fun j _ => ?_
      obtain ⟨a, ha⟩ := hc j
      rw [ha]; exact EReal.coe_lt_top a
  · obtain ⟨a, ha⟩ := hw 0
    refine ne_of_gt (lt_of_lt_of_le (EReal.bot_lt_coe a) (le_max_of_le_left ?_))
    rw [← ha]
    exact Finset.le_sup (f := sw) (Finset.mem_univ _)

/-- An exponential of a difference of finite values is a positive real. -/
theorem exp_pos' (x M : EReal) (hx : Fin' x) (hM : Fin' M) : ∃ a : ℝ, 0 < a ∧ Ideal.exp (x - M) = (a : EReal) := by
  obtain ⟨a, rfl⟩ := hx
  obtain ⟨b, rfl⟩ := hM
  exact ⟨Real.exp (a - b), Real.exp_pos _, by rw [← EReal.coe_sub]; rfl⟩

theorem coe_sum' {n : ℕ} (g : Fin n → ℝ) : ((∑ j, g j : ℝ) : EReal) = ∑ j, (g j : EReal) := by
  induction n with
  | zero => simp
  | succ n ih => rw [Fin.sum_univ_succ, Fin.sum_univ_succ, EReal.coe_add, ih]

/-- A sum of positive reals over a nonempty range is a positive real. -/
theorem sum_pos' {n : ℕ} (f : Fin (n + 1) → EReal) (hf : ∀ j, ∃ a : ℝ, 0 < a ∧ f j = (a : EReal)) :
    ∃ a : ℝ, 0 < a ∧ (∑ j, f j) = (a : EReal) := by
  choose g hg hfg using hf
  refine ⟨∑ j, g j, Finset.sum_pos (fun j _ => hg j) Finset.univ_nonempty, ?_⟩
  rw [coe_sum']
  exact Finset.sum_congr rfl fun j _ => hfg j

/-- A sum times a nonnegative real distributes, whatever the terms. -/
theorem sum_mul_real {n : ℕ} (f : Fin n → EReal) (c : ℝ) (hc : 0 ≤ c) : (∑ j, f j) * (c : EReal) = ∑ j, f j * (c : EReal) := by
  induction n with
  | zero => simp
  | succ n ih =>
    rw [Fin.sum_univ_succ, Fin.sum_univ_succ, EReal.right_distrib_of_nonneg_of_ne_top (EReal.coe_nonneg.2 hc) (EReal.coe_ne_top c), ih]

/-- THE EQUATION. -/
theorem attendOne_eq (s : Fin 768 → EReal) (sw : Fin 512 → EReal) (sc : Fin 256 → EReal) (vw : Fin 512 → EReal) (vc : Fin 256 → EReal)
    (hl : ∀ j : Fin 512, s ⟨j.val, by omega⟩ = sw j) (hr : ∀ j : Fin 256, s ⟨512 + j.val, by omega⟩ = sc j)
    (hw : ∀ j, Fin' (sw j)) (hc : ∀ j, Fin' (sc j)) (M D : EReal) (hM : M = max ⊥ (Finset.univ.fold max ⊥ s))
    (hD : D = ∑ j, Ideal.exp (s j - M)) :
    attendOne sw sc vw vc
      = (∑ j : Fin 512, vw j * Ideal.div (Ideal.exp (s ⟨j.val, by omega⟩ - M)) D)
        + ∑ j : Fin 256, vc j * Ideal.div (Ideal.exp (s ⟨512 + j.val, by omega⟩ - M)) D := by
  have hT : topScore sw sc = M := (topScore_eq s sw sc hl hr).trans hM.symm
  have hMf : Fin' M := hT ▸ topScore_finite sw sc hw hc
  have hsplit : D = (∑ j, Ideal.exp (sw j - M)) + ∑ j, Ideal.exp (sc j - M) := by
    rw [hD]
    refine (Fin.sum_univ_add (a := 512) (b := 256) fun j : Fin 768 => Ideal.exp (s j - M)).trans ?_
    refine congrArg₂ (· + ·) (Finset.sum_congr rfl fun j _ => ?_) (Finset.sum_congr rfl fun j _ => ?_)
    · exact congrArg (fun z => Ideal.exp (z - M)) (hl j)
    · exact congrArg (fun z => Ideal.exp (z - M)) (hr j)
  obtain ⟨a, ha, hwa⟩ := sum_pos' (n := 511) (fun j : Fin 512 => Ideal.exp (sw j - M)) fun j => exp_pos' _ _ (hw j) hMf
  obtain ⟨b, hb, hcb⟩ := sum_pos' (n := 255) (fun j : Fin 256 => Ideal.exp (sc j - M)) fun j => exp_pos' _ _ (hc j) hMf
  have hDr : D = ((a + b : ℝ) : EReal) := by
    rw [hsplit, EReal.coe_add]
    exact congrArg₂ (· + ·) hwa hcb
  have hdiv : ∀ x : EReal, Ideal.div x D = x * (((a + b)⁻¹ : ℝ) : EReal) := fun x => by
    rw [hDr, Ideal.div_coe (show a + b ≠ 0 by positivity), one_div]
  unfold attendOne
  rw [hT, ← hsplit, hdiv, EReal.right_distrib_of_nonneg_of_ne_top (EReal.coe_nonneg.2 (by positivity)) (EReal.coe_ne_top _),
    sum_mul_real _ _ (by positivity), sum_mul_real _ _ (by positivity)]
  refine congrArg₂ (· + ·) (Finset.sum_congr rfl fun j _ => ?_) (Finset.sum_congr rfl fun j _ => ?_)
  · rw [hdiv, hl, mul_comm (vw j), mul_assoc, mul_comm (vw j), ← mul_assoc]
  · rw [hdiv, hr, mul_comm (vc j), mul_assoc, mul_comm (vc j), ← mul_assoc]

/-- A finite factor of every left operand comes out of a sum of products of finite values. -/
theorem scaled_dot {n : ℕ} (f g : Fin n → EReal) (c : ℝ) (hf : ∀ j, Fin' (f j)) (hg : ∀ j, Fin' (g j)) (hc : 0 ≤ c) :
    (∑ j, f j * (c : EReal) * g j) = (∑ j, f j * g j) * (c : EReal) := by
  rw [sum_mul_real _ _ hc]
  exact Finset.sum_congr rfl fun j _ => by rw [mul_assoc, mul_comm (c : EReal), ← mul_assoc]

theorem dot_finite {n : ℕ} (f g : Fin n → EReal) (c : ℝ) (hf : ∀ j, Fin' (f j)) (hg : ∀ j, Fin' (g j)) :
    Fin' ((∑ j, f j * g j) * (c : EReal)) := by
  choose a ha using hf
  choose b hb using hg
  refine ⟨(∑ j, a j * b j) * c, ?_⟩
  rw [EReal.coe_mul, coe_sum']
  refine congrArg (· * _) (Finset.sum_congr rfl fun j _ => ?_)
  rw [ha, hb, EReal.coe_mul]

theorem add_finite {x y : EReal} (hx : Fin' x) (hy : Fin' y) : Fin' (x + y) := by
  obtain ⟨a, rfl⟩ := hx
  obtain ⟨b, rfl⟩ := hy
  exact ⟨a + b, (EReal.coe_add a b).symm⟩

end Cert.Attn

end
-- ==== Proof.Finite.lean ====
/- The precondition read at one element: a queries', keys' or table's element is a real number. -/
module

public import proofs.«01_k».proof.Proof.Equation
public import proofs.«01_k».proof.Pre_scores_finite
public import proofs.«01_k».proof.Proof.Gen.Pre_scores_finite
public import Idealize.ShloMosaic.Lib.ReduceAll

@[expose] public section

set_option maxRecDepth 16384

noncomputable section

namespace Cert.Attn

open Idealize.ShloMosaic Cert.Pre_scores_finite

/-- A value whose absolute value is below infinity is a real number. -/
theorem finite_of_abs_lt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  have hlt : max x (-x) < ⊤ := by
    by_contra hn
    simp [Ideal.cmp, hn] at h
  obtain ⟨h1, h2⟩ := max_lt_iff.1 hlt
  refine ⟨x.toReal, (EReal.coe_toReal h1.ne ?_).symm⟩
  intro hb
  simp [hb] at h2

instance : Subsingleton S_.Idx := ⟨fun a b => funext fun i => i.elim0⟩

/-- One array's part of the precondition, at an element. -/
theorem finite_of_all {s : Shape} {axes : List (Fin s.rank)} (x : FVec Ideal s .f32) (hb) (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : Fin' (x i) :=
  finite_of_abs_lt _ (Host.reduce_andi_all _ _ hr hu j h i)

variable (x0 x1 x2 : FVec Ideal S8x8192x16x64 .f32) (x3 x4 : FVec Ideal S8x256x16x64 .f32) (x5 : FVec Ideal S16x15x31 .f32)

theorem finite_of_pre (h : Cert.Pre_scores_finite.fn (F := Ideal) x0 x1 x2 x3 x4 x5 = fun _ => 1#1) :
    (∀ i, Fin' (x0 i)) ∧ (∀ i, Fin' (x1 i)) ∧ (∀ i, Fin' (x3 i)) ∧ ∀ i, Fin' (x5 i) := by
  have hj := congrFun h fun i => i.elim0
  obtain ⟨h1, h5⟩ := IntOp.andi_eq_one.1 hj
  obtain ⟨h2, h3⟩ := IntOp.andi_eq_one.1 h1
  obtain ⟨h0, h1⟩ := IntOp.andi_eq_one.1 h2
  exact ⟨finite_of_all x0 _ _ _ _ h0, finite_of_all x1 _ _ _ _ h1, finite_of_all x3 _ _ _ _ h3, finite_of_all x5 _ _ _ _ h5⟩

end Cert.Attn

end
-- ==== Proof.Rows.lean ====
/- The body of the attention kernel, row by row. The body is written out for sixteen image rows; here each of the
   sixteen is one instance of one function `rowOut … j` of the six input blocks. -/
module

public import proofs.«01_k».proof.Proof.Gen.KernelIdeal.Frame
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen

variable {F : FTy → Type} [FloatOps F]

/-- Image row `j` of a block of queries lies inside the block. -/
theorem inbRow (j : Fin 16) : ∀ a, (![64 * j.val, 0] : Fin 2 → Nat) a + (![64, 128] : Fin 2 → Nat) a ≤ S1024x128.size a := by
  revert j; decide

/-- The queries of image row `j`: 64 of them, two heads wide. -/
def qRow (x0 : Vec F S1024x128 .bf16) (j : Fin 16) : Vec F S64x128 .bf16 :=
  View.ld x0 (Rect.unit (s := S1024x128) ![64 * j.val, 0] ![64, 128] (inbRow j))

/-- Piece `n` of the stacked queries: image row `n / 2` with the second head's lanes zeroed (`n` even), or the first's. -/
def qPiece (x0 : Vec F S1024x128 .bf16) (n : Fin 32) : FVec F S64x128 .bf16 :=
  mulf (shapeCast S64x128 (qRow x0 ⟨n.val / 2, by omega⟩) shapeCasts_S64x128_S64x128)
    (if n.val % 2 = 0 then k0_pay4 else k0_pay5)

/-- The stacked queries: for each image row the 64 queries of the first head, then those of the second. -/
def qCat (x0 : Vec F S1024x128 .bf16) : FVec F S2048x128 .bf16 :=
  concatenate S2048x128 0 (List.ofFn fun n : Fin 32 => (⟨S64x128, qPiece x0 n⟩ : (s : Shape) × (s.Idx → F .bf16)))
    (concatenates_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S64x128_S2048x128_d0)

/-- Every query against the context's keys. -/
def ctxAll (x0 : Vec F S1024x128 .bf16) (x3 : Vec F S256x128 .bf16) : FVec F S2048x256 .f32 :=
  matmul dot_S2048x128_S256x128_S2048x256_1_1_0_0_n_n none (qCat x0)
    (shapeCast S256x128 x3 shapeCasts_S256x128_S256x128) (constant S2048x256 .f32 0x00000000#32)

theorem slicesQ (j : Fin 16) : S2048x128.Slices ![128 * j.val, 0] S128x128 := by
  revert j; decide
theorem slicesC (j : Fin 16) : S2048x256.Slices ![128 * j.val, 0] S128x256 := by
  revert j; decide

/-- Image row `j`'s scores over its window's keys, bias added: 2 heads × 64 queries, 512 keys. -/
def winScores (x0 : Vec F S1024x128 .bf16) (j : Fin 16) (kw : Vec F S512x128 .bf16) (b : Vec F S1x2x64x512 .f32) :
    FVec F S128x512 .f32 :=
  addf (matmul dot_S128x128_S512x128_S128x512_1_1_0_0_n_n none
      (extractStridedSlice S128x128 ![128 * j.val, 0] (qCat x0) (slicesQ j))
      (shapeCast S512x128 kw shapeCasts_S512x128_S512x128) (constant S128x512 .f32 0x00000000#32))
    (shapeCast S128x512 (shapeCast S2x64x512 b shapeCasts_S1x2x64x512_S2x64x512) shapeCasts_S2x64x512_S128x512)

/-- Image row `j`'s scores over the context. -/
def ctxScores (x0 : Vec F S1024x128 .bf16) (j : Fin 16) (x3 : Vec F S256x128 .bf16) : FVec F S128x256 .f32 :=
  extractStridedSlice S128x256 ![128 * j.val, 0] (ctxAll x0 x3) (slicesC j)

/-- The greatest score of each query. -/
def rowMax (sw : FVec F S128x512 .f32) (sc : FVec F S128x256 .f32) : FVec F S128x1 .f32 :=
  maximumf
    (shapeCast S128x1 (multiReduction .maximumf [1] S128 sw 0xFF800000#32 reduces_S128x512_S128 (.inl rfl) rfl) shapeCasts_S128_S128x1)
    (shapeCast S128x1 (multiReduction .maximumf [1] S128 sc 0xFF800000#32 reduces_S128x256_S128 (.inl rfl) rfl) shapeCasts_S128_S128x1)

/-- The unnormalised weights over the window. -/
def winExp (sw : FVec F S128x512 .f32) (mx : FVec F S128x1 .f32) : FVec F S128x512 .f32 :=
  exp (subf sw (broadcastTo S128x512 mx broadcasts_S128x1_S128x512))
/-- The unnormalised weights over the context. -/
def ctxExp (sc : FVec F S128x256 .f32) (mx : FVec F S128x1 .f32) : FVec F S128x256 .f32 :=
  exp (subf sc (broadcastTo S128x256 mx broadcasts_S128x1_S128x256))

/-- The sum of a query's weights. -/
def rowSum (pw : FVec F S128x512 .f32) (pc : FVec F S128x256 .f32) : FVec F S128x1 .f32 :=
  addf
    (shapeCast S128x1 (multiReduction .add [1] S128 pw 0x00000000#32 reduces_S128x512_S128 (.inl rfl) rfl) shapeCasts_S128_S128x1)
    (shapeCast S128x1 (multiReduction .add [1] S128 pc 0x00000000#32 reduces_S128x256_S128 (.inl rfl) rfl) shapeCasts_S128_S128x1)

/-- The weighted values over the sum of the weights, both heads' lanes for either head's queries. -/
def attend (pw : FVec F S128x512 .f32) (pc : FVec F S128x256 .f32) (vw : Vec F S512x128 .bf16) (x4 : Vec F S256x128 .bf16) :
    FVec F S128x128 .f32 :=
  divf
    (addf
      (matmul dot_S128x512_S512x128_S128x128_1_0_0_1_n_n none (truncf .bf16 pw bitsLt_bf16_f32)
        (shapeCast S512x128 vw shapeCasts_S512x128_S512x128) (constant S128x128 .f32 0x00000000#32))
      (matmul dot_S128x256_S256x128_S128x128_1_0_0_1_n_n none (truncf .bf16 pc bitsLt_bf16_f32)
        (shapeCast S256x128 x4 shapeCasts_S256x128_S256x128) (constant S128x128 .f32 0x00000000#32)))
    (broadcastTo S128x128 (rowSum pw pc) broadcasts_S128x1_S128x128)

/-- Each head's lanes from its own queries' rows. -/
def pick (o : FVec F S128x128 .f32) : FVec F S64x128 .bf16 :=
  truncf .bf16 (select k0_pay2
    (extractStridedSlice S64x128 ![0, 0] o slices_S128x128_o0_0_S64x128)
    (extractStridedSlice S64x128 ![64, 0] o slices_S128x128_o64_0_S64x128)) bitsLt_bf16_f32

/-- What the body writes for one image row, from its scores. -/
def attnOf (sw : FVec F S128x512 .f32) (sc : FVec F S128x256 .f32) (vw : Vec F S512x128 .bf16) (x4 : Vec F S256x128 .bf16) :
    FVec F S64x128 .bf16 :=
  pick (attend (winExp sw (rowMax sw sc)) (ctxExp sc (rowMax sw sc)) vw x4)

/-- The 512 keys (or values) of image row `j`'s window. -/
def winRows (i : grid0.Coords) (j : Fin 16) (x : Vec F S1536x128 .bf16) : Vec F S512x128 .bf16 :=
  View.ld x (Rect.unit (s := S1536x128) (k0_off1 i (BitVec.ofNat 32 j.val)) ![512, 128] (k0_off1_inb i j))

/-- The bias table of image row `j`'s class. -/
def winBias (i : grid0.Coords) (j : Fin 16) (x : Vec F S8x2x64x512 .f32) : Vec F S1x2x64x512 .f32 :=
  View.ld x (Rect.unit (s := S8x2x64x512) (k0_off2 i (BitVec.ofNat 32 j.val)) ![1, 2, 64, 512] (k0_off2_inb i j))

/-- What the body writes for image row `j` at grid point `i`. -/
def rowOut (i : grid0.Coords) (x0 : Vec F S1024x128 .bf16) (x1 x2 : Vec F S1536x128 .bf16) (x3 x4 : Vec F S256x128 .bf16)
    (x5 : Vec F S8x2x64x512 .f32) (j : Fin 16) : FVec F S64x128 .bf16 :=
  attnOf (winScores x0 j (winRows i j x1) (winBias i j x5)) (ctxScores x0 j x3) (winRows i j x2) x4

/-- The pieces the body leaves in its output block, the last written first. -/
def rowPieces (i : grid0.Coords) (x0 : Vec F S1024x128 .bf16) (x1 x2 : Vec F S1536x128 .bf16) (x3 x4 : Vec F S256x128 .bf16)
    (x5 : Vec F S8x2x64x512 .f32) : List (View.Piece (Elt F) S1024x128 .bf16) :=
  List.ofFn fun j : Fin 16 =>
    (⟨Rect.unit (s := S1024x128) ![64 * j.rev.val, 0] ![64, 128] (inbRow j.rev), rowOut i x0 x1 x2 x3 x4 x5 j.rev⟩ :
      View.Piece (Elt F) S1024x128 .bf16)

/-- The printed stack of the queries is the stack above. -/
theorem qCat_eq (x0 : Vec F S1024x128 .bf16) :
    k0_pay50 k0_pay4 k0_pay5 (k0_pay9 (View.ld x0 (Rect.unit (s := S1024x128) ![0, 0] ![64, 128] inb_S1024x128_S64x128_0_0))) (k0_pay10 (View.ld x0
      (Rect.unit (s := S1024x128) ![0, 0] ![64, 128] inb_S1024x128_S64x128_0_0))) (k0_pay12 (View.ld x0 (Rect.unit (s :=
      S1024x128) ![64, 0] ![64, 128] inb_S1024x128_S64x128_64_0))) (k0_pay13 (View.ld x0 (Rect.unit (s := S1024x128) ![64,
      0] ![64, 128] inb_S1024x128_S64x128_64_0))) (k0_pay15 (View.ld x0 (Rect.unit (s := S1024x128) ![128, 0] ![64, 128]
      inb_S1024x128_S64x128_128_0))) (k0_pay16 (View.ld x0 (Rect.unit (s := S1024x128) ![128, 0] ![64, 128]
      inb_S1024x128_S64x128_128_0))) (k0_pay18 (View.ld x0 (Rect.unit (s := S1024x128) ![192, 0] ![64, 128]
      inb_S1024x128_S64x128_192_0))) (k0_pay19 (View.ld x0 (Rect.unit (s := S1024x128) ![192, 0] ![64, 128]
      inb_S1024x128_S64x128_192_0))) (k0_pay21 k0_pay4 (View.ld x0 (Rect.unit (s := S1024x128) ![256, 0] ![64, 128]
      inb_S1024x128_S64x128_256_0))) (k0_pay22 k0_pay5 (View.ld x0 (Rect.unit (s := S1024x128) ![256, 0] ![64, 128]
      inb_S1024x128_S64x128_256_0))) (k0_pay24 k0_pay4 (View.ld x0 (Rect.unit (s := S1024x128) ![320, 0] ![64, 128]
      inb_S1024x128_S64x128_320_0))) (k0_pay25 k0_pay5 (View.ld x0 (Rect.unit (s := S1024x128) ![320, 0] ![64, 128]
      inb_S1024x128_S64x128_320_0))) (k0_pay27 k0_pay4 (View.ld x0 (Rect.unit (s := S1024x128) ![384, 0] ![64, 128]
      inb_S1024x128_S64x128_384_0))) (k0_pay28 k0_pay5 (View.ld x0 (Rect.unit (s := S1024x128) ![384, 0] ![64, 128]
      inb_S1024x128_S64x128_384_0))) (k0_pay30 k0_pay4 (View.ld x0 (Rect.unit (s := S1024x128) ![448, 0] ![64, 128]
      inb_S1024x128_S64x128_448_0))) (k0_pay31 k0_pay5 (View.ld x0 (Rect.unit (s := S1024x128) ![448, 0] ![64, 128]
      inb_S1024x128_S64x128_448_0))) (k0_pay33 k0_pay4 (View.ld x0 (Rect.unit (s := S1024x128) ![512, 0] ![64, 128]
      inb_S1024x128_S64x128_512_0))) (k0_pay34 k0_pay5 (View.ld x0 (Rect.unit (s := S1024x128) ![512, 0] ![64, 128]
      inb_S1024x128_S64x128_512_0))) (k0_pay36 k0_pay4 (View.ld x0 (Rect.unit (s := S1024x128) ![576, 0] ![64, 128]
      inb_S1024x128_S64x128_576_0))) (k0_pay37 k0_pay5 (View.ld x0 (Rect.unit (s := S1024x128) ![576, 0] ![64, 128]
      inb_S1024x128_S64x128_576_0))) (k0_pay39 k0_pay4 (View.ld x0 (Rect.unit (s := S1024x128) ![640, 0] ![64, 128]
      inb_S1024x128_S64x128_640_0))) (k0_pay40 k0_pay5 (View.ld x0 (Rect.unit (s := S1024x128) ![640, 0] ![64, 128]
      inb_S1024x128_S64x128_640_0))) (k0_pay42 k0_pay4 (View.ld x0 (Rect.unit (s := S1024x128) ![704, 0] ![64, 128]
      inb_S1024x128_S64x128_704_0))) (k0_pay43 k0_pay5 (View.ld x0 (Rect.unit (s := S1024x128) ![704, 0] ![64, 128]
      inb_S1024x128_S64x128_704_0))) (k0_pay45 k0_pay4 (View.ld x0 (Rect.unit (s := S1024x128) ![768, 0] ![64, 128]
      inb_S1024x128_S64x128_768_0))) (k0_pay46 k0_pay5 (View.ld x0 (Rect.unit (s := S1024x128) ![768, 0] ![64, 128]
      inb_S1024x128_S64x128_768_0))) (k0_pay48 k0_pay4 (View.ld x0 (Rect.unit (s := S1024x128) ![832, 0] ![64, 128]
      inb_S1024x128_S64x128_832_0)))
      (k0_pay49 k0_pay5 (View.ld x0 (Rect.unit (s := S1024x128) ![832, 0] ![64, 128]
      inb_S1024x128_S64x128_832_0))) (View.ld x0 (Rect.unit (s := S1024x128) ![896, 0] ![64, 128]
      inb_S1024x128_S64x128_896_0)) (View.ld x0 (Rect.unit (s := S1024x128) ![960, 0] ![64, 128]
      inb_S1024x128_S64x128_960_0)) = qCat x0 := rfl

/-- The printed product with the context's keys is the product above. -/
theorem ctxAll_eq (x0 : Vec F S1024x128 .bf16) (x3 : Vec F S256x128 .bf16) :
    k0_pay51 k0_pay4 k0_pay5 (k0_pay6 x3) (k0_pay9 (View.ld x0 (Rect.unit (s := S1024x128) ![0, 0] ![64, 128] inb_S1024x128_S64x128_0_0))) (k0_pay10 (View.ld x0
      (Rect.unit (s := S1024x128) ![0, 0] ![64, 128] inb_S1024x128_S64x128_0_0))) (k0_pay12 (View.ld x0 (Rect.unit (s :=
      S1024x128) ![64, 0] ![64, 128] inb_S1024x128_S64x128_64_0))) (k0_pay13 (View.ld x0 (Rect.unit (s := S1024x128) ![64,
      0] ![64, 128] inb_S1024x128_S64x128_64_0))) (k0_pay15 (View.ld x0 (Rect.unit (s := S1024x128) ![128, 0] ![64, 128]
      inb_S1024x128_S64x128_128_0))) (k0_pay16 (View.ld x0 (Rect.unit (s := S1024x128) ![128, 0] ![64, 128]
      inb_S1024x128_S64x128_128_0))) (k0_pay18 (View.ld x0 (Rect.unit (s := S1024x128) ![192, 0] ![64, 128]
      inb_S1024x128_S64x128_192_0))) (k0_pay19 (View.ld x0 (Rect.unit (s := S1024x128) ![192, 0] ![64, 128]
      inb_S1024x128_S64x128_192_0))) (k0_pay21 k0_pay4 (View.ld x0 (Rect.unit (s := S1024x128) ![256, 0] ![64, 128]
      inb_S1024x128_S64x128_256_0))) (k0_pay22 k0_pay5 (View.ld x0 (Rect.unit (s := S1024x128) ![256, 0] ![64, 128]
      inb_S1024x128_S64x128_256_0))) (k0_pay24 k0_pay4 (View.ld x0 (Rect.unit (s := S1024x128) ![320, 0] ![64, 128]
      inb_S1024x128_S64x128_320_0))) (k0_pay25 k0_pay5 (View.ld x0 (Rect.unit (s := S1024x128) ![320, 0] ![64, 128]
      inb_S1024x128_S64x128_320_0))) (k0_pay27 k0_pay4 (View.ld x0 (Rect.unit (s := S1024x128) ![384, 0] ![64, 128]
      inb_S1024x128_S64x128_384_0))) (k0_pay28 k0_pay5 (View.ld x0 (Rect.unit (s := S1024x128) ![384, 0] ![64, 128]
      inb_S1024x128_S64x128_384_0))) (k0_pay30 k0_pay4 (View.ld x0 (Rect.unit (s := S1024x128) ![448, 0] ![64, 128]
      inb_S1024x128_S64x128_448_0))) (k0_pay31 k0_pay5 (View.ld x0 (Rect.unit (s := S1024x128) ![448, 0] ![64, 128]
      inb_S1024x128_S64x128_448_0))) (k0_pay33 k0_pay4 (View.ld x0 (Rect.unit (s := S1024x128) ![512, 0] ![64, 128]
      inb_S1024x128_S64x128_512_0))) (k0_pay34 k0_pay5 (View.ld x0 (Rect.unit (s := S1024x128) ![512, 0] ![64, 128]
      inb_S1024x128_S64x128_512_0))) (k0_pay36 k0_pay4 (View.ld x0 (Rect.unit (s := S1024x128) ![576, 0] ![64, 128]
      inb_S1024x128_S64x128_576_0))) (k0_pay37 k0_pay5 (View.ld x0 (Rect.unit (s := S1024x128) ![576, 0] ![64, 128]
      inb_S1024x128_S64x128_576_0))) (k0_pay39 k0_pay4 (View.ld x0 (Rect.unit (s := S1024x128) ![640, 0] ![64, 128]
      inb_S1024x128_S64x128_640_0))) (k0_pay40 k0_pay5 (View.ld x0 (Rect.unit (s := S1024x128) ![640, 0] ![64, 128]
      inb_S1024x128_S64x128_640_0))) (k0_pay42 k0_pay4 (View.ld x0 (Rect.unit (s := S1024x128) ![704, 0] ![64, 128]
      inb_S1024x128_S64x128_704_0))) (k0_pay43 k0_pay5 (View.ld x0 (Rect.unit (s := S1024x128) ![704, 0] ![64, 128]
      inb_S1024x128_S64x128_704_0))) (k0_pay45 k0_pay4 (View.ld x0 (Rect.unit (s := S1024x128) ![768, 0] ![64, 128]
      inb_S1024x128_S64x128_768_0))) (k0_pay46 k0_pay5 (View.ld x0 (Rect.unit (s := S1024x128) ![768, 0] ![64, 128]
      inb_S1024x128_S64x128_768_0))) (k0_pay48 k0_pay4 (View.ld x0 (Rect.unit (s := S1024x128) ![832, 0] ![64, 128]
      inb_S1024x128_S64x128_832_0)))
      (k0_pay49 k0_pay5 (View.ld x0 (Rect.unit (s := S1024x128) ![832, 0] ![64, 128]
      inb_S1024x128_S64x128_832_0))) (View.ld x0 (Rect.unit (s := S1024x128) ![896, 0] ![64, 128]
      inb_S1024x128_S64x128_896_0)) (View.ld x0 (Rect.unit (s := S1024x128) ![960, 0] ![64, 128]
      inb_S1024x128_S64x128_960_0)) = ctxAll x0 x3 := rfl

/-- The block the body leaves at point `t` is its sixteen rows. -/
theorem outsAt0_rows (m : (ℓ : Loc nD τ sig) → Buf (Elt F) ℓ) (c : Dev nD) (t : Fin cfg0.N) :
    outsAt0 m c t = View.canon (rowPieces (grid0.coords t) (iblk m c 0 t) (iblk m c 1 t) (iblk m c 2 t) (iblk m c 3 t)
      (iblk m c 4 t) (iblk m c 5 t)) := by
  unfold outsAt0
  frame_out
  simp only [qCat_eq, ctxAll_eq]
  refine congrArg View.canon ?_
  iterate 16 refine congrArg₂ List.cons (congrArg (Sigma.mk _) rfl) ?_
  rfl

end Cert.Attn

end
-- ==== Proof.RowValue.lean ====
/- What each step of one row's attention holds at an index, over extended reals. -/
module

public import proofs.«01_k».proof.Proof.Rows
public import proofs.«01_k».proof.Proof.Spec
public import Idealize.ShloMosaic.Lib.Pointwise

@[expose] public section

set_option maxRecDepth 16384

noncomputable section

namespace Cert.Attn

open Idealize.ShloMosaic Idealize.ShloMosaic.TcCoe Idealize.SL.Sem Cert.KernelIdeal Cert.KernelIdeal.Gen

/-- The words of −∞ and 1.0. -/
theorem ofBits_negInf : (Ideal.ofBits .f32 0xFF800000#32 : EReal) = ⊥ := by
  simp [Ideal.ofBits, Ideal.ieee]
theorem rowMax_apply (sw : FVec Ideal S128x512 .f32) (sc : FVec Ideal S128x256 .f32) (a : Fin 128) (b : Fin 1) :
    rowMax sw sc (ix2 a b) = max (Finset.univ.fold max ⊥ fun k : Fin 512 => sw (ix2 a k)) (Finset.univ.fold max ⊥ fun k : Fin 256 => sc (ix2 a k)) := by
  unfold rowMax
  pointwise
  rw [ofBits_negInf]

theorem winExp_apply (sw : FVec Ideal S128x512 .f32) (mx : FVec Ideal S128x1 .f32) (a : Fin 128) (k : Fin 512) :
    winExp sw mx (ix2 a k) = Ideal.exp (sw (ix2 a k) - mx (ix2 a 0)) := by
  unfold winExp
  pointwise

theorem ctxExp_apply (sc : FVec Ideal S128x256 .f32) (mx : FVec Ideal S128x1 .f32) (a : Fin 128) (k : Fin 256) :
    ctxExp sc mx (ix2 a k) = Ideal.exp (sc (ix2 a k) - mx (ix2 a 0)) := by
  unfold ctxExp
  pointwise

theorem rowSum_apply (sw : FVec Ideal S128x512 .f32) (sc : FVec Ideal S128x256 .f32) (a : Fin 128) (b : Fin 1) :
    rowSum sw sc (ix2 a b) = (∑ k : Fin 512, sw (ix2 a k)) + ∑ k : Fin 256, sc (ix2 a k) := by
  unfold rowSum
  pointwise

theorem attend_apply (pw : FVec Ideal S128x512 .f32) (pc : FVec Ideal S128x256 .f32) (vw : Vec Ideal S512x128 .bf16) (x4 : Vec Ideal S256x128 .bf16)
    (a : Fin 128) (l : Fin 128) :
    attend pw pc vw x4 (ix2 a l) = Ideal.div ((∑ k : Fin 512, pw (ix2 a k) * vw (ix2 k l)) + ∑ k : Fin 256, pc (ix2 a k) * x4 (ix2 k l))
      ((∑ k : Fin 512, pw (ix2 a k)) + ∑ k : Fin 256, pc (ix2 a k)) := by
  unfold attend
  pointwise
  rw [rowSum_apply]

/-- The mask of the first head's lanes. -/
theorem lane_lt : ∀ l : Fin 128, IntOp.cmpi .slt (BitVec.ofNat 32 l.val) 64#32 = if l.val < 64 then 1#1 else 0#1 := by
  decide

theorem pick_apply (o : FVec Ideal S128x128 .f32) (x : Fin 64) (l : Fin 128) :
    pick o (ix2 x l) = o (ix2 ⟨64 * (l.val / 64) + x.val, by omega⟩ l) := by
  unfold pick k0_pay2
  pointwise
  rw [lane_lt]
  by_cases h : l.val < 64
  · rw [if_pos h]
    refine congrArg (fun r => o (ix2 r l)) (Fin.ext ?_)
    show x.val = 64 * (l.val / 64) + x.val
    omega
  · rw [if_neg h]
    refine congrArg (fun r => o (ix2 r l)) (Fin.ext ?_)
    show 64 + x.val = 64 * (l.val / 64) + x.val
    omega

theorem winScores_apply (x0 : Vec Ideal S1024x128 .bf16) (j : Fin 16) (kw : Vec Ideal S512x128 .bf16) (b : Vec Ideal S1x2x64x512 .f32)
    (a : Fin 128) (k : Fin 512) :
    winScores x0 j kw b (ix2 a k) = (∑ l : Fin 128, qCat x0 (ix2 ⟨128 * j.val + a.val, by omega⟩ l) * kw (ix2 k l))
      + b (ix4 0 ⟨a.val / 64, by omega⟩ ⟨a.val % 64, by omega⟩ k) := by
  unfold winScores
  pointwise

theorem ctxScores_apply (x0 : Vec Ideal S1024x128 .bf16) (j : Fin 16) (x3 : Vec Ideal S256x128 .bf16)
    (a : Fin 128) (k : Fin 256) :
    ctxScores x0 j x3 (ix2 a k) = ∑ l : Fin 128, qCat x0 (ix2 ⟨128 * j.val + a.val, by omega⟩ l) * x3 (ix2 k l) := by
  unfold ctxScores ctxAll
  pointwise

/-- One on the first head's lanes, zero on the second's. -/
theorem keepA_apply (x : Fin 64) (l : Fin 128) :
    k0_pay4 (F := Ideal) (ix2 x l) = if l.val < 64 then (1 : EReal) else 0 := by
  unfold k0_pay4 k0_pay3 k0_pay2
  pointwise
  rw [lane_lt]
  split <;> simp [Scalar.select]

/-- One on the second head's lanes, zero on the first's. -/
theorem keepB_apply (x : Fin 64) (l : Fin 128) :
    k0_pay5 (F := Ideal) (ix2 x l) = if l.val < 64 then (0 : EReal) else 1 := by
  unfold k0_pay5 k0_pay3 k0_pay2
  pointwise
  rw [lane_lt]
  split
  · show (1 : EReal) - 1 = 0
    rw [show (1 : EReal) = ((1 : ℝ) : EReal) from rfl, ← EReal.coe_sub, sub_self]
    rfl
  · simp [Scalar.select]

theorem qRow_apply (x0 : Vec Ideal S1024x128 .bf16) (j : Fin 16) (x : Fin 64) (l : Fin 128) :
    qRow x0 j (ix2 x l) = x0 (ix2 ⟨64 * j.val + x.val, by omega⟩ l) := by
  unfold qRow
  pointwise

theorem qCat_apply (x0 : Vec Ideal S1024x128 .bf16) (j : Fin 16) (a l : Fin 128) :
    qCat x0 (ix2 ⟨128 * j.val + a.val, by omega⟩ l)
      = x0 (ix2 ⟨64 * j.val + a.val % 64, by omega⟩ l) * (if l.val / 64 = a.val / 64 then (1 : EReal) else 0) := by
  have h : qCat x0 (ix2 ⟨128 * j.val + a.val, by omega⟩ l)
      = qPiece x0 ⟨2 * j.val + a.val / 64, by omega⟩ (ix2 ⟨a.val % 64, by omega⟩ l) := by
    unfold qCat
    refine concatenate_ofFn_apply (t := S2048x128) 0 (qPiece x0) _ rfl 64 rfl _ ⟨2 * j.val + a.val / 64, by omega⟩ ?_ _ ?_ ?_
    · show (128 * j.val + a.val) / 64 = 2 * j.val + a.val / 64
      omega
    · show a.val % 64 = (128 * j.val + a.val) % 64
      omega
    · intro b hb
      fin_cases b
      · exact absurd rfl hb
      · rfl
  rw [h]
  unfold qPiece
  pointwise
  rw [qRow_apply]
  have e : (⟨64 * ((2 * j.val + a.val / 64) / 2) + a.val % 64, by omega⟩ : Fin 1024) = ⟨64 * j.val + a.val % 64, by omega⟩ :=
    Fin.ext (show 64 * ((2 * j.val + a.val / 64) / 2) + a.val % 64 = 64 * j.val + a.val % 64 by omega)
  refine congrArg₂ (· * ·) (congrArg (fun r => x0 (ix2 r l)) e) ?_
  by_cases ha : a.val < 64
  · rw [if_pos (by omega), keepA_apply]
    exact if_congr (by omega) rfl rfl
  · rw [if_neg (by omega), keepB_apply]
    by_cases hl : l.val < 64
    · rw [if_pos hl, if_neg (by omega)]
    · rw [if_neg hl, if_pos (by omega)]

/-- What the body writes for image row `j`, at query `x` and lane `l`: that query's attention under the head of lane `l`,
    the scores summed over both heads' lanes with the other head's zeroed. -/
theorem rowOut_apply (i : grid0.Coords) (x0 : Vec Ideal S1024x128 .bf16) (x1 x2 : Vec Ideal S1536x128 .bf16)
    (x3 x4 : Vec Ideal S256x128 .bf16) (x5 : Vec Ideal S8x2x64x512 .f32) (j : Fin 16) (x : Fin 64) (l : Fin 128) :
    rowOut i x0 x1 x2 x3 x4 x5 j (ix2 x l)
      = attendOne
          (fun k => (∑ l' : Fin 128, x0 (ix2 ⟨64 * j.val + x.val, by omega⟩ l') * (if l'.val / 64 = l.val / 64 then (1 : EReal) else 0)
              * winRows i j x1 (ix2 k l')) + winBias i j x5 (ix4 0 ⟨l.val / 64, by omega⟩ x k))
          (fun k => ∑ l' : Fin 128, x0 (ix2 ⟨64 * j.val + x.val, by omega⟩ l') * (if l'.val / 64 = l.val / 64 then (1 : EReal) else 0)
              * x3 (ix2 k l'))
          (fun k => winRows i j x2 (ix2 k l)) (fun k => x4 (ix2 k l)) := by
  have hx : (64 * (l.val / 64) + x.val) % 64 = x.val := by omega
  have hl : (64 * (l.val / 64) + x.val) / 64 = l.val / 64 := by omega
  have hq : ∀ l' : Fin 128, qCat x0 (ix2 ⟨128 * j.val + (64 * (l.val / 64) + x.val), by omega⟩ l')
      = x0 (ix2 ⟨64 * j.val + x.val, by omega⟩ l') * (if l'.val / 64 = l.val / 64 then (1 : EReal) else 0) := fun l' => by
    have h := qCat_apply x0 j ⟨64 * (l.val / 64) + x.val, by omega⟩ l'
    simpa only [hx, hl] using h
  unfold rowOut attnOf
  rw [pick_apply, attend_apply]
  simp only [winExp_apply, ctxExp_apply, rowMax_apply, winScores_apply, ctxScores_apply, hq, hx, hl]
  unfold attendOne topScore
  rfl

end Cert.Attn

end
-- ==== Proof.Offsets.lean ====
/- Where the six input blocks and the output block of a grid point lie in their arrays. -/
module

public import proofs.«01_k».proof.Proof.RowValue
public import Idealize.ShloMosaic.Lib.Pipeline.Covers
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

/-- The first image row of the window of image row `r`: eight rows around it, kept inside the image. -/
def firstRow (r : ℕ) : ℕ := min 120 (r - 4)

/-- The first image row of the band a tile of sixteen rows reads. -/
def firstBand (tt : ℕ) : ℕ := min 104 (16 * tt - 4)

theorem index0 : ∀ t : Fin grid0.N, win0_0.index t = ![t.val / 8 % 8 * 8 + t.val % 8, t.val / 64] := by decide +kernel
theorem index1 : ∀ t : Fin grid0.N, win0_1.index t = ![t.val / 8 % 8 * 8192 + firstBand (t.val % 8) * 64, t.val / 64 * 128] := by
  decide +kernel
theorem index2 : ∀ t : Fin grid0.N, win0_2.index t = ![t.val / 8 % 8 * 8192 + firstBand (t.val % 8) * 64, t.val / 64 * 128] := by
  decide +kernel
theorem index3 : ∀ t : Fin grid0.N, win0_3.index t = ![t.val / 8 % 8, t.val / 64] := by decide +kernel
theorem index4 : ∀ t : Fin grid0.N, win0_4.index t = ![t.val / 8 % 8, t.val / 64] := by decide +kernel
theorem index5 : ∀ t : Fin grid0.N, win0_5.index t = ![0, t.val / 64, 0, 0] := by decide +kernel
theorem index6 : ∀ t : Fin grid0.N, win0_6.index t = ![t.val / 8 % 8 * 8 + t.val % 8, t.val / 64] := by decide +kernel

theorem off1 : ∀ t : Fin grid0.N, ∀ j : Fin 16, k0_off1 (grid0.coords t) (BitVec.ofNat 32 j.val)
    = ![(firstRow (16 * (t.val % 8) + j.val) - firstBand (t.val % 8)) * 64, 0] := by decide +kernel
theorem off2 : ∀ t : Fin grid0.N, ∀ j : Fin 16, k0_off2 (grid0.coords t) (BitVec.ofNat 32 j.val)
    = ![firstRow (16 * (t.val % 8) + j.val) + 7 - (16 * (t.val % 8) + j.val), 0, 0, 0] := by decide +kernel

/-- What the two offsets obey. -/
theorem rows_le : ∀ tt : Fin 8, ∀ j : Fin 16, firstBand tt.val ≤ firstRow (16 * tt.val + j.val)
    ∧ firstRow (16 * tt.val + j.val) ≤ firstBand tt.val + 16 ∧ 16 * tt.val + j.val ≤ firstRow (16 * tt.val + j.val) + 7
    ∧ firstRow (16 * tt.val + j.val) ≤ 16 * tt.val + j.val ∧ firstBand tt.val ≤ 104 := by decide

end Cert.Attn

end
-- ==== Proof.Blocks.lean ====
/- The blocks of a grid point, and the parts of them one image row reads, as elements of the arrays. -/
module

public import proofs.«01_k».proof.Proof.Offsets
public import Idealize.ShloMosaic.Lib.Pipeline.Covers
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

/-- A grid point is one of 512. -/
theorem point_lt (t : Fin grid0.N) : t.val < 512 := lt_of_lt_of_eq t.isLt N_0

section
variable (m : (ℓ : Loc nD τ sig) → Buf (Elt Ideal) ℓ) (c : Dev nD)

theorem blk0_apply (t : Fin grid0.N) (y : Fin 1024) (l : Fin 128) (R : Fin 65536) (C : Fin 1024)
    (hR : R.val = (t.val / 8 % 8 * 8 + t.val % 8) * 1024 + y.val) (hC : C.val = t.val / 64 * 128 + l.val) :
    iblk m c 0 t (ix2 y l) = V m c main_v3 (ix2 R C) := by
  blk_ext [iblk, index0 t]

theorem blk3_apply (t : Fin grid0.N) (k : Fin 256) (l : Fin 128) (R : Fin 2048) (C : Fin 1024)
    (hR : R.val = t.val / 8 % 8 * 256 + k.val) (hC : C.val = t.val / 64 * 128 + l.val) :
    iblk m c 3 t (ix2 k l) = V m c main_v9 (ix2 R C) := by
  blk_ext [iblk, index3 t]

theorem blk4_apply (t : Fin grid0.N) (k : Fin 256) (l : Fin 128) (R : Fin 2048) (C : Fin 1024)
    (hR : R.val = t.val / 8 % 8 * 256 + k.val) (hC : C.val = t.val / 64 * 128 + l.val) :
    iblk m c 4 t (ix2 k l) = V m c main_v11 (ix2 R C) := by
  blk_ext [iblk, index4 t]

theorem blk5_apply (t : Fin grid0.N) (cls : Fin 8) (h : Fin 2) (x : Fin 64) (k : Fin 512) (H : Fin 16)
    (hH : H.val = t.val / 64 * 2 + h.val) :
    iblk m c 5 t (ix4 cls h x k) = V m c main_v63 (ix4 cls H x k) := by
  blk_ext [iblk, index5 t]

end

end Cert.Attn

end
-- ==== Proof.Bands.lean ====
/- The bands of keys and of values a grid point reads, which begin at an image row and not at a multiple of their size;
   and the part of each block one image row of the point reads. -/
module

public import proofs.«01_k».proof.Proof.Offsets
public import Idealize.ShloMosaic.Lib.Pipeline.Covers
public import Idealize.ShloMosaic.Lib.Pipeline.ValueKit

@[expose] public section

set_option maxRecDepth 16384

noncomputable section

namespace Cert.Attn

open Idealize.ShloMosaic Idealize.ShloMosaic.TcCoe Idealize.SL.Sem Cert.KernelIdeal Cert.KernelIdeal.Gen
open Idealize.ShloMosaic.Pipeline (Dat)

section
variable (m : (ℓ : Loc nD τ sig) → Buf (Elt Ideal) ℓ) (c : Dev nD)

theorem blk1_apply (t : Fin grid0.N) (y : Fin 1536) (l : Fin 128) (R : Fin 65536) (C : Fin 1024)
    (hR : R.val = t.val / 8 % 8 * 8192 + firstBand (t.val % 8) * 64 + y.val) (hC : C.val = t.val / 64 * 128 + l.val) :
    iblk m c 1 t (ix2 y l) = V m c main_v5 (ix2 R C) := by
  blk_ext [iblk, index1 t]
  · have e := Pipeline.Window.rect_emb_val_off win0_1 t (ix2 y l) 0
    rw [index1 t] at e
    exact e.trans hR.symm
  · have e := Pipeline.Window.rect_emb_val_off win0_1 t (ix2 y l) 1
    rw [index1 t] at e
    exact e.trans hC.symm

theorem blk2_apply (t : Fin grid0.N) (y : Fin 1536) (l : Fin 128) (R : Fin 65536) (C : Fin 1024)
    (hR : R.val = t.val / 8 % 8 * 8192 + firstBand (t.val % 8) * 64 + y.val) (hC : C.val = t.val / 64 * 128 + l.val) :
    iblk m c 2 t (ix2 y l) = V m c main_v7 (ix2 R C) := by
  blk_ext [iblk, index2 t]
  · have e := Pipeline.Window.rect_emb_val_off win0_2 t (ix2 y l) 0
    rw [index2 t] at e
    exact e.trans hR.symm
  · have e := Pipeline.Window.rect_emb_val_off win0_2 t (ix2 y l) 1
    rw [index2 t] at e
    exact e.trans hC.symm

theorem winRows_apply (x : Vec Ideal S1536x128 .bf16) (t : Fin grid0.N) (j : Fin 16) (k : Fin 512) (l : Fin 128) (y : Fin 1536)
    (hy : y.val = (firstRow (16 * (t.val % 8) + j.val) - firstBand (t.val % 8)) * 64 + k.val) :
    winRows (grid0.coords t) j x (ix2 k l) = x (ix2 y l) := by
  unfold winRows
  refine View.ld_unit_apply_of _ _ _ _ _ _ fun a => ?_
  refine Eq.trans ?_ (congrArg (· + _) (congrFun (off1 t j) a)).symm
  fin_cases a
  · exact hy
  · exact (Nat.zero_add _).symm

theorem winBias_apply (x : Vec Ideal S8x2x64x512 .f32) (t : Fin grid0.N) (j : Fin 16) (h : Fin 2) (q : Fin 64) (k : Fin 512) (cls : Fin 8)
    (hy : cls.val = firstRow (16 * (t.val % 8) + j.val) + 7 - (16 * (t.val % 8) + j.val)) :
    winBias (grid0.coords t) j x (ix4 0 h q k) = x (ix4 cls h q k) := by
  unfold winBias
  refine View.ld_unit_apply_of _ _ _ _ _ _ fun a => ?_
  refine Eq.trans ?_ (congrArg (· + _) (congrFun (off2 t j) a)).symm
  fin_cases a
  · exact hy
  · exact (Nat.zero_add _).symm
  · exact (Nat.zero_add _).symm
  · exact (Nat.zero_add _).symm

end

end Cert.Attn

end
-- ==== Proof.HostArrays.lean ====
/- The arrays the kernel's call is given, as elements of the arguments: the queries scaled, the heads side by side. -/
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.Attn

open Idealize.ShloMosaic Idealize.ShloMosaic.TcCoe Idealize.SL.Sem Cert.KernelIdeal Cert.KernelIdeal.Gen

variable (m : (ℓ : Loc nD τ sig) → Buf (Elt Ideal) ℓ) (c : Dev nD)

/-- The queries, keys and values given, of the window and of the context, and the table of position biases. -/
def argQ : FVec Ideal S8x8192x16x64 .f32 := m ((c : Thread nD τ).loc main_arg0)
@[inherit_doc argQ] def argK : FVec Ideal S8x8192x16x64 .f32 := m ((c : Thread nD τ).loc main_arg1)
@[inherit_doc argQ] def argV : FVec Ideal S8x8192x16x64 .f32 := m ((c : Thread nD τ).loc main_arg2)
@[inherit_doc argQ] def argKc : FVec Ideal S8x256x16x64 .f32 := m ((c : Thread nD τ).loc main_arg3)
@[inherit_doc argQ] def argVc : FVec Ideal S8x256x16x64 .f32 := m ((c : Thread nD τ).loc main_arg4)
@[inherit_doc argQ] def argB : FVec Ideal S16x15x31 .f32 := m ((c : Thread nD τ).loc main_arg5)

/-- The arrays the call's windows read. -/
def prepQ : FVec Ideal S65536x1024 .bf16 := V m c main_v3
@[inherit_doc prepQ] def prepK : FVec Ideal S65536x1024 .bf16 := V m c main_v5
@[inherit_doc prepQ] def prepV : FVec Ideal S65536x1024 .bf16 := V m c main_v7
@[inherit_doc prepQ] def prepKc : FVec Ideal S2048x1024 .bf16 := V m c main_v9
@[inherit_doc prepQ] def prepVc : FVec Ideal S2048x1024 .bf16 := V m c main_v11
@[inherit_doc prepQ] def prepB : FVec Ideal S8x16x64x512 .f32 := V m c main_v63

theorem ofBits_eighth : Ideal.ofBits .f32 0x3E000000#32 = ((1 / 8 : ℝ) : EReal) := by
  simp [Ideal.ofBits, Ideal.ieee, -EReal.coe_mul]; norm_num

/-- The queries: the heads side by side, each element scaled by an eighth. -/
theorem queries_apply (R : Fin 65536) (C : Fin 1024) :
    prepQ m c (ix2 R C) = argQ m c
      (ix4 ⟨R.val / 8192, by omega⟩ ⟨R.val % 8192, by omega⟩ ⟨C.val / 64, by omega⟩ ⟨C.val % 64, by omega⟩)
      * ((1 / 8 : ℝ) : EReal) := by
  unfold prepQ argQ V
  simp only [List.flatten_cons, List.flatten_nil, List.append_nil, List.cons_append, List.nil_append]
  after_results
  pointwise
  rw [ofBits_eighth]

/-- The keys: the heads side by side. -/
theorem keys_apply (R : Fin 65536) (C : Fin 1024) :
    prepK m c (ix2 R C) = argK m c
      (ix4 ⟨R.val / 8192, by omega⟩ ⟨R.val % 8192, by omega⟩ ⟨C.val / 64, by omega⟩ ⟨C.val % 64, by omega⟩) := by
  unfold prepK argK V
  simp only [List.flatten_cons, List.flatten_nil, List.append_nil, List.cons_append, List.nil_append]
  after_results
  pointwise

/-- The values: the heads side by side. -/
theorem values_apply (R : Fin 65536) (C : Fin 1024) :
    prepV m c (ix2 R C) = argV m c
      (ix4 ⟨R.val / 8192, by omega⟩ ⟨R.val % 8192, by omega⟩ ⟨C.val / 64, by omega⟩ ⟨C.val % 64, by omega⟩) := by
  unfold prepV argV V
  simp only [List.flatten_cons, List.flatten_nil, List.append_nil, List.cons_append, List.nil_append]
  after_results
  pointwise

/-- The context's keys: the heads side by side. -/
theorem ctxKeys_apply (R : Fin 2048) (C : Fin 1024) :
    prepKc m c (ix2 R C) = argKc m c
      (ix4 ⟨R.val / 256, by omega⟩ ⟨R.val % 256, by omega⟩ ⟨C.val / 64, by omega⟩ ⟨C.val % 64, by omega⟩) := by
  unfold prepKc argKc V
  simp only [List.flatten_cons, List.flatten_nil, List.append_nil, List.cons_append, List.nil_append]
  after_results
  pointwise

/-- The context's values: the heads side by side. -/
theorem ctxValues_apply (R : Fin 2048) (C : Fin 1024) :
    prepVc m c (ix2 R C) = argVc m c
      (ix4 ⟨R.val / 256, by omega⟩ ⟨R.val % 256, by omega⟩ ⟨C.val / 64, by omega⟩ ⟨C.val % 64, by omega⟩) := by
  unfold prepVc argVc V
  simp only [List.flatten_cons, List.flatten_nil, List.append_nil, List.cons_append, List.nil_append]
  after_results
  pointwise

theorem queries_at (b : Fin 8) (s : Fin 8192) (h : Fin 16) (d : Fin 64) (R : Fin 65536) (C : Fin 1024)
    (hR : R.val = b.val * 8192 + s.val) (hC : C.val = h.val * 64 + d.val) :
    prepQ m c (ix2 R C) = argQ m c (ix4 b s h d) * ((1 / 8 : ℝ) : EReal) := by
  rw [queries_apply, show (⟨R.val / 8192, by omega⟩ : Fin 8) = b from Fin.ext (by simp only; omega),
    show (⟨R.val % 8192, by omega⟩ : Fin 8192) = s from Fin.ext (by simp only; omega),
    show (⟨C.val / 64, by omega⟩ : Fin 16) = h from Fin.ext (by simp only; omega),
    show (⟨C.val % 64, by omega⟩ : Fin 64) = d from Fin.ext (by simp only; omega)]

theorem keys_at (b : Fin 8) (s : Fin 8192) (h : Fin 16) (d : Fin 64) (R : Fin 65536) (C : Fin 1024)
    (hR : R.val = b.val * 8192 + s.val) (hC : C.val = h.val * 64 + d.val) :
    prepK m c (ix2 R C) = argK m c (ix4 b s h d) := by
  rw [keys_apply, show (⟨R.val / 8192, by omega⟩ : Fin 8) = b from Fin.ext (by simp only; omega),
    show (⟨R.val % 8192, by omega⟩ : Fin 8192) = s from Fin.ext (by simp only; omega),
    show (⟨C.val / 64, by omega⟩ : Fin 16) = h from Fin.ext (by simp only; omega),
    show (⟨C.val % 64, by omega⟩ : Fin 64) = d from Fin.ext (by simp only; omega)]

theorem values_at (b : Fin 8) (s : Fin 8192) (h : Fin 16) (d : Fin 64) (R : Fin 65536) (C : Fin 1024)
    (hR : R.val = b.val * 8192 + s.val) (hC : C.val = h.val * 64 + d.val) :
    prepV m c (ix2 R C) = argV m c (ix4 b s h d) := by
  rw [values_apply, show (⟨R.val / 8192, by omega⟩ : Fin 8) = b from Fin.ext (by simp only; omega),
    show (⟨R.val % 8192, by omega⟩ : Fin 8192) = s from Fin.ext (by simp only; omega),
    show (⟨C.val / 64, by omega⟩ : Fin 16) = h from Fin.ext (by simp only; omega),
    show (⟨C.val % 64, by omega⟩ : Fin 64) = d from Fin.ext (by simp only; omega)]

theorem ctxKeys_at (b : Fin 8) (s : Fin 256) (h : Fin 16) (d : Fin 64) (R : Fin 2048) (C : Fin 1024)
    (hR : R.val = b.val * 256 + s.val) (hC : C.val = h.val * 64 + d.val) :
    prepKc m c (ix2 R C) = argKc m c (ix4 b s h d) := by
  rw [ctxKeys_apply, show (⟨R.val / 256, by omega⟩ : Fin 8) = b from Fin.ext (by simp only; omega),
    show (⟨R.val % 256, by omega⟩ : Fin 256) = s from Fin.ext (by simp only; omega),
    show (⟨C.val / 64, by omega⟩ : Fin 16) = h from Fin.ext (by simp only; omega),
    show (⟨C.val % 64, by omega⟩ : Fin 64) = d from Fin.ext (by simp only; omega)]

theorem ctxValues_at (b : Fin 8) (s : Fin 256) (h : Fin 16) (d : Fin 64) (R : Fin 2048) (C : Fin 1024)
    (hR : R.val = b.val * 256 + s.val) (hC : C.val = h.val * 64 + d.val) :
    prepVc m c (ix2 R C) = argVc m c (ix4 b s h d) := by
  rw [ctxValues_apply, show (⟨R.val / 256, by omega⟩ : Fin 8) = b from Fin.ext (by simp only; omega),
    show (⟨R.val % 256, by omega⟩ : Fin 256) = s from Fin.ext (by simp only; omega),
    show (⟨C.val / 64, by omega⟩ : Fin 16) = h from Fin.ext (by simp only; omega),
    show (⟨C.val % 64, by omega⟩ : Fin 64) = d from Fin.ext (by simp only; omega)]

end Cert.Attn

end
-- ==== Proof.Gathers.lean ====
/- The three host gathers the two programs read with, each at an index of its result: one coordinate of the operand is
   the word the index array holds there, read signed and kept inside the operand. -/
module

public import Idealize.ShloMosaic.Lib.Pointwise

@[expose] public section

set_option maxRecDepth 16384

namespace Cert.Attn

open Idealize.ShloMosaic

/-- The word of a start index, as a coordinate of an axis of `n + 1`. -/
def coord (n : ℕ) (w : BitVec 32) : Fin (n + 1) := ⟨min w.toInt.toNat n, by omega⟩

/-- The columns of the bias table, chosen by a 64 by 64 array of words. -/
def colDims (wf : GatherDims.WF ⟨3, ![16, 15, 31]⟩ ⟨3, ![64, 64, 1]⟩ ⟨4, ![16, 15, 64, 64]⟩ [0, 1] [2] [] [2] [] 2 ![16, 15, 1]) :
    GatherDims ⟨3, ![16, 15, 31]⟩ ⟨3, ![64, 64, 1]⟩ ⟨4, ![16, 15, 64, 64]⟩ where
  offsetDims := [0, 1]
  collapsedSliceDims := [2]
  operandBatchingDims := []
  startIndicesBatchingDims := []
  startIndexMap := [2]
  indexVectorDim := 2
  sliceSizes := ![16, 15, 1]
  wf := wf

theorem gather_col {α : Type} (wf) (x : (⟨3, ![16, 15, 31]⟩ : Shape).Idx → α) (idx : IVec ⟨3, ![64, 64, 1]⟩ 32)
    (h : Fin 16) (r : Fin 15) (q w : Fin 64) :
    Host.gather (colDims wf) x idx (ix4 h r q w) = x (ix3 h r (coord 30 (idx (ix3 q w 0)))) := by
  unfold Host.gather
  refine congrArg x ?_
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg₂ (· + ·) (dif_neg (show (0 : Fin 3) ∉ ([2] : List (Fin 3)) from by decide))
      (dif_pos (show (0 : Fin 3) ∈ Shape.kept ⟨3, ![16, 15, 31]⟩ [2] from by decide))).trans ?_
    exact Nat.zero_add _
  | ⟨1, _⟩ =>
    refine (congrArg₂ (· + ·) (dif_neg (show (1 : Fin 3) ∉ ([2] : List (Fin 3)) from by decide))
      (dif_pos (show (1 : Fin 3) ∈ Shape.kept ⟨3, ![16, 15, 31]⟩ [2] from by decide))).trans ?_
    exact Nat.zero_add _
  | ⟨2, _⟩ =>
    refine (congrArg₂ (· + ·) (dif_pos (show (2 : Fin 3) ∈ ([2] : List (Fin 3)) from by decide))
      (dif_neg (show (2 : Fin 3) ∉ Shape.kept ⟨3, ![16, 15, 31]⟩ [2] from by decide))).trans ?_
    refine (Nat.add_zero _).trans ?_
    refine congrArg (fun z => min (idx z).toInt.toNat 30) ?_
    funext b
    match b with
    | ⟨0, _⟩ => rfl
    | ⟨1, _⟩ => rfl
    | ⟨2, _⟩ => rfl

/-- The rows of the bias table, chosen by an array of words of eight to a line. -/
def rowDims (N : ℕ) (wf : GatherDims.WF ⟨4, ![16, 15, 64, 64]⟩ ⟨3, ![N, 8, 1]⟩ ⟨5, ![16, N, 8, 64, 64]⟩ [0, 3, 4] [1] [] [1] [] 2 ![16, 1, 64, 64]) :
    GatherDims ⟨4, ![16, 15, 64, 64]⟩ ⟨3, ![N, 8, 1]⟩ ⟨5, ![16, N, 8, 64, 64]⟩ where
  offsetDims := [0, 3, 4]
  collapsedSliceDims := [1]
  operandBatchingDims := []
  startIndicesBatchingDims := []
  startIndexMap := [1]
  indexVectorDim := 2
  sliceSizes := ![16, 1, 64, 64]
  wf := wf

theorem gather_row {α : Type} {N : ℕ} (wf) (x : (⟨4, ![16, 15, 64, 64]⟩ : Shape).Idx → α) (idx : IVec ⟨3, ![N, 8, 1]⟩ 32)
    (h : Fin 16) (r : Fin N) (i : Fin 8) (q w : Fin 64) :
    Host.gather (rowDims N wf) x idx (ix5 h r i q w) = x (ix4 h (coord 14 (idx (ix3 r i 0))) q w) := by
  unfold Host.gather
  refine congrArg x ?_
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg₂ (· + ·) (dif_neg (show (0 : Fin 4) ∉ ([1] : List (Fin 4)) from by decide))
      (dif_pos (show (0 : Fin 4) ∈ Shape.kept ⟨4, ![16, 15, 64, 64]⟩ [1] from by decide))).trans ?_
    exact Nat.zero_add _
  | ⟨1, _⟩ =>
    refine (congrArg₂ (· + ·) (dif_pos (show (1 : Fin 4) ∈ ([1] : List (Fin 4)) from by decide))
      (dif_neg (show (1 : Fin 4) ∉ Shape.kept ⟨4, ![16, 15, 64, 64]⟩ [1] from by decide))).trans ?_
    refine (Nat.add_zero _).trans ?_
    refine congrArg (fun z => min (idx z).toInt.toNat 14) ?_
    funext b
    match b with
    | ⟨0, _⟩ => rfl
    | ⟨1, _⟩ => rfl
    | ⟨2, _⟩ => rfl
  | ⟨2, _⟩ =>
    refine (congrArg₂ (· + ·) (dif_neg (show (2 : Fin 4) ∉ ([1] : List (Fin 4)) from by decide))
      (dif_pos (show (2 : Fin 4) ∈ Shape.kept ⟨4, ![16, 15, 64, 64]⟩ [1] from by decide))).trans ?_
    exact Nat.zero_add _
  | ⟨3, _⟩ =>
    refine (congrArg₂ (· + ·) (dif_neg (show (3 : Fin 4) ∉ ([1] : List (Fin 4)) from by decide))
      (dif_pos (show (3 : Fin 4) ∈ Shape.kept ⟨4, ![16, 15, 64, 64]⟩ [1] from by decide))).trans ?_
    exact Nat.zero_add _

/-- The image rows of the keys or of the values, chosen by an array of words of eight to a line. -/
def bandDims (wf : GatherDims.WF ⟨5, ![8, 128, 64, 16, 64]⟩ ⟨3, ![128, 8, 1]⟩ ⟨6, ![8, 128, 8, 64, 16, 64]⟩ [0, 3, 4, 5] [1] [] [1] [] 2 ![8, 1, 64, 16, 64]) :
    GatherDims ⟨5, ![8, 128, 64, 16, 64]⟩ ⟨3, ![128, 8, 1]⟩ ⟨6, ![8, 128, 8, 64, 16, 64]⟩ where
  offsetDims := [0, 3, 4, 5]
  collapsedSliceDims := [1]
  operandBatchingDims := []
  startIndicesBatchingDims := []
  startIndexMap := [1]
  indexVectorDim := 2
  sliceSizes := ![8, 1, 64, 16, 64]
  wf := wf

theorem gather_band {α : Type} (wf) (x : (⟨5, ![8, 128, 64, 16, 64]⟩ : Shape).Idx → α) (idx : IVec ⟨3, ![128, 8, 1]⟩ 32)
    (b : Fin 8) (r : Fin 128) (i : Fin 8) (w : Fin 64) (h : Fin 16) (d : Fin 64) :
    Host.gather (bandDims wf) x idx (ix6 b r i w h d) = x (ix5 b (coord 127 (idx (ix3 r i 0))) w h d) := by
  unfold Host.gather
  refine congrArg x ?_
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg₂ (· + ·) (dif_neg (show (0 : Fin 5) ∉ ([1] : List (Fin 5)) from by decide))
      (dif_pos (show (0 : Fin 5) ∈ Shape.kept ⟨5, ![8, 128, 64, 16, 64]⟩ [1] from by decide))).trans ?_
    exact Nat.zero_add _
  | ⟨1, _⟩ =>
    refine (congrArg₂ (· + ·) (dif_pos (show (1 : Fin 5) ∈ ([1] : List (Fin 5)) from by decide))
      (dif_neg (show (1 : Fin 5) ∉ Shape.kept ⟨5, ![8, 128, 64, 16, 64]⟩ [1] from by decide))).trans ?_
    refine (Nat.add_zero _).trans ?_
    refine congrArg (fun z => min (idx z).toInt.toNat 127) ?_
    funext b
    match b with
    | ⟨0, _⟩ => rfl
    | ⟨1, _⟩ => rfl
    | ⟨2, _⟩ => rfl
  | ⟨2, _⟩ =>
    refine (congrArg₂ (· + ·) (dif_neg (show (2 : Fin 5) ∉ ([1] : List (Fin 5)) from by decide))
      (dif_pos (show (2 : Fin 5) ∈ Shape.kept ⟨5, ![8, 128, 64, 16, 64]⟩ [1] from by decide))).trans ?_
    exact Nat.zero_add _
  | ⟨3, _⟩ =>
    refine (congrArg₂ (· + ·) (dif_neg (show (3 : Fin 5) ∉ ([1] : List (Fin 5)) from by decide))
      (dif_pos (show (3 : Fin 5) ∈ Shape.kept ⟨5, ![8, 128, 64, 16, 64]⟩ [1] from by decide))).trans ?_
    exact Nat.zero_add _
  | ⟨4, _⟩ =>
    refine (congrArg₂ (· + ·) (dif_neg (show (4 : Fin 5) ∉ ([1] : List (Fin 5)) from by decide))
      (dif_pos (show (4 : Fin 5) ∈ Shape.kept ⟨5, ![8, 128, 64, 16, 64]⟩ [1] from by decide))).trans ?_
    exact Nat.zero_add _

end Cert.Attn
-- ==== Proof.BiasTable.lean ====
/- The bias the call is given: per class of image row (how far the row stands from the end of its window) and head, a 64 by
   512 array, the entry of the bias table where the key's column is one the query looks at and `-1e30` elsewhere. -/
module

public import proofs.«01_k».proof.Proof.HostArrays
public import proofs.«01_k».proof.Proof.Gathers
public import proofs.«01_k».proof.Proof.Gen.ReferenceIdeal.Read

@[expose] public section

set_option maxRecDepth 16384

noncomputable section

namespace Cert.Attn

open Idealize.ShloMosaic Idealize.ShloMosaic.TcCoe Idealize.SL.Sem Cert.KernelIdeal Cert.KernelIdeal.Gen

/-- Which key columns a query column looks at, and the table's columns laid out by query and key: the two programs build
    both with the same operations. -/
def lookAt : IVec S64x64 1 := Cert.ReferenceIdeal.Read.val_main_v19 (F := Ideal)
@[inherit_doc lookAt] def colTab (x5 : FVec Ideal S16x15x31 .f32) : FVec Ideal S16x15x64x64 .f32 :=
  Cert.ReferenceIdeal.Read.val_main_v36 (F := Ideal) x5

/-- The table's row a class takes for a row of its window. -/
def clsRows : IVec S8x8x1 32 :=
  let s : IVec S8x8 32 := addi
    (broadcastInDim S8x8 ![0, 1] bcast_S8x1_S8x8_0_1 (broadcastInDim S8x1 ![0] bcast_S8_S8x1_0 (iotaInDim S8 32 0)))
    (broadcastInDim S8x8 ![0, 1] bcast_S1x8_S8x8_0_1 (broadcastInDim S1x8 ![1] bcast_S8_S1x8_1 (iotaInDim S8 32 0)))
  broadcastInDim S8x8x1 ![0, 1] bcast_S8x8_S8x8x1_0_1
    (select (cmpi .slt s (broadcastInDim S8x8 ![] bcast_S_S8x8 (constantI S_ 32 0#32)))
      (addi s (broadcastInDim S8x8 ![] bcast_S_S8x8 (constantI S_ 32 15#32))) s)

theorem clsRows_coord : ∀ cls i : Fin 8, (coord 14 (clsRows (ix3 cls i 0))).val = cls.val + i.val := by decide +kernel

/-- The whole array from the two. -/
def biasOf (ok : IVec S64x64 1) (tab : FVec Ideal S16x15x64x64 .f32) : FVec Ideal S8x16x64x512 .f32 :=
  shapeCast S8x16x64x512 (transpose S8x16x64x8x64 [1, 0, 3, 2, 4]
    (select (broadcastInDim S16x8x8x64x64 ![0, 1, 2, 3, 4] bcast_S1x1x1x64x64_S16x8x8x64x64_0_1_2_3_4
        (broadcastInDim S1x1x1x64x64 ![3, 4] bcast_S64x64_S1x1x1x64x64_3_4 ok))
      (Host.gather gather_S16x15x64x64_S8x8x1_S16x8x8x64x64_034_1_n_n_1_2_1616464 tab clsRows)
      (broadcastInDim S16x8x8x64x64 ![] bcast_S_S16x8x8x64x64 (constant S_ .f32 0xF149F2CA#32)))
    transposes_S16x8x8x64x64_S8x16x64x8x64_1_0_3_2_4) shapeCasts_S8x16x64x8x64_S8x16x64x512

variable (m : (ℓ : Loc nD τ sig) → Buf (Elt Ideal) ℓ) (c : Dev nD)

theorem prepB_eq : prepB m c = biasOf lookAt (colTab (argB m c)) := by
  unfold prepB argB V
  simp only [List.flatten_cons, List.flatten_nil, List.append_nil, List.cons_append, List.nil_append]
  after_results
  rfl

theorem biasOf_apply (ok : IVec S64x64 1) (tab : FVec Ideal S16x15x64x64 .f32)
    (cls : Fin 8) (h : Fin 16) (x : Fin 64) (k : Fin 512) :
    biasOf ok tab (ix4 cls h x k) = if ok (ix2 x ⟨k.val % 64, by omega⟩) = 1#1
      then tab (ix4 h ⟨cls.val + k.val / 64, by omega⟩ x ⟨k.val % 64, by omega⟩)
      else Ideal.ofBits .f32 0xF149F2CA#32 := by
  unfold biasOf
  pointwise
  have e : Host.gather gather_S16x15x64x64_S8x8x1_S16x8x8x64x64_034_1_n_n_1_2_1616464 tab clsRows
      (ix5 h cls ⟨k.val / 64, by omega⟩ x ⟨k.val % 64, by omega⟩)
      = tab (ix4 h ⟨cls.val + k.val / 64, by omega⟩ x ⟨k.val % 64, by omega⟩) := by
    refine (gather_row _ tab clsRows h cls ⟨k.val / 64, by omega⟩ x ⟨k.val % 64, by omega⟩).trans ?_
    rw [show coord 14 (clsRows (ix3 cls ⟨k.val / 64, by omega⟩ 0)) = ⟨cls.val + k.val / 64, by omega⟩ from
      Fin.ext (clsRows_coord cls ⟨k.val / 64, by omega⟩)]
  rw [e]
  rfl

theorem bias_at (cls : Fin 8) (h : Fin 16) (x : Fin 64) (k : Fin 512) :
    prepB m c (ix4 cls h x k) = if lookAt (ix2 x ⟨k.val % 64, by omega⟩) = 1#1
      then colTab (argB m c) (ix4 h ⟨cls.val + k.val / 64, by omega⟩ x ⟨k.val % 64, by omega⟩)
      else Ideal.ofBits .f32 0xF149F2CA#32 := by
  rw [prepB_eq, biasOf_apply]

end Cert.Attn

end
-- ==== Proof.KernelRow.lean ====
/- What the call computes at a query, in elements of the arguments: its scores over its own head, the window's and the
   context's, and their weighted mean of the values. -/
module

public import proofs.«01_k».proof.Proof.RowValue
public import proofs.«01_k».proof.Proof.Blocks
public import proofs.«01_k».proof.Proof.Bands
public import proofs.«01_k».proof.Proof.BiasTable

@[expose] public section

set_option maxRecDepth 16384

noncomputable section

namespace Cert.Attn

open Idealize.ShloMosaic Idealize.ShloMosaic.TcCoe Idealize.SL.Sem Cert.KernelIdeal Cert.KernelIdeal.Gen

/-- A sum over the lanes of two heads, masked to one of them, is the sum over that head's. -/
theorem maskedDot (f g : Fin 128 → EReal) (e : ℕ) (he : e < 2) :
    (∑ l : Fin 128, f l * (if l.val / 64 = e then (1 : EReal) else 0) * g l)
      = ∑ d : Fin 64, f ⟨64 * e + d.val, by omega⟩ * g ⟨64 * e + d.val, by omega⟩ := by
  have hs : ∀ F : Fin 128 → EReal, (∑ l : Fin 128, F l)
      = (∑ d : Fin 64, F ⟨d.val, by omega⟩) + ∑ d : Fin 64, F ⟨64 + d.val, by omega⟩ := fun F =>
    Fin.sum_univ_add (a := 64) (b := 64) F
  rw [hs]
  have h0 : ∀ d : Fin 64, d.val / 64 = 0 := fun d => by omega
  have h1 : ∀ d : Fin 64, (64 + d.val) / 64 = 1 := fun d => by omega
  interval_cases e
  · simp [h0, h1]
  · simp [h0, h1]

/-- The image row a query's window begins at is at most 120. -/
theorem firstRow_le (r : ℕ) : firstRow r ≤ 120 := Nat.min_le_left _ _

/-- The position of a query in the image. -/
def posOf (r : Fin 128) (x : Fin 64) : Fin 8192 := ⟨64 * r.val + x.val, by omega⟩
/-- The position of a key of the window of an image row. -/
def keyPos (r : Fin 128) (k : Fin 512) : Fin 8192 := ⟨64 * firstRow r.val + k.val, by have := firstRow_le r.val; omega⟩

theorem clsOf_lt (r : Fin 128) : firstRow r.val + 7 - r.val < 8 := by unfold firstRow; omega

/-- The position bias of a window's key for a query. -/
def biasAt (x5 : FVec Ideal S16x15x31 .f32) (h : Fin 16) (r : Fin 128) (x : Fin 64) (k : Fin 512) : EReal :=
  if lookAt (ix2 x ⟨k.val % 64, by omega⟩) = 1#1
    then colTab x5 (ix4 h ⟨firstRow r.val + 7 - r.val + k.val / 64, by have := clsOf_lt r; omega⟩ x ⟨k.val % 64, by omega⟩)
    else Ideal.ofBits .f32 0xF149F2CA#32

/-- The kernel's result for one query and head, at one element. -/
def kernelAt (q k v : FVec Ideal S8x8192x16x64 .f32) (kc vc : FVec Ideal S8x256x16x64 .f32) (x5 : FVec Ideal S16x15x31 .f32)
    (b : Fin 8) (r : Fin 128) (x : Fin 64) (h : Fin 16) (d : Fin 64) : EReal :=
  attendOne
    (fun j => (∑ e : Fin 64, q (ix4 b (posOf r x) h e) * ((1 / 8 : ℝ) : EReal) * k (ix4 b (keyPos r j) h e)) + biasAt x5 h r x j)
    (fun j => ∑ e : Fin 64, q (ix4 b (posOf r x) h e) * ((1 / 8 : ℝ) : EReal) * kc (ix4 b j h e))
    (fun j => v (ix4 b (keyPos r j) h d)) (fun j => vc (ix4 b j h d))

variable (m : (ℓ : Loc nD τ sig) → Buf (Elt Ideal) ℓ) (c : Dev nD)

/-- What a grid point, its row and a lane stand for: batch, image row and head. -/
structure Stands (t : Fin grid0.N) (j : Fin 16) (g : Fin 2) (b : Fin 8) (r : Fin 128) (h : Fin 16) : Prop where
  batch : b.val = t.val / 8 % 8
  row : r.val = 16 * (t.val % 8) + j.val
  head : h.val = t.val / 64 * 2 + g.val

section
variable {t : Fin grid0.N} {j : Fin 16} {g : Fin 2} {b : Fin 8} {r : Fin 128} {h : Fin 16} (S : Stands t j g b r h)
include S

theorem Stands.band : firstBand (t.val % 8) ≤ firstRow r.val ∧ firstRow r.val ≤ firstBand (t.val % 8) + 16 := by
  obtain ⟨h1, h2, -⟩ := rows_le ⟨t.val % 8, Nat.mod_lt _ (by decide)⟩ j
  rw [S.row]
  exact ⟨h1, h2⟩

theorem Stands.query (x : Fin 64) (e : Fin 64) :
    (iblk m c 0 t : Vec Ideal S1024x128 .bf16) (ix2 ⟨64 * j.val + x.val, by omega⟩ ⟨64 * g.val + e.val, by omega⟩)
      = argQ m c (ix4 b (posOf r x) h e) * ((1 / 8 : ℝ) : EReal) := by
  have h1 := S.batch
  have h2 := S.row
  have h3 := S.head
  refine (blk0_apply m c t ⟨64 * j.val + x.val, by omega⟩ ⟨64 * g.val + e.val, by omega⟩
      ⟨b.val * 8192 + (64 * r.val + x.val), by omega⟩ ⟨h.val * 64 + e.val, by omega⟩ (by simp only; omega) (by simp only; omega)).trans ?_
  exact queries_at m c b (posOf r x) h e _ _ rfl rfl

theorem Stands.key (k : Fin 512) (e : Fin 64) :
    winRows (grid0.coords t) j (iblk m c 1 t) (ix2 k ⟨64 * g.val + e.val, by omega⟩) = argK m c (ix4 b (keyPos r k) h e) := by
  have h1 := S.batch
  have h2 := S.row
  have h3 := S.head
  have h4 := S.band
  have h5 := firstRow_le r.val
  refine (winRows_apply (iblk m c 1 t) t j k ⟨64 * g.val + e.val, by omega⟩
      ⟨(firstRow r.val - firstBand (t.val % 8)) * 64 + k.val, by omega⟩ (by simp only [← h2])).trans ?_
  refine (blk1_apply m c t _ _ ⟨b.val * 8192 + (64 * firstRow r.val + k.val), by omega⟩ ⟨h.val * 64 + e.val, by omega⟩
      (by simp only; omega) (by simp only; omega)).trans ?_
  exact keys_at m c b (keyPos r k) h e _ _ rfl rfl

theorem Stands.value (k : Fin 512) (l : Fin 128) (d : Fin 64) (hl : l.val = 64 * g.val + d.val) :
    winRows (grid0.coords t) j (iblk m c 2 t) (ix2 k l) = argV m c (ix4 b (keyPos r k) h d) := by
  have h1 := S.batch
  have h2 := S.row
  have h3 := S.head
  have h4 := S.band
  have h5 := firstRow_le r.val
  refine (winRows_apply (iblk m c 2 t) t j k l
      ⟨(firstRow r.val - firstBand (t.val % 8)) * 64 + k.val, by omega⟩ (by simp only [← h2])).trans ?_
  refine (blk2_apply m c t _ _ ⟨b.val * 8192 + (64 * firstRow r.val + k.val), by omega⟩ ⟨h.val * 64 + d.val, by omega⟩
      (by simp only; omega) (by simp only; omega)).trans ?_
  exact values_at m c b (keyPos r k) h d _ _ rfl rfl

theorem Stands.ctxKey (k : Fin 256) (e : Fin 64) :
    (iblk m c 3 t : Vec Ideal S256x128 .bf16) (ix2 k ⟨64 * g.val + e.val, by omega⟩) = argKc m c (ix4 b k h e) := by
  have h1 := S.batch
  have h3 := S.head
  refine (blk3_apply m c t k _ ⟨b.val * 256 + k.val, by omega⟩ ⟨h.val * 64 + e.val, by omega⟩
      (by simp only; omega) (by simp only; omega)).trans ?_
  exact ctxKeys_at m c b k h e _ _ rfl rfl

theorem Stands.ctxValue (k : Fin 256) (l : Fin 128) (d : Fin 64) (hl : l.val = 64 * g.val + d.val) :
    (iblk m c 4 t : Vec Ideal S256x128 .bf16) (ix2 k l) = argVc m c (ix4 b k h d) := by
  have h1 := S.batch
  have h3 := S.head
  refine (blk4_apply m c t k l ⟨b.val * 256 + k.val, by omega⟩ ⟨h.val * 64 + d.val, by omega⟩
      (by simp only; omega) (by simp only; omega)).trans ?_
  exact ctxValues_at m c b k h d _ _ rfl rfl

theorem Stands.bias (x : Fin 64) (k : Fin 512) :
    winBias (grid0.coords t) j (iblk m c 5 t) (ix4 0 g x k) = biasAt (argB m c) h r x k := by
  refine (winBias_apply (iblk m c 5 t) t j g x k ⟨firstRow r.val + 7 - r.val, clsOf_lt r⟩ (by simp only [← S.row])).trans ?_
  refine (blk5_apply m c t _ g x k h S.head).trans ?_
  exact bias_at m c _ h x k

end

theorem attendOne_congr {sw sw' : Fin 512 → EReal} {sc sc' : Fin 256 → EReal} {vw vw' : Fin 512 → EReal} {vc vc' : Fin 256 → EReal}
    (h1 : ∀ k, sw k = sw' k) (h2 : ∀ k, sc k = sc' k) (h3 : ∀ k, vw k = vw' k) (h4 : ∀ k, vc k = vc' k) :
    attendOne sw sc vw vc = attendOne sw' sc' vw' vc' := by
  rw [funext h1, funext h2, funext h3, funext h4]

theorem rowOut_value (t : Fin grid0.N) (j : Fin 16) (x : Fin 64) (l : Fin 128) (g : Fin 2)
    (b : Fin 8) (r : Fin 128) (h : Fin 16) (d : Fin 64) (S : Stands t j g b r h) (hl : l.val = 64 * g.val + d.val) :
    rowOut (grid0.coords t) (iblk m c 0 t) (iblk m c 1 t) (iblk m c 2 t) (iblk m c 3 t) (iblk m c 4 t) (iblk m c 5 t) j (ix2 x l)
      = kernelAt (argQ m c) (argK m c) (argV m c) (argKc m c) (argVc m c) (argB m c) b r x h d := by
  have hg : l.val / 64 = g.val := by omega
  refine (rowOut_apply _ _ _ _ _ _ _ j x l).trans ?_
  unfold kernelAt
  refine attendOne_congr (fun k => ?_) (fun k => ?_) (fun k => S.value m c k l d hl) (fun k => S.ctxValue m c k l d hl)
  · refine congrArg₂ (· + ·) ((maskedDot _ _ _ (by omega)).trans (Finset.sum_congr rfl fun e _ => ?_)) ?_
    · simp only [hg]
      exact congrArg₂ (· * ·) (S.query m c x e) (S.key m c k e)
    · simp only [hg]
      exact S.bias m c x k
  · refine (maskedDot _ _ _ (by omega)).trans (Finset.sum_congr rfl fun e _ => ?_)
    simp only [hg]
    exact congrArg₂ (· * ·) (S.query m c x e) (S.ctxKey m c k e)

end Cert.Attn

end
-- ==== Proof.KernelArray.lean ====
/- The array the call returns: every row of every block is the row's queries' results. -/
module

public import proofs.«01_k».proof.Proof.KernelRow
public import proofs.«01_k».proof.Proof.Gen.KernelIdeal.Value

@[expose] public section

set_option maxRecDepth 16384

noncomputable section

namespace Cert.Attn

open Idealize.ShloMosaic Idealize.ShloMosaic.TcCoe Idealize.SL.Sem Cert.KernelIdeal Cert.KernelIdeal.Gen

/-- The whole result: one row per query, the heads side by side. -/
def kernelOut (q k v : FVec Ideal S8x8192x16x64 .f32) (kc vc : FVec Ideal S8x256x16x64 .f32) (x5 : FVec Ideal S16x15x31 .f32)
    (R : Fin 65536) (C : Fin 1024) : EReal :=
  kernelAt q k v kc vc x5 ⟨R.val / 8192, by omega⟩ ⟨R.val % 8192 / 64, by omega⟩ ⟨R.val % 64, by omega⟩
    ⟨C.val / 64, by omega⟩ ⟨C.val % 64, by omega⟩

variable (m : (ℓ : Loc nD τ sig) → Buf (Elt Ideal) ℓ) (c : Dev nD)

/-- The array of a function of its two coordinates. -/
def arrayOf (f : Fin 65536 → Fin 1024 → EReal) : FVec Ideal S65536x1024 .bf16 := fun y => f (y 0) (y 1)

/-- What a grid point leaves, at an element of its block. -/
theorem outsAt0_value (t : Fin grid0.N) (y : Fin 1024) (l : Fin 128) (R : Fin 65536) (C : Fin 1024)
    (hR : R.val = (t.val / 8 % 8 * 8 + t.val % 8) * 1024 + y.val) (hC : C.val = t.val / 64 * 128 + l.val) :
    outsAt0 m c t (ix2 y l)
      = kernelOut (argQ m c) (argK m c) (argV m c) (argKc m c) (argVc m c) (argB m c) R C := by
  have ht := point_lt t
  rw [outsAt0_rows]
  unfold rowPieces
  refine View.canon_ofFn_unit_eq_of_forall (S := S1024x128) (fun j : Fin 16 => ![64 * j.rev.val, 0]) ![64, 128] (fun j => inbRow j.rev) _ _ _ ?_ ?_
  · refine ⟨(⟨y.val / 64, by omega⟩ : Fin 16).rev, fun a => ?_⟩
    rw [Fin.rev_rev]
    fin_cases a
    · show 64 * (y.val / 64) ≤ y.val ∧ y.val < 64 * (y.val / 64) + 64
      omega
    · show 0 ≤ l.val ∧ l.val < 0 + 128
      omega
  · intro k x hx
    have h0 : y.val = 64 * k.rev.val + (x 0).val := hx 0
    have h1 : l.val = 0 + (x 1).val := hx 1
    have hx0 : (x 0).val < 64 := (x 0).isLt
    rw [eq_ix2 x]
    refine (rowOut_value m c t k.rev (x 0) (x 1) ⟨l.val / 64, by omega⟩ ⟨R.val / 8192, by omega⟩ ⟨R.val % 8192 / 64, by omega⟩
      ⟨C.val / 64, by omega⟩ ⟨C.val % 64, by omega⟩ ⟨?_, ?_, ?_⟩ ?_).trans ?_
    · simp only; omega
    · simp only; omega
    · simp only; omega
    · simp only; omega
    · unfold kernelOut
      rw [show (x 0 : Fin 64) = ⟨R.val % 64, by omega⟩ from Fin.ext (by simp only; omega)]
      rfl

theorem covers6 : (cfg0.win 6).Covers :=
  (cfg0.win 6).covers_of_index_surj rfl (by decide) fun β => by
    have h0 : (β 0).val < 64 := (β 0).isLt
    have h1 : (β 1).val < 8 := (β 1).isLt
    refine ⟨⟨(β 1).val * 64 + (β 0).val, ?_⟩, fun a => ?_⟩
    · show _ < 512
      omega
    · refine (congrFun (index6 ⟨(β 1).val * 64 + (β 0).val, _⟩) a).trans ?_
      fin_cases a
      · show ((β 1).val * 64 + (β 0).val) / 8 % 8 * 8 + ((β 1).val * 64 + (β 0).val) % 8 = (β 0).val
        omega
      · show ((β 1).val * 64 + (β 0).val) / 64 = (β 1).val
        omega

theorem arrAt6 : (dats m 0 c).arrAt 6 cfg0.N
    = arrayOf (kernelOut (argQ m c) (argK m c) (argV m c) (argKc m c) (argVc m c) (argB m c)) := by
  refine (dats m 0 c).arrAt_eq_of_covers 6 _ covers6 fun t hf y => ?_
  blk_simp
  rw [after0_6]
  have h0 := Pipeline.Window.rect_emb_val win0_6 t y 0
  have h1 := Pipeline.Window.rect_emb_val win0_6 t y 1
  rw [index6 t] at h0 h1
  unfold arrayOf
  refine (congrArg (outsAt0 m c t) (eq_ix2 (n0 := 1024) (n1 := 128) y)).trans ?_
  exact outsAt0_value m c t (y 0) (y 1) _ _ h0 h1

end Cert.Attn

end
-- ==== Proof.RefWords.lean ====
/- The words the reference chooses its bands and its bias rows by: the image rows of a window, and the rows of the table. -/
module

public import proofs.«01_k».proof.Proof.Gathers
public import proofs.«01_k».proof.Proof.Gen.ReferenceIdeal.Read

@[expose] public section

set_option maxRecDepth 16384

noncomputable section

namespace Cert.Attn.Ref

open Idealize.ShloMosaic Idealize.ShloMosaic.TcCoe Idealize.SL.Sem Cert.ReferenceIdeal Cert.ReferenceIdeal.Gen Cert.ReferenceIdeal.Read

variable (q k v : FVec Ideal S8x8192x16x64 .f32) (kc vc : FVec Ideal S8x256x16x64 .f32) (x5 : FVec Ideal S16x15x31 .f32)

/-- The image row a window's row of keys is. -/
theorem bandRow : ∀ (r : Fin 128) (i : Fin 8), (coord 127 (val_main_v52 (F := Ideal) (ix3 r i 0))).val = min 120 (r.val - 4) + i.val := by
  decide +kernel
theorem bandRow' : ∀ (r : Fin 128) (i : Fin 8), (coord 127 (val_main_v60 (F := Ideal) (ix3 r i 0))).val = min 120 (r.val - 4) + i.val := by
  decide +kernel
/-- The row of the bias table for a window's row of keys. -/
theorem tableRow : ∀ (r : Fin 128) (i : Fin 8), (coord 14 (val_main_v75 (F := Ideal) (ix3 r i 0))).val = min 120 (r.val - 4) + 7 - r.val + i.val := by
  decide +kernel

end Cert.Attn.Ref

end
-- ==== Proof.RefScores.lean ====
/- The reference's scores at an index, in elements of the arguments. -/
module

public import proofs.«01_k».proof.Proof.Gathers
public import proofs.«01_k».proof.Proof.Gen.ReferenceIdeal.Read
public import proofs.«01_k».proof.Proof.RefWords
public import Idealize.ShloMosaic.Lib.ValueIdxRank6

@[expose] public section

set_option maxRecDepth 16384

noncomputable section

namespace Cert.Attn.Ref

open Idealize.ShloMosaic Idealize.ShloMosaic.TcCoe Idealize.SL.Sem Cert.ReferenceIdeal Cert.ReferenceIdeal.Gen Cert.ReferenceIdeal.Read

variable (q k v : FVec Ideal S8x8192x16x64 .f32) (kc vc : FVec Ideal S8x256x16x64 .f32) (x5 : FVec Ideal S16x15x31 .f32)

/-- A merge of a window's row and a column into one axis of 512, at an index. -/
theorem merge_apply (w : FVec Ideal S8x128x8x64x16x64 .f32) (b : Fin 8) (r : Fin 128) (j : Fin 512) (h : Fin 16) (e : Fin 64) :
    shapeCast S8x128x512x16x64 w shapeCasts_S8x128x8x64x16x64_S8x128x512x16x64 (ix5 b r j h e)
      = w (ix6 b r ⟨j.val / 64, by omega⟩ ⟨j.val % 64, by omega⟩ h e) := by
  refine shapeCast_apply w _ _ _ ?_
  rw [Shape.rowMajor_val_five, Idealize.ShloMosaic.Shape.rowMajor_val_six]
  show (((((b.val * 128 + r.val) * 8 + j.val / 64) * 64 + j.val % 64) * 16 + h.val) * 64 + e.val)
    = ((((b.val * 128 + r.val) * 512 + j.val) * 16 + h.val) * 64 + e.val)
  omega

/-- The position of a key of a window. -/
def keyAt (r : Fin 128) (j : Fin 512) : Fin 8192 := ⟨64 * min 120 (r.val - 4) + j.val, by omega⟩

theorem band_apply (idx : IVec S128x8x1 32) (hi : ∀ (r : Fin 128) (i : Fin 8), (coord 127 (idx (ix3 r i 0))).val = min 120 (r.val - 4) + i.val)
    (b : Fin 8) (r : Fin 128) (j : Fin 512) (h : Fin 16) (e : Fin 64) :
    shapeCast S8x128x512x16x64 (Host.gather gather_S8x128x64x16x64_S128x8x1_S8x128x8x64x16x64_0345_1_n_n_1_2_81641664
      (shapeCast S8x128x64x16x64 k shapeCasts_S8x8192x16x64_S8x128x64x16x64) idx) shapeCasts_S8x128x8x64x16x64_S8x128x512x16x64 (ix5 b r j h e)
      = k (ix4 b (keyAt r j) h e) := by
  rw [merge_apply]
  refine (gather_band _ _ idx b r ⟨j.val / 64, by omega⟩ ⟨j.val % 64, by omega⟩ h e).trans ?_
  refine shapeCast_apply k _ _ _ ?_
  rw [Shape.rowMajor_val_five, Shape.rowMajor_val_four]
  have hr := hi r ⟨j.val / 64, by omega⟩
  simp only at hr
  show ((b.val * 8192 + (64 * min 120 (r.val - 4) + j.val)) * 16 + h.val) * 64 + e.val
    = (((b.val * 128 + (coord 127 (idx (ix3 r ⟨j.val / 64, by omega⟩ 0))).val) * 64 + j.val % 64) * 16 + h.val) * 64 + e.val
  rw [hr]
  omega

theorem keyBand_apply (b : Fin 8) (r : Fin 128) (j : Fin 512) (h : Fin 16) (e : Fin 64) :
    val_main_v54 (F := Ideal) k (ix5 b r j h e) = k (ix4 b (keyAt r j) h e) := band_apply k _ bandRow b r j h e

theorem valueBand_apply (b : Fin 8) (r : Fin 128) (j : Fin 512) (h : Fin 16) (e : Fin 64) :
    val_main_v62 (F := Ideal) v (ix5 b r j h e) = v (ix4 b (keyAt r j) h e) := band_apply v _ bandRow' b r j h e

/-- The rows of the bias table, at an index. -/
theorem table_apply (h : Fin 16) (r : Fin 128) (i : Fin 8) (x w : Fin 64) :
    val_main_v76 (F := Ideal) x5 (ix5 h r i x w)
      = val_main_v36 (F := Ideal) x5 (ix4 h ⟨min 120 (r.val - 4) + 7 - r.val + i.val, by omega⟩ x w) := by
  refine (gather_row _ _ _ h r i x w).trans ?_
  rw [show coord 14 (val_main_v75 (F := Ideal) (ix3 r i 0)) = ⟨min 120 (r.val - 4) + 7 - r.val + i.val, by omega⟩ from
    Fin.ext (tableRow r i)]

/-- A window's score. -/
theorem score_apply (b : Fin 8) (r : Fin 128) (h : Fin 16) (x : Fin 64) (j : Fin 512) :
    val_main_v86 (F := Ideal) q k x5 (ix5 b r h x j)
      = (∑ e : Fin 64, q (ix4 b ⟨r.val * 64 + x.val, by omega⟩ h e) * k (ix4 b (keyAt r j) h e)) * Ideal.ofBits .f32 0x3E000000#32
        + if val_main_v19 (F := Ideal) (ix2 x ⟨j.val % 64, by omega⟩) = 1#1
            then val_main_v36 (F := Ideal) x5 (ix4 h ⟨min 120 (r.val - 4) + 7 - r.val + j.val / 64, by omega⟩ x ⟨j.val % 64, by omega⟩)
            else Ideal.ofBits .f32 0xF149F2CA#32 := by
  unfold val_main_v86 val_main_v85 val_main_v84 val_main_v83 val_main_v82 val_main_cst_20 val_main_v81 val_main_v80 val_main_v79 val_main_v78 val_main_v0 val_main_call3_v1 val_main_call3_v2 val_main_call3_v0 val_main_v77 val_main_cst
  pointwise
  simp only [keyBand_apply, table_apply]
  rfl

/-- A score of the context's. -/
theorem ctxScore_raw (b : Fin 8) (r : Fin 128) (h : Fin 16) (x : Fin 64) (j : Fin 256) : val_main_v90 (F := Ideal) q kc (ix5 b r h x j)
   = (∑ e : Fin 64, kc (ix4 b j h e) * q (ix4 b ⟨r.val * 64 + x.val, by omega⟩ h e)) * Ideal.ofBits .f32 0x3E000000#32 := by
  unfold val_main_v90 val_main_v89 val_main_v88 val_main_v87 val_main_v0 val_main_cst_21
  pointwise

theorem all_left (b : Fin 8) (r : Fin 128) (h : Fin 16) (x : Fin 64) (j : Fin 512) :
    val_main_v91 (F := Ideal) q k kc x5 (ix5 b r h x ⟨j.val, by omega⟩) = val_main_v86 (F := Ideal) q k x5 (ix5 b r h x j) := by
  unfold val_main_v91
  exact concatenate_pair_apply_left (t := S8x128x16x64x768) (s₁ := S8x128x16x64x512) (s₂ := S8x128x16x64x256) 4
    (val_main_v86 (F := Ideal) q k x5) (val_main_v90 (F := Ideal) q kc) _ _ rfl (ix5 b r h x j)
    (fun a => match a with | ⟨0, _⟩ => rfl | ⟨1, _⟩ => rfl | ⟨2, _⟩ => rfl | ⟨3, _⟩ => rfl | ⟨4, _⟩ => rfl)
theorem all_right (b : Fin 8) (r : Fin 128) (h : Fin 16) (x : Fin 64) (j : Fin 256) :
    val_main_v91 (F := Ideal) q k kc x5 (ix5 b r h x ⟨512 + j.val, by omega⟩) = val_main_v90 (F := Ideal) q kc (ix5 b r h x j) := by
  unfold val_main_v91
  exact concatenate_pair_apply_right (t := S8x128x16x64x768) (s₁ := S8x128x16x64x512) (s₂ := S8x128x16x64x256) 4
    (val_main_v86 (F := Ideal) q k x5) (val_main_v90 (F := Ideal) q kc) _ _ rfl rfl (ix5 b r h x j)
    (fun a hne => by
      match a with
      | ⟨0, _⟩ => rfl
      | ⟨1, _⟩ => rfl
      | ⟨2, _⟩ => rfl
      | ⟨3, _⟩ => rfl
      | ⟨4, _⟩ => exact absurd rfl hne)
    (Nat.add_comm _ _)

end Cert.Attn.Ref

end
-- ==== Proof.RefSoftmax.lean ====
/- The reference's weights, of its scores. -/
module

public import proofs.«01_k».proof.Proof.Gathers
public import proofs.«01_k».proof.Proof.Gen.ReferenceIdeal.Read

@[expose] public section

set_option maxRecDepth 16384

noncomputable section

namespace Cert.Attn.Ref

open Idealize.ShloMosaic Idealize.ShloMosaic.TcCoe Idealize.SL.Sem Cert.ReferenceIdeal Cert.ReferenceIdeal.Gen Cert.ReferenceIdeal.Read

variable (q k v : FVec Ideal S8x8192x16x64 .f32) (kc vc : FVec Ideal S8x256x16x64 .f32) (x5 : FVec Ideal S16x15x31 .f32)

variable (b : Fin 8) (r : Fin 128) (h : Fin 16) (x : Fin 64)

theorem expo_apply (j : Fin 768) : val_main_v98 (F := Ideal) q k kc x5 (ix5 b r h x j)
    = Ideal.exp (val_main_v91 (F := Ideal) q k kc x5 (ix5 b r h x j) - val_main_v94 (F := Ideal) q k kc x5 (ix4 b r h x)) := by
  unfold val_main_v98 val_main_v97 val_main_v96 val_main_v95
  generalize val_main_v91 (F := Ideal) q k kc x5 = s
  generalize val_main_v94 (F := Ideal) q k kc x5 = t
  pointwise

theorem weight_apply (j : Fin 768) : val_main_v102 (F := Ideal) q k kc x5 (ix5 b r h x j)
    = Ideal.div (val_main_v98 (F := Ideal) q k kc x5 (ix5 b r h x j)) (val_main_v99 (F := Ideal) q k kc x5 (ix4 b r h x)) := by
  unfold val_main_v102 val_main_v101 val_main_v100
  generalize val_main_v98 (F := Ideal) q k kc x5 = s
  generalize val_main_v99 (F := Ideal) q k kc x5 = t
  pointwise

end Cert.Attn.Ref

end
-- ==== Proof.RefTotal.lean ====
/- The sum of a query's exponentials in the reference. -/
module

public import proofs.«01_k».proof.Proof.Gathers
public import proofs.«01_k».proof.Proof.Gen.ReferenceIdeal.Read

@[expose] public section

set_option maxRecDepth 16384

noncomputable section

namespace Cert.Attn.Ref

open Idealize.ShloMosaic Idealize.ShloMosaic.TcCoe Idealize.SL.Sem Cert.ReferenceIdeal Cert.ReferenceIdeal.Gen Cert.ReferenceIdeal.Read

variable (q k v : FVec Ideal S8x8192x16x64 .f32) (kc vc : FVec Ideal S8x256x16x64 .f32) (x5 : FVec Ideal S16x15x31 .f32)

variable (b : Fin 8) (r : Fin 128) (h : Fin 16) (x : Fin 64)

theorem total_apply : val_main_v99 (F := Ideal) q k kc x5 (ix4 b r h x) = ∑ i : Fin 768, val_main_v98 (F := Ideal) q k kc x5 (ix5 b r h x i) := by
  unfold val_main_v99 val_main_cst_24
  generalize val_main_v98 (F := Ideal) q k kc x5 = s
  pointwise

end Cert.Attn.Ref

end
-- ==== Proof.RefTop.lean ====
/- The greatest of a query's scores in the reference. -/
module

public import proofs.«01_k».proof.Proof.Gathers
public import proofs.«01_k».proof.Proof.Gen.ReferenceIdeal.Read

@[expose] public section

set_option maxRecDepth 16384

noncomputable section

namespace Cert.Attn.Ref

open Idealize.ShloMosaic Idealize.ShloMosaic.TcCoe Idealize.SL.Sem Cert.ReferenceIdeal Cert.ReferenceIdeal.Gen Cert.ReferenceIdeal.Read

variable (q k v : FVec Ideal S8x8192x16x64 .f32) (kc vc : FVec Ideal S8x256x16x64 .f32) (x5 : FVec Ideal S16x15x31 .f32)

variable (b : Fin 8) (r : Fin 128) (h : Fin 16) (x : Fin 64)

theorem greatest (s : FVec Ideal S8x128x16x64x768 .f32) (c : FVec Ideal S_ .f32) (e : Ideal .f32) (hc : ∀ i, c i = e) :
    Host.reduce (FloatOps.maximumf (F := Ideal) (φ := .f32)) s c reducesTo_S8x128x16x64x768_S8x128x16x64_d4 h_S_ (ix4 b r h x)
      = Finset.univ.fold max e fun j : Fin 768 => s (ix5 b r h x j) := by
  refine (Host.reduce_eq_fold_single (FloatOps.maximumf (F := Ideal) (φ := .f32)) s c
    reducesTo_S8x128x16x64x768_S8x128x16x64_d4 (by decide) h_S_ (ix4 b r h x)).trans ?_
  rw [hc]
  refine congrArg (Finset.fold max e · Finset.univ) (funext fun j => congrArg s (funext fun a => Fin.ext ?_))
  match a with
  | ⟨0, _⟩ => rfl
  | ⟨1, _⟩ => rfl
  | ⟨2, _⟩ => rfl
  | ⟨3, _⟩ => rfl
  | ⟨4, _⟩ => rfl

theorem greatest_apply : val_main_v92 (F := Ideal) q k kc x5 (ix4 b r h x)
    = Finset.univ.fold max (Ideal.ofBits .f32 0xFF800000#32) fun j => val_main_v91 (F := Ideal) q k kc x5 (ix5 b r h x j) := by
  unfold val_main_v92
  generalize val_main_v91 (F := Ideal) q k kc x5 = s
  exact greatest b r h x s _ _ val_main_cst_22_apply

theorem top_apply : val_main_v94 (F := Ideal) q k kc x5 (ix4 b r h x)
    = max (Ideal.ofBits .f32 0xFF800000#32) (Finset.univ.fold max (Ideal.ofBits .f32 0xFF800000#32) fun j => val_main_v91 (F := Ideal) q k kc x5 (ix5 b r h x j)) := by
  rw [val_main_v94_apply, greatest_apply, val_main_v93_apply, val_main_cst_23_apply]
  generalize (Finset.univ.fold max (Ideal.ofBits .f32 0xFF800000#32) fun j => val_main_v91 (F := Ideal) q k kc x5 (ix5 b r h x j)) = e
  rfl

end Cert.Attn.Ref

end
-- ==== Proof.RefOut.lean ====
/- The reference's result at an index, of its weights and the values. -/
module

public import proofs.«01_k».proof.Proof.Gathers
public import proofs.«01_k».proof.Proof.Gen.ReferenceIdeal.Read

@[expose] public section

set_option maxRecDepth 16384

noncomputable section

namespace Cert.Attn.Ref

open Idealize.ShloMosaic Idealize.ShloMosaic.TcCoe Idealize.SL.Sem Cert.ReferenceIdeal Cert.ReferenceIdeal.Gen Cert.ReferenceIdeal.Read

variable (q k v : FVec Ideal S8x8192x16x64 .f32) (kc vc : FVec Ideal S8x256x16x64 .f32) (x5 : FVec Ideal S16x15x31 .f32)

theorem out_apply (R : Fin 65536) (C : Fin 1024) : val_main_v111 (F := Ideal) q k v kc vc x5 (ix2 R C)
    = (∑ j : Fin 512, val_main_v62 (F := Ideal) v (ix5 ⟨R.val / 8192, by omega⟩ ⟨R.val / 64 % 128, by omega⟩ j ⟨C.val / 64, by omega⟩ ⟨C.val % 64, by omega⟩)
        * val_main_v102 (F := Ideal) q k kc x5 (ix5 ⟨R.val / 8192, by omega⟩ ⟨R.val / 64 % 128, by omega⟩ ⟨C.val / 64, by omega⟩ ⟨R.val % 64, by omega⟩ ⟨j.val, by omega⟩))
      + ∑ j : Fin 256, vc (ix4 ⟨R.val / 8192, by omega⟩ j ⟨C.val / 64, by omega⟩ ⟨C.val % 64, by omega⟩)
        * val_main_v102 (F := Ideal) q k kc x5 (ix5 ⟨R.val / 8192, by omega⟩ ⟨R.val / 64 % 128, by omega⟩ ⟨C.val / 64, by omega⟩ ⟨R.val % 64, by omega⟩ ⟨512 + j.val, by omega⟩) := by
  unfold val_main_v111 val_main_v110 val_main_v109 val_main_v108 val_main_v107 val_main_v106 val_main_v105 val_main_v104 val_main_v103
  generalize val_main_v102 (F := Ideal) q k kc x5 = p
  generalize val_main_v62 (F := Ideal) v = w
  pointwise

end Cert.Attn.Ref

end
-- ==== Proof.Agree.lean ====
/- The two results are one function of the arguments, where the queries, the keys and the bias table are finite. -/
module

public import proofs.«01_k».proof.Proof.Equation
public import proofs.«01_k».proof.Proof.KernelArray
public import proofs.«01_k».proof.Proof.RefScores
public import proofs.«01_k».proof.Proof.RefSoftmax
public import proofs.«01_k».proof.Proof.RefTotal
public import proofs.«01_k».proof.Proof.RefTop
public import proofs.«01_k».proof.Proof.RefOut

@[expose] public section

set_option maxRecDepth 16384

noncomputable section

namespace Cert.Attn

open Idealize.ShloMosaic Cert.KernelIdeal Cert.Attn.Ref Cert.ReferenceIdeal.Read

variable (q k v : FVec Ideal S8x8192x16x64 .f32) (kc vc : FVec Ideal S8x256x16x64 .f32) (x5 : FVec Ideal S16x15x31 .f32)

theorem masked_finite : Fin' (Ideal.ofBits .f32 0xF149F2CA#32) := by
  refine ⟨-(13234890 * 2 ^ 76), ?_⟩
  simp [Ideal.ofBits, Ideal.ieee, -EReal.coe_mul]

theorem colTab_finite (h5 : ∀ i, Fin' (x5 i)) (i) : Fin' (colTab x5 i) := h5 _

theorem biasAt_finite (h5 : ∀ i, Fin' (x5 i)) (h : Fin 16) (r : Fin 128) (x : Fin 64) (j : Fin 512) : Fin' (biasAt x5 h r x j) := by
  unfold biasAt
  split
  · exact colTab_finite x5 h5 _
  · exact masked_finite

theorem keyAt_eq (r : Fin 128) (j : Fin 512) : keyAt r j = keyPos r j := rfl

/-- The reference's score of a window's key is the kernel's. -/
theorem window_score (hq : ∀ i, Fin' (q i)) (hk : ∀ i, Fin' (k i)) (b : Fin 8) (r : Fin 128) (h : Fin 16) (x : Fin 64) (j : Fin 512) :
    val_main_v86 (F := Ideal) q k x5 (ix5 b r h x j)
      = (∑ e : Fin 64, q (ix4 b (posOf r x) h e) * ((1 / 8 : ℝ) : EReal) * k (ix4 b (keyPos r j) h e)) + biasAt x5 h r x j := by
  rw [score_apply, ofBits_eighth]
  refine congrArg₂ (· + ·) ?_ rfl
  rw [scaled_dot (fun e => q (ix4 b (posOf r x) h e)) (fun e => k (ix4 b (keyPos r j) h e)) _ (fun _ => hq _) (fun _ => hk _) (by norm_num)]
  have hp : (⟨r.val * 64 + x.val, by omega⟩ : Fin 8192) = posOf r x := Fin.ext (by show r.val * 64 + x.val = 64 * r.val + x.val; omega)
  rw [hp]
  rfl

theorem context_score (hq : ∀ i, Fin' (q i)) (hk : ∀ i, Fin' (kc i)) (b : Fin 8) (r : Fin 128) (h : Fin 16) (x : Fin 64) (j : Fin 256) :
    val_main_v90 (F := Ideal) q kc (ix5 b r h x j)
      = ∑ e : Fin 64, q (ix4 b (posOf r x) h e) * ((1 / 8 : ℝ) : EReal) * kc (ix4 b j h e) := by
  rw [ctxScore_raw, ofBits_eighth,
    scaled_dot (fun e => q (ix4 b (posOf r x) h e)) (fun e => kc (ix4 b j h e)) _ (fun _ => hq _) (fun _ => hk _) (by norm_num)]
  have hp : (⟨r.val * 64 + x.val, by omega⟩ : Fin 8192) = posOf r x := Fin.ext (by show r.val * 64 + x.val = 64 * r.val + x.val; omega)
  rw [hp]
  exact congrArg (· * _) (Finset.sum_congr rfl fun e _ => mul_comm _ _)

theorem window_finite (hq : ∀ i, Fin' (q i)) (hk : ∀ i, Fin' (k i)) (h5 : ∀ i, Fin' (x5 i)) (b : Fin 8) (r : Fin 128) (h : Fin 16) (x : Fin 64)
    (j : Fin 512) :
    Fin' ((∑ e : Fin 64, q (ix4 b (posOf r x) h e) * ((1 / 8 : ℝ) : EReal) * k (ix4 b (keyPos r j) h e)) + biasAt x5 h r x j) := by
  refine add_finite ?_ (biasAt_finite x5 h5 h r x j)
  rw [scaled_dot (fun e => q (ix4 b (posOf r x) h e)) (fun e => k (ix4 b (keyPos r j) h e)) _ (fun _ => hq _) (fun _ => hk _) (by norm_num)]
  exact dot_finite _ _ _ (fun _ => hq _) (fun _ => hk _)

theorem context_finite (hq : ∀ i, Fin' (q i)) (hk : ∀ i, Fin' (kc i)) (b : Fin 8) (r : Fin 128) (h : Fin 16) (x : Fin 64) (j : Fin 256) :
    Fin' (∑ e : Fin 64, q (ix4 b (posOf r x) h e) * ((1 / 8 : ℝ) : EReal) * kc (ix4 b j h e)) := by
  rw [scaled_dot (fun e => q (ix4 b (posOf r x) h e)) (fun e => kc (ix4 b j h e)) _ (fun _ => hq _) (fun _ => hk _) (by norm_num)]
  exact dot_finite _ _ _ (fun _ => hq _) (fun _ => hk _)

/-- A query's result: the kernel's is the reference's. -/
theorem row_agrees (hq : ∀ i, Fin' (q i)) (hk : ∀ i, Fin' (k i)) (hkc : ∀ i, Fin' (kc i)) (h5 : ∀ i, Fin' (x5 i))
    (b : Fin 8) (r : Fin 128) (x : Fin 64) (h : Fin 16) (d : Fin 64) :
    kernelAt q k v kc vc x5 b r x h d
      = (∑ j : Fin 512, val_main_v62 (F := Ideal) v (ix5 b r j h d) * val_main_v102 (F := Ideal) q k kc x5 (ix5 b r h x ⟨j.val, by omega⟩))
        + ∑ j : Fin 256, vc (ix4 b j h d) * val_main_v102 (F := Ideal) q k kc x5 (ix5 b r h x ⟨512 + j.val, by omega⟩) := by
  refine (attendOne_eq (fun i => val_main_v91 (F := Ideal) q k kc x5 (ix5 b r h x i)) _ _ _ _
    (fun j => (all_left q k kc x5 b r h x j).trans (window_score q k x5 hq hk b r h x j))
    (fun j => (all_right q k kc x5 b r h x j).trans (context_score q kc hq hkc b r h x j))
    (window_finite q k x5 hq hk h5 b r h x) (context_finite q kc hq hkc b r h x)
    (val_main_v94 (F := Ideal) q k kc x5 (ix4 b r h x)) (val_main_v99 (F := Ideal) q k kc x5 (ix4 b r h x)) ?_ ?_).trans ?_
  · rw [top_apply, ofBits_negInf]
  · rw [total_apply]
    exact Finset.sum_congr rfl fun j _ => expo_apply q k kc x5 b r h x j
  · refine congrArg₂ (· + ·) (Finset.sum_congr rfl fun j _ => ?_) (Finset.sum_congr rfl fun j _ => ?_)
    · rw [weight_apply, expo_apply, valueBand_apply]
      rfl
    · rw [weight_apply, expo_apply]

/-- The whole result. -/
theorem agrees (hq : ∀ i, Fin' (q i)) (hk : ∀ i, Fin' (k i)) (hkc : ∀ i, Fin' (kc i)) (h5 : ∀ i, Fin' (x5 i)) :
    arrayOf (kernelOut q k v kc vc x5) = val_main_v111 (F := Ideal) q k v kc vc x5 := by
  funext y
  obtain ⟨R, C, rfl⟩ : ∃ (R : Fin 65536) (C : Fin 1024), y = ix2 R C := ⟨y 0, y 1, eq_ix2 y⟩
  have hr : (⟨R.val % 8192 / 64, by omega⟩ : Fin 128) = ⟨R.val / 64 % 128, by omega⟩ := Fin.ext (by show R.val % 8192 / 64 = R.val / 64 % 128; omega)
  rw [out_apply]
  show kernelOut q k v kc vc x5 R C = _
  unfold kernelOut
  rw [hr]
  exact row_agrees q k v kc vc x5 hq hk hkc h5 _ _ _ _ _

end Cert.Attn

end
-- ==== Proof.ProjParts.lean ====
/- The parts of the input projection's body, read at an index: the normalised token, the plain projections, and a
   column block of the queries or keys (two heads), normalised by head and rotated by position. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Proj

open Idealize.ShloMosaic Idealize.ShloMosaic.TcCoe Idealize.SL.Sem Cert.Kernel2Ideal Cert.Kernel2Ideal.Gen

/-- A token, normalised and modulated: scaled by the reciprocal root of its mean square and by the norm's weight, then
    by one plus the scale, and shifted. -/
def tokenNorm (x w s b : Fin 1024 → EReal) (e : Fin 1024) : EReal :=
  x e * Ideal.rsqrt (Ideal.div (∑ i, x i * x i) (Ideal.ofBits FTy.f32 1149239296#32) + Ideal.ofBits FTy.f32 897988541#32) * w e * (1 + s e) + b e

/-- Two heads side by side, each normalised: `bd` says which lanes lie in the same head. -/
def pairNorm (u : Fin 128 → EReal) (bd : Fin 128 → Fin 128 → EReal) (nw : Fin 128 → EReal) (l : Fin 128) : EReal :=
  u l * Ideal.rsqrt ((∑ i, u i * u i * bd i l) * Ideal.ofBits FTy.f32 1015021568#32 + Ideal.ofBits FTy.f32 897988541#32) * nw l

/-- Two heads side by side, normalised and rotated: a lane's partner lies 16 lanes later in the first half of its 32
    (`mask`), 16 lanes earlier in the second. -/
def pairRot (u : Fin 128 → EReal) (bd : Fin 128 → Fin 128 → EReal) (nw : Fin 128 → EReal) (mask : Fin 128 → BitVec 1) (cos sin : Fin 128 → EReal)
    (l : Fin 128) : EReal :=
  pairNorm u bd nw l * cos l
    + Scalar.select (mask l) (pairNorm u bd nw ⟨(l.val + 128 - 112) % 128, Nat.mod_lt _ (by omega)⟩)
        (pairNorm u bd nw ⟨(l.val + 128 - 16) % 128, Nat.mod_lt _ (by omega)⟩) * sin l

/-- Lane `l` of column block `o` of a row. -/
def laneCol (o : ℕ) (ho : o ≤ 896) (l : Fin 128) : Fin 1024 := ⟨o + l.val, by omega⟩

theorem laneCol_zero (ho : 0 ≤ 896) (l : Fin 128) : laneCol 0 ho l = ⟨l.val, by omega⟩ := Fin.ext (Nat.zero_add _)

theorem pay18_apply (bd : FVec Ideal S128x128 .bf16) (full : FVec Ideal S512x1024 .f32) (nw : FVec Ideal S1x128 .f32) (y : Fin 512) (l : Fin 128) :
    k0_pay18 bd full nw (ix2 y l) =
      pairNorm (fun i => full (ix2 y (laneCol 256 (by omega) i))) (fun i j => bd (ix2 i j)) (fun i => nw (ix2 0 i)) l := by
  unfold k0_pay18
  pointwise
  rfl

theorem pay14_apply (a : FVec Ideal S512x1024 .bf16) (p : Vec Ideal S1024x1024 .bf16) (bd : FVec Ideal S128x128 .bf16) (nw : Vec Ideal S1x128 .f32)
    (y : Fin 512) (l : Fin 128) :
    k0_pay14 a bd p nw (ix2 y l) =
      pairNorm (fun i => k0_pay12 a p (ix2 y (laneCol 0 (by omega) i))) (fun i j => bd (ix2 i j)) (fun i => nw (ix2 0 i)) l := by
  unfold k0_pay14
  simp only [laneCol_zero]
  unfold k0_pay13
  pointwise
  rfl

theorem pay31_apply (a : FVec Ideal S512x1024 .bf16) (p : Vec Ideal S1024x1024 .bf16) (y : Fin 512) (l : Fin 128) :
    k0_pay31 a p (ix2 y l) = k0_pay29 a p (ix2 y ⟨l.val, by omega⟩) := by
  unfold k0_pay31
  pointwise

theorem pay2_apply (m : Vec Ideal S1x6x1024 .f32) (h : Vec Ideal S512x1024 .f32) (w : Vec Ideal S1x1024 .f32) (y : Fin 512) (e : Fin 1024) :
    k0_pay2 m h w (ix2 y e) = tokenNorm (fun i => h (ix2 y i)) (fun i => w (ix2 0 i)) (fun i => m (ix3 0 1 i)) (fun i => m (ix3 0 0 i)) e := by
  unfold k0_pay2
  pointwise
  rfl

theorem pay3_apply (m : Vec Ideal S1x6x1024 .f32) (h : Vec Ideal S512x1024 .f32) (w : Vec Ideal S1x1024 .f32) (p : Vec Ideal S1024x2048 .bf16)
    (y : Fin 512) (l : Fin 2048) :
    k0_pay3 m h w p (ix2 y l) = ∑ e : Fin 1024, k0_pay2 m h w (ix2 y e) * p (ix2 e l) := by
  unfold k0_pay3
  pointwise

theorem pay4_apply (m : Vec Ideal S1x6x1024 .f32) (h : Vec Ideal S512x1024 .f32) (w : Vec Ideal S1x1024 .f32) (p : Vec Ideal S1024x1024 .bf16)
    (y : Fin 512) (l : Fin 1024) :
    k0_pay4 m h w p (ix2 y l) = ∑ e : Fin 1024, k0_pay2 m h w (ix2 y e) * p (ix2 e l) := by
  unfold k0_pay4
  pointwise

theorem pay5_apply (a : FVec Ideal S512x1024 .bf16) (p : Vec Ideal S1024x1536 .bf16) (y : Fin 512) (l : Fin 1536) :
    k0_pay5 a p (ix2 y l) = ∑ e : Fin 1024, a (ix2 y e) * p (ix2 e l) := by
  unfold k0_pay5
  pointwise

theorem pay6_apply (a : FVec Ideal S512x1024 .bf16) (p : Vec Ideal S1024x1024 .bf16) (y : Fin 512) (l : Fin 1024) :
    k0_pay6 a p (ix2 y l) = ∑ e : Fin 1024, a (ix2 y e) * p (ix2 e l) := by
  unfold k0_pay6
  pointwise

theorem pay12_apply (a : FVec Ideal S512x1024 .bf16) (p : Vec Ideal S1024x1024 .bf16) (y : Fin 512) (l : Fin 1024) :
    k0_pay12 a p (ix2 y l) = ∑ e : Fin 1024, a (ix2 y e) * p (ix2 e l) := by
  unfold k0_pay12
  pointwise

theorem pay29_apply (a : FVec Ideal S512x1024 .bf16) (p : Vec Ideal S1024x1024 .bf16) (y : Fin 512) (l : Fin 1024) :
    k0_pay29 a p (ix2 y l) = ∑ e : Fin 1024, a (ix2 y e) * p (ix2 e l) := by
  unfold k0_pay29
  pointwise

theorem pay16_apply (bd : FVec Ideal S128x128 .bf16) (cos sin : FVec Ideal S512x128 .f32) (a : FVec Ideal S512x1024 .bf16) (p : Vec Ideal S1024x1024 .bf16) (nw0 : Vec Ideal S1x128 .f32) (io : IVec S512x128 32) (c : BitVec 32) (b : BitVec 1) (y : Fin 512) (l : Fin 128) :
    k0_pay16 cos sin (k0_pay14 a bd p nw0) (k0_pay15 a bd io c b p nw0) (ix2 y l) =
      pairRot (fun i => k0_pay12 a p (ix2 y (laneCol 0 (by omega) i))) (fun i j => bd (ix2 i j)) (fun i => nw0 (ix2 0 i)) (fun i => k0_pay9 io c b (ix2 y i))
        (fun i => cos (ix2 y i)) (fun i => sin (ix2 y i)) l * Ideal.ofBits FTy.f32 1040187392#32 := by
  unfold k0_pay16 k0_pay15
  pointwise
  rw [pay14_apply, pay14_apply, pay14_apply]
  rfl

theorem pay17_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay17 bd mask cos sin full nw (ix2 y l) =
      pairRot (fun i => full (ix2 y (laneCol 128 (by omega) i))) (fun i j => bd (ix2 i j)) (fun i => nw (ix2 0 i)) (fun i => mask (ix2 y i))
        (fun i => cos (ix2 y i)) (fun i => sin (ix2 y i)) l * Ideal.ofBits FTy.f32 1040187392#32 := by
  unfold k0_pay17
  pointwise
  rfl

theorem pay20_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay20 mask cos sin (k0_pay18 bd full nw) (k0_pay19 bd full nw) 16#32 (ix2 y l) =
      pairRot (fun i => full (ix2 y (laneCol 256 (by omega) i))) (fun i j => bd (ix2 i j)) (fun i => nw (ix2 0 i)) (fun i => mask (ix2 y i))
        (fun i => cos (ix2 y i)) (fun i => sin (ix2 y i)) l * Ideal.ofBits FTy.f32 1040187392#32 := by
  unfold k0_pay20 k0_pay19
  pointwise
  rw [pay18_apply, pay18_apply, pay18_apply]
  rfl

theorem pay21_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay21 bd mask cos sin full nw (ix2 y l) =
      pairRot (fun i => full (ix2 y (laneCol 384 (by omega) i))) (fun i j => bd (ix2 i j)) (fun i => nw (ix2 0 i)) (fun i => mask (ix2 y i))
        (fun i => cos (ix2 y i)) (fun i => sin (ix2 y i)) l * Ideal.ofBits FTy.f32 1040187392#32 := by
  unfold k0_pay21
  pointwise
  rfl

theorem pay23_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay23 mask cos sin (k0_pay22 bd full nw) 112#32 (ix2 y l) =
      pairRot (fun i => full (ix2 y (laneCol 512 (by omega) i))) (fun i j => bd (ix2 i j)) (fun i => nw (ix2 0 i)) (fun i => mask (ix2 y i))
        (fun i => cos (ix2 y i)) (fun i => sin (ix2 y i)) l * Ideal.ofBits FTy.f32 1040187392#32 := by
  unfold k0_pay23 k0_pay22
  pointwise
  rfl

theorem pay24_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay24 bd mask cos sin full nw (ix2 y l) =
      pairRot (fun i => full (ix2 y (laneCol 640 (by omega) i))) (fun i j => bd (ix2 i j)) (fun i => nw (ix2 0 i)) (fun i => mask (ix2 y i))
        (fun i => cos (ix2 y i)) (fun i => sin (ix2 y i)) l * Ideal.ofBits FTy.f32 1040187392#32 := by
  unfold k0_pay24
  pointwise
  rfl

theorem pay27_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay27 mask cos sin (k0_pay25 bd full) (k0_pay26 nw) (ix2 y l) =
      pairRot (fun i => full (ix2 y (laneCol 768 (by omega) i))) (fun i j => bd (ix2 i j)) (fun i => nw (ix2 0 i)) (fun i => mask (ix2 y i))
        (fun i => cos (ix2 y i)) (fun i => sin (ix2 y i)) l * Ideal.ofBits FTy.f32 1040187392#32 := by
  unfold k0_pay27 k0_pay25 k0_pay26
  pointwise
  rfl

theorem pay28_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay28 bd mask cos sin full nw (ix2 y l) =
      pairRot (fun i => full (ix2 y (laneCol 896 (by omega) i))) (fun i j => bd (ix2 i j)) (fun i => nw (ix2 0 i)) (fun i => mask (ix2 y i))
        (fun i => cos (ix2 y i)) (fun i => sin (ix2 y i)) l * Ideal.ofBits FTy.f32 1040187392#32 := by
  unfold k0_pay28
  pointwise
  rfl

theorem pay33_apply (bd : FVec Ideal S128x128 .bf16) (cos sin : FVec Ideal S512x128 .f32) (a : FVec Ideal S512x1024 .bf16) (p : Vec Ideal S1024x1024 .bf16) (nw : FVec Ideal S1x128 .f32) (mask : IVec S512x128 1) (y : Fin 512) (l : Fin 128) :
    k0_pay33 bd mask cos sin nw (k0_pay31 a p) (k0_pay32 a p) (ix2 y l) =
      pairRot (fun i => k0_pay29 a p (ix2 y (laneCol 0 (by omega) i))) (fun i j => bd (ix2 i j)) (fun i => nw (ix2 0 i)) (fun i => mask (ix2 y i))
        (fun i => cos (ix2 y i)) (fun i => sin (ix2 y i)) l := by
  unfold k0_pay33 k0_pay32
  simp only [laneCol_zero]
  pointwise
  simp only [pay31_apply]
  rfl

theorem pay34_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay34 bd mask cos sin full nw (ix2 y l) =
      pairRot (fun i => full (ix2 y (laneCol 128 (by omega) i))) (fun i j => bd (ix2 i j)) (fun i => nw (ix2 0 i)) (fun i => mask (ix2 y i))
        (fun i => cos (ix2 y i)) (fun i => sin (ix2 y i)) l := by
  unfold k0_pay34
  pointwise
  rfl

theorem pay35_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay35 bd mask cos sin full nw (ix2 y l) =
      pairRot (fun i => full (ix2 y (laneCol 256 (by omega) i))) (fun i j => bd (ix2 i j)) (fun i => nw (ix2 0 i)) (fun i => mask (ix2 y i))
        (fun i => cos (ix2 y i)) (fun i => sin (ix2 y i)) l := by
  unfold k0_pay35
  pointwise
  rfl

theorem pay36_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay36 bd mask cos sin full nw (ix2 y l) =
      pairRot (fun i => full (ix2 y (laneCol 384 (by omega) i))) (fun i j => bd (ix2 i j)) (fun i => nw (ix2 0 i)) (fun i => mask (ix2 y i))
        (fun i => cos (ix2 y i)) (fun i => sin (ix2 y i)) l := by
  unfold k0_pay36
  pointwise
  rfl

theorem pay37_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay37 bd mask cos sin full nw (ix2 y l) =
      pairRot (fun i => full (ix2 y (laneCol 512 (by omega) i))) (fun i j => bd (ix2 i j)) (fun i => nw (ix2 0 i)) (fun i => mask (ix2 y i))
        (fun i => cos (ix2 y i)) (fun i => sin (ix2 y i)) l := by
  unfold k0_pay37
  pointwise
  rfl

theorem pay38_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay38 bd mask cos sin full nw (ix2 y l) =
      pairRot (fun i => full (ix2 y (laneCol 640 (by omega) i))) (fun i j => bd (ix2 i j)) (fun i => nw (ix2 0 i)) (fun i => mask (ix2 y i))
        (fun i => cos (ix2 y i)) (fun i => sin (ix2 y i)) l := by
  unfold k0_pay38
  pointwise
  rfl

theorem pay39_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay39 bd mask cos sin full nw (ix2 y l) =
      pairRot (fun i => full (ix2 y (laneCol 768 (by omega) i))) (fun i j => bd (ix2 i j)) (fun i => nw (ix2 0 i)) (fun i => mask (ix2 y i))
        (fun i => cos (ix2 y i)) (fun i => sin (ix2 y i)) l := by
  unfold k0_pay39
  pointwise
  rfl

theorem pay40_apply (bd : FVec Ideal S128x128 .bf16) (cos sin : FVec Ideal S512x128 .f32) (full : FVec Ideal S512x1024 .f32) (nw : FVec Ideal S1x128 .f32) (mask : IVec S512x128 1) (y : Fin 512) (l : Fin 128) :
    k0_pay1 (k0_pay40 bd mask cos sin full nw) k0_pay41 (ix2 y l) =
      pairRot (fun i => full (ix2 y (laneCol 896 (by omega) i))) (fun i j => bd (ix2 i j)) (fun i => nw (ix2 0 i)) (fun i => mask (ix2 y i))
        (fun i => cos (ix2 y i)) (fun i => sin (ix2 y i)) l := by
  unfold k0_pay1 k0_pay40 k0_pay41
  pointwise
  rfl

end Cert.Proj

end
-- ==== Proof.ProjRef.lean ====
/- The input projection's reference at an index: the normalised token, the projection, and a head of the queries or
   keys, normalised and rotated by position. -/
module

public import proofs.«01_k».proof.Proof.Gen.Reference2Ideal.Read
public import proofs.«01_k».proof.Proof.ProjParts

@[expose] public section

set_option maxRecDepth 16384

noncomputable section

namespace Cert.Proj

open Idealize.ShloMosaic Idealize.ShloMosaic.TcCoe Idealize.SL.Sem Cert.Reference2Ideal Cert.Reference2Ideal.Gen

open Cert.Reference2Ideal.Read

variable (x0 : FVec Ideal S8x8192x1024 .f32) (x1 : FVec Ideal S8x6144 .f32) (x2 : FVec Ideal S1024 .f32) (x3 : FVec Ideal S1024x7712 .f32)

/-- A head, normalised: scaled by the reciprocal root of its mean square and by the norm's weight. -/
def headNorm (u w : Fin 64 → EReal) (d : Fin 64) : EReal :=
  u d * Ideal.rsqrt (Ideal.div (∑ i, u i * u i) (Ideal.ofBits FTy.f32 1115684864#32) + Ideal.ofBits FTy.f32 897988541#32) * w d

/-- The first sixteen of the thirty-two values from `o`, rotated. -/
def rotLo (n : Fin 64 → EReal) (o : ℕ) (ho : o ≤ 32) (a : Fin 16 → EReal) (e : Fin 16) : EReal :=
  n ⟨o + e.val, by omega⟩ * Ideal.cos (a e) - n ⟨o + (16 + e.val), by omega⟩ * Ideal.sin (a e)

/-- The last sixteen of them. -/
def rotHi (n : Fin 64 → EReal) (o : ℕ) (ho : o ≤ 32) (a : Fin 16 → EReal) (e : Fin 16) : EReal :=
  n ⟨o + e.val, by omega⟩ * Ideal.sin (a e) + n ⟨o + (16 + e.val), by omega⟩ * Ideal.cos (a e)

/-- A head, rotated: its first half by the angles `a1`, its second by `a2`. -/
def headRot (n : Fin 64 → EReal) (a1 a2 : Fin 16 → EReal) (d : Fin 64) : EReal :=
  if h : d.val < 32 then (if h' : d.val < 16 then rotLo n 0 (by omega) a1 ⟨d.val, h'⟩ else rotHi n 0 (by omega) a1 ⟨d.val - 16, by omega⟩)
  else (if h' : d.val - 32 < 16 then rotLo n 32 (by omega) a2 ⟨d.val - 32, h'⟩ else rotHi n 32 (by omega) a2 ⟨d.val - 32 - 16, by omega⟩)

/-- The index `o + e` of the sixty-four. -/
theorem zero_idx (e : ℕ) (h : 0 + e < 64) (h' : e < 64) : (⟨0 + e, h⟩ : Fin 64) = ⟨e, h'⟩ := Fin.ext (Nat.zero_add e)

theorem token_apply (b : Fin 8) (t : Fin 8192) (e : Fin 1024) :
    val_main_v30 (F := Ideal) x0 x1 x2 (ix3 b t e) = tokenNorm (fun i => x0 (ix3 b t i)) (fun i => x2 (ix1 i))
      (fun i => x1 (ix2 b ⟨1024 + i.val, by omega⟩)) (fun i => x1 (ix2 b ⟨i.val, by omega⟩)) e := by
  unfold val_main_v30 val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12 val_main_v7 val_main_v6
    val_main_v5 val_main_cst val_main_cst_1 val_main_cst_2 val_main_cst_3
  pointwise
  rfl

theorem v32_apply (b : Fin 8) (t : Fin 8192) (l : Fin 2048) :
    val_main_v32 (F := Ideal) x0 x1 x2 x3 (ix3 b t l) = ∑ e : Fin 1024, val_main_v30 (F := Ideal) x0 x1 x2 (ix3 b t e) * x3 (ix2 e ⟨l.val, by omega⟩) := by
  unfold val_main_v32 val_main_v31
  pointwise

theorem v33_apply (b : Fin 8) (t : Fin 8192) (l : Fin 1024) :
    val_main_v33 (F := Ideal) x0 x1 x2 x3 (ix3 b t l) = ∑ e : Fin 1024, val_main_v30 (F := Ideal) x0 x1 x2 (ix3 b t e) * x3 (ix2 e ⟨2048 + l.val, by omega⟩) := by
  unfold val_main_v33 val_main_v31
  pointwise

theorem v34_apply (b : Fin 8) (t : Fin 8192) (l : Fin 1536) :
    val_main_v34 (F := Ideal) x0 x1 x2 x3 (ix3 b t l) = ∑ e : Fin 1024, val_main_v30 (F := Ideal) x0 x1 x2 (ix3 b t e) * x3 (ix2 e ⟨3072 + l.val, by omega⟩) := by
  unfold val_main_v34 val_main_v31
  pointwise

theorem v36_apply (b : Fin 8) (t : Fin 8192) (l : Fin 1024) :
    val_main_v36 (F := Ideal) x0 x1 x2 x3 (ix3 b t l) = ∑ e : Fin 1024, val_main_v30 (F := Ideal) x0 x1 x2 (ix3 b t e) * x3 (ix2 e ⟨4640 + l.val, by omega⟩) := by
  unfold val_main_v36 val_main_v31
  pointwise

theorem v37_apply (b : Fin 8) (t : Fin 8192) (l : Fin 1024) :
    val_main_v37 (F := Ideal) x0 x1 x2 x3 (ix3 b t l) = ∑ e : Fin 1024, val_main_v30 (F := Ideal) x0 x1 x2 (ix3 b t e) * x3 (ix2 e ⟨5664 + l.val, by omega⟩) := by
  unfold val_main_v37 val_main_v31
  pointwise

theorem v38_apply (b : Fin 8) (t : Fin 8192) (l : Fin 1024) :
    val_main_v38 (F := Ideal) x0 x1 x2 x3 (ix3 b t l) = ∑ e : Fin 1024, val_main_v30 (F := Ideal) x0 x1 x2 (ix3 b t e) * x3 (ix2 e ⟨6688 + l.val, by omega⟩) := by
  unfold val_main_v38 val_main_v31
  pointwise

theorem qNorm_apply (x5 : FVec Ideal S64 .f32) (b : Fin 8) (t : Fin 8192) (h : Fin 16) (d : Fin 64) :
    val_main_v52 (F := Ideal) x0 x1 x2 x3 x5 (ix4 b t h d) =
      headNorm (fun i => val_main_v36 (F := Ideal) x0 x1 x2 x3 (ix3 b t ⟨h.val * 64 + i.val, by omega⟩)) (fun i => x5 (ix1 i)) d := by
  unfold val_main_v52 val_main_v51 val_main_v50 val_main_v49 val_main_v48 val_main_v47 val_main_v46 val_main_v45 val_main_v44 val_main_v43
    val_main_v42 val_main_v41 val_main_v40 val_main_v39 val_main_cst_4 val_main_cst_5 val_main_cst_6
  pointwise
  rfl

theorem qRot1Lo_apply (x5 : FVec Ideal S64 .f32) (b : Fin 8) (t : Fin 8192) (h e : Fin 16) :
    val_main_v75 (F := Ideal) x0 x1 x2 x3 x5 (ix4 b t h e) =
      rotLo (fun d => val_main_v52 (F := Ideal) x0 x1 x2 x3 x5 (ix4 b t h d)) 0 (by omega) (fun e => val_main_v2 (F := Ideal) (ix1 t) * val_main_v58 (F := Ideal) (ix1 e)) e := by
  unfold rotLo
  rw [zero_idx e.val (by omega) (by omega), zero_idx (16 + e.val) (by omega) (by omega)]
  unfold val_main_v75 val_main_v74 val_main_v73 val_main_v72 val_main_v71 val_main_v70 val_main_v69 val_main_v68 val_main_v67 val_main_v66
    val_main_v65 val_main_v64 val_main_v63 val_main_v62 val_main_v61 val_main_v60 val_main_v59
  pointwise

theorem qRot1Hi_apply (x5 : FVec Ideal S64 .f32) (b : Fin 8) (t : Fin 8192) (h e : Fin 16) :
    val_main_v80 (F := Ideal) x0 x1 x2 x3 x5 (ix4 b t h e) =
      rotHi (fun d => val_main_v52 (F := Ideal) x0 x1 x2 x3 x5 (ix4 b t h d)) 0 (by omega) (fun e => val_main_v2 (F := Ideal) (ix1 t) * val_main_v58 (F := Ideal) (ix1 e)) e := by
  unfold rotHi
  rw [zero_idx e.val (by omega) (by omega), zero_idx (16 + e.val) (by omega) (by omega)]
  unfold val_main_v80 val_main_v79 val_main_v78 val_main_v77 val_main_v76 val_main_v70 val_main_v69 val_main_v68 val_main_v67 val_main_v66
    val_main_v65 val_main_v64 val_main_v63 val_main_v62 val_main_v61 val_main_v60 val_main_v59
  pointwise

theorem qRot2Lo_apply (x5 : FVec Ideal S64 .f32) (b : Fin 8) (t : Fin 8192) (h e : Fin 16) :
    val_main_v98 (F := Ideal) x0 x1 x2 x3 x5 (ix4 b t h e) =
      rotLo (fun d => val_main_v52 (F := Ideal) x0 x1 x2 x3 x5 (ix4 b t h d)) 32 (by omega) (fun e => val_main_v4 (F := Ideal) (ix1 t) * val_main_v58 (F := Ideal) (ix1 e)) e := by
  unfold rotLo
  unfold val_main_v98 val_main_v97 val_main_v96 val_main_v95 val_main_v94 val_main_v93 val_main_v92 val_main_v91 val_main_v90 val_main_v89
    val_main_v88 val_main_v87 val_main_v86 val_main_v85 val_main_v84 val_main_v83 val_main_v82
  pointwise

theorem qRot2Hi_apply (x5 : FVec Ideal S64 .f32) (b : Fin 8) (t : Fin 8192) (h e : Fin 16) :
    val_main_v103 (F := Ideal) x0 x1 x2 x3 x5 (ix4 b t h e) =
      rotHi (fun d => val_main_v52 (F := Ideal) x0 x1 x2 x3 x5 (ix4 b t h d)) 32 (by omega) (fun e => val_main_v4 (F := Ideal) (ix1 t) * val_main_v58 (F := Ideal) (ix1 e)) e := by
  unfold rotHi
  unfold val_main_v103 val_main_v102 val_main_v101 val_main_v100 val_main_v99 val_main_v93 val_main_v92 val_main_v91 val_main_v90
    val_main_v89 val_main_v88 val_main_v87 val_main_v86 val_main_v85 val_main_v84 val_main_v83 val_main_v82
  pointwise

/-- A head of the queries. -/
theorem qRot_apply (x5 : FVec Ideal S64 .f32) (b : Fin 8) (t : Fin 8192) (h : Fin 16) (d : Fin 64) :
    val_main_v105 (F := Ideal) x0 x1 x2 x3 x5 (ix4 b t h d) =
      headRot (headNorm (fun i => val_main_v36 (F := Ideal) x0 x1 x2 x3 (ix3 b t ⟨h.val * 64 + i.val, by omega⟩)) (fun i => x5 (ix1 i)))
        (fun e => val_main_v2 (F := Ideal) (ix1 t) * val_main_v58 (F := Ideal) (ix1 e))
        (fun e => val_main_v4 (F := Ideal) (ix1 t) * val_main_v58 (F := Ideal) (ix1 e)) d := by
  have hn : (fun d => val_main_v52 (F := Ideal) x0 x1 x2 x3 x5 (ix4 b t h d)) = _ := funext (qNorm_apply x0 x1 x2 x3 x5 b t h)
  rw [← hn]
  unfold val_main_v105 val_main_v81 val_main_v104
  pointwise
  simp only [qRot1Lo_apply, qRot1Hi_apply, qRot2Lo_apply, qRot2Hi_apply]
  rfl

theorem kNorm_apply (x6 : FVec Ideal S64 .f32) (b : Fin 8) (t : Fin 8192) (h : Fin 16) (d : Fin 64) :
    val_main_v121 (F := Ideal) x0 x1 x2 x3 x6 (ix4 b t h d) =
      headNorm (fun i => val_main_v37 (F := Ideal) x0 x1 x2 x3 (ix3 b t ⟨h.val * 64 + i.val, by omega⟩)) (fun i => x6 (ix1 i)) d := by
  unfold val_main_v121 val_main_v120 val_main_v119 val_main_v118 val_main_v117 val_main_v116 val_main_v115 val_main_v114 val_main_v113
    val_main_v112 val_main_v111 val_main_v110 val_main_v109 val_main_v108 val_main_cst_10 val_main_cst_11 val_main_cst_12
  pointwise
  rfl

theorem kRot1Lo_apply (x6 : FVec Ideal S64 .f32) (b : Fin 8) (t : Fin 8192) (h e : Fin 16) :
    val_main_v144 (F := Ideal) x0 x1 x2 x3 x6 (ix4 b t h e) =
      rotLo (fun d => val_main_v121 (F := Ideal) x0 x1 x2 x3 x6 (ix4 b t h d)) 0 (by omega) (fun e => val_main_v2 (F := Ideal) (ix1 t) * val_main_v127 (F := Ideal) (ix1 e)) e := by
  unfold rotLo
  rw [zero_idx e.val (by omega) (by omega), zero_idx (16 + e.val) (by omega) (by omega)]
  unfold val_main_v144 val_main_v143 val_main_v142 val_main_v141 val_main_v140 val_main_v139 val_main_v138 val_main_v137 val_main_v136
    val_main_v135 val_main_v134 val_main_v133 val_main_v132 val_main_v131 val_main_v130 val_main_v129 val_main_v128
  pointwise

theorem kRot1Hi_apply (x6 : FVec Ideal S64 .f32) (b : Fin 8) (t : Fin 8192) (h e : Fin 16) :
    val_main_v149 (F := Ideal) x0 x1 x2 x3 x6 (ix4 b t h e) =
      rotHi (fun d => val_main_v121 (F := Ideal) x0 x1 x2 x3 x6 (ix4 b t h d)) 0 (by omega) (fun e => val_main_v2 (F := Ideal) (ix1 t) * val_main_v127 (F := Ideal) (ix1 e)) e := by
  unfold rotHi
  rw [zero_idx e.val (by omega) (by omega), zero_idx (16 + e.val) (by omega) (by omega)]
  unfold val_main_v149 val_main_v148 val_main_v147 val_main_v146 val_main_v145 val_main_v139 val_main_v138 val_main_v137 val_main_v136
    val_main_v135 val_main_v134 val_main_v133 val_main_v132 val_main_v131 val_main_v130 val_main_v129 val_main_v128
  pointwise

theorem kRot2Lo_apply (x6 : FVec Ideal S64 .f32) (b : Fin 8) (t : Fin 8192) (h e : Fin 16) :
    val_main_v167 (F := Ideal) x0 x1 x2 x3 x6 (ix4 b t h e) =
      rotLo (fun d => val_main_v121 (F := Ideal) x0 x1 x2 x3 x6 (ix4 b t h d)) 32 (by omega) (fun e => val_main_v4 (F := Ideal) (ix1 t) * val_main_v127 (F := Ideal) (ix1 e)) e := by
  unfold rotLo
  unfold val_main_v167 val_main_v166 val_main_v165 val_main_v164 val_main_v163 val_main_v162 val_main_v161 val_main_v160 val_main_v159
    val_main_v158 val_main_v157 val_main_v156 val_main_v155 val_main_v154 val_main_v153 val_main_v152 val_main_v151
  pointwise

theorem kRot2Hi_apply (x6 : FVec Ideal S64 .f32) (b : Fin 8) (t : Fin 8192) (h e : Fin 16) :
    val_main_v172 (F := Ideal) x0 x1 x2 x3 x6 (ix4 b t h e) =
      rotHi (fun d => val_main_v121 (F := Ideal) x0 x1 x2 x3 x6 (ix4 b t h d)) 32 (by omega) (fun e => val_main_v4 (F := Ideal) (ix1 t) * val_main_v127 (F := Ideal) (ix1 e)) e := by
  unfold rotHi
  unfold val_main_v172 val_main_v171 val_main_v170 val_main_v169 val_main_v168 val_main_v162 val_main_v161 val_main_v160 val_main_v159
    val_main_v158 val_main_v157 val_main_v156 val_main_v155 val_main_v154 val_main_v153 val_main_v152 val_main_v151
  pointwise

/-- A head of the keys. -/
theorem kRot_apply (x6 : FVec Ideal S64 .f32) (b : Fin 8) (t : Fin 8192) (h : Fin 16) (d : Fin 64) :
    val_main_v174 (F := Ideal) x0 x1 x2 x3 x6 (ix4 b t h d) =
      headRot (headNorm (fun i => val_main_v37 (F := Ideal) x0 x1 x2 x3 (ix3 b t ⟨h.val * 64 + i.val, by omega⟩)) (fun i => x6 (ix1 i)))
        (fun e => val_main_v2 (F := Ideal) (ix1 t) * val_main_v58 (F := Ideal) (ix1 e))
        (fun e => val_main_v4 (F := Ideal) (ix1 t) * val_main_v58 (F := Ideal) (ix1 e)) d := by
  have hn : (fun d => val_main_v121 (F := Ideal) x0 x1 x2 x3 x6 (ix4 b t h d)) = _ := funext (kNorm_apply x0 x1 x2 x3 x6 b t h)
  rw [← hn]
  unfold val_main_v174 val_main_v150 val_main_v173
  pointwise
  simp only [kRot1Lo_apply, kRot1Hi_apply, kRot2Lo_apply, kRot2Hi_apply]
  rfl

theorem v176_apply (R : Fin 65536) (C : Fin 2048) :
    val_main_v176 (F := Ideal) x0 x1 x2 x3 (ix2 R C) = val_main_v32 (F := Ideal) x0 x1 x2 x3 (ix3 ⟨R.val / 8192, by omega⟩ ⟨R.val % 8192, by omega⟩ C) := by
  unfold val_main_v176 val_main_v175
  pointwise

theorem v178_apply (R : Fin 65536) (C : Fin 1024) :
    val_main_v178 (F := Ideal) x0 x1 x2 x3 (ix2 R C) = val_main_v33 (F := Ideal) x0 x1 x2 x3 (ix3 ⟨R.val / 8192, by omega⟩ ⟨R.val % 8192, by omega⟩ C) := by
  unfold val_main_v178 val_main_v177
  pointwise

theorem v180_apply (R : Fin 65536) (C : Fin 1536) :
    val_main_v180 (F := Ideal) x0 x1 x2 x3 (ix2 R C) = val_main_v34 (F := Ideal) x0 x1 x2 x3 (ix3 ⟨R.val / 8192, by omega⟩ ⟨R.val % 8192, by omega⟩ C) := by
  unfold val_main_v180 val_main_v179
  pointwise

theorem v186_apply (R : Fin 65536) (C : Fin 1024) :
    val_main_v186 (F := Ideal) x0 x1 x2 x3 (ix2 R C) = val_main_v38 (F := Ideal) x0 x1 x2 x3 (ix3 ⟨R.val / 8192, by omega⟩ ⟨R.val % 8192, by omega⟩ C) := by
  unfold val_main_v186 val_main_v185
  pointwise

theorem v182_apply (x5 : FVec Ideal S64 .f32) (R : Fin 65536) (C : Fin 1024) :
    val_main_v182 (F := Ideal) x0 x1 x2 x3 x5 (ix2 R C) =
      val_main_v105 (F := Ideal) x0 x1 x2 x3 x5 (ix4 ⟨R.val / 8192, by omega⟩ ⟨R.val % 8192, by omega⟩ ⟨C.val / 64, by omega⟩ ⟨C.val % 64, by omega⟩)
        * Ideal.ofBits FTy.f32 1040187392#32 := by
  unfold val_main_v182 val_main_v181 val_main_v107 val_main_v106 val_main_cst_9
  pointwise

theorem v184_apply (x6 : FVec Ideal S64 .f32) (R : Fin 65536) (C : Fin 1024) :
    val_main_v184 (F := Ideal) x0 x1 x2 x3 x6 (ix2 R C) =
      val_main_v174 (F := Ideal) x0 x1 x2 x3 x6 (ix4 ⟨R.val / 8192, by omega⟩ ⟨R.val % 8192, by omega⟩ ⟨C.val / 64, by omega⟩ ⟨C.val % 64, by omega⟩) := by
  unfold val_main_v184 val_main_v183
  pointwise

end Cert.Proj

end
-- ==== Proof.ProjTables.lean ====
/- The tables the input projection's wrapper prepares: which lanes share a head, and the cosines and sines of the
   positions. -/
module

public import proofs.«01_k».proof.Proof.ProjRef
public import proofs.«01_k».proof.Proof.Gathers
public import proofs.«01_k».proof.Proof.Gen.Kernel2Ideal.Value
public import Idealize.ShloMosaic.Lib.Pipeline.Covers
public import Idealize.ShloMosaic.Lib.Claim

@[expose] public section

set_option maxRecDepth 16384

noncomputable section

namespace Cert.Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- Which lanes share a head. -/
def prepBd : FVec Ideal S128x128 .bf16 := V m c main_v26
/-- The frequencies, the two coordinates of a position, and a lane's place in its head. -/
def prepFreq : FVec Ideal S16 .f32 := V m c main_v52
@[inherit_doc prepFreq] def prepRow : FVec Ideal S8192 .f32 := V m c main_v55
@[inherit_doc prepFreq] def prepCol : FVec Ideal S8192 .f32 := V m c main_v57
@[inherit_doc prepFreq] def prepDim : IVec S128 32 := V m c main_v59
/-- The frequency's number at a lane, the frequency there, and the sign. -/
def prepIdx : IVec S128x1 32 := V m c main_v72
@[inherit_doc prepIdx] def prepInv : FVec Ideal S128 .f32 := V m c main_v73
@[inherit_doc prepIdx] def prepSign : FVec Ideal S128 .f32 := V m c main_v80
/-- The angles, their cosines and their signed sines. -/
def prepAng : FVec Ideal S8192x128 .f32 := V m c main_v76
@[inherit_doc prepAng] def prepCos : FVec Ideal S8192x128 .f32 := V m c main_v82
@[inherit_doc prepAng] def prepSin : FVec Ideal S8192x128 .f32 := V m c main_v86

/-- Whether a lane lies in the first half of its thirty-two. -/
def maskBit (l : Fin 128) : BitVec 1 := if l.val % 32 < 16 then 1#1 else 0#1

/-- The number of a lane's head, as the wrapper finds it. -/
theorem headWord : ∀ l : Fin 128,
    Scalar.select
          (IntOp.andi
            (IntOp.cmpi CmpIPredicate.ne
              (if BitVec.ofNat 32 l.val = 0 then (0 : BitVec 32) else if (BitVec.ofNat 32 l.val).msb = true then -1 else 1)
              (if 64#32 = 0 then (0 : BitVec 32) else if (64#32).msb = true then -1 else 1))
            (IntOp.cmpi CmpIPredicate.ne (IntOp.remsi ArithUnit.host (BitVec.ofNat 32 l.val) 64#32) 0#32))
          (IntOp.subi (IntOp.divsi ArithUnit.host (BitVec.ofNat 32 l.val) 64#32) 1#32)
          (IntOp.divsi ArithUnit.host (BitVec.ofNat 32 l.val) 64#32) = BitVec.ofNat 32 (l.val / 64) := by decide +kernel

theorem headCmp : ∀ i l : Fin 2, IntOp.cmpi CmpIPredicate.eq (BitVec.ofNat 32 i.val) (BitVec.ofNat 32 l.val) = if i.val = l.val then 1#1 else 0#1 := by
  decide +kernel

theorem headBit (i l : Fin 128) : (FloatOps.uitofp FTy.bf16 (IntOp.cmpi CmpIPredicate.eq (BitVec.ofNat 32 (i.val / 64)) (BitVec.ofNat 32 (l.val / 64))) : Ideal .bf16)
    = if i.val / 64 = l.val / 64 then (1 : EReal) else 0 := by
  rw [headCmp ⟨i.val / 64, by omega⟩ ⟨l.val / 64, by omega⟩]
  show (((if i.val / 64 = l.val / 64 then 1#1 else 0#1 : BitVec 1).toNat : ℝ) : EReal) = _
  by_cases h : i.val / 64 = l.val / 64
  · rw [if_pos h, if_pos h]
    simp
  · rw [if_neg h, if_neg h]
    simp

/-- A value of sixteen chosen by an array of words. -/
def lineDims (wf : GatherDims.WF ⟨1, ![16]⟩ ⟨2, ![128, 1]⟩ ⟨1, ![128]⟩ [] [0] [] [0] [] 1 ![1]) :
    GatherDims ⟨1, ![16]⟩ ⟨2, ![128, 1]⟩ ⟨1, ![128]⟩ where
  offsetDims := []
  collapsedSliceDims := [0]
  operandBatchingDims := []
  startIndicesBatchingDims := []
  startIndexMap := [0]
  indexVectorDim := 1
  sliceSizes := ![1]
  wf := wf

theorem gather_line {α : Type} (wf) (x : (⟨1, ![16]⟩ : Shape).Idx → α) (idx : IVec ⟨2, ![128, 1]⟩ 32) (l : Fin 128) :
    Host.gather (lineDims wf) x idx (ix1 l) = x (ix1 (Cert.Attn.coord 15 (idx (ix2 l 0)))) := by
  unfold Host.gather
  refine congrArg x ?_
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg₂ (· + ·) (dif_pos (show (0 : Fin 1) ∈ ([0] : List (Fin 1)) from by decide))
      (dif_neg (show (0 : Fin 1) ∉ Shape.kept ⟨1, ![16]⟩ [0] from by decide))).trans ?_
    refine (Nat.add_zero _).trans ?_
    refine congrArg (fun z => min (idx z).toInt.toNat 15) ?_
    funext b
    match b with
    | ⟨0, _⟩ => rfl
    | ⟨1, _⟩ => rfl

theorem coord_mod : ∀ l : Fin 128, Cert.Attn.coord 15 (BitVec.ofNat 32 (l.val % 16)) = ⟨l.val % 16, by omega⟩ := by decide +kernel

theorem half_bit : ∀ l : Fin 128, IntOp.cmpi .slt (BitVec.ofNat 32 (l.val % 64)) 32#32 = if l.val % 64 < 32 then 1#1 else 0#1 := by decide +kernel

theorem prepFreq_eq : prepFreq m c = Cert.Reference2Ideal.Read.val_main_v58 (F := Ideal) := by
  unfold prepFreq V
  simp only [List.flatten_cons, List.flatten_nil, List.append_nil, List.cons_append, List.nil_append]
  after_results
  rfl

theorem prepRow_eq (R : Fin 8192) : prepRow m c (ix1 R) = Cert.Reference2Ideal.Read.val_main_v2 (F := Ideal) (ix1 R) := by
  unfold prepRow V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  rfl

theorem prepCol_eq (R : Fin 8192) : prepCol m c (ix1 R) = Cert.Reference2Ideal.Read.val_main_v4 (F := Ideal) (ix1 R) := by
  unfold prepCol V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  rfl

theorem prepDim_apply (l : Fin 128) : prepDim m c (ix1 l) = BitVec.ofNat 32 (l.val % 64) := by
  unfold prepDim V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  pointwise
  revert l
  decide +kernel

theorem prepIdx_apply (l : Fin 128) : prepIdx m c (ix2 l 0) = BitVec.ofNat 32 (l.val % 16) := by
  unfold prepIdx V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  pointwise
  revert l
  decide +kernel

theorem prepInv_eq : prepInv m c = Host.gather gather_S16_S128x1_S128_n_0_n_n_0_1_1 (prepFreq m c) (prepIdx m c) := by
  unfold prepInv prepFreq prepIdx V
  simp only [List.flatten_cons, List.flatten_nil, List.append_nil, List.cons_append, List.nil_append]
  after_results

theorem prepAng_apply (R : Fin 8192) (l : Fin 128) : prepAng m c (ix2 R l) =
    Scalar.select (IntOp.cmpi .slt (prepDim m c (ix1 l)) 32#32) (prepRow m c (ix1 R)) (prepCol m c (ix1 R)) * prepInv m c (ix1 l) := by
  unfold prepAng prepDim prepRow prepCol prepInv V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  pointwise

theorem prepCos_apply (R : Fin 8192) (l : Fin 128) : prepCos m c (ix2 R l) = Ideal.cos (prepAng m c (ix2 R l)) := by
  unfold prepCos prepAng V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  rfl

theorem prepSin_apply (R : Fin 8192) (l : Fin 128) : prepSin m c (ix2 R l) = Ideal.sin (prepAng m c (ix2 R l)) * prepSign m c (ix1 l) := by
  unfold prepSin prepAng prepSign V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  rfl

theorem prepSign_apply (l : Fin 128) : prepSign m c (ix1 l) = Scalar.select (maskBit l) (Ideal.ofBits FTy.f32 3212836864#32) 1 := by
  unfold prepSign V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  pointwise
  refine congrArg (fun w => Scalar.select w _ _) ?_
  revert l
  decide +kernel

/-- The lane's mask in the body is that of the table. -/
theorem mask_apply (y : Fin 512) (l : Fin 128) :
    k0_pay9 (iota .tc S512x128 32 [1] iota_S512x128_d1_w32) 32#32 (Scalar.cmpi .eq 32#32 0#32) (ix2 y l) = maskBit l := by
  unfold k0_pay9
  pointwise
  revert l
  decide +kernel

/-- The word of a lane's head. -/
theorem prepBd_apply (i l : Fin 128) : prepBd m c (ix2 i l) = if i.val / 64 = l.val / 64 then 1 else 0 := by
  unfold prepBd V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  pointwise
  refine (congrArg₂ (fun a b => FloatOps.uitofp FTy.bf16 (IntOp.cmpi CmpIPredicate.eq a b)) (headWord i) (headWord l)).trans ?_
  exact headBit i l

theorem prepInv_apply (l : Fin 128) : prepInv m c (ix1 l) = Cert.Reference2Ideal.Read.val_main_v58 (F := Ideal) (ix1 ⟨l.val % 16, by omega⟩) := by
  rw [prepInv_eq]
  refine (gather_line _ (prepFreq m c) (prepIdx m c) l).trans ?_
  rw [prepIdx_apply, coord_mod, prepFreq_eq]

/-- The angle of a lane: the position's row or column by the lane's half of its head, at the lane's frequency. -/
theorem angle_apply (R : Fin 8192) (l : Fin 128) : prepAng m c (ix2 R l) =
    (if l.val % 64 < 32 then Cert.Reference2Ideal.Read.val_main_v2 (F := Ideal) (ix1 R) else Cert.Reference2Ideal.Read.val_main_v4 (F := Ideal) (ix1 R))
      * Cert.Reference2Ideal.Read.val_main_v58 (F := Ideal) (ix1 ⟨l.val % 16, by omega⟩) := by
  rw [prepAng_apply, prepInv_apply, prepDim_apply, half_bit, prepRow_eq, prepCol_eq]
  by_cases h : l.val % 64 < 32
  · rw [if_pos h, if_pos h]
    rfl
  · rw [if_neg h, if_neg h]
    rfl

end Cert.Proj

end
-- ==== Proof.ProjHead.lean ====
/- Two heads side by side, normalised with a mask of shared heads and rotated by a partner lane, are the two heads
   normalised and rotated one by one. -/
module

public import proofs.«01_k».proof.Proof.ProjTables

@[expose] public section

set_option maxRecDepth 16384

noncomputable section

namespace Cert.Proj

open Idealize.ShloMosaic

theorem ofBits_sixtyfourth : Ideal.ofBits .f32 1015021568#32 = ((1 / 64 : ℝ) : EReal) := by
  simp [Ideal.ofBits, Ideal.ieee, -EReal.coe_mul]; norm_num

theorem ofBits_sixtyfour : Ideal.ofBits .f32 1115684864#32 = ((64 : ℝ) : EReal) := by
  simp [Ideal.ofBits, Ideal.ieee, -EReal.coe_mul]; norm_num

theorem ofBits_minus : Ideal.ofBits .f32 3212836864#32 = -1 := by
  simp [Ideal.ofBits, Ideal.ieee, -EReal.coe_mul]; try norm_num

/-- Whether two lanes share a head. -/
def sameHead (i l : Fin 128) : EReal := if i.val / 64 = l.val / 64 then 1 else 0

/-- A sum over the lanes of one head. -/
theorem sum_head (f : Fin 128 → EReal) (l : Fin 128) :
    ∑ i : Fin 128, f i * sameHead i l = ∑ i : Fin 64, f ⟨l.val / 64 * 64 + i.val, by omega⟩ := by
  have e : ∑ i : Fin 128, f i * sameHead i l
      = ∑ i : Fin 64, f (Fin.castAdd 64 i) * sameHead (Fin.castAdd 64 i) l + ∑ i : Fin 64, f (Fin.natAdd 64 i) * sameHead (Fin.natAdd 64 i) l :=
    Fin.sum_univ_add (a := 64) (b := 64) (fun i : Fin (64 + 64) => f i * sameHead i l)
  have hl : l.val < 128 := l.isLt
  rcases Nat.lt_or_ge l.val 64 with h | h
  · have e0 : ∑ i : Fin 64, f (Fin.natAdd 64 i) * sameHead (Fin.natAdd 64 i) l = 0 := by
      refine Finset.sum_eq_zero fun i _ => ?_
      unfold sameHead
      rw [if_neg (by show ¬((64 + i.val) / 64 = l.val / 64); omega), mul_zero]
    rw [e, e0, add_zero]
    refine Finset.sum_congr rfl fun i _ => ?_
    unfold sameHead
    rw [if_pos (by show i.val / 64 = l.val / 64; omega), mul_one]
    refine congrArg f (Fin.ext ?_)
    show i.val = l.val / 64 * 64 + i.val
    omega
  · have e0 : ∑ i : Fin 64, f (Fin.castAdd 64 i) * sameHead (Fin.castAdd 64 i) l = 0 := by
      refine Finset.sum_eq_zero fun i _ => ?_
      unfold sameHead
      rw [if_neg (by show ¬(i.val / 64 = l.val / 64); omega), mul_zero]
    rw [e, e0, zero_add]
    refine Finset.sum_congr rfl fun i _ => ?_
    unfold sameHead
    rw [if_pos (by show (64 + i.val) / 64 = l.val / 64; omega), mul_one]
    refine congrArg f (Fin.ext ?_)
    show 64 + i.val = l.val / 64 * 64 + i.val
    omega

theorem pairNorm_eq (u : Fin 128 → EReal) (w : Fin 64 → EReal) (l : Fin 128) :
    pairNorm u sameHead (fun i => w ⟨i.val % 64, Nat.mod_lt _ (by omega)⟩) l
      = headNorm (fun i => u ⟨l.val / 64 * 64 + i.val, by omega⟩) w ⟨l.val % 64, Nat.mod_lt _ (by omega)⟩ := by
  unfold pairNorm headNorm
  rw [sum_head (fun i => u i * u i) l, ofBits_sixtyfour, ofBits_sixtyfourth, Ideal.div_coe (by norm_num)]
  have e : (⟨l.val / 64 * 64 + l.val % 64, by omega⟩ : Fin 128) = l := Fin.ext (by show l.val / 64 * 64 + l.val % 64 = l.val; omega)
  exact congrArg (fun z => u z * _ * _) e.symm

/-- The rotation of a lane by its partner, when the lane's head is normalised as `n`. -/
theorem rot_eq (n : Fin 64 → EReal) (P Q : EReal) (F : Fin 16 → EReal) (N : Fin 128 → EReal) (l : Fin 128)
    (hN : ∀ i : Fin 128, i.val / 64 = l.val / 64 → N i = n ⟨i.val % 64, Nat.mod_lt _ (by omega)⟩) (c s a : EReal)
    (ha : a = (if l.val % 64 < 32 then P else Q) * F ⟨l.val % 16, Nat.mod_lt _ (by omega)⟩)
    (hc : c = Ideal.cos a) (hs : s = Ideal.sin a * Scalar.select (maskBit l) (-1) 1) :
    N l * c + Scalar.select (maskBit l) (N ⟨(l.val + 128 - 112) % 128, Nat.mod_lt _ (by omega)⟩)
        (N ⟨(l.val + 128 - 16) % 128, Nat.mod_lt _ (by omega)⟩) * s
      = headRot n (fun e => P * F e) (fun e => Q * F e) ⟨l.val % 64, Nat.mod_lt _ (by omega)⟩ := by
  have hl : l.val < 128 := l.isLt
  rw [hc, hs, hN l rfl]
  unfold maskBit headRot rotLo rotHi
  by_cases hm : l.val % 32 < 16
  · have e1 : ∀ x y : EReal, Scalar.select (if l.val % 32 < 16 then 1#1 else 0#1) x y = x := fun x y => by rw [if_pos hm]; rfl
    rw [e1, e1, hN _ (by show (l.val + 128 - 112) % 128 / 64 = l.val / 64; omega), mul_neg, mul_one, mul_neg, ← sub_eq_add_neg]
    by_cases hh : l.val % 64 < 32
    · rw [dif_pos hh, dif_pos (show l.val % 64 < 16 by omega)]
      rw [if_pos hh] at ha
      have ea : a = P * F ⟨l.val % 64, by omega⟩ := ha.trans (congrArg (fun z => P * F z) (Fin.ext (by show l.val % 16 = l.val % 64; omega)))
      rw [ea]
      refine congrArg₂ (· - ·) (congrArg (fun z => n z * _) (Fin.ext ?_)) (congrArg (fun z => n z * _) (Fin.ext ?_))
      · show l.val % 64 = 0 + l.val % 64
        omega
      · show (l.val + 128 - 112) % 128 % 64 = 0 + (16 + l.val % 64)
        omega
    · rw [dif_neg hh, dif_pos (show l.val % 64 - 32 < 16 by omega)]
      rw [if_neg hh] at ha
      have ea : a = Q * F ⟨l.val % 64 - 32, by omega⟩ := ha.trans (congrArg (fun z => Q * F z) (Fin.ext (by show l.val % 16 = l.val % 64 - 32; omega)))
      rw [ea]
      refine congrArg₂ (· - ·) (congrArg (fun z => n z * _) (Fin.ext ?_)) (congrArg (fun z => n z * _) (Fin.ext ?_))
      · show l.val % 64 = 32 + (l.val % 64 - 32)
        omega
      · show (l.val + 128 - 112) % 128 % 64 = 32 + (16 + (l.val % 64 - 32))
        omega
  · have e1 : ∀ x y : EReal, Scalar.select (if l.val % 32 < 16 then 1#1 else 0#1) x y = y := fun x y => by rw [if_neg hm]; rfl
    rw [e1, e1, hN _ (by show (l.val + 128 - 16) % 128 / 64 = l.val / 64; omega), mul_one, add_comm]
    by_cases hh : l.val % 64 < 32
    · rw [dif_pos hh, dif_neg (show ¬l.val % 64 < 16 by omega)]
      rw [if_pos hh] at ha
      have ea : a = P * F ⟨l.val % 64 - 16, by omega⟩ := ha.trans (congrArg (fun z => P * F z) (Fin.ext (by show l.val % 16 = l.val % 64 - 16; omega)))
      rw [ea]
      refine congrArg₂ (· + ·) (congrArg (fun z => n z * _) (Fin.ext ?_)) (congrArg (fun z => n z * _) (Fin.ext ?_))
      · show (l.val + 128 - 16) % 128 % 64 = 0 + (l.val % 64 - 16)
        omega
      · show l.val % 64 = 0 + (16 + (l.val % 64 - 16))
        omega
    · rw [dif_neg hh, dif_neg (show ¬l.val % 64 - 32 < 16 by omega)]
      rw [if_neg hh] at ha
      have ea : a = Q * F ⟨l.val % 64 - 32 - 16, by omega⟩ :=
        ha.trans (congrArg (fun z => Q * F z) (Fin.ext (by show l.val % 16 = l.val % 64 - 32 - 16; omega)))
      rw [ea]
      refine congrArg₂ (· + ·) (congrArg (fun z => n z * _) (Fin.ext ?_)) (congrArg (fun z => n z * _) (Fin.ext ?_))
      · show (l.val + 128 - 16) % 128 % 64 = 32 + (l.val % 64 - 32 - 16)
        omega
      · show l.val % 64 = 32 + (16 + (l.val % 64 - 32 - 16))
        omega

/-- A column of the queries or keys: its lane of the pair of heads is its place in its own head. -/
theorem pairRot_eq (u : Fin 1024 → EReal) (w : Fin 64 → EReal) (P Q : EReal) (F : Fin 16 → EReal) (ang cos sin : Fin 128 → EReal)
    (ha : ∀ l, ang l = (if l.val % 64 < 32 then P else Q) * F ⟨l.val % 16, Nat.mod_lt _ (by omega)⟩)
    (hc : ∀ l, cos l = Ideal.cos (ang l)) (hs : ∀ l, sin l = Ideal.sin (ang l) * Scalar.select (maskBit l) (-1) 1) (C : Fin 1024) :
    pairRot (fun i => u ⟨C.val / 128 * 128 + i.val, by omega⟩) sameHead (fun i => w ⟨i.val % 64, Nat.mod_lt _ (by omega)⟩) maskBit cos sin
        ⟨C.val % 128, Nat.mod_lt _ (by omega)⟩
      = headRot (headNorm (fun i => u ⟨C.val / 64 * 64 + i.val, by omega⟩) w) (fun e => P * F e) (fun e => Q * F e)
          ⟨C.val % 64, Nat.mod_lt _ (by omega)⟩ := by
  have hC : C.val < 1024 := C.isLt
  unfold pairRot
  refine (rot_eq (headNorm (fun i => u ⟨C.val / 64 * 64 + i.val, by omega⟩) w) P Q F _ ⟨C.val % 128, Nat.mod_lt _ (by omega)⟩
    (fun i hi => ?_) _ _ _ (ha _) (hc _) (hs _)).trans ?_
  · rw [pairNorm_eq]
    refine congrFun (congrFun (congrArg headNorm (funext fun k => congrArg u (Fin.ext ?_))) w) _
    have hi' : i.val / 64 = C.val % 128 / 64 := hi
    show C.val / 128 * 128 + (i.val / 64 * 64 + k.val) = C.val / 64 * 64 + k.val
    omega
  · refine congrArg _ (Fin.ext ?_)
    show C.val % 128 % 64 = C.val % 64
    omega

end Cert.Proj

end
-- ==== Proof.ProjBlocks.lean ====
/- What one grid point of the input projection leaves in each of its outputs, from the blocks it reads. -/
module

public import proofs.«01_k».proof.Proof.ProjTables

@[expose] public section

set_option maxRecDepth 16384

noncomputable section

namespace Cert.Proj

open Idealize.ShloMosaic Idealize.ShloMosaic.TcCoe Idealize.SL.Sem Cert.Kernel2Ideal Cert.Kernel2Ideal.Gen

theorem ld0 {e : EltTy} (x : Vec Ideal S1x6x1024 e) : View.ld x r0_0 = x :=
  View.ld_unit_lit _ x (by intro a; fin_cases a <;> rfl)

theorem ld1 {e : EltTy} (x : Vec Ideal S512x1024 e) : View.ld x r0_1 = x :=
  View.ld_unit_lit _ x (by intro a; fin_cases a <;> rfl)

theorem ld2 {e : EltTy} (x : Vec Ideal S1x1024 e) : View.ld x r0_2 = x :=
  View.ld_unit_lit _ x (by intro a; fin_cases a <;> rfl)

theorem ld3 {e : EltTy} (x : Vec Ideal S1024x2048 e) : View.ld x r0_3 = x :=
  View.ld_unit_lit _ x (by intro a; fin_cases a <;> rfl)

theorem ld5 {e : EltTy} (x : Vec Ideal S1024x1024 e) : View.ld x r0_5 = x :=
  View.ld_unit_lit _ x (by intro a; fin_cases a <;> rfl)

theorem ld6 {e : EltTy} (x : Vec Ideal S1024x1536 e) : View.ld x r0_6 = x :=
  View.ld_unit_lit _ x (by intro a; fin_cases a <;> rfl)

theorem ld11 {e : EltTy} (x : Vec Ideal S128x128 e) : View.ld x r0_11 = x :=
  View.ld_unit_lit _ x (by intro a; fin_cases a <;> rfl)

theorem ld12 {e : EltTy} (x : Vec Ideal S512x128 e) : View.ld x r0_12 = x :=
  View.ld_unit_lit _ x (by intro a; fin_cases a <;> rfl)

theorem ld13 {e : EltTy} (x : Vec Ideal S1x128 e) : View.ld x r0_13 = x :=
  View.ld_unit_lit _ x (by intro a; fin_cases a <;> rfl)

theorem pay8_eq (x : Vec Ideal S128x128 .bf16) : k0_pay8 x = x := by
  funext y
  obtain ⟨a, b, rfl⟩ : ∃ (a : Fin 128) (b : Fin 128), y = ix2 a b := ⟨y 0, y 1, eq_ix2 y⟩
  unfold k0_pay8
  pointwise

theorem pay10_eq (x : Vec Ideal S512x128 .f32) : k0_pay10 x = x := by
  funext y
  obtain ⟨a, b, rfl⟩ : ∃ (a : Fin 512) (b : Fin 128), y = ix2 a b := ⟨y 0, y 1, eq_ix2 y⟩
  unfold k0_pay10
  pointwise

theorem pay11_eq (x : Vec Ideal S512x128 .f32) : k0_pay11 x = x := by
  funext y
  obtain ⟨a, b, rfl⟩ : ∃ (a : Fin 512) (b : Fin 128), y = ix2 a b := ⟨y 0, y 1, eq_ix2 y⟩
  unfold k0_pay11
  pointwise

theorem pay13_eq (x : Vec Ideal S1x128 .f32) : k0_pay13 x = x := by
  funext y
  obtain ⟨a, b, rfl⟩ : ∃ (a : Fin 1) (b : Fin 128), y = ix2 a b := ⟨y 0, y 1, eq_ix2 y⟩
  unfold k0_pay13
  pointwise

theorem pay30_eq (x : Vec Ideal S1x128 .f32) : k0_pay30 x = x := by
  funext y
  obtain ⟨a, b, rfl⟩ : ∃ (a : Fin 1) (b : Fin 128), y = ix2 a b := ⟨y 0, y 1, eq_ix2 y⟩
  unfold k0_pay30
  pointwise

variable (x0 : Vec Ideal S512x1024 .f32) (x1 : Vec Ideal S1x6x1024 .f32) (x2 : Vec Ideal S1x1024 .f32) (x3 : Vec Ideal S1024x2048 .bf16)
  (x4 : Vec Ideal S1024x1024 .bf16) (x5 : Vec Ideal S1024x1536 .bf16) (x6 : Vec Ideal S1024x256 .bf16) (x7 x8 x9 : Vec Ideal S1024x1024 .bf16)
  (x10 x11 : Vec Ideal S512x128 .f32) (x12 : Vec Ideal S128x128 .bf16) (x13 x14 : Vec Ideal S1x128 .f32) (x15 : Vec Ideal S1x256 .f32)

theorem out16_eq : out0_16 x0 x1 x2 x3 x4 x5 x6 x7 x8 x9 x10 x11 x12 x13 x14 x15 = k0_pay3 x1 x0 x2 x3 := by
  unfold_out out0_16
  refine (View.canon_unit_zero (funext fun a => by fin_cases a <;> rfl) _ _).trans ?_
  simp only [ld0, ld1, ld2, ld3, ld5, ld6]

theorem out17_eq : out0_17 x0 x1 x2 x3 x4 x5 x6 x7 x8 x9 x10 x11 x12 x13 x14 x15 = k0_pay4 x1 x0 x2 x4 := by
  unfold_out out0_17
  refine (View.canon_unit_zero (funext fun a => by fin_cases a <;> rfl) _ _).trans ?_
  simp only [ld0, ld1, ld2, ld3, ld5, ld6]

theorem out18_eq : out0_18 x0 x1 x2 x3 x4 x5 x6 x7 x8 x9 x10 x11 x12 x13 x14 x15 = k0_pay5 (k0_pay2 x1 x0 x2) x5 := by
  unfold_out out0_18
  refine (View.canon_unit_zero (funext fun a => by fin_cases a <;> rfl) _ _).trans ?_
  simp only [ld0, ld1, ld2, ld3, ld5, ld6]

theorem out22_eq : out0_22 x0 x1 x2 x3 x4 x5 x6 x7 x8 x9 x10 x11 x12 x13 x14 x15 = k0_pay6 (k0_pay2 x1 x0 x2) x9 := by
  unfold_out out0_22
  refine (View.canon_unit_zero (funext fun a => by fin_cases a <;> rfl) _ _).trans ?_
  simp only [ld0, ld1, ld2, ld3, ld5, ld6]

/-- A column of the queries or keys of a block of 512 rows: its pair of heads normalised and rotated, then `g`. -/
def pairAt (g : EReal → EReal) (full : FVec Ideal S512x1024 .f32) (bd : FVec Ideal S128x128 .bf16) (nw : FVec Ideal S1x128 .f32)
    (mask : IVec S512x128 1) (cos sin : FVec Ideal S512x128 .f32) (y : S512x1024.Idx) : EReal :=
  g (pairRot (fun i => full (ix2 (y 0) ⟨(y 1).val / 128 * 128 + i.val, by have h : (y 1).val < 1024 := (y 1).isLt; omega⟩)) (fun i j => bd (ix2 i j))
    (fun i => nw (ix2 0 i)) (fun i => mask (ix2 (y 0) i)) (fun i => cos (ix2 (y 0) i)) (fun i => sin (ix2 (y 0) i))
    ⟨(y 1).val % 128, Nat.mod_lt _ (by omega)⟩)

/-- The piece of columns `o` to `o + 128`. -/
theorem pair_tile (g : EReal → EReal) (full : FVec Ideal S512x1024 .f32) (bd : FVec Ideal S128x128 .bf16) (nw : FVec Ideal S1x128 .f32)
    (mask : IVec S512x128 1) (cos sin : FVec Ideal S512x128 .f32) (o : ℕ) (ho : o ≤ 896) (hd : o % 128 = 0)
    (P : (⟨2, ![512, 128]⟩ : Shape).Idx → EReal)
    (hP : ∀ (y : Fin 512) (l : Fin 128), P (ix2 y l) = g (pairRot (fun i => full (ix2 y (laneCol o ho i))) (fun i j => bd (ix2 i j))
      (fun i => nw (ix2 0 i)) (fun i => mask (ix2 y i)) (fun i => cos (ix2 y i)) (fun i => sin (ix2 y i)) l))
    (y : S512x1024.Idx) :
    View.TileAt (Val := Elt Ideal) (e := .bf16) (S := S512x1024) y ![0, o] ![512, 128] P (pairAt g full bd nw mask cos sin y) := by
  intro x hx
  obtain ⟨a, b, rfl⟩ : ∃ (a : Fin 512) (b : Fin 128), x = ix2 a b := ⟨x 0, x 1, eq_ix2 x⟩
  have h0 : (y 0).val = 0 + a.val := hx 0
  have h1 : (y 1).val = o + b.val := hx 1
  have e0 : y 0 = a := Fin.ext (by omega)
  refine (hP a b).trans ?_
  unfold pairAt
  rw [e0]
  have e1 : (⟨(y 1).val % 128, Nat.mod_lt _ (by omega)⟩ : Fin 128) = b := Fin.ext (by show (y 1).val % 128 = b.val; omega)
  rw [e1]
  refine congrArg g (congrFun (congrFun (congrFun (congrFun (congrFun (congrFun (congrArg pairRot (funext fun i => ?_)) _) _) _) _) _) _)
  refine congrArg (fun z => full (ix2 a z)) (Fin.ext ?_)
  show o + i.val = (y 1).val / 128 * 128 + i.val
  omega

theorem pair_cover {L : List (View.Piece (Elt Ideal) S512x1024 .bf16)} (o : ℕ) (inb) (w) (y : S512x1024.Idx)
    (hm : (⟨Rect.unit (s := S512x1024) ![0, o] ![512, 128] inb, w⟩ : View.Piece (Elt Ideal) S512x1024 .bf16) ∈ L)
    (h : o ≤ (y 1).val ∧ (y 1).val < o + 128) : ∃ p ∈ L, y ∈ p.1.set := by
  refine ⟨_, hm, (Rect.mem_set_unit (s := S512x1024) (off := ![0, o]) (size := ![512, 128]) (inb := inb)).mpr fun a => ?_⟩
  have h0 : (y 0).val < 512 := (y 0).isLt
  fin_cases a
  · show 0 ≤ (y 0).val ∧ (y 0).val < 0 + 512
    omega
  · exact h

/-- The mask every block uses. -/
def blockMask : IVec S512x128 1 := k0_pay9 (iota .tc S512x128 32 [1] iota_S512x128_d1_w32) 32#32 (Scalar.cmpi .eq 32#32 0#32)

/-- The block of the queries a point leaves. -/
theorem out20_eq : out0_20 x0 x1 x2 x3 x4 x5 x6 x7 x8 x9 x10 x11 x12 x13 x14 x15 =
    pairAt (· * Ideal.ofBits FTy.f32 1040187392#32) (k0_pay12 (k0_pay2 x1 x0 x2) x7) x12 x13 blockMask x10 x11 := by
  funext y
  unfold_out out0_20
  simp only [ld0, ld1, ld2, ld3, ld5, ld6, ld11, ld12, ld13, pay8_eq, pay10_eq, pay11_eq, pay13_eq, pay30_eq]
  have h1 : (y 1).val < 1024 := (y 1).isLt
  refine View.canon_eq_of_allAt _ y _ ?_ ?_
  · rcases Nat.lt_or_ge (y 1).val 128 with h | h
    · exact pair_cover 0 _ _ y (.tail _ (.tail _ (.tail _ (.tail _ (.tail _ (.tail _ (.tail _ (.head _)))))))) ⟨by omega, by omega⟩
    rcases Nat.lt_or_ge (y 1).val 256 with h | h
    · exact pair_cover 128 _ _ y (.tail _ (.tail _ (.tail _ (.tail _ (.tail _ (.tail _ (.head _))))))) ⟨by omega, by omega⟩
    rcases Nat.lt_or_ge (y 1).val 384 with h | h
    · exact pair_cover 256 _ _ y (.tail _ (.tail _ (.tail _ (.tail _ (.tail _ (.head _)))))) ⟨by omega, by omega⟩
    rcases Nat.lt_or_ge (y 1).val 512 with h | h
    · exact pair_cover 384 _ _ y (.tail _ (.tail _ (.tail _ (.tail _ (.head _))))) ⟨by omega, by omega⟩
    rcases Nat.lt_or_ge (y 1).val 640 with h | h
    · exact pair_cover 512 _ _ y (.tail _ (.tail _ (.tail _ (.head _)))) ⟨by omega, by omega⟩
    rcases Nat.lt_or_ge (y 1).val 768 with h | h
    · exact pair_cover 640 _ _ y (.tail _ (.tail _ (.head _))) ⟨by omega, by omega⟩
    rcases Nat.lt_or_ge (y 1).val 896 with h | h
    · exact pair_cover 768 _ _ y (.tail _ (.head _)) ⟨by omega, by omega⟩
    · exact pair_cover 896 _ _ y (.head _) ⟨by omega, by omega⟩
  · refine View.allAt_cons_unit _ _ _ _ _ (pair_tile (· * Ideal.ofBits FTy.f32 1040187392#32) (k0_pay12 (k0_pay2 x1 x0 x2) x7) x12 x13 blockMask x10 x11 896 (by omega) (by omega) _
        (pay28_apply _ _ _ _ _ _) y) ?_
    refine View.allAt_cons_unit _ _ _ _ _ (pair_tile (· * Ideal.ofBits FTy.f32 1040187392#32) (k0_pay12 (k0_pay2 x1 x0 x2) x7) x12 x13 blockMask x10 x11 768 (by omega) (by omega) _
        (pay27_apply _ _ _ _ _ _) y) ?_
    refine View.allAt_cons_unit _ _ _ _ _ (pair_tile (· * Ideal.ofBits FTy.f32 1040187392#32) (k0_pay12 (k0_pay2 x1 x0 x2) x7) x12 x13 blockMask x10 x11 640 (by omega) (by omega) _
        (pay24_apply _ _ _ _ _ _) y) ?_
    refine View.allAt_cons_unit _ _ _ _ _ (pair_tile (· * Ideal.ofBits FTy.f32 1040187392#32) (k0_pay12 (k0_pay2 x1 x0 x2) x7) x12 x13 blockMask x10 x11 512 (by omega) (by omega) _
        (pay23_apply _ _ _ _ _ _) y) ?_
    refine View.allAt_cons_unit _ _ _ _ _ (pair_tile (· * Ideal.ofBits FTy.f32 1040187392#32) (k0_pay12 (k0_pay2 x1 x0 x2) x7) x12 x13 blockMask x10 x11 384 (by omega) (by omega) _
        (pay21_apply _ _ _ _ _ _) y) ?_
    refine View.allAt_cons_unit _ _ _ _ _ (pair_tile (· * Ideal.ofBits FTy.f32 1040187392#32) (k0_pay12 (k0_pay2 x1 x0 x2) x7) x12 x13 blockMask x10 x11 256 (by omega) (by omega) _
        (pay20_apply _ _ _ _ _ _) y) ?_
    refine View.allAt_cons_unit _ _ _ _ _ (pair_tile (· * Ideal.ofBits FTy.f32 1040187392#32) (k0_pay12 (k0_pay2 x1 x0 x2) x7) x12 x13 blockMask x10 x11 128 (by omega) (by omega) _
        (pay17_apply _ _ _ _ _ _) y) ?_
    refine View.allAt_cons_unit _ _ _ _ _ (pair_tile (· * Ideal.ofBits FTy.f32 1040187392#32) (k0_pay12 (k0_pay2 x1 x0 x2) x7) x12 x13 blockMask x10 x11 0 (by omega) (by omega) _
        (pay16_apply _ _ _ _ _ _ _ _ _) y) ?_
    exact View.allAt_nil _ _

/-- The block of the keys a point leaves. -/
theorem out21_eq : out0_21 x0 x1 x2 x3 x4 x5 x6 x7 x8 x9 x10 x11 x12 x13 x14 x15 =
    pairAt id (k0_pay29 (k0_pay2 x1 x0 x2) x8) x12 x14 blockMask x10 x11 := by
  funext y
  unfold_out out0_21
  simp only [ld0, ld1, ld2, ld3, ld5, ld6, ld11, ld12, ld13, pay8_eq, pay10_eq, pay11_eq, pay13_eq, pay30_eq]
  have h1 : (y 1).val < 1024 := (y 1).isLt
  refine View.canon_eq_of_allAt _ y _ ?_ ?_
  · rcases Nat.lt_or_ge (y 1).val 128 with h | h
    · exact pair_cover 0 _ _ y (.tail _ (.tail _ (.tail _ (.tail _ (.tail _ (.tail _ (.tail _ (.head _)))))))) ⟨by omega, by omega⟩
    rcases Nat.lt_or_ge (y 1).val 256 with h | h
    · exact pair_cover 128 _ _ y (.tail _ (.tail _ (.tail _ (.tail _ (.tail _ (.tail _ (.head _))))))) ⟨by omega, by omega⟩
    rcases Nat.lt_or_ge (y 1).val 384 with h | h
    · exact pair_cover 256 _ _ y (.tail _ (.tail _ (.tail _ (.tail _ (.tail _ (.head _)))))) ⟨by omega, by omega⟩
    rcases Nat.lt_or_ge (y 1).val 512 with h | h
    · exact pair_cover 384 _ _ y (.tail _ (.tail _ (.tail _ (.tail _ (.head _))))) ⟨by omega, by omega⟩
    rcases Nat.lt_or_ge (y 1).val 640 with h | h
    · exact pair_cover 512 _ _ y (.tail _ (.tail _ (.tail _ (.head _)))) ⟨by omega, by omega⟩
    rcases Nat.lt_or_ge (y 1).val 768 with h | h
    · exact pair_cover 640 _ _ y (.tail _ (.tail _ (.head _))) ⟨by omega, by omega⟩
    rcases Nat.lt_or_ge (y 1).val 896 with h | h
    · exact pair_cover 768 _ _ y (.tail _ (.head _)) ⟨by omega, by omega⟩
    · exact pair_cover 896 _ _ y (.head _) ⟨by omega, by omega⟩
  · refine View.allAt_cons_unit _ _ _ _ _ (pair_tile id (k0_pay29 (k0_pay2 x1 x0 x2) x8) x12 x14 blockMask x10 x11 896 (by omega) (by omega) _
        (pay40_apply _ _ _ _ _ _) y) ?_
    refine View.allAt_cons_unit _ _ _ _ _ (pair_tile id (k0_pay29 (k0_pay2 x1 x0 x2) x8) x12 x14 blockMask x10 x11 768 (by omega) (by omega) _
        (pay39_apply _ _ _ _ _ _) y) ?_
    refine View.allAt_cons_unit _ _ _ _ _ (pair_tile id (k0_pay29 (k0_pay2 x1 x0 x2) x8) x12 x14 blockMask x10 x11 640 (by omega) (by omega) _
        (pay38_apply _ _ _ _ _ _) y) ?_
    refine View.allAt_cons_unit _ _ _ _ _ (pair_tile id (k0_pay29 (k0_pay2 x1 x0 x2) x8) x12 x14 blockMask x10 x11 512 (by omega) (by omega) _
        (pay37_apply _ _ _ _ _ _) y) ?_
    refine View.allAt_cons_unit _ _ _ _ _ (pair_tile id (k0_pay29 (k0_pay2 x1 x0 x2) x8) x12 x14 blockMask x10 x11 384 (by omega) (by omega) _
        (pay36_apply _ _ _ _ _ _) y) ?_
    refine View.allAt_cons_unit _ _ _ _ _ (pair_tile id (k0_pay29 (k0_pay2 x1 x0 x2) x8) x12 x14 blockMask x10 x11 256 (by omega) (by omega) _
        (pay35_apply _ _ _ _ _ _) y) ?_
    refine View.allAt_cons_unit _ _ _ _ _ (pair_tile id (k0_pay29 (k0_pay2 x1 x0 x2) x8) x12 x14 blockMask x10 x11 128 (by omega) (by omega) _
        (pay34_apply _ _ _ _ _ _) y) ?_
    refine View.allAt_cons_unit _ _ _ _ _ (pair_tile id (k0_pay29 (k0_pay2 x1 x0 x2) x8) x12 x14 blockMask x10 x11 0 (by omega) (by omega) _
        (pay33_apply _ _ _ _ _ _ _) y) ?_
    exact View.allAt_nil _ _

end Cert.Proj

end
-- ==== Proof.ProjReads.lean ====
/- The arrays the input projection reads, and the blocks of them a grid point sees. -/
module

public import proofs.«01_k».proof.Proof.ProjHead
public import proofs.«01_k».proof.Proof.ProjBlocks

@[expose] public section

set_option maxRecDepth 16384

noncomputable section

namespace Cert.Proj

open Idealize.ShloMosaic Idealize.ShloMosaic.TcCoe Idealize.SL.Sem Cert.Kernel2Ideal Cert.Kernel2Ideal.Gen

theorem index0 : ∀ t : Fin grid0.N, win0_0.index t = ![t.val, 0] := by decide +kernel
theorem index1 : ∀ t : Fin grid0.N, win0_1.index t = ![t.val / 16, 0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![t.val % 16, 0] := by decide +kernel
theorem index11 : ∀ t : Fin grid0.N, win0_11.index t = ![t.val % 16, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![0, 0] := by decide +kernel
theorem index16 : ∀ t : Fin grid0.N, win0_16.index t = ![t.val, 0] := by decide +kernel
theorem index17 : ∀ t : Fin grid0.N, win0_17.index t = ![t.val, 0] := by decide +kernel
theorem index18 : ∀ t : Fin grid0.N, win0_18.index t = ![t.val, 0] := by decide +kernel
theorem index20 : ∀ t : Fin grid0.N, win0_20.index t = ![t.val, 0] := by decide +kernel
theorem index21 : ∀ t : Fin grid0.N, win0_21.index t = ![t.val, 0] := by decide +kernel
theorem index22 : ∀ t : Fin grid0.N, win0_22.index t = ![t.val, 0] := by decide +kernel

theorem point_lt (t : Fin grid0.N) : t.val < 128 := lt_of_lt_of_eq t.isLt N_0

variable (m : (ℓ : Loc nD τ sig) → Buf (Elt Ideal) ℓ) (c : Dev nD)

/-- The stream, the modulation, the norm's weight, the projection and the weights of the two norms of a head. -/
def argH : FVec Ideal S8x8192x1024 .f32 := m ((c : Thread nD τ).loc main_arg0)
@[inherit_doc argH] def argM : FVec Ideal S8x6144 .f32 := m ((c : Thread nD τ).loc main_arg1)
@[inherit_doc argH] def argN : FVec Ideal S1024 .f32 := m ((c : Thread nD τ).loc main_arg2)
@[inherit_doc argH] def argP : FVec Ideal S1024x7712 .f32 := m ((c : Thread nD τ).loc main_arg3)
@[inherit_doc argH] def argQ : FVec Ideal S64 .f32 := m ((c : Thread nD τ).loc main_arg5)
@[inherit_doc argH] def argK : FVec Ideal S64 .f32 := m ((c : Thread nD τ).loc main_arg6)

/-- The arrays the call's windows read. -/
def prepH : FVec Ideal S65536x1024 .f32 := V m c main_v45
@[inherit_doc prepH] def prepM : FVec Ideal S16x6x1024 .f32 := V m c main_v44
@[inherit_doc prepH] def prepN : FVec Ideal S1x1024 .f32 := V m c main_v46
@[inherit_doc prepH] def prepG : FVec Ideal S1024x2048 .bf16 := V m c main_v35
@[inherit_doc prepH] def prepZ : FVec Ideal S1024x1024 .bf16 := V m c main_v36
@[inherit_doc prepH] def prepX : FVec Ideal S1024x1536 .bf16 := V m c main_v37
@[inherit_doc prepH] def prepWq : FVec Ideal S1024x1024 .bf16 := V m c main_v39
@[inherit_doc prepH] def prepWk : FVec Ideal S1024x1024 .bf16 := V m c main_v40
@[inherit_doc prepH] def prepWv : FVec Ideal S1024x1024 .bf16 := V m c main_v41
@[inherit_doc prepH] def prepNq : FVec Ideal S1x128 .f32 := V m c main_v30
@[inherit_doc prepH] def prepNk : FVec Ideal S1x128 .f32 := V m c main_v34

theorem prepH_apply (R : Fin 65536) (C : Fin 1024) :
    prepH m c (ix2 R C) = argH m c (ix3 ⟨R.val / 8192, by omega⟩ ⟨R.val % 8192, by omega⟩ C) := by
  unfold prepH argH V
  simp only [List.flatten_cons, List.flatten_nil, List.append_nil, List.cons_append, List.nil_append]
  after_results
  pointwise

theorem prepM0_apply (b : Fin 8) (C : Fin 1024) : prepM m c (ix3 ⟨b.val, by omega⟩ 0 C) = argM m c (ix2 b ⟨C.val, by omega⟩) := by
  unfold prepM argM V
  simp only [List.flatten_cons, List.flatten_nil, List.append_nil, List.cons_append, List.nil_append]
  after_results
  pointwise

theorem prepM1_apply (b : Fin 8) (C : Fin 1024) : prepM m c (ix3 ⟨b.val, by omega⟩ 1 C) = argM m c (ix2 b ⟨1024 + C.val, by omega⟩) := by
  unfold prepM argM V
  simp only [List.flatten_cons, List.flatten_nil, List.append_nil, List.cons_append, List.nil_append]
  after_results
  pointwise

theorem prepN_apply (C : Fin 1024) : prepN m c (ix2 0 C) = argN m c (ix1 C) := by
  unfold prepN argN V
  simp only [List.flatten_cons, List.flatten_nil, List.append_nil, List.cons_append, List.nil_append]
  after_results
  pointwise

theorem prepG_apply (e : Fin 1024) (l : Fin 2048) : prepG m c (ix2 e l) = argP m c (ix2 e ⟨l.val, by omega⟩) := by
  unfold prepG argP V
  simp only [List.flatten_cons, List.flatten_nil, List.append_nil, List.cons_append, List.nil_append]
  after_results
  pointwise

theorem prepZ_apply (e : Fin 1024) (l : Fin 1024) : prepZ m c (ix2 e l) = argP m c (ix2 e ⟨2048 + l.val, by omega⟩) := by
  unfold prepZ argP V
  simp only [List.flatten_cons, List.flatten_nil, List.append_nil, List.cons_append, List.nil_append]
  after_results
  pointwise

theorem prepX_apply (e : Fin 1024) (l : Fin 1536) : prepX m c (ix2 e l) = argP m c (ix2 e ⟨3072 + l.val, by omega⟩) := by
  unfold prepX argP V
  simp only [List.flatten_cons, List.flatten_nil, List.append_nil, List.cons_append, List.nil_append]
  after_results
  pointwise

theorem prepWq_apply (e : Fin 1024) (l : Fin 1024) : prepWq m c (ix2 e l) = argP m c (ix2 e ⟨4640 + l.val, by omega⟩) := by
  unfold prepWq argP V
  simp only [List.flatten_cons, List.flatten_nil, List.append_nil, List.cons_append, List.nil_append]
  after_results
  pointwise

theorem prepWk_apply (e : Fin 1024) (l : Fin 1024) : prepWk m c (ix2 e l) = argP m c (ix2 e ⟨5664 + l.val, by omega⟩) := by
  unfold prepWk argP V
  simp only [List.flatten_cons, List.flatten_nil, List.append_nil, List.cons_append, List.nil_append]
  after_results
  pointwise

theorem prepWv_apply (e : Fin 1024) (l : Fin 1024) : prepWv m c (ix2 e l) = argP m c (ix2 e ⟨6688 + l.val, by omega⟩) := by
  unfold prepWv argP V
  simp only [List.flatten_cons, List.flatten_nil, List.append_nil, List.cons_append, List.nil_append]
  after_results
  pointwise

theorem prepNq_apply (l : Fin 128) : prepNq m c (ix2 0 l) = argQ m c (ix1 ⟨l.val % 64, by omega⟩) := by
  unfold prepNq argQ V
  simp only [List.flatten_cons, List.flatten_nil, List.append_nil, List.cons_append, List.nil_append]
  after_results
  pointwise

theorem prepNk_apply (l : Fin 128) : prepNk m c (ix2 0 l) = argK m c (ix1 ⟨l.val % 64, by omega⟩) := by
  unfold prepNk argK V
  simp only [List.flatten_cons, List.flatten_nil, List.append_nil, List.cons_append, List.nil_append]
  after_results
  pointwise

theorem blk0_apply (t : Fin grid0.N) (y : Fin 512) (e : Fin 1024) (R : Fin 65536) (hR : R.val = t.val * 512 + y.val) :
    iblk m c 0 t (ix2 y e) = V m c main_v45 (ix2 R e) := by
  blk_ext [iblk, index0 t]

theorem blk1_apply (t : Fin grid0.N) (k : Fin 6) (e : Fin 1024) (b : Fin 16) (hb : b.val = t.val / 16) :
    iblk m c 1 t (ix3 0 k e) = V m c main_v44 (ix3 b k e) := by
  blk_ext [iblk, index1 t]

theorem blk2_apply (t : Fin grid0.N) (e : Fin 1024) : iblk m c 2 t (ix2 0 e) = V m c main_v46 (ix2 0 e) := by
  blk_ext [iblk, index2 t]

theorem blk3_apply (t : Fin grid0.N) (e : Fin 1024) (l : Fin 2048) : iblk m c 3 t (ix2 e l) = V m c main_v35 (ix2 e l) := by
  blk_ext [iblk, index3 t]

theorem blk4_apply (t : Fin grid0.N) (e : Fin 1024) (l : Fin 1024) : iblk m c 4 t (ix2 e l) = V m c main_v36 (ix2 e l) := by
  blk_ext [iblk, index4 t]

theorem blk5_apply (t : Fin grid0.N) (e : Fin 1024) (l : Fin 1536) : iblk m c 5 t (ix2 e l) = V m c main_v37 (ix2 e l) := by
  blk_ext [iblk, index5 t]

theorem blk7_apply (t : Fin grid0.N) (e : Fin 1024) (l : Fin 1024) : iblk m c 7 t (ix2 e l) = V m c main_v39 (ix2 e l) := by
  blk_ext [iblk, index7 t]

theorem blk8_apply (t : Fin grid0.N) (e : Fin 1024) (l : Fin 1024) : iblk m c 8 t (ix2 e l) = V m c main_v40 (ix2 e l) := by
  blk_ext [iblk, index8 t]

theorem blk9_apply (t : Fin grid0.N) (e : Fin 1024) (l : Fin 1024) : iblk m c 9 t (ix2 e l) = V m c main_v41 (ix2 e l) := by
  blk_ext [iblk, index9 t]

theorem blk12_apply (t : Fin grid0.N) (e : Fin 128) (l : Fin 128) : iblk m c 12 t (ix2 e l) = V m c main_v26 (ix2 e l) := by
  blk_ext [iblk, index12 t]

theorem blk10_apply (t : Fin grid0.N) (y : Fin 512) (l : Fin 128) (R : Fin 8192) (hR : R.val = t.val % 16 * 512 + y.val) :
    iblk m c 10 t (ix2 y l) = V m c main_v82 (ix2 R l) := by
  blk_ext [iblk, index10 t]

theorem blk11_apply (t : Fin grid0.N) (y : Fin 512) (l : Fin 128) (R : Fin 8192) (hR : R.val = t.val % 16 * 512 + y.val) :
    iblk m c 11 t (ix2 y l) = V m c main_v86 (ix2 R l) := by
  blk_ext [iblk, index11 t]

theorem blk13_apply (t : Fin grid0.N) (l : Fin 128) : iblk m c 13 t (ix2 0 l) = V m c main_v30 (ix2 0 l) := by
  blk_ext [iblk, index13 t]

theorem blk14_apply (t : Fin grid0.N) (l : Fin 128) : iblk m c 14 t (ix2 0 l) = V m c main_v34 (ix2 0 l) := by
  blk_ext [iblk, index14 t]

end Cert.Proj

end
-- ==== Proof.ProjValue.lean ====
/- What each grid point of the input projection leaves is the reference's rows. -/
module

public import proofs.«01_k».proof.Proof.ProjReads

@[expose] public section

set_option maxRecDepth 16384

noncomputable section

namespace Cert.Proj

open Idealize.ShloMosaic Idealize.ShloMosaic.TcCoe Idealize.SL.Sem Cert.Kernel2Ideal Cert.Kernel2Ideal.Gen
open Cert.Reference2Ideal.Read (val_main_v2 val_main_v4 val_main_v30 val_main_v32 val_main_v33 val_main_v34 val_main_v36 val_main_v37 val_main_v38
  val_main_v58 val_main_v176 val_main_v178 val_main_v180 val_main_v182 val_main_v184 val_main_v186)

theorem pairRot_congr {u u' : Fin 128 → EReal} {bd bd' : Fin 128 → Fin 128 → EReal} {nw nw' : Fin 128 → EReal} {mask mask' : Fin 128 → BitVec 1}
    (cos sin : Fin 128 → EReal) (l : Fin 128) (hu : ∀ i, u i = u' i) (hb : ∀ i j, bd i j = bd' i j) (hn : ∀ i, nw i = nw' i)
    (hm : ∀ i, mask i = mask' i) : pairRot u bd nw mask cos sin l = pairRot u' bd' nw' mask' cos sin l := by
  obtain rfl : u = u' := funext hu
  obtain rfl : bd = bd' := funext fun i => funext (hb i)
  obtain rfl : nw = nw' := funext hn
  obtain rfl : mask = mask' := funext hm
  rfl

variable (m : (ℓ : Loc nD τ sig) → Buf (Elt Ideal) ℓ) (c : Dev nD)

/-- The normalised token of a row. -/
theorem token_value (t : Fin grid0.N) (y : Fin 512) (e : Fin 1024) (R : Fin 65536) (hR : R.val = t.val * 512 + y.val) :
    k0_pay2 (iblk m c 1 t) (iblk m c 0 t) (iblk m c 2 t) (ix2 y e)
      = val_main_v30 (F := Ideal) (argH m c) (argM m c) (argN m c) (ix3 ⟨R.val / 8192, by omega⟩ ⟨R.val % 8192, by omega⟩ e) := by
  have ht := point_lt t
  have hb : (⟨R.val / 8192, by omega⟩ : Fin 16).val = t.val / 16 := by show R.val / 8192 = _; omega
  refine (pay2_apply _ _ _ y e).trans (Eq.trans ?_ (token_apply _ _ _ _ _ _).symm)
  refine congrFun (congr (congr (congr (congrArg tokenNorm (funext fun i => ?_)) (funext fun i => ?_)) (funext fun i => ?_)) (funext fun i => ?_)) e
  · exact (blk0_apply m c t y i R hR).trans (prepH_apply m c R i)
  · exact (blk2_apply m c t i).trans (prepN_apply m c i)
  · exact (blk1_apply m c t 1 i ⟨R.val / 8192, by omega⟩ hb).trans (prepM1_apply m c ⟨R.val / 8192, by omega⟩ i)
  · exact (blk1_apply m c t 0 i ⟨R.val / 8192, by omega⟩ hb).trans (prepM0_apply m c ⟨R.val / 8192, by omega⟩ i)

theorem value16 (t : Fin grid0.N) (y : Fin 512) (C : Fin 2048) (R : Fin 65536) (hR : R.val = t.val * 512 + y.val) :
    out0_16 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (ix2 y C)
      = val_main_v176 (F := Ideal) (argH m c) (argM m c) (argN m c) (argP m c) (ix2 R C) := by
  rw [out16_eq]
  refine (pay3_apply _ _ _ _ y C).trans (Eq.trans ?_ ((v176_apply _ _ _ _ R C).trans (v32_apply _ _ _ _ _ _ C)).symm)
  exact Finset.sum_congr rfl fun e _ => congrArg₂ (· * ·) (token_value m c t y e R hR) ((blk3_apply m c t e C).trans (prepG_apply m c e C))

theorem value17 (t : Fin grid0.N) (y : Fin 512) (C : Fin 1024) (R : Fin 65536) (hR : R.val = t.val * 512 + y.val) :
    out0_17 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (ix2 y C)
      = val_main_v178 (F := Ideal) (argH m c) (argM m c) (argN m c) (argP m c) (ix2 R C) := by
  rw [out17_eq]
  refine (pay4_apply _ _ _ _ y C).trans (Eq.trans ?_ ((v178_apply _ _ _ _ R C).trans (v33_apply _ _ _ _ _ _ C)).symm)
  exact Finset.sum_congr rfl fun e _ => congrArg₂ (· * ·) (token_value m c t y e R hR) ((blk4_apply m c t e C).trans (prepZ_apply m c e C))

theorem value18 (t : Fin grid0.N) (y : Fin 512) (C : Fin 1536) (R : Fin 65536) (hR : R.val = t.val * 512 + y.val) :
    out0_18 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (ix2 y C)
      = val_main_v180 (F := Ideal) (argH m c) (argM m c) (argN m c) (argP m c) (ix2 R C) := by
  rw [out18_eq]
  refine (pay5_apply _ _ y C).trans (Eq.trans ?_ ((v180_apply _ _ _ _ R C).trans (v34_apply _ _ _ _ _ _ C)).symm)
  exact Finset.sum_congr rfl fun e _ => congrArg₂ (· * ·) (token_value m c t y e R hR) ((blk5_apply m c t e C).trans (prepX_apply m c e C))

theorem value22 (t : Fin grid0.N) (y : Fin 512) (C : Fin 1024) (R : Fin 65536) (hR : R.val = t.val * 512 + y.val) :
    out0_22 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (ix2 y C)
      = val_main_v186 (F := Ideal) (argH m c) (argM m c) (argN m c) (argP m c) (ix2 R C) := by
  rw [out22_eq]
  refine (pay6_apply _ _ y C).trans (Eq.trans ?_ ((v186_apply _ _ _ _ R C).trans (v38_apply _ _ _ _ _ _ C)).symm)
  exact Finset.sum_congr rfl fun e _ => congrArg₂ (· * ·) (token_value m c t y e R hR) ((blk9_apply m c t e C).trans (prepWv_apply m c e C))

theorem full20 (t : Fin grid0.N) (y : Fin 512) (C : Fin 1024) (R : Fin 65536) (hR : R.val = t.val * 512 + y.val) :
    k0_pay12 (k0_pay2 (iblk m c 1 t) (iblk m c 0 t) (iblk m c 2 t)) (iblk m c 7 t) (ix2 y C)
      = val_main_v36 (F := Ideal) (argH m c) (argM m c) (argN m c) (argP m c) (ix3 ⟨R.val / 8192, by omega⟩ ⟨R.val % 8192, by omega⟩ C) := by
  refine (pay12_apply _ _ y C).trans (Eq.trans ?_ (v36_apply _ _ _ _ _ _ C).symm)
  exact Finset.sum_congr rfl fun e _ => congrArg₂ (· * ·) (token_value m c t y e R hR) ((blk7_apply m c t e C).trans (prepWq_apply m c e C))

theorem value20 (t : Fin grid0.N) (y : Fin 512) (C : Fin 1024) (R : Fin 65536) (hR : R.val = t.val * 512 + y.val) :
    out0_20 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (ix2 y C)
      = val_main_v182 (F := Ideal) (argH m c) (argM m c) (argN m c) (argP m c) (argQ m c) (ix2 R C) := by
  have ht := point_lt t
  have hC : C.val < 1024 := C.isLt
  have hT : (⟨R.val % 8192, by omega⟩ : Fin 8192).val = t.val % 16 * 512 + y.val := by show R.val % 8192 = _; omega
  rw [out20_eq]
  unfold pairAt
  show pairRot _ _ _ _ _ _ _ * Ideal.ofBits FTy.f32 1040187392#32 = _
  rw [v182_apply]
  refine congrArg (· * Ideal.ofBits FTy.f32 1040187392#32) ?_
  rw [qRot_apply]
  refine (pairRot_congr (u' := fun i => (fun j => val_main_v36 (F := Ideal) (argH m c) (argM m c) (argN m c) (argP m c)
      (ix3 ⟨R.val / 8192, by omega⟩ ⟨R.val % 8192, by omega⟩ j)) ⟨C.val / 128 * 128 + i.val, by omega⟩)
    (bd' := sameHead) (nw' := fun i => (fun j => argQ m c (ix1 j)) ⟨i.val % 64, Nat.mod_lt _ (by omega)⟩) (mask' := maskBit) _ _ _
    (fun i => full20 m c t y _ R hR) (fun i j => (blk12_apply m c t i j).trans (prepBd_apply m c i j))
    (fun i => (blk13_apply m c t i).trans (prepNq_apply m c i)) (fun i => mask_apply y i)).trans ?_
  exact pairRot_eq (fun j => val_main_v36 (F := Ideal) (argH m c) (argM m c) (argN m c) (argP m c) (ix3 ⟨R.val / 8192, by omega⟩ ⟨R.val % 8192, by omega⟩ j))
    (fun j => argQ m c (ix1 j)) (val_main_v2 (F := Ideal) (ix1 ⟨R.val % 8192, by omega⟩)) (val_main_v4 (F := Ideal) (ix1 ⟨R.val % 8192, by omega⟩))
    (fun e => val_main_v58 (F := Ideal) (ix1 e)) (fun l => prepAng m c (ix2 ⟨R.val % 8192, by omega⟩ l)) _ _ (fun l => angle_apply m c _ l)
    (fun l => (blk10_apply m c t y l _ hT).trans (prepCos_apply m c _ l))
    (fun l => (blk11_apply m c t y l _ hT).trans ((prepSin_apply m c _ l).trans (congrArg (Ideal.sin _ * ·)
      ((prepSign_apply m c l).trans (congrArg (fun z => Scalar.select (maskBit l) z 1) ofBits_minus))))) C

theorem full21 (t : Fin grid0.N) (y : Fin 512) (C : Fin 1024) (R : Fin 65536) (hR : R.val = t.val * 512 + y.val) :
    k0_pay29 (k0_pay2 (iblk m c 1 t) (iblk m c 0 t) (iblk m c 2 t)) (iblk m c 8 t) (ix2 y C)
      = val_main_v37 (F := Ideal) (argH m c) (argM m c) (argN m c) (argP m c) (ix3 ⟨R.val / 8192, by omega⟩ ⟨R.val % 8192, by omega⟩ C) := by
  refine (pay29_apply _ _ y C).trans (Eq.trans ?_ (v37_apply _ _ _ _ _ _ C).symm)
  exact Finset.sum_congr rfl fun e _ => congrArg₂ (· * ·) (token_value m c t y e R hR) ((blk8_apply m c t e C).trans (prepWk_apply m c e C))

theorem value21 (t : Fin grid0.N) (y : Fin 512) (C : Fin 1024) (R : Fin 65536) (hR : R.val = t.val * 512 + y.val) :
    out0_21 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (ix2 y C)
      = val_main_v184 (F := Ideal) (argH m c) (argM m c) (argN m c) (argP m c) (argK m c) (ix2 R C) := by
  have ht := point_lt t
  have hC : C.val < 1024 := C.isLt
  have hT : (⟨R.val % 8192, by omega⟩ : Fin 8192).val = t.val % 16 * 512 + y.val := by show R.val % 8192 = _; omega
  rw [out21_eq]
  unfold pairAt
  show pairRot _ _ _ _ _ _ _ = _
  rw [v184_apply, kRot_apply]
  refine (pairRot_congr (u' := fun i => (fun j => val_main_v37 (F := Ideal) (argH m c) (argM m c) (argN m c) (argP m c)
      (ix3 ⟨R.val / 8192, by omega⟩ ⟨R.val % 8192, by omega⟩ j)) ⟨C.val / 128 * 128 + i.val, by omega⟩)
    (bd' := sameHead) (nw' := fun i => (fun j => argK m c (ix1 j)) ⟨i.val % 64, Nat.mod_lt _ (by omega)⟩) (mask' := maskBit) _ _ _
    (fun i => full21 m c t y _ R hR) (fun i j => (blk12_apply m c t i j).trans (prepBd_apply m c i j))
    (fun i => (blk14_apply m c t i).trans (prepNk_apply m c i)) (fun i => mask_apply y i)).trans ?_
  exact pairRot_eq (fun j => val_main_v37 (F := Ideal) (argH m c) (argM m c) (argN m c) (argP m c) (ix3 ⟨R.val / 8192, by omega⟩ ⟨R.val % 8192, by omega⟩ j))
    (fun j => argK m c (ix1 j)) (val_main_v2 (F := Ideal) (ix1 ⟨R.val % 8192, by omega⟩)) (val_main_v4 (F := Ideal) (ix1 ⟨R.val % 8192, by omega⟩))
    (fun e => val_main_v58 (F := Ideal) (ix1 e)) (fun l => prepAng m c (ix2 ⟨R.val % 8192, by omega⟩ l)) _ _ (fun l => angle_apply m c _ l)
    (fun l => (blk10_apply m c t y l _ hT).trans (prepCos_apply m c _ l))
    (fun l => (blk11_apply m c t y l _ hT).trans ((prepSin_apply m c _ l).trans (congrArg (Ideal.sin _ * ·)
      ((prepSign_apply m c l).trans (congrArg (fun z => Scalar.select (maskBit l) z 1) ofBits_minus))))) C

end Cert.Proj

end
-- ==== Proof.ProjArray.lean ====
/- The arrays the input projection returns are the reference's. -/
module

public import proofs.«01_k».proof.Proof.ProjValue

@[expose] public section

set_option maxRecDepth 16384

noncomputable section

namespace Cert.Proj

open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem covers16 : (cfg0.win 16).Covers :=
  (cfg0.win 16).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index16 ⟨(β 0).val, _⟩) a).trans ?_
      fin_cases a
      · rfl
      · show 0 = (β 1).val
        omega

theorem arrAt16 : (dats m 0 c).arrAt 16 cfg0.N
    = Cert.Reference2Ideal.Read.val_main_v176 (F := Ideal) (argH m c) (argM m c) (argN m c) (argP m c) := by
  refine (dats m 0 c).arrAt_eq_of_covers 16 _ covers16 fun t hf y => ?_
  blk_simp
  rw [after0_16]
  have h0 := Pipeline.Window.rect_emb_val win0_16 t y 0
  have h1 := Pipeline.Window.rect_emb_val win0_16 t y 1
  rw [index16 t] at h0 h1
  obtain ⟨a, b, rfl⟩ : ∃ (a : Fin 512) (b : Fin 2048), y = ix2 a b := ⟨y 0, y 1, eq_ix2 y⟩
  refine (value16 m c t a b _ h0).trans (congrArg _ ?_)
  refine Eq.trans (congrArg (ix2 _) (Fin.ext ?_)) (eq_ix2 (n0 := 65536) (n1 := 2048) _).symm
  refine Eq.trans ?_ h1.symm
  show b.val = 0 * 2048 + b.val
  omega

theorem covers17 : (cfg0.win 17).Covers :=
  (cfg0.win 17).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index17 ⟨(β 0).val, _⟩) a).trans ?_
      fin_cases a
      · rfl
      · show 0 = (β 1).val
        omega

theorem arrAt17 : (dats m 0 c).arrAt 17 cfg0.N
    = Cert.Reference2Ideal.Read.val_main_v178 (F := Ideal) (argH m c) (argM m c) (argN m c) (argP m c) := by
  refine (dats m 0 c).arrAt_eq_of_covers 17 _ covers17 fun t hf y => ?_
  blk_simp
  rw [after0_17]
  have h0 := Pipeline.Window.rect_emb_val win0_17 t y 0
  have h1 := Pipeline.Window.rect_emb_val win0_17 t y 1
  rw [index17 t] at h0 h1
  obtain ⟨a, b, rfl⟩ : ∃ (a : Fin 512) (b : Fin 1024), y = ix2 a b := ⟨y 0, y 1, eq_ix2 y⟩
  refine (value17 m c t a b _ h0).trans (congrArg _ ?_)
  refine Eq.trans (congrArg (ix2 _) (Fin.ext ?_)) (eq_ix2 (n0 := 65536) (n1 := 1024) _).symm
  refine Eq.trans ?_ h1.symm
  show b.val = 0 * 1024 + b.val
  omega

theorem covers18 : (cfg0.win 18).Covers :=
  (cfg0.win 18).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index18 ⟨(β 0).val, _⟩) a).trans ?_
      fin_cases a
      · rfl
      · show 0 = (β 1).val
        omega

theorem arrAt18 : (dats m 0 c).arrAt 18 cfg0.N
    = Cert.Reference2Ideal.Read.val_main_v180 (F := Ideal) (argH m c) (argM m c) (argN m c) (argP m c) := by
  refine (dats m 0 c).arrAt_eq_of_covers 18 _ covers18 fun t hf y => ?_
  blk_simp
  rw [after0_18]
  have h0 := Pipeline.Window.rect_emb_val win0_18 t y 0
  have h1 := Pipeline.Window.rect_emb_val win0_18 t y 1
  rw [index18 t] at h0 h1
  obtain ⟨a, b, rfl⟩ : ∃ (a : Fin 512) (b : Fin 1536), y = ix2 a b := ⟨y 0, y 1, eq_ix2 y⟩
  refine (value18 m c t a b _ h0).trans (congrArg _ ?_)
  refine Eq.trans (congrArg (ix2 _) (Fin.ext ?_)) (eq_ix2 (n0 := 65536) (n1 := 1536) _).symm
  refine Eq.trans ?_ h1.symm
  show b.val = 0 * 1536 + b.val
  omega

theorem covers20 : (cfg0.win 20).Covers :=
  (cfg0.win 20).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index20 ⟨(β 0).val, _⟩) a).trans ?_
      fin_cases a
      · rfl
      · show 0 = (β 1).val
        omega

theorem arrAt20 : (dats m 0 c).arrAt 20 cfg0.N
    = Cert.Reference2Ideal.Read.val_main_v182 (F := Ideal) (argH m c) (argM m c) (argN m c) (argP m c) (argQ m c) := by
  refine (dats m 0 c).arrAt_eq_of_covers 20 _ covers20 fun t hf y => ?_
  blk_simp
  rw [after0_20]
  have h0 := Pipeline.Window.rect_emb_val win0_20 t y 0
  have h1 := Pipeline.Window.rect_emb_val win0_20 t y 1
  rw [index20 t] at h0 h1
  obtain ⟨a, b, rfl⟩ : ∃ (a : Fin 512) (b : Fin 1024), y = ix2 a b := ⟨y 0, y 1, eq_ix2 y⟩
  refine (value20 m c t a b _ h0).trans (congrArg _ ?_)
  refine Eq.trans (congrArg (ix2 _) (Fin.ext ?_)) (eq_ix2 (n0 := 65536) (n1 := 1024) _).symm
  refine Eq.trans ?_ h1.symm
  show b.val = 0 * 1024 + b.val
  omega

theorem covers21 : (cfg0.win 21).Covers :=
  (cfg0.win 21).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index21 ⟨(β 0).val, _⟩) a).trans ?_
      fin_cases a
      · rfl
      · show 0 = (β 1).val
        omega

theorem arrAt21 : (dats m 0 c).arrAt 21 cfg0.N
    = Cert.Reference2Ideal.Read.val_main_v184 (F := Ideal) (argH m c) (argM m c) (argN m c) (argP m c) (argK m c) := by
  refine (dats m 0 c).arrAt_eq_of_covers 21 _ covers21 fun t hf y => ?_
  blk_simp
  rw [after0_21]
  have h0 := Pipeline.Window.rect_emb_val win0_21 t y 0
  have h1 := Pipeline.Window.rect_emb_val win0_21 t y 1
  rw [index21 t] at h0 h1
  obtain ⟨a, b, rfl⟩ : ∃ (a : Fin 512) (b : Fin 1024), y = ix2 a b := ⟨y 0, y 1, eq_ix2 y⟩
  refine (value21 m c t a b _ h0).trans (congrArg _ ?_)
  refine Eq.trans (congrArg (ix2 _) (Fin.ext ?_)) (eq_ix2 (n0 := 65536) (n1 := 1024) _).symm
  refine Eq.trans ?_ h1.symm
  show b.val = 0 * 1024 + b.val
  omega

theorem covers22 : (cfg0.win 22).Covers :=
  (cfg0.win 22).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index22 ⟨(β 0).val, _⟩) a).trans ?_
      fin_cases a
      · rfl
      · show 0 = (β 1).val
        omega

theorem arrAt22 : (dats m 0 c).arrAt 22 cfg0.N
    = Cert.Reference2Ideal.Read.val_main_v186 (F := Ideal) (argH m c) (argM m c) (argN m c) (argP m c) := by
  refine (dats m 0 c).arrAt_eq_of_covers 22 _ covers22 fun t hf y => ?_
  blk_simp
  rw [after0_22]
  have h0 := Pipeline.Window.rect_emb_val win0_22 t y 0
  have h1 := Pipeline.Window.rect_emb_val win0_22 t y 1
  rw [index22 t] at h0 h1
  obtain ⟨a, b, rfl⟩ : ∃ (a : Fin 512) (b : Fin 1024), y = ix2 a b := ⟨y 0, y 1, eq_ix2 y⟩
  refine (value22 m c t a b _ h0).trans (congrArg _ ?_)
  refine Eq.trans (congrArg (ix2 _) (Fin.ext ?_)) (eq_ix2 (n0 := 65536) (n1 := 1024) _).symm
  refine Eq.trans ?_ h1.symm
  show b.val = 0 * 1024 + b.val
  omega

end Cert.Proj

end
-- ==== Proof.ProjStep.lean ====
/- The step sizes the input projection returns are the reference's. -/
module

public import proofs.«01_k».proof.Proof.ProjValue

@[expose] public section

set_option maxRecDepth 16384

noncomputable section

namespace Cert.Proj

section Reference

open Idealize.ShloMosaic Idealize.ShloMosaic.TcCoe Idealize.SL.Sem Cert.Reference2Ideal Cert.Reference2Ideal.Gen Cert.Reference2Ideal.Read

variable (x0 : FVec Ideal S8x8192x1024 .f32) (x1 : FVec Ideal S8x6144 .f32) (x2 : FVec Ideal S1024 .f32) (x3 : FVec Ideal S1024x7712 .f32)
  (x4 : FVec Ideal S2x16 .f32)

theorem v191_apply (b : Fin 8) (t : Fin 8192) (d : Fin 2) (h : Fin 16) :
    val_main_v191 (F := Ideal) x0 x1 x2 x3 x4 (ix4 b t d h)
      = (∑ e : Fin 1024, val_main_v30 (F := Ideal) x0 x1 x2 (ix3 b t e) * x3 (ix2 e ⟨4608 + (d.val * 16 + h.val), by omega⟩)) + x4 (ix2 d h) := by
  unfold val_main_v191 val_main_v190 val_main_v189 val_main_v188 val_main_v187 val_main_v35 val_main_v31
  pointwise

/-- The softplus, as both sides compute it. -/
def softplusOf (u : EReal) : EReal := max u 0 + Ideal.log (1 + Ideal.exp (-max u (-u)))

theorem v194_apply (R : Fin 65536) (l : Fin 256) :
    val_main_v194 (F := Ideal) x0 x1 x2 x3 x4 (ix2 R l)
      = softplusOf (if h : l.val % 128 < 16 then
          val_main_v191 (F := Ideal) x0 x1 x2 x3 x4 (ix4 ⟨R.val / 8192, by omega⟩ ⟨R.val % 8192, by omega⟩ ⟨l.val / 128, by omega⟩ ⟨l.val % 128, h⟩)
        else 0) := by
  unfold val_main_v194 val_main_v193 val_main_call3_v11 val_main_call3_v10 val_main_call3_v9 val_main_call3_v8 val_main_call3_v7 val_main_call3_v6 val_main_call3_v5
    val_main_call3_v4 val_main_call3_v3 val_main_call3_v2 val_main_call3_v1 val_main_call3_v0 val_main_call3_cst val_main_v192 val_main_call2_v0 val_main_c_15
  pointwise
  rw [if_neg fun h => h rfl]
  by_cases h : l.val % 128 < 16
  · have hc : R.val / 8192 < 8 ∧ R.val % 8192 < 8192 ∧ l.val / 128 < 2 ∧ l.val % 128 < 16 := ⟨by omega, by omega, by omega, h⟩
    simp only [dif_pos hc, dif_pos h]
    rfl
  · have hc : ¬(R.val / 8192 < 8 ∧ R.val % 8192 < 8192 ∧ l.val / 128 < 2 ∧ l.val % 128 < 16) := fun hh => h hh.2.2.2
    have hz : (FloatOps.sitofp .f32 0#32 : Ideal .f32) = 0 := by
      show (((0#32).toInt : ℝ) : EReal) = 0
      simp
    simp only [dif_neg hc, dif_neg h, hz]
    rfl

end Reference

open Idealize.ShloMosaic Idealize.ShloMosaic.TcCoe Idealize.SL.Sem Cert.Kernel2Ideal Cert.Kernel2Ideal.Gen
open Cert.Reference2Ideal.Read (val_main_v30 val_main_v191 val_main_v194)

theorem pay7_apply (a : FVec Ideal S512x1024 .bf16) (w : Vec Ideal S1024x256 .bf16) (b : Vec Ideal S1x256 .f32) (y : Fin 512) (l : Fin 256) :
    k0_pay7 a w b (ix2 y l)
      = max ((∑ e, a (ix2 y e) * w (ix2 e l)) + b (ix2 0 l)) 0
        + Ideal.log (1 + Ideal.exp (-max ((∑ e, a (ix2 y e) * w (ix2 e l)) + b (ix2 0 l)) (-((∑ e, a (ix2 y e) * w (ix2 e l)) + b (ix2 0 l))))) := by
  unfold k0_pay7
  pointwise
  simp only [sub_eq_add_neg, zero_add]
  rfl

theorem ld8 {e : EltTy} (x : Vec Ideal S1024x256 e) : View.ld x r0_8 = x :=
  View.ld_unit_lit _ x (by intro a; fin_cases a <;> rfl)

theorem ld9 {e : EltTy} (x : Vec Ideal S1x256 e) : View.ld x r0_9 = x :=
  View.ld_unit_lit _ x (by intro a; fin_cases a <;> rfl)

section Out

variable (x0 : Vec Ideal S512x1024 .f32) (x1 : Vec Ideal S1x6x1024 .f32) (x2 : Vec Ideal S1x1024 .f32) (x3 : Vec Ideal S1024x2048 .bf16)
  (x4 : Vec Ideal S1024x1024 .bf16) (x5 : Vec Ideal S1024x1536 .bf16) (x6 : Vec Ideal S1024x256 .bf16) (x7 x8 x9 : Vec Ideal S1024x1024 .bf16)
  (x10 x11 : Vec Ideal S512x128 .f32) (x12 : Vec Ideal S128x128 .bf16) (x13 x14 : Vec Ideal S1x128 .f32) (x15 : Vec Ideal S1x256 .f32)

theorem out19_eq : out0_19 x0 x1 x2 x3 x4 x5 x6 x7 x8 x9 x10 x11 x12 x13 x14 x15 = k0_pay7 (k0_pay2 x1 x0 x2) x6 x15 := by
  unfold_out out0_19
  refine (View.canon_unit_zero (funext fun a => by fin_cases a <;> rfl) _ _).trans ?_
  simp only [ld0, ld1, ld2, ld3, ld5, ld6, ld8, ld9]

end Out

theorem index6 : ∀ t : Fin grid0.N, win0_6.index t = ![0, 0] := by decide +kernel
theorem index15 : ∀ t : Fin grid0.N, win0_15.index t = ![0, 0] := by decide +kernel
theorem index19 : ∀ t : Fin grid0.N, win0_19.index t = ![t.val, 0] := by decide +kernel

variable (m : (ℓ : Loc nD τ sig) → Buf (Elt Ideal) ℓ) (c : Dev nD)

/-- The bias of the step sizes, and the arrays the step sizes' windows read. -/
def argB : FVec Ideal S2x16 .f32 := m ((c : Thread nD τ).loc main_arg4)
@[inherit_doc argB] def prepWd : FVec Ideal S1024x256 .bf16 := V m c main_v38
@[inherit_doc argB] def prepB : FVec Ideal S1x256 .f32 := V m c main_v17

set_option maxHeartbeats 1000000 in
theorem prepWd_apply (e : Fin 1024) (l : Fin 256) :
    prepWd m c (ix2 e l) = if h : l.val % 128 < 16 then argP m c (ix2 e ⟨4608 + (l.val / 128 * 16 + l.val % 128), by omega⟩) else 0 := by
  unfold prepWd argP V
  simp only [List.flatten_cons, List.flatten_nil, List.append_nil, List.cons_append, List.nil_append]
  after_results
  pointwise
  split_ifs <;> first | (exfalso; omega) | skip
  all_goals simp only [↓ StableHlo.readResult]
  all_goals pointwise
  all_goals first
    | (rw [dif_neg (by omega)]; done)
    | (rw [dif_pos (by omega)]
       refine congrArg (m (c, Proc.tc.devRef main_arg3)) (congrArg₂ ix2 (Fin.ext ?_) (Fin.ext ?_)) <;> first | rfl | (show _ = _; dsimp only; omega))
    | skip

set_option maxHeartbeats 1000000 in
theorem prepB_apply (l : Fin 256) :
    prepB m c (ix2 0 l) = if h : l.val % 128 < 16 then argB m c (ix2 ⟨l.val / 128, by omega⟩ ⟨l.val % 128, h⟩) else 0 := by
  unfold prepB argB V
  simp only [List.flatten_cons, List.flatten_nil, List.append_nil, List.cons_append, List.nil_append]
  after_results
  pointwise
  split_ifs <;> first | (exfalso; omega) | skip
  all_goals simp only [↓ StableHlo.readResult]
  all_goals pointwise
  all_goals first
    | (rw [dif_neg (by omega)]; done)
    | (rw [dif_pos (by omega)]
       exact congrArg (m (c, Proc.tc.devRef main_arg4)) (congrArg₂ ix2 (Fin.ext (show 0 = l.val / 128 by omega)) (Fin.ext (show l.val = l.val % 128 by omega))))
    | (rw [dif_pos (by omega)]
       exact congrArg (m (c, Proc.tc.devRef main_arg4)) (congrArg₂ ix2 (Fin.ext (show 1 = l.val / 128 by omega)) (Fin.ext (show l.val - 16 - 112 = l.val % 128 by omega))))
    | skip

theorem blk6_apply (t : Fin grid0.N) (e : Fin 1024) (l : Fin 256) : iblk m c 6 t (ix2 e l) = V m c main_v38 (ix2 e l) := by
  blk_ext [iblk, index6 t]

theorem blk15_apply (t : Fin grid0.N) (l : Fin 256) : iblk m c 15 t (ix2 0 l) = V m c main_v17 (ix2 0 l) := by
  blk_ext [iblk, index15 t]

theorem value19 (t : Fin grid0.N) (y : Fin 512) (l : Fin 256) (R : Fin 65536) (hR : R.val = t.val * 512 + y.val) :
    out0_19 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) (iblk m c 15 t) (ix2 y l)
      = val_main_v194 (F := Ideal) (argH m c) (argM m c) (argN m c) (argP m c) (argB m c) (ix2 R l) := by
  rw [out19_eq]
  refine (pay7_apply _ _ _ y l).trans (Eq.trans ?_ (v194_apply _ _ _ _ _ R l).symm)
  refine congrArg softplusOf (Eq.trans (congrArg₂ (· + ·) (Finset.sum_congr rfl fun e _ => congrArg₂ (· * ·) (token_value m c t y e R hR)
    ((blk6_apply m c t e l).trans (prepWd_apply m c e l))) ((blk15_apply m c t l).trans (prepB_apply m c l))) ?_)
  by_cases h : l.val % 128 < 16
  · simp only [dif_pos h]
    exact (v191_apply _ _ _ _ _ ⟨R.val / 8192, by omega⟩ ⟨R.val % 8192, by omega⟩ ⟨l.val / 128, by omega⟩ ⟨l.val % 128, h⟩).symm
  · simp only [dif_neg h, mul_zero, Finset.sum_const_zero, add_zero]

theorem covers19 : (cfg0.win 19).Covers :=
  (cfg0.win 19).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index19 ⟨(β 0).val, _⟩) a).trans ?_
      fin_cases a
      · rfl
      · show 0 = (β 1).val
        omega

theorem arrAt19 : (dats m 0 c).arrAt 19 cfg0.N
    = Cert.Reference2Ideal.Read.val_main_v194 (F := Ideal) (argH m c) (argM m c) (argN m c) (argP m c) (argB m c) := by
  refine (dats m 0 c).arrAt_eq_of_covers 19 _ covers19 fun t hf y => ?_
  blk_simp
  rw [after0_19]
  have h0 := Pipeline.Window.rect_emb_val win0_19 t y 0
  have h1 := Pipeline.Window.rect_emb_val win0_19 t y 1
  rw [index19 t] at h0 h1
  obtain ⟨a, b, rfl⟩ : ∃ (a : Fin 512) (b : Fin 256), y = ix2 a b := ⟨y 0, y 1, eq_ix2 y⟩
  refine (value19 m c t a b _ h0).trans (congrArg _ ?_)
  refine Eq.trans (congrArg (ix2 _) (Fin.ext ?_)) (eq_ix2 (n0 := 65536) (n1 := 256) _).symm
  refine Eq.trans ?_ h1.symm
  show b.val = 0 * 256 + b.val
  omega

end Cert.Proj

end
-- ==== Proof.ProjClaim.lean ====
/- The input projection's claims: the reference leaves its arguments alone, and the results of the two are the same arrays. -/
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.ProjArray
public import proofs.«01_k».proof.Proof.ProjStep
public import Idealize.ShloMosaic.Lib.Quiescent
public import Idealize.ShloMosaic.Adequacy
public import Idealize.ShloMosaic.Init

@[expose] public section

noncomputable section

namespace Cert.Proj

open Idealize.ShloMosaic Idealize.SL.Sem

theorem reference_frame : Cert.quiescent_Reference2Ideal (hReference2Ideal := Cert.Reference2Ideal.Gen.facts) := fun m ρ _ =>
  (θ_run _ _ _).mono (fun r h => ⟨fun c => (h c).2.2.2.2.2.2.2, sem_eq_zero_of_no_sems rfl r.2⟩) (Cert.Reference2Ideal.Value.run m ρ)

theorem agree0 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (e : m' ((c.tc : Thread Cert.Reference2Ideal.nD Cert.Reference2Ideal.τ).loc Cert.Reference2Ideal.main_arg0)
      = m ((c.tc : Thread Cert.Kernel2Ideal.nD Cert.Kernel2Ideal.τ).loc Cert.Kernel2Ideal.main_arg0)) :
    StableHlo.launchContents m' c (Proc.devRef .tc Cert.Reference2Ideal.main_arg0) = argH m c := e

theorem agree1 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (e : m' ((c.tc : Thread Cert.Reference2Ideal.nD Cert.Reference2Ideal.τ).loc Cert.Reference2Ideal.main_arg1)
      = m ((c.tc : Thread Cert.Kernel2Ideal.nD Cert.Kernel2Ideal.τ).loc Cert.Kernel2Ideal.main_arg1)) :
    StableHlo.launchContents m' c (Proc.devRef .tc Cert.Reference2Ideal.main_arg1) = argM m c := e

theorem agree2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (e : m' ((c.tc : Thread Cert.Reference2Ideal.nD Cert.Reference2Ideal.τ).loc Cert.Reference2Ideal.main_arg2)
      = m ((c.tc : Thread Cert.Kernel2Ideal.nD Cert.Kernel2Ideal.τ).loc Cert.Kernel2Ideal.main_arg2)) :
    StableHlo.launchContents m' c (Proc.devRef .tc Cert.Reference2Ideal.main_arg2) = argN m c := e

theorem agree3 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (e : m' ((c.tc : Thread Cert.Reference2Ideal.nD Cert.Reference2Ideal.τ).loc Cert.Reference2Ideal.main_arg3)
      = m ((c.tc : Thread Cert.Kernel2Ideal.nD Cert.Kernel2Ideal.τ).loc Cert.Kernel2Ideal.main_arg3)) :
    StableHlo.launchContents m' c (Proc.devRef .tc Cert.Reference2Ideal.main_arg3) = argP m c := e

theorem agree4 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (e : m' ((c.tc : Thread Cert.Reference2Ideal.nD Cert.Reference2Ideal.τ).loc Cert.Reference2Ideal.main_arg4)
      = m ((c.tc : Thread Cert.Kernel2Ideal.nD Cert.Kernel2Ideal.τ).loc Cert.Kernel2Ideal.main_arg4)) :
    StableHlo.launchContents m' c (Proc.devRef .tc Cert.Reference2Ideal.main_arg4) = argB m c := e

theorem agree5 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (e : m' ((c.tc : Thread Cert.Reference2Ideal.nD Cert.Reference2Ideal.τ).loc Cert.Reference2Ideal.main_arg5)
      = m ((c.tc : Thread Cert.Kernel2Ideal.nD Cert.Kernel2Ideal.τ).loc Cert.Kernel2Ideal.main_arg5)) :
    StableHlo.launchContents m' c (Proc.devRef .tc Cert.Reference2Ideal.main_arg5) = argQ m c := e

theorem agree6 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (e : m' ((c.tc : Thread Cert.Reference2Ideal.nD Cert.Reference2Ideal.τ).loc Cert.Reference2Ideal.main_arg6)
      = m ((c.tc : Thread Cert.Kernel2Ideal.nD Cert.Kernel2Ideal.τ).loc Cert.Kernel2Ideal.main_arg6)) :
    StableHlo.launchContents m' c (Proc.devRef .tc Cert.Reference2Ideal.main_arg6) = argK m c := e

theorem same16 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (a0 : (StableHlo.launchContents m' c) (Proc.devRef .tc Cert.Reference2Ideal.main_arg0) = argH m c) (a1 : (StableHlo.launchContents m' c) (Proc.devRef .tc Cert.Reference2Ideal.main_arg1) = argM m c) (a2 : (StableHlo.launchContents m' c) (Proc.devRef .tc Cert.Reference2Ideal.main_arg2) = argN m c) (a3 : (StableHlo.launchContents m' c) (Proc.devRef .tc Cert.Reference2Ideal.main_arg3) = argP m c) :
    Cert.Reference2Ideal.Read.val_main_v176 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3))
      = (Cert.Kernel2Ideal.Gen.dats m 0 c).arrAt 16 Cert.Kernel2Ideal.cfg0.N := by
  rw [a0, a1, a2, a3]
  exact (arrAt16 m c).symm

theorem same17 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (a0 : (StableHlo.launchContents m' c) (Proc.devRef .tc Cert.Reference2Ideal.main_arg0) = argH m c) (a1 : (StableHlo.launchContents m' c) (Proc.devRef .tc Cert.Reference2Ideal.main_arg1) = argM m c) (a2 : (StableHlo.launchContents m' c) (Proc.devRef .tc Cert.Reference2Ideal.main_arg2) = argN m c) (a3 : (StableHlo.launchContents m' c) (Proc.devRef .tc Cert.Reference2Ideal.main_arg3) = argP m c) :
    Cert.Reference2Ideal.Read.val_main_v178 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3))
      = (Cert.Kernel2Ideal.Gen.dats m 0 c).arrAt 17 Cert.Kernel2Ideal.cfg0.N := by
  rw [a0, a1, a2, a3]
  exact (arrAt17 m c).symm

theorem same18 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (a0 : (StableHlo.launchContents m' c) (Proc.devRef .tc Cert.Reference2Ideal.main_arg0) = argH m c) (a1 : (StableHlo.launchContents m' c) (Proc.devRef .tc Cert.Reference2Ideal.main_arg1) = argM m c) (a2 : (StableHlo.launchContents m' c) (Proc.devRef .tc Cert.Reference2Ideal.main_arg2) = argN m c) (a3 : (StableHlo.launchContents m' c) (Proc.devRef .tc Cert.Reference2Ideal.main_arg3) = argP m c) :
    Cert.Reference2Ideal.Read.val_main_v180 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3))
      = (Cert.Kernel2Ideal.Gen.dats m 0 c).arrAt 18 Cert.Kernel2Ideal.cfg0.N := by
  rw [a0, a1, a2, a3]
  exact (arrAt18 m c).symm

theorem same19 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (a0 : (StableHlo.launchContents m' c) (Proc.devRef .tc Cert.Reference2Ideal.main_arg0) = argH m c) (a1 : (StableHlo.launchContents m' c) (Proc.devRef .tc Cert.Reference2Ideal.main_arg1) = argM m c) (a2 : (StableHlo.launchContents m' c) (Proc.devRef .tc Cert.Reference2Ideal.main_arg2) = argN m c) (a3 : (StableHlo.launchContents m' c) (Proc.devRef .tc Cert.Reference2Ideal.main_arg3) = argP m c) (a4 : (StableHlo.launchContents m' c) (Proc.devRef .tc Cert.Reference2Ideal.main_arg4) = argB m c) :
    Cert.Reference2Ideal.Read.val_main_v194 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3)) ((StableHlo.launchContents m' c) (Proc.devRef .tc Cert.Reference2Ideal.main_arg4))
      = (Cert.Kernel2Ideal.Gen.dats m 0 c).arrAt 19 Cert.Kernel2Ideal.cfg0.N := by
  rw [a0, a1, a2, a3, a4]
  exact (arrAt19 m c).symm

theorem same20 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (a0 : (StableHlo.launchContents m' c) (Proc.devRef .tc Cert.Reference2Ideal.main_arg0) = argH m c) (a1 : (StableHlo.launchContents m' c) (Proc.devRef .tc Cert.Reference2Ideal.main_arg1) = argM m c) (a2 : (StableHlo.launchContents m' c) (Proc.devRef .tc Cert.Reference2Ideal.main_arg2) = argN m c) (a3 : (StableHlo.launchContents m' c) (Proc.devRef .tc Cert.Reference2Ideal.main_arg3) = argP m c) (a5 : (StableHlo.launchContents m' c) (Proc.devRef .tc Cert.Reference2Ideal.main_arg5) = argQ m c) :
    Cert.Reference2Ideal.Read.val_main_v182 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3)) ((StableHlo.launchContents m' c) (Proc.devRef .tc Cert.Reference2Ideal.main_arg5))
      = (Cert.Kernel2Ideal.Gen.dats m 0 c).arrAt 20 Cert.Kernel2Ideal.cfg0.N := by
  rw [a0, a1, a2, a3, a5]
  exact (arrAt20 m c).symm

theorem same21 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (a0 : (StableHlo.launchContents m' c) (Proc.devRef .tc Cert.Reference2Ideal.main_arg0) = argH m c) (a1 : (StableHlo.launchContents m' c) (Proc.devRef .tc Cert.Reference2Ideal.main_arg1) = argM m c) (a2 : (StableHlo.launchContents m' c) (Proc.devRef .tc Cert.Reference2Ideal.main_arg2) = argN m c) (a3 : (StableHlo.launchContents m' c) (Proc.devRef .tc Cert.Reference2Ideal.main_arg3) = argP m c) (a6 : (StableHlo.launchContents m' c) (Proc.devRef .tc Cert.Reference2Ideal.main_arg6) = argK m c) :
    Cert.Reference2Ideal.Read.val_main_v184 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3)) ((StableHlo.launchContents m' c) (Proc.devRef .tc Cert.Reference2Ideal.main_arg6))
      = (Cert.Kernel2Ideal.Gen.dats m 0 c).arrAt 21 Cert.Kernel2Ideal.cfg0.N := by
  rw [a0, a1, a2, a3, a6]
  exact (arrAt21 m c).symm

theorem same22 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (a0 : (StableHlo.launchContents m' c) (Proc.devRef .tc Cert.Reference2Ideal.main_arg0) = argH m c) (a1 : (StableHlo.launchContents m' c) (Proc.devRef .tc Cert.Reference2Ideal.main_arg1) = argM m c) (a2 : (StableHlo.launchContents m' c) (Proc.devRef .tc Cert.Reference2Ideal.main_arg2) = argN m c) (a3 : (StableHlo.launchContents m' c) (Proc.devRef .tc Cert.Reference2Ideal.main_arg3) = argP m c) :
    Cert.Reference2Ideal.Read.val_main_v186 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3))
      = (Cert.Kernel2Ideal.Gen.dats m 0 c).arrAt 22 Cert.Kernel2Ideal.cfg0.N := by
  rw [a0, a1, a2, a3]
  exact (arrAt22 m c).symm

/-- The reference's run, each result named by its stage. -/
theorem reference_run (m' : (ℓ : Loc Cert.Reference2Ideal.nD Cert.Reference2Ideal.τ Cert.Reference2Ideal.sig) → Buf (Elt Ideal) ℓ)
    (g' : Dev Cert.Reference2Ideal.nD → PrngReg) :
    θ_run (Cert.Reference2Ideal.defs (F := Ideal)) (onTc (τ := Cert.Reference2Ideal.τ) (Cert.Reference2Ideal.main (F := Ideal))) ⟨m', fun _ => 0, g'⟩
      (fun r => ∀ c : Dev Cert.Reference2Ideal.nD,
      r.2.mem ((c.tc : Thread Cert.Reference2Ideal.nD Cert.Reference2Ideal.τ).loc Cert.Reference2Ideal.main_v176) = Cert.Reference2Ideal.Read.val_main_v176 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3))
      ∧ r.2.mem ((c.tc : Thread Cert.Reference2Ideal.nD Cert.Reference2Ideal.τ).loc Cert.Reference2Ideal.main_v178) = Cert.Reference2Ideal.Read.val_main_v178 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3))
      ∧ r.2.mem ((c.tc : Thread Cert.Reference2Ideal.nD Cert.Reference2Ideal.τ).loc Cert.Reference2Ideal.main_v180) = Cert.Reference2Ideal.Read.val_main_v180 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3))
      ∧ r.2.mem ((c.tc : Thread Cert.Reference2Ideal.nD Cert.Reference2Ideal.τ).loc Cert.Reference2Ideal.main_v182) = Cert.Reference2Ideal.Read.val_main_v182 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3)) ((StableHlo.launchContents m' c) (Proc.devRef .tc Cert.Reference2Ideal.main_arg5))
      ∧ r.2.mem ((c.tc : Thread Cert.Reference2Ideal.nD Cert.Reference2Ideal.τ).loc Cert.Reference2Ideal.main_v184) = Cert.Reference2Ideal.Read.val_main_v184 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3)) ((StableHlo.launchContents m' c) (Proc.devRef .tc Cert.Reference2Ideal.main_arg6))
      ∧ r.2.mem ((c.tc : Thread Cert.Reference2Ideal.nD Cert.Reference2Ideal.τ).loc Cert.Reference2Ideal.main_v186) = Cert.Reference2Ideal.Read.val_main_v186 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3))
      ∧ r.2.mem ((c.tc : Thread Cert.Reference2Ideal.nD Cert.Reference2Ideal.τ).loc Cert.Reference2Ideal.main_v194) = Cert.Reference2Ideal.Read.val_main_v194 (F := Ideal) ((StableHlo.launchContents m' c) (Proc.devRef .tc Cert.Reference2Ideal.main_arg0)) ((StableHlo.launchContents m' c) (Proc.devRef .tc Cert.Reference2Ideal.main_arg1)) ((StableHlo.launchContents m' c) (Proc.devRef .tc Cert.Reference2Ideal.main_arg2)) ((StableHlo.launchContents m' c) (Proc.devRef .tc Cert.Reference2Ideal.main_arg3)) ((StableHlo.launchContents m' c) (Proc.devRef .tc Cert.Reference2Ideal.main_arg4))
      ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)) :=
  (θ_run _ _ _).mono (fun r h c => ⟨
      (h c).1.trans (Cert.Reference2Ideal.Read.val_main_v176_eq (F := Ideal) (StableHlo.launchContents m' c)),
      (h c).2.1.trans (Cert.Reference2Ideal.Read.val_main_v178_eq (F := Ideal) (StableHlo.launchContents m' c)),
      (h c).2.2.1.trans (Cert.Reference2Ideal.Read.val_main_v180_eq (F := Ideal) (StableHlo.launchContents m' c)),
      (h c).2.2.2.1.trans (Cert.Reference2Ideal.Read.val_main_v182_eq (F := Ideal) (StableHlo.launchContents m' c)),
      (h c).2.2.2.2.1.trans (Cert.Reference2Ideal.Read.val_main_v184_eq (F := Ideal) (StableHlo.launchContents m' c)),
      (h c).2.2.2.2.2.1.trans (Cert.Reference2Ideal.Read.val_main_v186_eq (F := Ideal) (StableHlo.launchContents m' c)),
      (h c).2.2.2.2.2.2.1.trans (Cert.Reference2Ideal.Read.val_main_v194_eq (F := Ideal) (StableHlo.launchContents m' c)),
      (h c).2.2.2.2.2.2.2⟩) (Cert.Reference2Ideal.Value.run m' g')

set_option maxHeartbeats 2000000 in
/-- The call's results and the reference's are the same arrays. -/
theorem algebraic : Cert.algebraic_Kernel2Ideal_Reference2Ideal
    (hKernel2Ideal := Cert.Kernel2Ideal.Gen.facts) (hReference2Ideal := Cert.Reference2Ideal.Gen.facts) := by
  intro m g m' g' _ hagree
  refine ⟨fun c => (Cert.Kernel2Ideal.Gen.dats m 0 c).arrAt 16 Cert.Kernel2Ideal.cfg0.N, fun c => (Cert.Kernel2Ideal.Gen.dats m 0 c).arrAt 17 Cert.Kernel2Ideal.cfg0.N, fun c => (Cert.Kernel2Ideal.Gen.dats m 0 c).arrAt 18 Cert.Kernel2Ideal.cfg0.N, fun c => (Cert.Kernel2Ideal.Gen.dats m 0 c).arrAt 20 Cert.Kernel2Ideal.cfg0.N, fun c => (Cert.Kernel2Ideal.Gen.dats m 0 c).arrAt 21 Cert.Kernel2Ideal.cfg0.N, fun c => (Cert.Kernel2Ideal.Gen.dats m 0 c).arrAt 22 Cert.Kernel2Ideal.cfg0.N, fun c => (Cert.Kernel2Ideal.Gen.dats m 0 c).arrAt 19 Cert.Kernel2Ideal.cfg0.N, ?_, ?_⟩
  · refine (θ_run _ _ _).mono (fun r h c => ?_) (Cert.Kernel2Ideal.Value.run_blocks m g)
    obtain ⟨h16, h17, h18, h19, h20, h21, h22, hargs⟩ := h c
    exact ⟨h16, h17, h18, h20, h21, h22, h19, hargs⟩
  refine (θ_run _ _ _).mono (fun r h c => ?_) (reference_run m' g')
  obtain ⟨e0, e1, e2, e3, e4, e5, e6⟩ := hagree c
  have a0 := agree0 m m' c e0
  have a1 := agree1 m m' c e1
  have a2 := agree2 m m' c e2
  have a3 := agree3 m m' c e3
  have a4 := agree4 m m' c e4
  have a5 := agree5 m m' c e5
  have a6 := agree6 m m' c e6
  refine ⟨?_, ?_, ?_, ?_, ?_, ?_, ?_, (h c).2.2.2.2.2.2.2⟩
  · exact (h c).1.trans (same16 m m' c a0 a1 a2 a3)
  · exact (h c).2.1.trans (same17 m m' c a0 a1 a2 a3)
  · exact (h c).2.2.1.trans (same18 m m' c a0 a1 a2 a3)
  · exact (h c).2.2.2.1.trans (same20 m m' c a0 a1 a2 a3 a5)
  · exact (h c).2.2.2.2.1.trans (same21 m m' c a0 a1 a2 a3 a6)
  · exact (h c).2.2.2.2.2.1.trans (same22 m m' c a0 a1 a2 a3)
  · exact (h c).2.2.2.2.2.2.1.trans (same19 m m' c a0 a1 a2 a3 a4)

end Cert.Proj

end
-- ==== Proof.FfnParts.lean ====
/- The parts of the feed-forward body, element by element. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe Idealize.SL.Sem Cert.Kernel3Ideal Cert.Kernel3Ideal.Gen

theorem ofBits_one : Ideal.ofBits .f32 0x3F800000#32 = 1 := by
  simp [Ideal.ofBits, Ideal.ieee, -EReal.coe_mul]; try norm_num

/-- A gated hidden unit: `s · sigmoid s`, times the second product. -/
def gate (x a b : Fin 1024 → EReal) : EReal :=
  (∑ e, x e * a e) * Ideal.div 1 (1 + Ideal.exp (-∑ e, x e * a e)) * ∑ e, x e * b e

theorem pay4_apply (f : Vec Ideal S512x1024 .bf16) (a b : Vec Ideal S1024x512 .bf16) (y l : Fin 512) :
    k0_pay4 f a b (ix2 y l) = gate (fun e => f (ix2 y e)) (fun e => a (ix2 e l)) (fun e => b (ix2 e l)) := by
  unfold k0_pay4 k0_pay3 gate
  pointwise
  simp only [ofBits_one, sub_eq_add_neg, zero_add]

theorem pay6_apply (f : Vec Ideal S512x1024 .bf16) (a b : Vec Ideal S1024x512 .bf16) (y l : Fin 512) :
    k0_pay6 (k0_pay5 f a b) (ix2 y l) = gate (fun e => f (ix2 y e)) (fun e => a (ix2 e l)) (fun e => b (ix2 e l)) := by
  unfold k0_pay6 k0_pay5 k0_pay3 gate
  pointwise
  simp only [ofBits_one, sub_eq_add_neg, zero_add]

theorem pay7_apply (f : Vec Ideal S512x1024 .bf16) (a b : Vec Ideal S1024x512 .bf16) (y l : Fin 512) :
    k0_pay7 (k0_pay3 f) a b (ix2 y l) = gate (fun e => f (ix2 y e)) (fun e => a (ix2 e l)) (fun e => b (ix2 e l)) := by
  unfold k0_pay7 k0_pay3 gate
  pointwise
  simp only [ofBits_one, sub_eq_add_neg, zero_add]

theorem pay11_apply (f : Vec Ideal S512x1024 .bf16) (a b : Vec Ideal S1024x512 .bf16) (y l : Fin 512) :
    k0_pay11 (k0_pay8 (k0_pay3 f) a) (k0_pay9 (k0_pay3 f) b) (k0_pay10 (k0_pay3 f) a) (ix2 y l)
      = gate (fun e => f (ix2 y e)) (fun e => a (ix2 e l)) (fun e => b (ix2 e l)) := by
  unfold k0_pay11 k0_pay10 k0_pay9 k0_pay8 k0_pay3 gate
  pointwise
  simp only [ofBits_one, sub_eq_add_neg, zero_add]

theorem pay12_apply (f : Vec Ideal S512x1024 .bf16) (a b : Vec Ideal S1024x512 .bf16) (y l : Fin 512) :
    k0_pay12 (k0_pay3 f) a b (ix2 y l) = gate (fun e => f (ix2 y e)) (fun e => a (ix2 e l)) (fun e => b (ix2 e l)) := by
  unfold k0_pay12 k0_pay3 gate
  pointwise
  simp only [ofBits_one, sub_eq_add_neg, zero_add]

theorem pay1_apply (f : Vec Ideal S512x1024 .bf16) (a b : Vec Ideal S1024x256 .bf16) (y : Fin 512) (l : Fin 256) :
    k0_pay1 (k0_pay13 (k0_pay3 f) a) (k0_pay14 (k0_pay3 f) b) (k0_pay15 (k0_pay3 f) a) (FloatOps.ofBits FTy.f32 1065353216#32) (ix2 y l)
      = gate (fun e => f (ix2 y e)) (fun e => a (ix2 e l)) (fun e => b (ix2 e l)) := by
  unfold k0_pay1 k0_pay15 k0_pay14 k0_pay13 k0_pay3 gate
  pointwise
  simp only [ofBits_one, sub_eq_add_neg, zero_add]

theorem pay2_apply (h : Vec Ideal S512x1024 .f32) (g : Vec Ideal S1x6x1024 .f32) (u : Vec Ideal S512x2816 .bf16)
    (w : Vec Ideal S2816x1024 .bf16) (y : Fin 512) (l : Fin 1024) :
    k0_pay2 h g u w (ix2 y l) = h (ix2 y l) + g (ix3 0 5 l) * ∑ j : Fin 2816, u (ix2 y j) * w (ix2 j l) := by
  unfold k0_pay2
  pointwise

end Cert.Ffn

end
-- ==== Proof.FfnBlock.lean ====
/- What one grid point of the feed-forward call leaves: its 512 rows, each from the hidden units written in six parts. -/
module

public import proofs.«01_k».proof.Proof.FfnParts

@[expose] public section

set_option maxRecDepth 16384

noncomputable section

namespace Cert.Ffn

open Idealize.ShloMosaic Idealize.ShloMosaic.TcCoe Idealize.SL.Sem Cert.Kernel3Ideal Cert.Kernel3Ideal.Gen

/-- The hidden units of a block of 512 rows. -/
def hidden (f : Vec Ideal S512x1024 .bf16) (w1 w3 : Vec Ideal S1024x2816 .bf16) : Vec Ideal S512x2816 .bf16 :=
  fun y => gate (fun e => f (ix2 (y 0) e)) (fun e => w1 (ix2 e (y 1))) (fun e => w3 (ix2 e (y 1)))

/-- Columns `o` to `o + n` of a weight array. -/
theorem cols_apply (w : Vec Ideal S1024x2816 .bf16) (o n : Nat) (inb : ∀ a, (![0, o] : Fin 2 → Nat) a + (![1024, n] : Fin 2 → Nat) a ≤ S1024x2816.size a)
    (e : Fin 1024) (l : Fin n) (C : Fin 2816) (hC : C.val = o + l.val) :
    View.ld w (Rect.unit (s := S1024x2816) ![0, o] ![1024, n] inb) (ix2 e l) = w (ix2 e C) := by
  refine congrArg w (funext fun a => Fin.ext ?_)
  fin_cases a
  · show 0 + 1 * e.val = e.val
    omega
  · show o + 1 * l.val = C.val
    omega

/-- The part of the hidden units in columns `o` to `o + n`. -/
theorem tile_at (f : Vec Ideal S512x1024 .bf16) (w1 w3 : Vec Ideal S1024x2816 .bf16) (o n : Nat)
    (inb : ∀ a, (![0, o] : Fin 2 → Nat) a + (![1024, n] : Fin 2 → Nat) a ≤ S1024x2816.size a)
    (P : (⟨2, ![512, n]⟩ : Shape).Idx → EReal)
    (hP : ∀ (y : Fin 512) (l : Fin n), P (ix2 y l) = gate (fun e => f (ix2 y e))
      (fun e => View.ld w1 (Rect.unit (s := S1024x2816) ![0, o] ![1024, n] inb) (ix2 e l))
      (fun e => View.ld w3 (Rect.unit (s := S1024x2816) ![0, o] ![1024, n] inb) (ix2 e l)))
    (y : S512x2816.Idx) :
    View.TileAt (Val := Elt Ideal) (e := .bf16) (S := S512x2816) y ![0, o] ![512, n] P (hidden f w1 w3 y) := by
  intro x hx
  obtain ⟨a, b, rfl⟩ : ∃ (a : Fin 512) (b : Fin n), x = ix2 a b := ⟨x 0, x 1, eq_ix2 x⟩
  have h0 : (y 0).val = 0 + a.val := hx 0
  have h1 : (y 1).val = o + b.val := hx 1
  have e0 : a = y 0 := Fin.ext (by omega)
  refine (hP a b).trans ?_
  unfold hidden
  rw [e0]
  exact congrArg₂ (gate _) (funext fun e => cols_apply w1 o n inb e b (y 1) h1) (funext fun e => cols_apply w3 o n inb e b (y 1) h1)

theorem cover_at {L : List (View.Piece (Elt Ideal) S512x2816 .bf16)} (o n : Nat) (inb) (w) (y : S512x2816.Idx)
    (hm : (⟨Rect.unit (s := S512x2816) ![0, o] ![512, n] inb, w⟩ : View.Piece (Elt Ideal) S512x2816 .bf16) ∈ L)
    (h : o ≤ (y 1).val ∧ (y 1).val < o + n) : ∃ p ∈ L, y ∈ p.1.set := by
  refine ⟨_, hm, (Rect.mem_set_unit (s := S512x2816) (off := ![0, o]) (size := ![512, n]) (inb := inb)).mpr fun a => ?_⟩
  have h0 : (y 0).val < 512 := (y 0).isLt
  fin_cases a
  · show 0 ≤ (y 0).val ∧ (y 0).val < 0 + 512
    omega
  · exact h

/-- The block a point leaves. -/
theorem outsAt0_apply (m : (ℓ : Loc nD τ sig) → Buf (Elt Ideal) ℓ) (c : Dev nD) (t : Fin cfg0.N) :
    outsAt0 m c t = k0_pay2 (iblk m c 1 t) (iblk m c 2 t) (hidden (iblk m c 0 t) (iblk m c 3 t) (iblk m c 4 t)) (iblk m c 5 t) := by
  unfold outsAt0
  frame_out
  rw [View.readCov_eq_canon']
  refine congrArg (fun u => k0_pay2 (iblk m c 1 t) (iblk m c 2 t) u (iblk m c 5 t)) (funext fun y => ?_)
  have hy : (Rect.unit (s := S512x2816) ![0, 0] ![512, 2816] inb_S512x2816_S512x2816_0_0).toLoadRect.idx y = y := by
    refine funext fun a => Fin.ext ?_
    fin_cases a
    · show 0 + 1 * (y 0).val = (y 0).val
      omega
    · show 0 + 1 * (y 1).val = (y 1).val
      omega
  refine (congrArg _ hy).trans ?_
  have h1 : (y 1).val < 2816 := (y 1).isLt
  refine View.canon_eq_of_allAt _ y _ ?_ ?_
  · rcases Nat.lt_or_ge (y 1).val 512 with h | h
    · exact cover_at 0 512 _ _ y (.tail _ (.tail _ (.tail _ (.tail _ (.tail _ (.head _)))))) ⟨by omega, by omega⟩
    rcases Nat.lt_or_ge (y 1).val 1024 with h | h
    · exact cover_at 512 512 _ _ y (.tail _ (.tail _ (.tail _ (.tail _ (.head _))))) ⟨by omega, by omega⟩
    rcases Nat.lt_or_ge (y 1).val 1536 with h | h
    · exact cover_at 1024 512 _ _ y (.tail _ (.tail _ (.tail _ (.head _)))) ⟨by omega, by omega⟩
    rcases Nat.lt_or_ge (y 1).val 2048 with h | h
    · exact cover_at 1536 512 _ _ y (.tail _ (.tail _ (.head _))) ⟨by omega, by omega⟩
    rcases Nat.lt_or_ge (y 1).val 2560 with h | h
    · exact cover_at 2048 512 _ _ y (.tail _ (.head _)) ⟨by omega, by omega⟩
    · exact cover_at 2560 256 _ _ y (.head _) ⟨by omega, by omega⟩
  · refine View.allAt_cons_unit _ _ _ _ _ (tile_at _ _ _ 2560 256 inb_S1024x2816_S1024x256_0_2560 _ (pay1_apply _ _ _) y) ?_
    refine View.allAt_cons_unit _ _ _ _ _ (tile_at _ _ _ 2048 512 inb_S1024x2816_S1024x512_0_2048 _ (pay12_apply _ _ _) y) ?_
    refine View.allAt_cons_unit _ _ _ _ _ (tile_at _ _ _ 1536 512 inb_S1024x2816_S1024x512_0_1536 _ (pay11_apply _ _ _) y) ?_
    refine View.allAt_cons_unit _ _ _ _ _ (tile_at _ _ _ 1024 512 inb_S1024x2816_S1024x512_0_1024 _ (pay7_apply _ _ _) y) ?_
    refine View.allAt_cons_unit _ _ _ _ _ (tile_at _ _ _ 512 512 inb_S1024x2816_S1024x512_0_512 _ (pay6_apply _ _ _) y) ?_
    refine View.allAt_cons_unit _ _ _ _ _ (tile_at _ _ _ 0 512 inb_S1024x2816_S1024x512_0_0 _ (pay4_apply _ _ _) y) ?_
    exact View.allAt_nil _ _

end Cert.Ffn

end
-- ==== Proof.FfnArray.lean ====
/- The array the feed-forward call returns, and that it is the reference's. -/
module

public import proofs.«01_k».proof.Proof.FfnBlock
public import proofs.«01_k».proof.Proof.Gen.Kernel3Ideal.Value
public import Idealize.ShloMosaic.Lib.Pipeline.Covers
public import Idealize.ShloMosaic.Lib.Claim

@[expose] public section

set_option maxRecDepth 16384

noncomputable section

namespace Cert.Ffn

open Idealize.ShloMosaic Idealize.ShloMosaic.TcCoe Idealize.SL.Sem Cert.Kernel3Ideal Cert.Kernel3Ideal.Gen

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val / 16, 0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel

theorem point_lt (t : Fin grid0.N) : t.val < 128 := lt_of_lt_of_eq t.isLt N_0

variable (m : (ℓ : Loc nD τ sig) → Buf (Elt Ideal) ℓ) (c : Dev nD)

/-- The tokens, the stream, the modulation and the three weights given. -/
def argF : FVec Ideal S8x8192x1024 .f32 := m ((c : Thread nD τ).loc main_arg0)
@[inherit_doc argF] def argH : FVec Ideal S8x8192x1024 .f32 := m ((c : Thread nD τ).loc main_arg1)
@[inherit_doc argF] def argM : FVec Ideal S8x6144 .f32 := m ((c : Thread nD τ).loc main_arg2)
@[inherit_doc argF] def argW1 : FVec Ideal S1024x2816 .f32 := m ((c : Thread nD τ).loc main_arg3)
@[inherit_doc argF] def argW3 : FVec Ideal S1024x2816 .f32 := m ((c : Thread nD τ).loc main_arg4)
@[inherit_doc argF] def argW2 : FVec Ideal S2816x1024 .f32 := m ((c : Thread nD τ).loc main_arg5)

/-- The arrays the call's windows read. -/
def prepF : FVec Ideal S65536x1024 .bf16 := V m c main_v4
@[inherit_doc prepF] def prepH : FVec Ideal S65536x1024 .f32 := V m c main_v5
@[inherit_doc prepF] def prepM : FVec Ideal S16x6x1024 .f32 := V m c main_v2
@[inherit_doc prepF] def prepW1 : FVec Ideal S1024x2816 .bf16 := V m c main_v6
@[inherit_doc prepF] def prepW3 : FVec Ideal S1024x2816 .bf16 := V m c main_v7
@[inherit_doc prepF] def prepW2 : FVec Ideal S2816x1024 .bf16 := V m c main_v8

theorem prepF_apply (R : Fin 65536) (C : Fin 1024) :
    prepF m c (ix2 R C) = argF m c (ix3 ⟨R.val / 8192, by omega⟩ ⟨R.val % 8192, by omega⟩ C) := by
  unfold prepF argF V
  after_results
  pointwise

theorem prepH_apply (R : Fin 65536) (C : Fin 1024) :
    prepH m c (ix2 R C) = argH m c (ix3 ⟨R.val / 8192, by omega⟩ ⟨R.val % 8192, by omega⟩ C) := by
  unfold prepH argH V
  after_results
  pointwise

theorem prepW1_apply (e : Fin 1024) (j : Fin 2816) : prepW1 m c (ix2 e j) = argW1 m c (ix2 e j) := by
  unfold prepW1 argW1 V
  after_results
  pointwise

theorem prepW3_apply (e : Fin 1024) (j : Fin 2816) : prepW3 m c (ix2 e j) = argW3 m c (ix2 e j) := by
  unfold prepW3 argW3 V
  after_results
  pointwise

theorem prepW2_apply (j : Fin 2816) (C : Fin 1024) : prepW2 m c (ix2 j C) = argW2 m c (ix2 j C) := by
  unfold prepW2 argW2 V
  after_results
  pointwise

theorem prepM_apply (b : Fin 8) (C : Fin 1024) :
    prepM m c (ix3 ⟨b.val, by omega⟩ 5 C) = argM m c (ix2 b ⟨5120 + C.val, by omega⟩) := by
  unfold prepM argM V
  after_results
  pointwise
  done

theorem blk0_apply (t : Fin grid0.N) (y : Fin 512) (e : Fin 1024) (R : Fin 65536) (hR : R.val = t.val * 512 + y.val) :
    iblk m c 0 t (ix2 y e) = V m c main_v4 (ix2 R e) := by
  blk_ext [iblk, index0 t]

theorem blk1_apply (t : Fin grid0.N) (y : Fin 512) (e : Fin 1024) (R : Fin 65536) (hR : R.val = t.val * 512 + y.val) :
    iblk m c 1 t (ix2 y e) = V m c main_v5 (ix2 R e) := by
  blk_ext [iblk, index1 t]

theorem blk2_apply (t : Fin grid0.N) (k : Fin 6) (e : Fin 1024) (b : Fin 16) (hb : b.val = t.val / 16) :
    iblk m c 2 t (ix3 0 k e) = V m c main_v2 (ix3 b k e) := by
  blk_ext [iblk, index2 t]

theorem blk3_apply (t : Fin grid0.N) (e : Fin 1024) (j : Fin 2816) : iblk m c 3 t (ix2 e j) = V m c main_v6 (ix2 e j) := by
  blk_ext [iblk, index3 t]

theorem blk4_apply (t : Fin grid0.N) (e : Fin 1024) (j : Fin 2816) : iblk m c 4 t (ix2 e j) = V m c main_v7 (ix2 e j) := by
  blk_ext [iblk, index4 t]

theorem blk5_apply (t : Fin grid0.N) (e : Fin 2816) (j : Fin 1024) : iblk m c 5 t (ix2 e j) = V m c main_v8 (ix2 e j) := by
  blk_ext [iblk, index5 t]

/-- One element of the feed-forward part's result. -/
def ffnAt (f h : FVec Ideal S8x8192x1024 .f32) (x2 : FVec Ideal S8x6144 .f32) (w1 w3 : FVec Ideal S1024x2816 .f32)
    (w2 : FVec Ideal S2816x1024 .f32) (R : Fin 65536) (C : Fin 1024) : EReal :=
  h (ix3 ⟨R.val / 8192, by omega⟩ ⟨R.val % 8192, by omega⟩ C)
    + x2 (ix2 ⟨R.val / 8192, by omega⟩ ⟨5120 + C.val, by omega⟩)
      * ∑ j : Fin 2816, gate (fun e => f (ix3 ⟨R.val / 8192, by omega⟩ ⟨R.val % 8192, by omega⟩ e))
          (fun e => w1 (ix2 e j)) (fun e => w3 (ix2 e j)) * w2 (ix2 j C)

theorem outsAt0_value (t : Fin grid0.N) (y : Fin 512) (C : Fin 1024) (R : Fin 65536) (hR : R.val = t.val * 512 + y.val) :
    outsAt0 m c t (ix2 y C) = ffnAt (argF m c) (argH m c) (argM m c) (argW1 m c) (argW3 m c) (argW2 m c) R C := by
  have ht := point_lt t
  rw [outsAt0_apply]
  refine (pay2_apply _ _ _ _ y C).trans ?_
  have hb : (⟨R.val / 8192, by omega⟩ : Fin 16).val = t.val / 16 := by show R.val / 8192 = _; omega
  refine congrArg₂ (· + ·) ((blk1_apply m c t y C R hR).trans (prepH_apply m c R C)) (congrArg₂ (· * ·)
    ((blk2_apply m c t 5 C ⟨R.val / 8192, by omega⟩ hb).trans (prepM_apply m c ⟨R.val / 8192, by omega⟩ C))
    (Finset.sum_congr rfl fun j _ => congrArg₂ (· * ·) ?_ ((blk5_apply m c t j C).trans (prepW2_apply m c j C))))
  show gate _ _ _ = gate _ _ _
  refine congr (congr (congrArg gate (funext fun e => ?_)) (funext fun e => ?_)) (funext fun e => ?_)
  · exact (blk0_apply m c t y e R hR).trans (prepF_apply m c R e)
  · exact (blk3_apply m c t e j).trans (prepW1_apply m c e j)
  · exact (blk4_apply m c t e j).trans (prepW3_apply m c e j)

theorem covers6 : (cfg0.win 6).Covers :=
  (cfg0.win 6).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index6 ⟨(β 0).val, _⟩) a).trans ?_
      fin_cases a
      · rfl
      · show 0 = (β 1).val
        omega

/-- The array of a function of its two coordinates. -/
def arrayOf (f : Fin 65536 → Fin 1024 → EReal) : FVec Ideal S65536x1024 .f32 := fun y => f (y 0) (y 1)

theorem arrAt6 : (dats m 0 c).arrAt 6 cfg0.N
    = arrayOf (ffnAt (argF m c) (argH m c) (argM m c) (argW1 m c) (argW3 m c) (argW2 m c)) := by
  refine (dats m 0 c).arrAt_eq_of_covers 6 _ covers6 fun t hf y => ?_
  blk_simp
  rw [after0_6]
  have h0 := Pipeline.Window.rect_emb_val win0_6 t y 0
  have h1 := Pipeline.Window.rect_emb_val win0_6 t y 1
  rw [index6 t] at h0 h1
  unfold arrayOf
  refine (congrArg (outsAt0 m c t) (eq_ix2 (n0 := 512) (n1 := 1024) y)).trans ?_
  refine (outsAt0_value m c t (y 0) (y 1) _ h0).trans (congrArg _ (Fin.ext ?_))
  refine Eq.trans ?_ h1.symm
  show (y 1).val = 0 * 1024 + (y 1).val
  omega

end Cert.Ffn

end
-- ==== Proof.FfnRef.lean ====
/- The feed-forward part in the reference, element by element. -/
module

public import proofs.«01_k».proof.Proof.FfnParts
public import proofs.«01_k».proof.Proof.Gen.Reference3Ideal.Read

@[expose] public section

set_option maxRecDepth 16384

noncomputable section

namespace Cert.Ffn.Ref

open Idealize.ShloMosaic Idealize.ShloMosaic.TcCoe Idealize.SL.Sem Cert.Reference3Ideal Cert.Reference3Ideal.Gen Cert.Reference3Ideal.Read

variable (f h : FVec Ideal S8x8192x1024 .f32) (x2 : FVec Ideal S8x6144 .f32) (w1 w3 : FVec Ideal S1024x2816 .f32)
  (w2 : FVec Ideal S2816x1024 .f32)

theorem hidden_apply (b : Fin 8) (n : Fin 8192) (j : Fin 2816) :
    val_main_v10 (F := Ideal) f w1 w3 (ix3 b n j)
      = gate (fun e => f (ix3 b n e)) (fun e => w1 (ix2 e j)) (fun e => w3 (ix2 e j)) := by
  unfold val_main_v10 val_main_v9 val_main_v8 val_main_call0_v5 val_main_call0_v4 val_main_call0_v3 val_main_call0_v2
    val_main_call0_v1 val_main_call0_v0 val_main_call0_cst val_main_call0_cst_0 val_main_v7 gate
  pointwise

theorem out_apply (R : Fin 65536) (C : Fin 1024) :
    val_main_v15 (F := Ideal) f h x2 w1 w3 w2 (ix2 R C)
      = h (ix3 ⟨R.val / 8192, by omega⟩ ⟨R.val % 8192, by omega⟩ C)
        + x2 (ix2 ⟨R.val / 8192, by omega⟩ ⟨5120 + C.val, by omega⟩)
          * ∑ j : Fin 2816, gate (fun e => f (ix3 ⟨R.val / 8192, by omega⟩ ⟨R.val % 8192, by omega⟩ e))
              (fun e => w1 (ix2 e j)) (fun e => w3 (ix2 e j)) * w2 (ix2 j C) := by
  unfold val_main_v15 val_main_v14 val_main_v13 val_main_v12 val_main_v11 val_main_v6 val_main_v0
  pointwise
  simp only [hidden_apply]

end Cert.Ffn.Ref

end
-- ==== Proof.FfnAgree.lean ====
/- The feed-forward call's array is the reference's. -/
module

public import proofs.«01_k».proof.Proof.FfnArray
public import proofs.«01_k».proof.Proof.FfnRef

@[expose] public section

set_option maxRecDepth 16384

noncomputable section

namespace Cert.Ffn

open Idealize.ShloMosaic

theorem agrees (f h : FVec Ideal Cert.Kernel3Ideal.S8x8192x1024 .f32) (x2 : FVec Ideal Cert.Kernel3Ideal.S8x6144 .f32)
    (w1 w3 : FVec Ideal Cert.Kernel3Ideal.S1024x2816 .f32) (w2 : FVec Ideal Cert.Kernel3Ideal.S2816x1024 .f32) :
    arrayOf (ffnAt f h x2 w1 w3 w2) = Cert.Reference3Ideal.Read.val_main_v15 (F := Ideal) f h x2 w1 w3 w2 := by
  funext y
  refine Eq.trans ?_ (congrArg (Cert.Reference3Ideal.Read.val_main_v15 (F := Ideal) f h x2 w1 w3 w2)
    (eq_ix2 (n0 := 65536) (n1 := 1024) y)).symm
  exact (Ref.out_apply f h x2 w1 w3 w2 (y 0) (y 1)).symm

end Cert.Ffn

end
-- ==== Proof.FfnClaim.lean ====
/- The feed-forward call's claims: the reference leaves its arguments alone, and the two results are one array. -/
module

public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.FfnAgree
public import Idealize.ShloMosaic.Lib.Quiescent
public import Idealize.ShloMosaic.Adequacy
public import Idealize.ShloMosaic.Init

@[expose] public section

noncomputable section

namespace Cert.Ffn

open Idealize.ShloMosaic Idealize.SL.Sem

theorem reference_frame : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run m ρ)

/-- The call's result and the reference's are one array. -/
theorem algebraic : Cert.algebraic_Kernel3Ideal_Reference3Ideal
    (hKernel3Ideal := Cert.Kernel3Ideal.Gen.facts) (hReference3Ideal := Cert.Reference3Ideal.Gen.facts) := by
  intro m g m' g' _ hagree
  refine ⟨fun c => (Cert.Kernel3Ideal.Gen.dats m 0 c).arrAt 6 Cert.Kernel3Ideal.cfg0.N, Cert.Kernel3Ideal.Value.run_blocks m g, ?_⟩
  refine (θ_run _ _ _).mono (fun r h c => ?_) (Cert.Reference3Ideal.Value.run m' g')
  obtain ⟨hv, hargs⟩ := h c
  refine ⟨hv.trans ?_, hargs⟩
  obtain ⟨e0, e1, e2, e3, e4, e5⟩ := hagree c
  rw [Cert.Reference3Ideal.Read.val_main_v15_eq, e0, e1, e2, e3, e4, e5]
  exact ((arrAt6 m c).trans (agrees _ _ _ _ _ _)).symm

end Cert.Ffn

end
-- ==== Proof.MergeMath.lean ====
/- The merge of the two branches, written over rows: the gated sum normalised by group, the gates' mix of the two
   branches, the residual, and the second norm. -/
module

public import Idealize.ShloMosaic.Lib.Pipeline.ValueKit
public import Idealize.ShloMosaic.Lib.Pointwise

@[expose] public section

set_option maxRecDepth 16384

noncomputable section

namespace Cert.Merge

open Idealize.ShloMosaic

/-- The logistic function. -/
def sigm (x : EReal) : EReal := Ideal.div 1 (1 + Ideal.exp (-x))

/-- The two scans' sum, gated by `z`. -/
def gated (a b z : Fin 1024 → EReal) (e : Fin 1024) : EReal := (a e + b e) * (z e * sigm (z e))

/-- A row, each half scaled by the reciprocal root of its mean square. -/
def halfNorm (u : Fin 1024 → EReal) (e : Fin 1024) : EReal :=
  u e * Ideal.rsqrt (Ideal.div (∑ i : Fin 512, u ⟨e.val / 512 * 512 + i.val, by omega⟩ * u ⟨e.val / 512 * 512 + i.val, by omega⟩)
    (Ideal.ofBits FTy.f32 1140850688#32) + Ideal.ofBits FTy.f32 897988541#32)

/-- The two branches through their weights, mixed by the gates. -/
def mixRow (u w : Fin 1024 → EReal) (g : Fin 2048 → EReal) (n : Fin 1024 → EReal) (ws wn : Fin 1024 → Fin 1024 → EReal) (e : Fin 1024) : EReal :=
  sigm (g ⟨e.val, by omega⟩) * (∑ j, halfNorm u j * w j * ws j e) + sigm (g ⟨1024 + e.val, by omega⟩) * ∑ j, n j * wn j e

/-- The residual after the mix. -/
def resRow (h m x : Fin 1024 → EReal) (wo : Fin 1024 → Fin 1024 → EReal) (e : Fin 1024) : EReal := h e + m e * ∑ j, x j * wo j e

/-- A token, normalised and modulated: scaled by the reciprocal root of its mean square and by the norm's weight, then
    by one plus the scale, and shifted. -/
def rowNorm (x w s b : Fin 1024 → EReal) (e : Fin 1024) : EReal :=
  x e * Ideal.rsqrt (Ideal.div (∑ i, x i * x i) (Ideal.ofBits FTy.f32 1149239296#32) + Ideal.ofBits FTy.f32 897988541#32) * w e * (1 + s e) + b e

/-- The residual after the merge, a row of it. -/
def residRow (a b z w n h m : Fin 1024 → EReal) (g : Fin 2048 → EReal) (ws wn wo : Fin 1024 → Fin 1024 → EReal) (e : Fin 1024) : EReal :=
  resRow h m (mixRow (gated a b z) w g n ws wn) wo e

/-- The second norm of the residual, a row of it. -/
def normed (a b z w n h m : Fin 1024 → EReal) (g : Fin 2048 → EReal) (ws wn wo : Fin 1024 → Fin 1024 → EReal) (w2 s t : Fin 1024 → EReal)
    (e : Fin 1024) : EReal :=
  rowNorm (residRow a b z w n h m g ws wn wo) w2 s t e

theorem residRow_congr {a b z w n h m a' b' z' w' n' h' m' : Fin 1024 → EReal} {g g' : Fin 2048 → EReal} {ws wn wo ws' wn' wo' : Fin 1024 → Fin 1024 → EReal}
    (ha : a = a') (hb : b = b') (hz : z = z') (hw : w = w') (hn : n = n') (hh : h = h') (hm : m = m') (hg : g = g') (hws : ws = ws') (hwn : wn = wn') (hwo : wo = wo') (e : Fin 1024) :
    residRow a b z w n h m g ws wn wo e = residRow a' b' z' w' n' h' m' g' ws' wn' wo' e := by
  subst ha hb hz hw hn hh hm hg hws hwn hwo
  rfl

theorem normed_congr {a b z w n h m a' b' z' w' n' h' m' : Fin 1024 → EReal} {g g' : Fin 2048 → EReal} {ws wn wo ws' wn' wo' : Fin 1024 → Fin 1024 → EReal} {w2 s t w2' s' t' : Fin 1024 → EReal}
    (ha : a = a') (hb : b = b') (hz : z = z') (hw : w = w') (hn : n = n') (hh : h = h') (hm : m = m') (hg : g = g') (hws : ws = ws') (hwn : wn = wn') (hwo : wo = wo') (hw2 : w2 = w2') (hs : s = s') (ht : t = t') (e : Fin 1024) :
    normed a b z w n h m g ws wn wo w2 s t e = normed a' b' z' w' n' h' m' g' ws' wn' wo' w2' s' t' e := by
  subst ha hb hz hw hn hh hm hg hws hwn hwo hw2 hs ht
  rfl

/-- A sum over the columns, by halves. -/
theorem sum_halves (f : Fin 1024 → EReal) :
    ∑ j, f j = ∑ x : Fin 512, f ⟨x.val, by omega⟩ + ∑ x : Fin 512, f ⟨512 + x.val, by omega⟩ :=
  Fin.sum_univ_add (a := 512) (b := 512) f

theorem ofBits_one : Ideal.ofBits .f32 0x3F800000#32 = 1 := by
  simp [Ideal.ofBits, Ideal.ieee, -EReal.coe_mul]; try norm_num

end Cert.Merge

end
-- ==== Proof.MergeParts.lean ====
/- The parts of the merge's body, read at an index. -/
module

public import proofs.«01_k».proof.Proof.MergeMath
public import proofs.«01_k».proof.Proof.Gen.Kernel4Ideal.Frame

@[expose] public section

set_option maxRecDepth 16384

noncomputable section

namespace Cert.Merge

open Idealize.ShloMosaic Idealize.ShloMosaic.TcCoe Idealize.SL.Sem Cert.Kernel4Ideal Cert.Kernel4Ideal.Gen Cert.Merge

theorem gated_apply (a b z : Vec Ideal S512x1024 .bf16) (y : Fin 512) (e : Fin 1024) :
    k0_pay4 a b z (ix2 y e) = gated (fun i => a (ix2 y i)) (fun i => b (ix2 y i)) (fun i => z (ix2 y i)) e := by
  unfold k0_pay4 gated sigm
  pointwise
  simp only [ofBits_one, sub_eq_add_neg, zero_add]

theorem left_apply (a b z : Vec Ideal S512x1024 .bf16) (y : Fin 512) (e : Fin 512) :
    k0_pay5 a b z (ix2 y e) = halfNorm (fun i => k0_pay4 a b z (ix2 y i)) ⟨e.val, by omega⟩ := by
  unfold k0_pay5 halfNorm
  pointwise
  simp only [Nat.div_eq_of_lt e.isLt, Nat.zero_mul, Nat.zero_add]

theorem right_apply (a b z : Vec Ideal S512x1024 .bf16) (y : Fin 512) (e : Fin 512) :
    k0_pay6 a b z (ix2 y e) * k0_pay7 a b z (ix2 y 0) = halfNorm (fun i => k0_pay4 a b z (ix2 y i)) ⟨512 + e.val, by omega⟩ := by
  have q : (512 + e.val) / 512 = 1 := by omega
  unfold k0_pay7 k0_pay6 halfNorm
  pointwise
  simp only [q, Nat.one_mul]

theorem mix_apply (a b z : Vec Ideal S512x1024 .bf16) (w : Vec Ideal S1x1024 .f32) (g : Vec Ideal S512x2048 .bf16) (ws : Vec Ideal S1024x1024 .bf16)
    (n : Vec Ideal S512x1024 .bf16) (wn : Vec Ideal S1024x1024 .bf16) (y : Fin 512) (e : Fin 1024) :
    k0_pay8 (k0_pay5 a b z) (k0_pay6 a b z) (k0_pay7 a b z) w g ws n wn (ix2 y e)
      = mixRow (fun i => k0_pay4 a b z (ix2 y i)) (fun i => w (ix2 0 i)) (fun i => g (ix2 y i)) (fun i => n (ix2 y i))
          (fun i j => ws (ix2 i j)) (fun i j => wn (ix2 i j)) e := by
  unfold k0_pay8 mixRow sigm
  pointwise
  simp only [ofBits_one, sub_eq_add_neg, zero_add]
  refine congrArg₂ (· + ·) (congrArg₂ (· * ·) rfl ?_) rfl
  rw [sum_halves]
  refine congrArg₂ (· + ·) (Finset.sum_congr rfl fun j _ => ?_) (Finset.sum_congr rfl fun j _ => ?_)
  · rw [left_apply]
  · rw [right_apply]

theorem res_apply (m : FVec Ideal S6x1024 .f32) (x h : FVec Ideal S512x1024 .f32) (wo : Vec Ideal S1024x1024 .bf16) (y : Fin 512) (e : Fin 1024) :
    k0_pay1 m x h wo (ix2 y e) = resRow (fun i => h (ix2 y i)) (fun i => m (ix2 2 i)) (fun i => x (ix2 y i)) (fun i j => wo (ix2 i j)) e := by
  unfold k0_pay1 resRow
  pointwise

theorem norm_apply (m : FVec Ideal S6x1024 .f32) (x h : FVec Ideal S512x1024 .f32) (wo : Vec Ideal S1024x1024 .bf16) (w : Vec Ideal S1x1024 .f32)
    (y : Fin 512) (e : Fin 1024) :
    k0_pay2 m x h wo w (ix2 y e) = rowNorm (fun i => k0_pay1 m x h wo (ix2 y i)) (fun i => w (ix2 0 i)) (fun i => m (ix2 4 i)) (fun i => m (ix2 3 i)) e := by
  unfold k0_pay2 rowNorm
  pointwise

end Cert.Merge

end
-- ==== Proof.MergeBlock.lean ====
/- What one grid point of the merge leaves: its 512 rows. -/
module

public import proofs.«01_k».proof.Proof.MergeParts

@[expose] public section

set_option maxRecDepth 16384

noncomputable section

namespace Cert.Merge

open Idealize.ShloMosaic Idealize.ShloMosaic.TcCoe Idealize.SL.Sem Cert.Kernel4Ideal Cert.Kernel4Ideal.Gen Cert.Merge

theorem ld0 {e : EltTy} (x : Vec Ideal S1x6x1024 e) : View.ld x r0_0 = x :=
  View.ld_unit_lit _ x (by intro a; fin_cases a <;> rfl)

theorem ld1 {e : EltTy} (x : Vec Ideal S512x1024 e) : View.ld x r0_1 = x :=
  View.ld_unit_lit _ x (by intro a; fin_cases a <;> rfl)

theorem ld2 {e : EltTy} (x : Vec Ideal S1x1024 e) : View.ld x r0_2 = x :=
  View.ld_unit_lit _ x (by intro a; fin_cases a <;> rfl)

theorem ld3 {e : EltTy} (x : Vec Ideal S512x2048 e) : View.ld x r0_3 = x :=
  View.ld_unit_lit _ x (by intro a; fin_cases a <;> rfl)

theorem ld4 {e : EltTy} (x : Vec Ideal S1024x1024 e) : View.ld x r0_4 = x :=
  View.ld_unit_lit _ x (by intro a; fin_cases a <;> rfl)

theorem mod_apply (x : Vec Ideal S1x6x1024 .f32) (k : Fin 6) (e : Fin 1024) : k0_pay3 x (ix2 k e) = x (ix3 0 k e) := by
  unfold k0_pay3
  pointwise

theorem stream_apply (x : Vec Ideal S512x1024 .f32) (y : Fin 512) (e : Fin 1024) : k0_pay9 x (ix2 y e) = x (ix2 y e) := by
  unfold k0_pay9
  pointwise

variable (x0 : Vec Ideal S512x1024 .bf16) (x1 : Vec Ideal S512x1024 .bf16) (x2 : Vec Ideal S512x1024 .bf16) (x3 : Vec Ideal S512x2048 .bf16) (x4 : Vec Ideal S512x1024 .bf16) (x5 : Vec Ideal S512x1024 .f32) (x6 : Vec Ideal S1x6x1024 .f32) (x7 : Vec Ideal S1x1024 .f32) (x8 : Vec Ideal S1024x1024 .bf16) (x9 : Vec Ideal S1024x1024 .bf16) (x10 : Vec Ideal S1024x1024 .bf16) (x11 : Vec Ideal S1x1024 .f32)

theorem res_block (y : Fin 512) (e : Fin 1024) :
    k0_pay1 (k0_pay10 x0 x1 x2 x3 x4 x5 x6 x7 x8 x9 x10 x11) (k0_pay11 x0 x1 x2 x3 x4 x5 x6 x7 x8 x9 x10 x11) (k0_pay12 x0 x1 x2 x3 x4 x5 x6 x7 x8 x9 x10 x11) x10 (ix2 y e)
      = residRow (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j)) e := by
  unfold k0_pay10 k0_pay11 k0_pay12 residRow
  simp only [ld0, ld1, ld2, ld3, ld4]
  rw [res_apply]
  simp only [mix_apply, gated_apply, mod_apply, stream_apply]

theorem res_out (y : Fin 512) (e : Fin 1024) :
    out0_12 x0 x1 x2 x3 x4 x5 x6 x7 x8 x9 x10 x11 (ix2 y e)
      = residRow (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j)) e := by
  refine Eq.trans (congrFun ?_ _) (res_block x0 x1 x2 x3 x4 x5 x6 x7 x8 x9 x10 x11 y e)
  unfold out0_12
  refine (View.canon_unit_zero (funext fun a => by fin_cases a <;> rfl) _ _).trans ?_
  simp only [ld4]

theorem normed_out (y : Fin 512) (e : Fin 1024) :
    out0_13 x0 x1 x2 x3 x4 x5 x6 x7 x8 x9 x10 x11 (ix2 y e)
      = normed (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j))
          (fun i => x11 (ix2 0 i)) (fun i => x6 (ix3 0 4 i)) (fun i => x6 (ix3 0 3 i)) e := by
  have h : out0_13 x0 x1 x2 x3 x4 x5 x6 x7 x8 x9 x10 x11
      = k0_pay2 (k0_pay10 x0 x1 x2 x3 x4 x5 x6 x7 x8 x9 x10 x11) (k0_pay11 x0 x1 x2 x3 x4 x5 x6 x7 x8 x9 x10 x11) (k0_pay12 x0 x1 x2 x3 x4 x5 x6 x7 x8 x9 x10 x11) x10 x11 := by
    unfold out0_13
    refine (View.canon_unit_zero (funext fun a => by fin_cases a <;> rfl) _ _).trans ?_
    simp only [ld4, ld2]
  rw [h, norm_apply]
  simp only [res_block]
  unfold k0_pay10 normed
  simp only [ld0, mod_apply]

end Cert.Merge

end
-- ==== Proof.MergeReads.lean ====
/- The arrays the merge's windows read, and its blocks, as the arguments at an index. -/
module

public import proofs.«01_k».proof.Proof.MergeParts

@[expose] public section

set_option maxRecDepth 16384

noncomputable section

namespace Cert.Merge

open Idealize.ShloMosaic Idealize.ShloMosaic.TcCoe Idealize.SL.Sem Cert.Kernel4Ideal Cert.Kernel4Ideal.Gen Cert.Merge

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val / 16, 0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![t.val, 0] := by decide +kernel
theorem index13 : ∀ t : Fin grid0.N, win0_13.index t = ![t.val, 0] := by decide +kernel

theorem point_lt (t : Fin grid0.N) : t.val < 128 := lt_of_lt_of_eq t.isLt N_0

variable (m : (ℓ : Loc nD τ sig) → Buf (Elt Ideal) ℓ) (c : Dev nD)

/-- The arguments given, in order. -/
def arg0 : FVec Ideal S8x8192x1024 .f32 := m ((c : Thread nD τ).loc main_arg0)
@[inherit_doc arg0] def arg1 : FVec Ideal S8x6144 .f32 := m ((c : Thread nD τ).loc main_arg1)
@[inherit_doc arg0] def arg2 : FVec Ideal S8x8192x1024 .f32 := m ((c : Thread nD τ).loc main_arg2)
@[inherit_doc arg0] def arg3 : FVec Ideal S8x8192x1024 .f32 := m ((c : Thread nD τ).loc main_arg3)
@[inherit_doc arg0] def arg4 : FVec Ideal S8x8192x1024 .f32 := m ((c : Thread nD τ).loc main_arg4)
@[inherit_doc arg0] def arg5 : FVec Ideal S8x8192x2048 .f32 := m ((c : Thread nD τ).loc main_arg5)
@[inherit_doc arg0] def arg6 : FVec Ideal S8x8192x1024 .f32 := m ((c : Thread nD τ).loc main_arg6)
@[inherit_doc arg0] def arg7 : FVec Ideal S1024 .f32 := m ((c : Thread nD τ).loc main_arg7)
@[inherit_doc arg0] def arg8 : FVec Ideal S1024x1024 .f32 := m ((c : Thread nD τ).loc main_arg8)
@[inherit_doc arg0] def arg9 : FVec Ideal S1024x1024 .f32 := m ((c : Thread nD τ).loc main_arg9)
@[inherit_doc arg0] def arg10 : FVec Ideal S1024x1024 .f32 := m ((c : Thread nD τ).loc main_arg10)
@[inherit_doc arg0] def arg11 : FVec Ideal S1024 .f32 := m ((c : Thread nD τ).loc main_arg11)

/-- The arrays the windows read, in order. -/
def prep0 : FVec Ideal S65536x1024 .bf16 := V m c main_v4
@[inherit_doc prep0] def prep1 : FVec Ideal S65536x1024 .bf16 := V m c main_v6
@[inherit_doc prep0] def prep2 : FVec Ideal S65536x1024 .bf16 := V m c main_v8
@[inherit_doc prep0] def prep3 : FVec Ideal S65536x2048 .bf16 := V m c main_v10
@[inherit_doc prep0] def prep4 : FVec Ideal S65536x1024 .bf16 := V m c main_v12
@[inherit_doc prep0] def prep5 : FVec Ideal S65536x1024 .f32 := V m c main_v13
@[inherit_doc prep0] def prep6 : FVec Ideal S16x6x1024 .f32 := V m c main_v2
@[inherit_doc prep0] def prep7 : FVec Ideal S1x1024 .f32 := V m c main_v14
@[inherit_doc prep0] def prep8 : FVec Ideal S1024x1024 .bf16 := V m c main_v15
@[inherit_doc prep0] def prep9 : FVec Ideal S1024x1024 .bf16 := V m c main_v16
@[inherit_doc prep0] def prep10 : FVec Ideal S1024x1024 .bf16 := V m c main_v17
@[inherit_doc prep0] def prep11 : FVec Ideal S1x1024 .f32 := V m c main_v18

theorem prep0_apply (R : Fin 65536) (C : Fin 1024) :
    prep0 m c (ix2 R C) = arg2 m c (ix3 ⟨R.val / 8192, by omega⟩ ⟨R.val % 8192, by omega⟩ C) := by
  unfold prep0 arg2 V
  after_results
  pointwise

theorem prep1_apply (R : Fin 65536) (C : Fin 1024) :
    prep1 m c (ix2 R C) = arg3 m c (ix3 ⟨R.val / 8192, by omega⟩ ⟨R.val % 8192, by omega⟩ C) := by
  unfold prep1 arg3 V
  after_results
  pointwise

theorem prep2_apply (R : Fin 65536) (C : Fin 1024) :
    prep2 m c (ix2 R C) = arg4 m c (ix3 ⟨R.val / 8192, by omega⟩ ⟨R.val % 8192, by omega⟩ C) := by
  unfold prep2 arg4 V
  after_results
  pointwise

theorem prep3_apply (R : Fin 65536) (C : Fin 2048) :
    prep3 m c (ix2 R C) = arg5 m c (ix3 ⟨R.val / 8192, by omega⟩ ⟨R.val % 8192, by omega⟩ C) := by
  unfold prep3 arg5 V
  after_results
  pointwise

theorem prep4_apply (R : Fin 65536) (C : Fin 1024) :
    prep4 m c (ix2 R C) = arg6 m c (ix3 ⟨R.val / 8192, by omega⟩ ⟨R.val % 8192, by omega⟩ C) := by
  unfold prep4 arg6 V
  after_results
  pointwise

theorem prep5_apply (R : Fin 65536) (C : Fin 1024) :
    prep5 m c (ix2 R C) = arg0 m c (ix3 ⟨R.val / 8192, by omega⟩ ⟨R.val % 8192, by omega⟩ C) := by
  unfold prep5 arg0 V
  after_results
  pointwise

theorem prep6_apply2 (b : Fin 8) (C : Fin 1024) : prep6 m c (ix3 ⟨b.val, by omega⟩ 2 C) = arg1 m c (ix2 b ⟨2048 + C.val, by omega⟩) := by
  unfold prep6 arg1 V
  after_results
  pointwise

theorem prep6_apply3 (b : Fin 8) (C : Fin 1024) : prep6 m c (ix3 ⟨b.val, by omega⟩ 3 C) = arg1 m c (ix2 b ⟨3072 + C.val, by omega⟩) := by
  unfold prep6 arg1 V
  after_results
  pointwise

theorem prep6_apply4 (b : Fin 8) (C : Fin 1024) : prep6 m c (ix3 ⟨b.val, by omega⟩ 4 C) = arg1 m c (ix2 b ⟨4096 + C.val, by omega⟩) := by
  unfold prep6 arg1 V
  after_results
  pointwise

theorem prep7_apply (C : Fin 1024) : prep7 m c (ix2 0 C) = arg7 m c (ix1 C) := by
  unfold prep7 arg7 V
  after_results
  pointwise

theorem prep8_apply (i j : Fin 1024) : prep8 m c (ix2 i j) = arg8 m c (ix2 i j) := by
  unfold prep8 arg8 V
  after_results
  pointwise

theorem prep9_apply (i j : Fin 1024) : prep9 m c (ix2 i j) = arg9 m c (ix2 i j) := by
  unfold prep9 arg9 V
  after_results
  pointwise

theorem prep10_apply (i j : Fin 1024) : prep10 m c (ix2 i j) = arg10 m c (ix2 i j) := by
  unfold prep10 arg10 V
  after_results
  pointwise

theorem prep11_apply (C : Fin 1024) : prep11 m c (ix2 0 C) = arg11 m c (ix1 C) := by
  unfold prep11 arg11 V
  after_results
  pointwise

theorem read0 (t : Fin grid0.N) (y : Fin 512) (e : Fin 1024) (R : Fin 65536) (hR : R.val = t.val * 512 + y.val) :
    iblk m c 0 t (ix2 y e) = arg2 m c (ix3 ⟨R.val / 8192, by omega⟩ ⟨R.val % 8192, by omega⟩ e) := by
  have h : iblk m c 0 t (ix2 y e) = V m c main_v4 (ix2 R e) := by blk_ext [iblk, index0 t]
  exact h.trans (prep0_apply m c R e)

theorem read1 (t : Fin grid0.N) (y : Fin 512) (e : Fin 1024) (R : Fin 65536) (hR : R.val = t.val * 512 + y.val) :
    iblk m c 1 t (ix2 y e) = arg3 m c (ix3 ⟨R.val / 8192, by omega⟩ ⟨R.val % 8192, by omega⟩ e) := by
  have h : iblk m c 1 t (ix2 y e) = V m c main_v6 (ix2 R e) := by blk_ext [iblk, index1 t]
  exact h.trans (prep1_apply m c R e)

theorem read2 (t : Fin grid0.N) (y : Fin 512) (e : Fin 1024) (R : Fin 65536) (hR : R.val = t.val * 512 + y.val) :
    iblk m c 2 t (ix2 y e) = arg4 m c (ix3 ⟨R.val / 8192, by omega⟩ ⟨R.val % 8192, by omega⟩ e) := by
  have h : iblk m c 2 t (ix2 y e) = V m c main_v8 (ix2 R e) := by blk_ext [iblk, index2 t]
  exact h.trans (prep2_apply m c R e)

theorem read3 (t : Fin grid0.N) (y : Fin 512) (e : Fin 2048) (R : Fin 65536) (hR : R.val = t.val * 512 + y.val) :
    iblk m c 3 t (ix2 y e) = arg5 m c (ix3 ⟨R.val / 8192, by omega⟩ ⟨R.val % 8192, by omega⟩ e) := by
  have h : iblk m c 3 t (ix2 y e) = V m c main_v10 (ix2 R e) := by blk_ext [iblk, index3 t]
  exact h.trans (prep3_apply m c R e)

theorem read4 (t : Fin grid0.N) (y : Fin 512) (e : Fin 1024) (R : Fin 65536) (hR : R.val = t.val * 512 + y.val) :
    iblk m c 4 t (ix2 y e) = arg6 m c (ix3 ⟨R.val / 8192, by omega⟩ ⟨R.val % 8192, by omega⟩ e) := by
  have h : iblk m c 4 t (ix2 y e) = V m c main_v12 (ix2 R e) := by blk_ext [iblk, index4 t]
  exact h.trans (prep4_apply m c R e)

theorem read5 (t : Fin grid0.N) (y : Fin 512) (e : Fin 1024) (R : Fin 65536) (hR : R.val = t.val * 512 + y.val) :
    iblk m c 5 t (ix2 y e) = arg0 m c (ix3 ⟨R.val / 8192, by omega⟩ ⟨R.val % 8192, by omega⟩ e) := by
  have h : iblk m c 5 t (ix2 y e) = V m c main_v13 (ix2 R e) := by blk_ext [iblk, index5 t]
  exact h.trans (prep5_apply m c R e)

theorem mod_block (t : Fin grid0.N) (k : Fin 6) (e : Fin 1024) (b : Fin 16) (hb : b.val = t.val / 16) :
    iblk m c 6 t (ix3 0 k e) = V m c main_v2 (ix3 b k e) := by
  blk_ext [iblk, index6 t]

theorem mod_read2 (t : Fin grid0.N) (y : Fin 512) (e : Fin 1024) (R : Fin 65536) (hR : R.val = t.val * 512 + y.val) :
    iblk m c 6 t (ix3 0 2 e) = arg1 m c (ix2 ⟨R.val / 8192, by omega⟩ ⟨2048 + e.val, by omega⟩) := by
  have ht := point_lt t
  exact (mod_block m c t 2 e ⟨R.val / 8192, by omega⟩ (by show R.val / 8192 = _; omega)).trans (prep6_apply2 m c ⟨R.val / 8192, by omega⟩ e)

theorem mod_read3 (t : Fin grid0.N) (y : Fin 512) (e : Fin 1024) (R : Fin 65536) (hR : R.val = t.val * 512 + y.val) :
    iblk m c 6 t (ix3 0 3 e) = arg1 m c (ix2 ⟨R.val / 8192, by omega⟩ ⟨3072 + e.val, by omega⟩) := by
  have ht := point_lt t
  exact (mod_block m c t 3 e ⟨R.val / 8192, by omega⟩ (by show R.val / 8192 = _; omega)).trans (prep6_apply3 m c ⟨R.val / 8192, by omega⟩ e)

theorem mod_read4 (t : Fin grid0.N) (y : Fin 512) (e : Fin 1024) (R : Fin 65536) (hR : R.val = t.val * 512 + y.val) :
    iblk m c 6 t (ix3 0 4 e) = arg1 m c (ix2 ⟨R.val / 8192, by omega⟩ ⟨4096 + e.val, by omega⟩) := by
  have ht := point_lt t
  exact (mod_block m c t 4 e ⟨R.val / 8192, by omega⟩ (by show R.val / 8192 = _; omega)).trans (prep6_apply4 m c ⟨R.val / 8192, by omega⟩ e)

theorem read7 (t : Fin grid0.N) (e : Fin 1024) : iblk m c 7 t (ix2 0 e) = arg7 m c (ix1 e) := by
  have h : iblk m c 7 t (ix2 0 e) = V m c main_v14 (ix2 0 e) := by blk_ext [iblk, index7 t]
  exact h.trans (prep7_apply m c e)

theorem read8 (t : Fin grid0.N) (i j : Fin 1024) : iblk m c 8 t (ix2 i j) = arg8 m c (ix2 i j) := by
  have h : iblk m c 8 t (ix2 i j) = V m c main_v15 (ix2 i j) := by blk_ext [iblk, index8 t]
  exact h.trans (prep8_apply m c i j)

theorem read9 (t : Fin grid0.N) (i j : Fin 1024) : iblk m c 9 t (ix2 i j) = arg9 m c (ix2 i j) := by
  have h : iblk m c 9 t (ix2 i j) = V m c main_v16 (ix2 i j) := by blk_ext [iblk, index9 t]
  exact h.trans (prep9_apply m c i j)

theorem read10 (t : Fin grid0.N) (i j : Fin 1024) : iblk m c 10 t (ix2 i j) = arg10 m c (ix2 i j) := by
  have h : iblk m c 10 t (ix2 i j) = V m c main_v17 (ix2 i j) := by blk_ext [iblk, index10 t]
  exact h.trans (prep10_apply m c i j)

theorem read11 (t : Fin grid0.N) (e : Fin 1024) : iblk m c 11 t (ix2 0 e) = arg11 m c (ix1 e) := by
  have h : iblk m c 11 t (ix2 0 e) = V m c main_v18 (ix2 0 e) := by blk_ext [iblk, index11 t]
  exact h.trans (prep11_apply m c e)

end Cert.Merge

end
-- ==== Proof.MergeRef.lean ====
/- The merge in the reference, element by element. -/
module

public import proofs.«01_k».proof.Proof.MergeMath
public import proofs.«01_k».proof.Proof.Gen.Reference4Ideal.Read

@[expose] public section

set_option maxRecDepth 16384

noncomputable section

namespace Cert.Merge.Ref

open Idealize.ShloMosaic Idealize.ShloMosaic.TcCoe Idealize.SL.Sem Cert.Reference4Ideal Cert.Reference4Ideal.Gen Cert.Reference4Ideal.Read Cert.Merge

variable (x0 : FVec Ideal S8x8192x1024 .f32) (x1 : FVec Ideal S8x6144 .f32) (x2 x3 x4 : FVec Ideal S8x8192x1024 .f32)
  (x5 : FVec Ideal S8x8192x2048 .f32) (x6 : FVec Ideal S8x8192x1024 .f32) (x7 : FVec Ideal S1024 .f32)
  (x8 x9 x10 : FVec Ideal S1024x1024 .f32) (x11 : FVec Ideal S1024 .f32)

theorem gated_apply (b : Fin 8) (n : Fin 8192) (e : Fin 1024) :
    val_main_v11 (F := Ideal) x2 x3 x4 (ix3 b n e)
      = gated (fun i => x2 (ix3 b n i)) (fun i => x3 (ix3 b n i)) (fun i => x4 (ix3 b n i)) e := by
  unfold val_main_v11 val_main_v10 val_main_v9 val_main_call0_v5 val_main_call0_v4 val_main_call0_v3 val_main_call0_v2
    val_main_call0_v1 val_main_call0_v0 val_main_call0_cst val_main_call0_cst_0 gated sigm
  pointwise

theorem half_apply (b : Fin 8) (n : Fin 8192) (e : Fin 1024) :
    val_main_v23 (F := Ideal) x2 x3 x4 (ix3 b n e) = halfNorm (fun i => val_main_v11 (F := Ideal) x2 x3 x4 (ix3 b n i)) e := by
  unfold val_main_v23 val_main_v22 val_main_v21 val_main_v20 val_main_v19 val_main_v18 val_main_v17 val_main_v16 val_main_v15
    val_main_v14 val_main_v13 val_main_v12 val_main_cst val_main_cst_0 val_main_cst_1 halfNorm
  pointwise

theorem mix_apply (b : Fin 8) (n : Fin 8192) (e : Fin 1024) :
    val_main_v43 (F := Ideal) x2 x3 x4 x5 x6 x7 x8 x9 (ix3 b n e)
      = mixRow (fun i => val_main_v11 (F := Ideal) x2 x3 x4 (ix3 b n i)) (fun i => x7 (ix1 i)) (fun i => x5 (ix3 b n i)) (fun i => x6 (ix3 b n i))
          (fun i j => x8 (ix2 i j)) (fun i j => x9 (ix2 i j)) e := by
  unfold val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v25 val_main_v24
    val_main_v1 val_main_v0 val_main_cst_2 val_main_cst_3 val_main_cst_4 val_main_cst_5 mixRow sigm
  pointwise
  simp only [half_apply]

theorem residual_apply (b : Fin 8) (n : Fin 8192) (e : Fin 1024) :
    val_main_v47 (F := Ideal) x0 x1 x2 x3 x4 x5 x6 x7 x8 x9 x10 (ix3 b n e)
      = residRow (fun i => x2 (ix3 b n i)) (fun i => x3 (ix3 b n i)) (fun i => x4 (ix3 b n i)) (fun i => x7 (ix1 i)) (fun i => x6 (ix3 b n i))
          (fun i => x0 (ix3 b n i)) (fun i => x1 (ix2 b ⟨2048 + i.val, by omega⟩)) (fun i => x5 (ix3 b n i)) (fun i j => x8 (ix2 i j))
          (fun i j => x9 (ix2 i j)) (fun i j => x10 (ix2 i j)) e := by
  unfold val_main_v47 val_main_v46 val_main_v45 val_main_v44 val_main_v5 val_main_v2 residRow resRow
  pointwise
  simp only [mix_apply, gated_apply]

theorem normed_apply (b : Fin 8) (n : Fin 8192) (e : Fin 1024) :
    val_main_v66 (F := Ideal) x0 x1 x2 x3 x4 x5 x6 x7 x8 x9 x10 x11 (ix3 b n e)
      = normed (fun i => x2 (ix3 b n i)) (fun i => x3 (ix3 b n i)) (fun i => x4 (ix3 b n i)) (fun i => x7 (ix1 i)) (fun i => x6 (ix3 b n i))
          (fun i => x0 (ix3 b n i)) (fun i => x1 (ix2 b ⟨2048 + i.val, by omega⟩)) (fun i => x5 (ix3 b n i)) (fun i j => x8 (ix2 i j))
          (fun i j => x9 (ix2 i j)) (fun i j => x10 (ix2 i j)) (fun i => x11 (ix1 i)) (fun i => x1 (ix2 b ⟨4096 + i.val, by omega⟩))
          (fun i => x1 (ix2 b ⟨3072 + i.val, by omega⟩)) e := by
  unfold normed rowNorm val_main_v66 val_main_v65 val_main_v64 val_main_v63 val_main_v62 val_main_v61 val_main_v60 val_main_v59 val_main_v58
    val_main_v57 val_main_v56 val_main_v55 val_main_v54 val_main_v53 val_main_v52 val_main_v51 val_main_v50 val_main_v49 val_main_v48
    val_main_v7 val_main_v6 val_main_v2 val_main_cst_6 val_main_cst_7 val_main_cst_8 val_main_cst_9
  pointwise
  simp only [residual_apply]

theorem res_at (R : Fin 65536) (C : Fin 1024) :
    val_main_v67 (F := Ideal) x0 x1 x2 x3 x4 x5 x6 x7 x8 x9 x10 (ix2 R C)
      = val_main_v47 (F := Ideal) x0 x1 x2 x3 x4 x5 x6 x7 x8 x9 x10 (ix3 ⟨R.val / 8192, by omega⟩ ⟨R.val % 8192, by omega⟩ C) := by
  unfold val_main_v67
  pointwise

theorem norm_at (R : Fin 65536) (C : Fin 1024) :
    val_main_v69 (F := Ideal) x0 x1 x2 x3 x4 x5 x6 x7 x8 x9 x10 x11 (ix2 R C)
      = val_main_v66 (F := Ideal) x0 x1 x2 x3 x4 x5 x6 x7 x8 x9 x10 x11 (ix3 ⟨R.val / 8192, by omega⟩ ⟨R.val % 8192, by omega⟩ C) := by
  unfold val_main_v69 val_main_v68
  pointwise

end Cert.Merge.Ref

end
-- ==== Proof.MergeArray.lean ====
/- The arrays the merge returns are the reference's. -/
module

public import proofs.«01_k».proof.Proof.MergeBlock
public import proofs.«01_k».proof.Proof.MergeReads
public import proofs.«01_k».proof.Proof.MergeRef
public import Idealize.ShloMosaic.Lib.Pipeline.Covers
public import Idealize.ShloMosaic.Lib.Claim

@[expose] public section

set_option maxRecDepth 16384

noncomputable section

namespace Cert.Merge

open Idealize.ShloMosaic Idealize.ShloMosaic.TcCoe Idealize.SL.Sem Cert.Kernel4Ideal Cert.Kernel4Ideal.Gen Cert.Merge

variable (m : (ℓ : Loc nD τ sig) → Buf (Elt Ideal) ℓ) (c : Dev nD)

theorem res_value (t : Fin grid0.N) (y : Fin 512) (e : Fin 1024) (R : Fin 65536) (hR : R.val = t.val * 512 + y.val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 y e)
      = Cert.Reference4Ideal.Read.val_main_v67 (F := Ideal) (arg0 m c) (arg1 m c) (arg2 m c) (arg3 m c) (arg4 m c) (arg5 m c) (arg6 m c) (arg7 m c) (arg8 m c) (arg9 m c) (arg10 m c) (ix2 R e) := by
  refine (res_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y e).trans (Eq.trans ?_ ((Ref.res_at (arg0 m c) (arg1 m c) (arg2 m c) (arg3 m c) (arg4 m c) (arg5 m c) (arg6 m c) (arg7 m c) (arg8 m c) (arg9 m c) (arg10 m c) R e).trans (Ref.residual_apply (arg0 m c) (arg1 m c) (arg2 m c) (arg3 m c) (arg4 m c) (arg5 m c) (arg6 m c) (arg7 m c) (arg8 m c) (arg9 m c) (arg10 m c) _ _ e)).symm)
  exact residRow_congr (funext fun i => read0 m c t y i R hR) (funext fun i => read1 m c t y i R hR) (funext fun i => read2 m c t y i R hR)
    (funext fun i => read7 m c t i) (funext fun i => read4 m c t y i R hR) (funext fun i => read5 m c t y i R hR) (funext fun i => mod_read2 m c t y i R hR)
    (funext fun i => read3 m c t y i R hR) (funext fun i => funext fun j => read8 m c t i j) (funext fun i => funext fun j => read9 m c t i j)
    (funext fun i => funext fun j => read10 m c t i j) e

theorem norm_value (t : Fin grid0.N) (y : Fin 512) (e : Fin 1024) (R : Fin 65536) (hR : R.val = t.val * 512 + y.val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 y e)
      = Cert.Reference4Ideal.Read.val_main_v69 (F := Ideal) (arg0 m c) (arg1 m c) (arg2 m c) (arg3 m c) (arg4 m c) (arg5 m c) (arg6 m c) (arg7 m c) (arg8 m c) (arg9 m c) (arg10 m c) (arg11 m c) (ix2 R e) := by
  refine (normed_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y e).trans (Eq.trans ?_ ((Ref.norm_at (arg0 m c) (arg1 m c) (arg2 m c) (arg3 m c) (arg4 m c) (arg5 m c) (arg6 m c) (arg7 m c) (arg8 m c) (arg9 m c) (arg10 m c) (arg11 m c) R e).trans (Ref.normed_apply (arg0 m c) (arg1 m c) (arg2 m c) (arg3 m c) (arg4 m c) (arg5 m c) (arg6 m c) (arg7 m c) (arg8 m c) (arg9 m c) (arg10 m c) (arg11 m c) _ _ e)).symm)
  exact normed_congr (funext fun i => read0 m c t y i R hR) (funext fun i => read1 m c t y i R hR) (funext fun i => read2 m c t y i R hR)
    (funext fun i => read7 m c t i) (funext fun i => read4 m c t y i R hR) (funext fun i => read5 m c t y i R hR) (funext fun i => mod_read2 m c t y i R hR)
    (funext fun i => read3 m c t y i R hR) (funext fun i => funext fun j => read8 m c t i j) (funext fun i => funext fun j => read9 m c t i j)
    (funext fun i => funext fun j => read10 m c t i j)
    (funext fun i => read11 m c t i) (funext fun i => mod_read4 m c t y i R hR) (funext fun i => mod_read3 m c t y i R hR) e

theorem covers12 : (cfg0.win 12).Covers :=
  (cfg0.win 12).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index12 ⟨(β 0).val, _⟩) a).trans ?_
      fin_cases a
      · rfl
      · show 0 = (β 1).val
        omega

theorem arrAt12 : (dats m 0 c).arrAt 12 cfg0.N
    = Cert.Reference4Ideal.Read.val_main_v67 (F := Ideal) (arg0 m c) (arg1 m c) (arg2 m c) (arg3 m c) (arg4 m c) (arg5 m c) (arg6 m c) (arg7 m c) (arg8 m c) (arg9 m c) (arg10 m c) := by
  refine (dats m 0 c).arrAt_eq_of_covers 12 _ covers12 fun t hf y => ?_
  blk_simp
  rw [after0_12]
  have h0 := Pipeline.Window.rect_emb_val win0_12 t y 0
  have h1 := Pipeline.Window.rect_emb_val win0_12 t y 1
  rw [index12 t] at h0 h1
  obtain ⟨a, b, rfl⟩ : ∃ (a : Fin 512) (b : Fin 1024), y = ix2 a b := ⟨y 0, y 1, eq_ix2 y⟩
  refine (res_value m c t a b _ h0).trans (congrArg _ ?_)
  refine Eq.trans (congrArg (ix2 _) (Fin.ext ?_)) (eq_ix2 (n0 := 65536) (n1 := 1024) _).symm
  refine Eq.trans ?_ h1.symm
  show b.val = 0 * 1024 + b.val
  omega

theorem covers13 : (cfg0.win 13).Covers :=
  (cfg0.win 13).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index13 ⟨(β 0).val, _⟩) a).trans ?_
      fin_cases a
      · rfl
      · show 0 = (β 1).val
        omega

theorem arrAt13 : (dats m 0 c).arrAt 13 cfg0.N
    = Cert.Reference4Ideal.Read.val_main_v69 (F := Ideal) (arg0 m c) (arg1 m c) (arg2 m c) (arg3 m c) (arg4 m c) (arg5 m c) (arg6 m c) (arg7 m c) (arg8 m c) (arg9 m c) (arg10 m c) (arg11 m c) := by
  refine (dats m 0 c).arrAt_eq_of_covers 13 _ covers13 fun t hf y => ?_
  blk_simp
  rw [after0_13]
  have h0 := Pipeline.Window.rect_emb_val win0_13 t y 0
  have h1 := Pipeline.Window.rect_emb_val win0_13 t y 1
  rw [index13 t] at h0 h1
  obtain ⟨a, b, rfl⟩ : ∃ (a : Fin 512) (b : Fin 1024), y = ix2 a b := ⟨y 0, y 1, eq_ix2 y⟩
  refine (norm_value m c t a b _ h0).trans (congrArg _ ?_)
  refine Eq.trans (congrArg (ix2 _) (Fin.ext ?_)) (eq_ix2 (n0 := 65536) (n1 := 1024) _).symm
  refine Eq.trans ?_ h1.symm
  show b.val = 0 * 1024 + b.val
  omega

end Cert.Merge

end
-- ==== Proof.MergeClaim.lean ====
/- The merge's claims: the reference leaves its arguments alone, and the results of the two are the same arrays. -/
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.MergeArray
public import Idealize.ShloMosaic.Lib.Quiescent
public import Idealize.ShloMosaic.Adequacy
public import Idealize.ShloMosaic.Init

@[expose] public section

set_option maxRecDepth 16384

noncomputable section

namespace Cert.Merge

open Idealize.ShloMosaic Idealize.SL.Sem

theorem reference_frame : Cert.quiescent_Reference4Ideal (hReference4Ideal := Cert.Reference4Ideal.Gen.facts) := fun m ρ _ =>
  (θ_run _ _ _).mono (fun r h => ⟨fun c => (h c).2.2, sem_eq_zero_of_no_sems rfl r.2⟩) (Cert.Reference4Ideal.Value.run m ρ)

theorem agree0 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) :
    m' ((c.tc : Thread Cert.Reference4Ideal.nD Cert.Reference4Ideal.τ).loc Cert.Reference4Ideal.main_arg0) = arg0 m c := e

theorem agree1 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) :
    m' ((c.tc : Thread Cert.Reference4Ideal.nD Cert.Reference4Ideal.τ).loc Cert.Reference4Ideal.main_arg1) = arg1 m c := e

theorem agree2 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    m' ((c.tc : Thread Cert.Reference4Ideal.nD Cert.Reference4Ideal.τ).loc Cert.Reference4Ideal.main_arg2) = arg2 m c := e

theorem agree3 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    m' ((c.tc : Thread Cert.Reference4Ideal.nD Cert.Reference4Ideal.τ).loc Cert.Reference4Ideal.main_arg3) = arg3 m c := e

theorem agree4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) :
    m' ((c.tc : Thread Cert.Reference4Ideal.nD Cert.Reference4Ideal.τ).loc Cert.Reference4Ideal.main_arg4) = arg4 m c := e

theorem agree5 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) :
    m' ((c.tc : Thread Cert.Reference4Ideal.nD Cert.Reference4Ideal.τ).loc Cert.Reference4Ideal.main_arg5) = arg5 m c := e

theorem agree6 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) :
    m' ((c.tc : Thread Cert.Reference4Ideal.nD Cert.Reference4Ideal.τ).loc Cert.Reference4Ideal.main_arg6) = arg6 m c := e

theorem agree7 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) :
    m' ((c.tc : Thread Cert.Reference4Ideal.nD Cert.Reference4Ideal.τ).loc Cert.Reference4Ideal.main_arg7) = arg7 m c := e

theorem agree8 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) :
    m' ((c.tc : Thread Cert.Reference4Ideal.nD Cert.Reference4Ideal.τ).loc Cert.Reference4Ideal.main_arg8) = arg8 m c := e

theorem agree9 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) :
    m' ((c.tc : Thread Cert.Reference4Ideal.nD Cert.Reference4Ideal.τ).loc Cert.Reference4Ideal.main_arg9) = arg9 m c := e

theorem agree10 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) :
    m' ((c.tc : Thread Cert.Reference4Ideal.nD Cert.Reference4Ideal.τ).loc Cert.Reference4Ideal.main_arg10) = arg10 m c := e

theorem agree11 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (e : m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) :
    m' ((c.tc : Thread Cert.Reference4Ideal.nD Cert.Reference4Ideal.τ).loc Cert.Reference4Ideal.main_arg11) = arg11 m c := e

theorem same12 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (a0 : m' ((c.tc : Thread Cert.Reference4Ideal.nD Cert.Reference4Ideal.τ).loc Cert.Reference4Ideal.main_arg0) = arg0 m c) (a1 : m' ((c.tc : Thread Cert.Reference4Ideal.nD Cert.Reference4Ideal.τ).loc Cert.Reference4Ideal.main_arg1) = arg1 m c) (a2 : m' ((c.tc : Thread Cert.Reference4Ideal.nD Cert.Reference4Ideal.τ).loc Cert.Reference4Ideal.main_arg2) = arg2 m c) (a3 : m' ((c.tc : Thread Cert.Reference4Ideal.nD Cert.Reference4Ideal.τ).loc Cert.Reference4Ideal.main_arg3) = arg3 m c) (a4 : m' ((c.tc : Thread Cert.Reference4Ideal.nD Cert.Reference4Ideal.τ).loc Cert.Reference4Ideal.main_arg4) = arg4 m c) (a5 : m' ((c.tc : Thread Cert.Reference4Ideal.nD Cert.Reference4Ideal.τ).loc Cert.Reference4Ideal.main_arg5) = arg5 m c) (a6 : m' ((c.tc : Thread Cert.Reference4Ideal.nD Cert.Reference4Ideal.τ).loc Cert.Reference4Ideal.main_arg6) = arg6 m c) (a7 : m' ((c.tc : Thread Cert.Reference4Ideal.nD Cert.Reference4Ideal.τ).loc Cert.Reference4Ideal.main_arg7) = arg7 m c) (a8 : m' ((c.tc : Thread Cert.Reference4Ideal.nD Cert.Reference4Ideal.τ).loc Cert.Reference4Ideal.main_arg8) = arg8 m c) (a9 : m' ((c.tc : Thread Cert.Reference4Ideal.nD Cert.Reference4Ideal.τ).loc Cert.Reference4Ideal.main_arg9) = arg9 m c) (a10 : m' ((c.tc : Thread Cert.Reference4Ideal.nD Cert.Reference4Ideal.τ).loc Cert.Reference4Ideal.main_arg10) = arg10 m c) :
    Cert.Reference4Ideal.Read.val_main_v67 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10))
      = (Cert.Kernel4Ideal.Gen.dats m 0 c).arrAt 12 Cert.Kernel4Ideal.cfg0.N := by
  rw [a0, a1, a2, a3, a4, a5, a6, a7, a8, a9, a10]
  exact (arrAt12 m c).symm

theorem same13 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev 1)
    (a0 : m' ((c.tc : Thread Cert.Reference4Ideal.nD Cert.Reference4Ideal.τ).loc Cert.Reference4Ideal.main_arg0) = arg0 m c) (a1 : m' ((c.tc : Thread Cert.Reference4Ideal.nD Cert.Reference4Ideal.τ).loc Cert.Reference4Ideal.main_arg1) = arg1 m c) (a2 : m' ((c.tc : Thread Cert.Reference4Ideal.nD Cert.Reference4Ideal.τ).loc Cert.Reference4Ideal.main_arg2) = arg2 m c) (a3 : m' ((c.tc : Thread Cert.Reference4Ideal.nD Cert.Reference4Ideal.τ).loc Cert.Reference4Ideal.main_arg3) = arg3 m c) (a4 : m' ((c.tc : Thread Cert.Reference4Ideal.nD Cert.Reference4Ideal.τ).loc Cert.Reference4Ideal.main_arg4) = arg4 m c) (a5 : m' ((c.tc : Thread Cert.Reference4Ideal.nD Cert.Reference4Ideal.τ).loc Cert.Reference4Ideal.main_arg5) = arg5 m c) (a6 : m' ((c.tc : Thread Cert.Reference4Ideal.nD Cert.Reference4Ideal.τ).loc Cert.Reference4Ideal.main_arg6) = arg6 m c) (a7 : m' ((c.tc : Thread Cert.Reference4Ideal.nD Cert.Reference4Ideal.τ).loc Cert.Reference4Ideal.main_arg7) = arg7 m c) (a8 : m' ((c.tc : Thread Cert.Reference4Ideal.nD Cert.Reference4Ideal.τ).loc Cert.Reference4Ideal.main_arg8) = arg8 m c) (a9 : m' ((c.tc : Thread Cert.Reference4Ideal.nD Cert.Reference4Ideal.τ).loc Cert.Reference4Ideal.main_arg9) = arg9 m c) (a10 : m' ((c.tc : Thread Cert.Reference4Ideal.nD Cert.Reference4Ideal.τ).loc Cert.Reference4Ideal.main_arg10) = arg10 m c) (a11 : m' ((c.tc : Thread Cert.Reference4Ideal.nD Cert.Reference4Ideal.τ).loc Cert.Reference4Ideal.main_arg11) = arg11 m c) :
    Cert.Reference4Ideal.Read.val_main_v69 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11))
      = (Cert.Kernel4Ideal.Gen.dats m 0 c).arrAt 13 Cert.Kernel4Ideal.cfg0.N := by
  rw [a0, a1, a2, a3, a4, a5, a6, a7, a8, a9, a10, a11]
  exact (arrAt13 m c).symm

/-- The call's run, its two results named, the arguments unchanged. -/
theorem kernel_run (m : (ℓ : Loc Cert.Kernel4Ideal.nD Cert.Kernel4Ideal.τ Cert.Kernel4Ideal.sig) → Buf (Elt Ideal) ℓ) (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩
      (fun r => ∀ c : Dev Cert.Kernel4Ideal.nD,
      r.2.mem ((c.tc : Thread Cert.Kernel4Ideal.nD Cert.Kernel4Ideal.τ).loc Cert.Kernel4Ideal.main_v19_0) = (Cert.Kernel4Ideal.Gen.dats m 0 c).arrAt 12 Cert.Kernel4Ideal.cfg0.N
      ∧ r.2.mem ((c.tc : Thread Cert.Kernel4Ideal.nD Cert.Kernel4Ideal.τ).loc Cert.Kernel4Ideal.main_v19_1) = (Cert.Kernel4Ideal.Gen.dats m 0 c).arrAt 13 Cert.Kernel4Ideal.cfg0.N
      ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)) :=
  (θ_run _ _ _).mono (fun r h c => ⟨(h c).1 12, (h c).1 13,
      ((h c).2 Cert.Kernel4Ideal.main_arg0 (Pipeline.mem_restRefs_of Cert.Kernel4Ideal.main_arg0 (by decide) (by decide))).trans (Cert.Kernel4Ideal.Gen.V_main_arg0 m c),
      ((h c).2 Cert.Kernel4Ideal.main_arg1 (Pipeline.mem_restRefs_of Cert.Kernel4Ideal.main_arg1 (by decide) (by decide))).trans (Cert.Kernel4Ideal.Gen.V_main_arg1 m c),
      ((h c).2 Cert.Kernel4Ideal.main_arg2 (Pipeline.mem_restRefs_of Cert.Kernel4Ideal.main_arg2 (by decide) (by decide))).trans (Cert.Kernel4Ideal.Gen.V_main_arg2 m c),
      ((h c).2 Cert.Kernel4Ideal.main_arg3 (Pipeline.mem_restRefs_of Cert.Kernel4Ideal.main_arg3 (by decide) (by decide))).trans (Cert.Kernel4Ideal.Gen.V_main_arg3 m c),
      ((h c).2 Cert.Kernel4Ideal.main_arg4 (Pipeline.mem_restRefs_of Cert.Kernel4Ideal.main_arg4 (by decide) (by decide))).trans (Cert.Kernel4Ideal.Gen.V_main_arg4 m c),
      ((h c).2 Cert.Kernel4Ideal.main_arg5 (Pipeline.mem_restRefs_of Cert.Kernel4Ideal.main_arg5 (by decide) (by decide))).trans (Cert.Kernel4Ideal.Gen.V_main_arg5 m c),
      ((h c).2 Cert.Kernel4Ideal.main_arg6 (Pipeline.mem_restRefs_of Cert.Kernel4Ideal.main_arg6 (by decide) (by decide))).trans (Cert.Kernel4Ideal.Gen.V_main_arg6 m c),
      ((h c).2 Cert.Kernel4Ideal.main_arg7 (Pipeline.mem_restRefs_of Cert.Kernel4Ideal.main_arg7 (by decide) (by decide))).trans (Cert.Kernel4Ideal.Gen.V_main_arg7 m c),
      ((h c).2 Cert.Kernel4Ideal.main_arg8 (Pipeline.mem_restRefs_of Cert.Kernel4Ideal.main_arg8 (by decide) (by decide))).trans (Cert.Kernel4Ideal.Gen.V_main_arg8 m c),
      ((h c).2 Cert.Kernel4Ideal.main_arg9 (Pipeline.mem_restRefs_of Cert.Kernel4Ideal.main_arg9 (by decide) (by decide))).trans (Cert.Kernel4Ideal.Gen.V_main_arg9 m c),
      ((h c).2 Cert.Kernel4Ideal.main_arg10 (Pipeline.mem_restRefs_of Cert.Kernel4Ideal.main_arg10 (by decide) (by decide))).trans (Cert.Kernel4Ideal.Gen.V_main_arg10 m c),
      ((h c).2 Cert.Kernel4Ideal.main_arg11 (Pipeline.mem_restRefs_of Cert.Kernel4Ideal.main_arg11 (by decide) (by decide))).trans (Cert.Kernel4Ideal.Gen.V_main_arg11 m c)⟩)
    (Cert.Kernel4Ideal.Gen.run_main m g)

/-- The reference's run, each result named by its stage. -/
theorem reference_run (m' : (ℓ : Loc Cert.Reference4Ideal.nD Cert.Reference4Ideal.τ Cert.Reference4Ideal.sig) → Buf (Elt Ideal) ℓ) (g' : Dev Cert.Reference4Ideal.nD → PrngReg) :
    θ_run (Cert.Reference4Ideal.defs (F := Ideal)) (onTc (τ := Cert.Reference4Ideal.τ) (Cert.Reference4Ideal.main (F := Ideal))) ⟨m', fun _ => 0, g'⟩
      (fun r => ∀ c : Dev Cert.Reference4Ideal.nD,
      r.2.mem ((c.tc : Thread Cert.Reference4Ideal.nD Cert.Reference4Ideal.τ).loc Cert.Reference4Ideal.main_v67) = Cert.Reference4Ideal.Read.val_main_v67 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10))
      ∧ r.2.mem ((c.tc : Thread Cert.Reference4Ideal.nD Cert.Reference4Ideal.τ).loc Cert.Reference4Ideal.main_v69) = Cert.Reference4Ideal.Read.val_main_v69 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10)) (m' ((c.tc : Thread Cert.Reference4Ideal.nD Cert.Reference4Ideal.τ).loc Cert.Reference4Ideal.main_arg11))
      ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)) :=
  (θ_run _ _ _).mono (fun r h c => ⟨
      (h c).1.trans (Cert.Reference4Ideal.Read.val_main_v67_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8)) (m' ((c.tc : Thread Cert.Reference4Ideal.nD Cert.Reference4Ideal.τ).loc Cert.Reference4Ideal.main_arg9)) (m' ((c.tc : Thread Cert.Reference4Ideal.nD Cert.Reference4Ideal.τ).loc Cert.Reference4Ideal.main_arg10))),
      (h c).2.1.trans (Cert.Reference4Ideal.Read.val_main_v69_eq (F := Ideal) m' c),
      (h c).2.2⟩) (Cert.Reference4Ideal.Value.run m' g')

set_option maxHeartbeats 2000000 in
/-- The call's results and the reference's are the same arrays. -/
theorem algebraic : Cert.algebraic_Kernel4Ideal_Reference4Ideal
    (hKernel4Ideal := Cert.Kernel4Ideal.Gen.facts) (hReference4Ideal := Cert.Reference4Ideal.Gen.facts) := by
  intro m g m' g' _ hagree
  refine ⟨fun c => (Cert.Kernel4Ideal.Gen.dats m 0 c).arrAt 12 Cert.Kernel4Ideal.cfg0.N, fun c => (Cert.Kernel4Ideal.Gen.dats m 0 c).arrAt 13 Cert.Kernel4Ideal.cfg0.N, kernel_run m g, ?_⟩
  refine (θ_run _ _ _).mono (fun r h c => ?_) (reference_run m' g')
  obtain ⟨e0, e1, e2, e3, e4, e5, e6, e7, e8, e9, e10, e11⟩ := hagree c
  have a0 := agree0 m m' c e0
  have a1 := agree1 m m' c e1
  have a2 := agree2 m m' c e2
  have a3 := agree3 m m' c e3
  have a4 := agree4 m m' c e4
  have a5 := agree5 m m' c e5
  have a6 := agree6 m m' c e6
  have a7 := agree7 m m' c e7
  have a8 := agree8 m m' c e8
  have a9 := agree9 m m' c e9
  have a10 := agree10 m m' c e10
  have a11 := agree11 m m' c e11
  refine ⟨?_, ?_, (h c).2.2⟩
  · exact (h c).1.trans (same12 m m' c a0 a1 a2 a3 a4 a5 a6 a7 a8 a9 a10)
  · exact (h c).2.1.trans (same13 m m' c a0 a1 a2 a3 a4 a5 a6 a7 a8 a9 a10 a11)

end Cert.Merge

end
-- ==== Proof.MergeEParts.lean ====
/- The parts of the merge's body, read at an index. -/
module

public import proofs.«01_k».proof.Proof.MergeMath
public import proofs.«01_k».proof.Proof.Gen.Kernel5Ideal.Frame

@[expose] public section

set_option maxRecDepth 16384

noncomputable section

namespace Cert.MergeE

open Idealize.ShloMosaic Idealize.ShloMosaic.TcCoe Idealize.SL.Sem Cert.Kernel5Ideal Cert.Kernel5Ideal.Gen Cert.Merge

theorem gated_apply (a b z : Vec Ideal S512x1024 .bf16) (y : Fin 512) (e : Fin 1024) :
    k0_pay3 a b z (ix2 y e) = gated (fun i => a (ix2 y i)) (fun i => b (ix2 y i)) (fun i => z (ix2 y i)) e := by
  unfold k0_pay3 gated sigm
  pointwise
  simp only [ofBits_one, sub_eq_add_neg, zero_add]

theorem left_apply (a b z : Vec Ideal S512x1024 .bf16) (y : Fin 512) (e : Fin 512) :
    k0_pay4 a b z (ix2 y e) = halfNorm (fun i => k0_pay3 a b z (ix2 y i)) ⟨e.val, by omega⟩ := by
  unfold k0_pay4 halfNorm
  pointwise
  simp only [Nat.div_eq_of_lt e.isLt, Nat.zero_mul, Nat.zero_add]

theorem right_apply (a b z : Vec Ideal S512x1024 .bf16) (y : Fin 512) (e : Fin 512) :
    k0_pay5 a b z (ix2 y e) * k0_pay6 a b z (ix2 y 0) = halfNorm (fun i => k0_pay3 a b z (ix2 y i)) ⟨512 + e.val, by omega⟩ := by
  have q : (512 + e.val) / 512 = 1 := by omega
  unfold k0_pay6 k0_pay5 halfNorm
  pointwise
  simp only [q, Nat.one_mul]

theorem mix_apply (a b z : Vec Ideal S512x1024 .bf16) (w : Vec Ideal S1x1024 .f32) (g : Vec Ideal S512x2048 .bf16) (ws : Vec Ideal S1024x1024 .bf16)
    (n : Vec Ideal S512x1024 .bf16) (wn : Vec Ideal S1024x1024 .bf16) (y : Fin 512) (e : Fin 1024) :
    k0_pay7 (k0_pay4 a b z) (k0_pay5 a b z) (k0_pay6 a b z) w g ws n wn (ix2 y e)
      = mixRow (fun i => k0_pay3 a b z (ix2 y i)) (fun i => w (ix2 0 i)) (fun i => g (ix2 y i)) (fun i => n (ix2 y i))
          (fun i j => ws (ix2 i j)) (fun i j => wn (ix2 i j)) e := by
  unfold k0_pay7 mixRow sigm
  pointwise
  simp only [ofBits_one, sub_eq_add_neg, zero_add]
  refine congrArg₂ (· + ·) (congrArg₂ (· * ·) rfl ?_) rfl
  rw [sum_halves]
  refine congrArg₂ (· + ·) (Finset.sum_congr rfl fun j _ => ?_) (Finset.sum_congr rfl fun j _ => ?_)
  · rw [left_apply]
  · rw [right_apply]

theorem res_apply (m : FVec Ideal S6x1024 .f32) (x h : FVec Ideal S512x1024 .f32) (wo : Vec Ideal S1024x1024 .bf16) (y : Fin 512) (e : Fin 1024) :
    k0_pay9 m x h wo (ix2 y e) = resRow (fun i => h (ix2 y i)) (fun i => m (ix2 2 i)) (fun i => x (ix2 y i)) (fun i j => wo (ix2 i j)) e := by
  unfold k0_pay9 resRow
  pointwise

theorem norm_apply (m : FVec Ideal S6x1024 .f32) (x h : FVec Ideal S512x1024 .f32) (wo : Vec Ideal S1024x1024 .bf16) (w : Vec Ideal S1x1024 .f32)
    (y : Fin 512) (e : Fin 1024) :
    k0_pay10 m x h wo w (ix2 y e) = rowNorm (fun i => k0_pay9 m x h wo (ix2 y i)) (fun i => w (ix2 0 i)) (fun i => m (ix2 4 i)) (fun i => m (ix2 3 i)) e := by
  unfold k0_pay10 rowNorm
  pointwise

end Cert.MergeE

end
-- ==== Proof.MergeEBlock.lean ====
/- What one grid point of the merge leaves: its 512 rows. -/
module

public import proofs.«01_k».proof.Proof.MergeEParts

@[expose] public section

set_option maxRecDepth 16384

noncomputable section

namespace Cert.MergeE

open Idealize.ShloMosaic Idealize.ShloMosaic.TcCoe Idealize.SL.Sem Cert.Kernel5Ideal Cert.Kernel5Ideal.Gen Cert.Merge

theorem ld0 {e : EltTy} (x : Vec Ideal S1x6x1024 e) : View.ld x r0_0 = x :=
  View.ld_unit_lit _ x (by intro a; fin_cases a <;> rfl)

theorem ld1 {e : EltTy} (x : Vec Ideal S512x1024 e) : View.ld x r0_1 = x :=
  View.ld_unit_lit _ x (by intro a; fin_cases a <;> rfl)

theorem ld2 {e : EltTy} (x : Vec Ideal S1x1024 e) : View.ld x r0_2 = x :=
  View.ld_unit_lit _ x (by intro a; fin_cases a <;> rfl)

theorem ld3 {e : EltTy} (x : Vec Ideal S512x2048 e) : View.ld x r0_3 = x :=
  View.ld_unit_lit _ x (by intro a; fin_cases a <;> rfl)

theorem ld4 {e : EltTy} (x : Vec Ideal S1024x1024 e) : View.ld x r0_4 = x :=
  View.ld_unit_lit _ x (by intro a; fin_cases a <;> rfl)

theorem mod_apply (x : Vec Ideal S1x6x1024 .f32) (k : Fin 6) (e : Fin 1024) : k0_pay2 x (ix2 k e) = x (ix3 0 k e) := by
  unfold k0_pay2
  pointwise

theorem stream_apply (x : Vec Ideal S512x1024 .f32) (y : Fin 512) (e : Fin 1024) : k0_pay8 x (ix2 y e) = x (ix2 y e) := by
  unfold k0_pay8
  pointwise

variable (x0 : Vec Ideal S512x1024 .bf16) (x1 : Vec Ideal S512x1024 .bf16) (x2 : Vec Ideal S512x1024 .bf16) (x3 : Vec Ideal S512x2048 .bf16) (x4 : Vec Ideal S512x1024 .bf16) (x5 : Vec Ideal S512x1024 .f32) (x6 : Vec Ideal S1x6x1024 .f32) (x7 : Vec Ideal S1x1024 .f32) (x8 : Vec Ideal S1024x1024 .bf16) (x9 : Vec Ideal S1024x1024 .bf16) (x10 : Vec Ideal S1024x1024 .bf16) (x11 : Vec Ideal S1x1024 .f32) (x12 : Vec Ideal S1024x128 .f32)

theorem res_block (y : Fin 512) (e : Fin 1024) :
    k0_pay9 (k0_pay16 x0 x1 x2 x3 x4 x5 x6 x7 x8 x9 x10 x11 x12) (k0_pay17 x0 x1 x2 x3 x4 x5 x6 x7 x8 x9 x10 x11 x12) (k0_pay18 x0 x1 x2 x3 x4 x5 x6 x7 x8 x9 x10 x11 x12) x10 (ix2 y e)
      = residRow (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j)) e := by
  unfold k0_pay16 k0_pay17 k0_pay18 residRow
  simp only [ld0, ld1, ld2, ld3, ld4]
  rw [res_apply]
  simp only [mix_apply, gated_apply, mod_apply, stream_apply]

theorem res_out (y : Fin 512) (e : Fin 1024) :
    out0_13 x0 x1 x2 x3 x4 x5 x6 x7 x8 x9 x10 x11 x12 (ix2 y e)
      = residRow (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j)) e := by
  refine Eq.trans (congrFun ?_ _) (res_block x0 x1 x2 x3 x4 x5 x6 x7 x8 x9 x10 x11 x12 y e)
  unfold out0_13
  refine (View.canon_unit_zero (funext fun a => by fin_cases a <;> rfl) _ _).trans ?_
  simp only [ld4]

theorem normed_out (y : Fin 512) (e : Fin 1024) :
    out0_14 x0 x1 x2 x3 x4 x5 x6 x7 x8 x9 x10 x11 x12 (ix2 y e)
      = normed (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j))
          (fun i => x11 (ix2 0 i)) (fun i => x6 (ix3 0 4 i)) (fun i => x6 (ix3 0 3 i)) e := by
  have h : out0_14 x0 x1 x2 x3 x4 x5 x6 x7 x8 x9 x10 x11 x12
      = k0_pay10 (k0_pay16 x0 x1 x2 x3 x4 x5 x6 x7 x8 x9 x10 x11 x12) (k0_pay17 x0 x1 x2 x3 x4 x5 x6 x7 x8 x9 x10 x11 x12) (k0_pay18 x0 x1 x2 x3 x4 x5 x6 x7 x8 x9 x10 x11 x12) x10 x11 := by
    unfold out0_14
    refine (View.canon_unit_zero (funext fun a => by fin_cases a <;> rfl) _ _).trans ?_
    simp only [ld4, ld2]
  rw [h, norm_apply]
  simp only [res_block]
  unfold k0_pay16 normed
  simp only [ld0, mod_apply]

end Cert.MergeE

end
-- ==== Proof.MergeEReads.lean ====
/- The arrays the merge's windows read, and its blocks, as the arguments at an index. -/
module

public import proofs.«01_k».proof.Proof.MergeEParts

@[expose] public section

set_option maxRecDepth 16384

noncomputable section

namespace Cert.MergeE

open Idealize.ShloMosaic Idealize.ShloMosaic.TcCoe Idealize.SL.Sem Cert.Kernel5Ideal Cert.Kernel5Ideal.Gen Cert.Merge

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![t.val / 16, 0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index13 : ∀ t : Fin grid0.N, win0_13.index t = ![t.val, 0] := by decide +kernel
theorem index14 : ∀ t : Fin grid0.N, win0_14.index t = ![t.val, 0] := by decide +kernel

theorem point_lt (t : Fin grid0.N) : t.val < 128 := lt_of_lt_of_eq t.isLt N_0

variable (m : (ℓ : Loc nD τ sig) → Buf (Elt Ideal) ℓ) (c : Dev nD)

/-- The arguments given, in order. -/
def arg0 : FVec Ideal S8x8192x1024 .f32 := m ((c : Thread nD τ).loc main_arg0)
@[inherit_doc arg0] def arg1 : FVec Ideal S8x6144 .f32 := m ((c : Thread nD τ).loc main_arg1)
@[inherit_doc arg0] def arg2 : FVec Ideal S8x8192x1024 .f32 := m ((c : Thread nD τ).loc main_arg2)
@[inherit_doc arg0] def arg3 : FVec Ideal S8x8192x1024 .f32 := m ((c : Thread nD τ).loc main_arg3)
@[inherit_doc arg0] def arg4 : FVec Ideal S8x8192x1024 .f32 := m ((c : Thread nD τ).loc main_arg4)
@[inherit_doc arg0] def arg5 : FVec Ideal S8x8192x2048 .f32 := m ((c : Thread nD τ).loc main_arg5)
@[inherit_doc arg0] def arg6 : FVec Ideal S8x8192x1024 .f32 := m ((c : Thread nD τ).loc main_arg6)
@[inherit_doc arg0] def arg7 : FVec Ideal S1024 .f32 := m ((c : Thread nD τ).loc main_arg7)
@[inherit_doc arg0] def arg8 : FVec Ideal S1024x1024 .f32 := m ((c : Thread nD τ).loc main_arg8)
@[inherit_doc arg0] def arg9 : FVec Ideal S1024x1024 .f32 := m ((c : Thread nD τ).loc main_arg9)
@[inherit_doc arg0] def arg10 : FVec Ideal S1024x1024 .f32 := m ((c : Thread nD τ).loc main_arg10)
@[inherit_doc arg0] def arg11 : FVec Ideal S1024 .f32 := m ((c : Thread nD τ).loc main_arg11)

/-- The arrays the windows read, in order. -/
def prep0 : FVec Ideal S65536x1024 .bf16 := V m c main_v6
@[inherit_doc prep0] def prep1 : FVec Ideal S65536x1024 .bf16 := V m c main_v8
@[inherit_doc prep0] def prep2 : FVec Ideal S65536x1024 .bf16 := V m c main_v10
@[inherit_doc prep0] def prep3 : FVec Ideal S65536x2048 .bf16 := V m c main_v12
@[inherit_doc prep0] def prep4 : FVec Ideal S65536x1024 .bf16 := V m c main_v14
@[inherit_doc prep0] def prep5 : FVec Ideal S65536x1024 .f32 := V m c main_v15
@[inherit_doc prep0] def prep6 : FVec Ideal S16x6x1024 .f32 := V m c main_v2
@[inherit_doc prep0] def prep7 : FVec Ideal S1x1024 .f32 := V m c main_v16
@[inherit_doc prep0] def prep8 : FVec Ideal S1024x1024 .bf16 := V m c main_v17
@[inherit_doc prep0] def prep9 : FVec Ideal S1024x1024 .bf16 := V m c main_v18
@[inherit_doc prep0] def prep10 : FVec Ideal S1024x1024 .bf16 := V m c main_v19
@[inherit_doc prep0] def prep11 : FVec Ideal S1x1024 .f32 := V m c main_v20

theorem prep0_apply (R : Fin 65536) (C : Fin 1024) :
    prep0 m c (ix2 R C) = arg2 m c (ix3 ⟨R.val / 8192, by omega⟩ ⟨R.val % 8192, by omega⟩ C) := by
  unfold prep0 arg2 V
  after_results
  pointwise

theorem prep1_apply (R : Fin 65536) (C : Fin 1024) :
    prep1 m c (ix2 R C) = arg3 m c (ix3 ⟨R.val / 8192, by omega⟩ ⟨R.val % 8192, by omega⟩ C) := by
  unfold prep1 arg3 V
  after_results
  pointwise

theorem prep2_apply (R : Fin 65536) (C : Fin 1024) :
    prep2 m c (ix2 R C) = arg4 m c (ix3 ⟨R.val / 8192, by omega⟩ ⟨R.val % 8192, by omega⟩ C) := by
  unfold prep2 arg4 V
  after_results
  pointwise

theorem prep3_apply (R : Fin 65536) (C : Fin 2048) :
    prep3 m c (ix2 R C) = arg5 m c (ix3 ⟨R.val / 8192, by omega⟩ ⟨R.val % 8192, by omega⟩ C) := by
  unfold prep3 arg5 V
  after_results
  pointwise

theorem prep4_apply (R : Fin 65536) (C : Fin 1024) :
    prep4 m c (ix2 R C) = arg6 m c (ix3 ⟨R.val / 8192, by omega⟩ ⟨R.val % 8192, by omega⟩ C) := by
  unfold prep4 arg6 V
  after_results
  pointwise

theorem prep5_apply (R : Fin 65536) (C : Fin 1024) :
    prep5 m c (ix2 R C) = arg0 m c (ix3 ⟨R.val / 8192, by omega⟩ ⟨R.val % 8192, by omega⟩ C) := by
  unfold prep5 arg0 V
  after_results
  pointwise

theorem prep6_apply2 (b : Fin 8) (C : Fin 1024) : prep6 m c (ix3 ⟨b.val, by omega⟩ 2 C) = arg1 m c (ix2 b ⟨2048 + C.val, by omega⟩) := by
  unfold prep6 arg1 V
  after_results
  pointwise

theorem prep6_apply3 (b : Fin 8) (C : Fin 1024) : prep6 m c (ix3 ⟨b.val, by omega⟩ 3 C) = arg1 m c (ix2 b ⟨3072 + C.val, by omega⟩) := by
  unfold prep6 arg1 V
  after_results
  pointwise

theorem prep6_apply4 (b : Fin 8) (C : Fin 1024) : prep6 m c (ix3 ⟨b.val, by omega⟩ 4 C) = arg1 m c (ix2 b ⟨4096 + C.val, by omega⟩) := by
  unfold prep6 arg1 V
  after_results
  pointwise

theorem prep7_apply (C : Fin 1024) : prep7 m c (ix2 0 C) = arg7 m c (ix1 C) := by
  unfold prep7 arg7 V
  after_results
  pointwise

theorem prep8_apply (i j : Fin 1024) : prep8 m c (ix2 i j) = arg8 m c (ix2 i j) := by
  unfold prep8 arg8 V
  after_results
  pointwise

theorem prep9_apply (i j : Fin 1024) : prep9 m c (ix2 i j) = arg9 m c (ix2 i j) := by
  unfold prep9 arg9 V
  after_results
  pointwise

theorem prep10_apply (i j : Fin 1024) : prep10 m c (ix2 i j) = arg10 m c (ix2 i j) := by
  unfold prep10 arg10 V
  after_results
  pointwise

theorem prep11_apply (C : Fin 1024) : prep11 m c (ix2 0 C) = arg11 m c (ix1 C) := by
  unfold prep11 arg11 V
  after_results
  pointwise

theorem read0 (t : Fin grid0.N) (y : Fin 512) (e : Fin 1024) (R : Fin 65536) (hR : R.val = t.val * 512 + y.val) :
    iblk m c 0 t (ix2 y e) = arg2 m c (ix3 ⟨R.val / 8192, by omega⟩ ⟨R.val % 8192, by omega⟩ e) := by
  have h : iblk m c 0 t (ix2 y e) = V m c main_v6 (ix2 R e) := by blk_ext [iblk, index0 t]
  exact h.trans (prep0_apply m c R e)

theorem read1 (t : Fin grid0.N) (y : Fin 512) (e : Fin 1024) (R : Fin 65536) (hR : R.val = t.val * 512 + y.val) :
    iblk m c 1 t (ix2 y e) = arg3 m c (ix3 ⟨R.val / 8192, by omega⟩ ⟨R.val % 8192, by omega⟩ e) := by
  have h : iblk m c 1 t (ix2 y e) = V m c main_v8 (ix2 R e) := by blk_ext [iblk, index1 t]
  exact h.trans (prep1_apply m c R e)

theorem read2 (t : Fin grid0.N) (y : Fin 512) (e : Fin 1024) (R : Fin 65536) (hR : R.val = t.val * 512 + y.val) :
    iblk m c 2 t (ix2 y e) = arg4 m c (ix3 ⟨R.val / 8192, by omega⟩ ⟨R.val % 8192, by omega⟩ e) := by
  have h : iblk m c 2 t (ix2 y e) = V m c main_v10 (ix2 R e) := by blk_ext [iblk, index2 t]
  exact h.trans (prep2_apply m c R e)

theorem read3 (t : Fin grid0.N) (y : Fin 512) (e : Fin 2048) (R : Fin 65536) (hR : R.val = t.val * 512 + y.val) :
    iblk m c 3 t (ix2 y e) = arg5 m c (ix3 ⟨R.val / 8192, by omega⟩ ⟨R.val % 8192, by omega⟩ e) := by
  have h : iblk m c 3 t (ix2 y e) = V m c main_v12 (ix2 R e) := by blk_ext [iblk, index3 t]
  exact h.trans (prep3_apply m c R e)

theorem read4 (t : Fin grid0.N) (y : Fin 512) (e : Fin 1024) (R : Fin 65536) (hR : R.val = t.val * 512 + y.val) :
    iblk m c 4 t (ix2 y e) = arg6 m c (ix3 ⟨R.val / 8192, by omega⟩ ⟨R.val % 8192, by omega⟩ e) := by
  have h : iblk m c 4 t (ix2 y e) = V m c main_v14 (ix2 R e) := by blk_ext [iblk, index4 t]
  exact h.trans (prep4_apply m c R e)

theorem read5 (t : Fin grid0.N) (y : Fin 512) (e : Fin 1024) (R : Fin 65536) (hR : R.val = t.val * 512 + y.val) :
    iblk m c 5 t (ix2 y e) = arg0 m c (ix3 ⟨R.val / 8192, by omega⟩ ⟨R.val % 8192, by omega⟩ e) := by
  have h : iblk m c 5 t (ix2 y e) = V m c main_v15 (ix2 R e) := by blk_ext [iblk, index5 t]
  exact h.trans (prep5_apply m c R e)

theorem mod_block (t : Fin grid0.N) (k : Fin 6) (e : Fin 1024) (b : Fin 16) (hb : b.val = t.val / 16) :
    iblk m c 6 t (ix3 0 k e) = V m c main_v2 (ix3 b k e) := by
  blk_ext [iblk, index6 t]

theorem mod_read2 (t : Fin grid0.N) (y : Fin 512) (e : Fin 1024) (R : Fin 65536) (hR : R.val = t.val * 512 + y.val) :
    iblk m c 6 t (ix3 0 2 e) = arg1 m c (ix2 ⟨R.val / 8192, by omega⟩ ⟨2048 + e.val, by omega⟩) := by
  have ht := point_lt t
  exact (mod_block m c t 2 e ⟨R.val / 8192, by omega⟩ (by show R.val / 8192 = _; omega)).trans (prep6_apply2 m c ⟨R.val / 8192, by omega⟩ e)

theorem mod_read3 (t : Fin grid0.N) (y : Fin 512) (e : Fin 1024) (R : Fin 65536) (hR : R.val = t.val * 512 + y.val) :
    iblk m c 6 t (ix3 0 3 e) = arg1 m c (ix2 ⟨R.val / 8192, by omega⟩ ⟨3072 + e.val, by omega⟩) := by
  have ht := point_lt t
  exact (mod_block m c t 3 e ⟨R.val / 8192, by omega⟩ (by show R.val / 8192 = _; omega)).trans (prep6_apply3 m c ⟨R.val / 8192, by omega⟩ e)

theorem mod_read4 (t : Fin grid0.N) (y : Fin 512) (e : Fin 1024) (R : Fin 65536) (hR : R.val = t.val * 512 + y.val) :
    iblk m c 6 t (ix3 0 4 e) = arg1 m c (ix2 ⟨R.val / 8192, by omega⟩ ⟨4096 + e.val, by omega⟩) := by
  have ht := point_lt t
  exact (mod_block m c t 4 e ⟨R.val / 8192, by omega⟩ (by show R.val / 8192 = _; omega)).trans (prep6_apply4 m c ⟨R.val / 8192, by omega⟩ e)

theorem read7 (t : Fin grid0.N) (e : Fin 1024) : iblk m c 7 t (ix2 0 e) = arg7 m c (ix1 e) := by
  have h : iblk m c 7 t (ix2 0 e) = V m c main_v16 (ix2 0 e) := by blk_ext [iblk, index7 t]
  exact h.trans (prep7_apply m c e)

theorem read8 (t : Fin grid0.N) (i j : Fin 1024) : iblk m c 8 t (ix2 i j) = arg8 m c (ix2 i j) := by
  have h : iblk m c 8 t (ix2 i j) = V m c main_v17 (ix2 i j) := by blk_ext [iblk, index8 t]
  exact h.trans (prep8_apply m c i j)

theorem read9 (t : Fin grid0.N) (i j : Fin 1024) : iblk m c 9 t (ix2 i j) = arg9 m c (ix2 i j) := by
  have h : iblk m c 9 t (ix2 i j) = V m c main_v18 (ix2 i j) := by blk_ext [iblk, index9 t]
  exact h.trans (prep9_apply m c i j)

theorem read10 (t : Fin grid0.N) (i j : Fin 1024) : iblk m c 10 t (ix2 i j) = arg10 m c (ix2 i j) := by
  have h : iblk m c 10 t (ix2 i j) = V m c main_v19 (ix2 i j) := by blk_ext [iblk, index10 t]
  exact h.trans (prep10_apply m c i j)

theorem read11 (t : Fin grid0.N) (e : Fin 1024) : iblk m c 11 t (ix2 0 e) = arg11 m c (ix1 e) := by
  have h : iblk m c 11 t (ix2 0 e) = V m c main_v20 (ix2 0 e) := by blk_ext [iblk, index11 t]
  exact h.trans (prep11_apply m c e)

end Cert.MergeE

end
-- ==== Proof.MergeERef.lean ====
/- The merge in the reference, element by element. -/
module

public import proofs.«01_k».proof.Proof.MergeMath
public import proofs.«01_k».proof.Proof.Gen.Reference5Ideal.Read

@[expose] public section

set_option maxRecDepth 16384

noncomputable section

namespace Cert.MergeE.Ref

open Idealize.ShloMosaic Idealize.ShloMosaic.TcCoe Idealize.SL.Sem Cert.Reference5Ideal Cert.Reference5Ideal.Gen Cert.Reference5Ideal.Read Cert.Merge

variable (x0 : FVec Ideal S8x8192x1024 .f32) (x1 : FVec Ideal S8x6144 .f32) (x2 x3 x4 : FVec Ideal S8x8192x1024 .f32)
  (x5 : FVec Ideal S8x8192x2048 .f32) (x6 : FVec Ideal S8x8192x1024 .f32) (x7 : FVec Ideal S1024 .f32)
  (x8 x9 x10 : FVec Ideal S1024x1024 .f32) (x11 : FVec Ideal S1024 .f32)

theorem gated_apply (b : Fin 8) (n : Fin 8192) (e : Fin 1024) :
    val_main_v11 (F := Ideal) x2 x3 x4 (ix3 b n e)
      = gated (fun i => x2 (ix3 b n i)) (fun i => x3 (ix3 b n i)) (fun i => x4 (ix3 b n i)) e := by
  unfold val_main_v11 val_main_v10 val_main_v9 val_main_call0_v5 val_main_call0_v4 val_main_call0_v3 val_main_call0_v2
    val_main_call0_v1 val_main_call0_v0 val_main_call0_cst val_main_call0_cst_0 gated sigm
  pointwise

theorem half_apply (b : Fin 8) (n : Fin 8192) (e : Fin 1024) :
    val_main_v23 (F := Ideal) x2 x3 x4 (ix3 b n e) = halfNorm (fun i => val_main_v11 (F := Ideal) x2 x3 x4 (ix3 b n i)) e := by
  unfold val_main_v23 val_main_v22 val_main_v21 val_main_v20 val_main_v19 val_main_v18 val_main_v17 val_main_v16 val_main_v15
    val_main_v14 val_main_v13 val_main_v12 val_main_cst val_main_cst_0 val_main_cst_1 halfNorm
  pointwise

theorem mix_apply (b : Fin 8) (n : Fin 8192) (e : Fin 1024) :
    val_main_v43 (F := Ideal) x2 x3 x4 x5 x6 x7 x8 x9 (ix3 b n e)
      = mixRow (fun i => val_main_v11 (F := Ideal) x2 x3 x4 (ix3 b n i)) (fun i => x7 (ix1 i)) (fun i => x5 (ix3 b n i)) (fun i => x6 (ix3 b n i))
          (fun i j => x8 (ix2 i j)) (fun i j => x9 (ix2 i j)) e := by
  unfold val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v25 val_main_v24
    val_main_v1 val_main_v0 val_main_cst_2 val_main_cst_3 val_main_cst_4 val_main_cst_5 mixRow sigm
  pointwise
  simp only [half_apply]

theorem residual_apply (b : Fin 8) (n : Fin 8192) (e : Fin 1024) :
    val_main_v47 (F := Ideal) x0 x1 x2 x3 x4 x5 x6 x7 x8 x9 x10 (ix3 b n e)
      = residRow (fun i => x2 (ix3 b n i)) (fun i => x3 (ix3 b n i)) (fun i => x4 (ix3 b n i)) (fun i => x7 (ix1 i)) (fun i => x6 (ix3 b n i))
          (fun i => x0 (ix3 b n i)) (fun i => x1 (ix2 b ⟨2048 + i.val, by omega⟩)) (fun i => x5 (ix3 b n i)) (fun i j => x8 (ix2 i j))
          (fun i j => x9 (ix2 i j)) (fun i j => x10 (ix2 i j)) e := by
  unfold val_main_v47 val_main_v46 val_main_v45 val_main_v44 val_main_v5 val_main_v2 residRow resRow
  pointwise
  simp only [mix_apply, gated_apply]

theorem normed_apply (b : Fin 8) (n : Fin 8192) (e : Fin 1024) :
    val_main_v66 (F := Ideal) x0 x1 x2 x3 x4 x5 x6 x7 x8 x9 x10 x11 (ix3 b n e)
      = normed (fun i => x2 (ix3 b n i)) (fun i => x3 (ix3 b n i)) (fun i => x4 (ix3 b n i)) (fun i => x7 (ix1 i)) (fun i => x6 (ix3 b n i))
          (fun i => x0 (ix3 b n i)) (fun i => x1 (ix2 b ⟨2048 + i.val, by omega⟩)) (fun i => x5 (ix3 b n i)) (fun i j => x8 (ix2 i j))
          (fun i j => x9 (ix2 i j)) (fun i j => x10 (ix2 i j)) (fun i => x11 (ix1 i)) (fun i => x1 (ix2 b ⟨4096 + i.val, by omega⟩))
          (fun i => x1 (ix2 b ⟨3072 + i.val, by omega⟩)) e := by
  unfold normed rowNorm val_main_v66 val_main_v65 val_main_v64 val_main_v63 val_main_v62 val_main_v61 val_main_v60 val_main_v59 val_main_v58
    val_main_v57 val_main_v56 val_main_v55 val_main_v54 val_main_v53 val_main_v52 val_main_v51 val_main_v50 val_main_v49 val_main_v48
    val_main_v7 val_main_v6 val_main_v2 val_main_cst_6 val_main_cst_7 val_main_cst_8 val_main_cst_9
  pointwise
  simp only [residual_apply]

theorem res_at (R : Fin 65536) (C : Fin 1024) :
    val_main_v67 (F := Ideal) x0 x1 x2 x3 x4 x5 x6 x7 x8 x9 x10 (ix2 R C)
      = val_main_v47 (F := Ideal) x0 x1 x2 x3 x4 x5 x6 x7 x8 x9 x10 (ix3 ⟨R.val / 8192, by omega⟩ ⟨R.val % 8192, by omega⟩ C) := by
  unfold val_main_v67
  pointwise

theorem norm_at (R : Fin 65536) (C : Fin 1024) :
    val_main_v68 (F := Ideal) x0 x1 x2 x3 x4 x5 x6 x7 x8 x9 x10 x11 (ix2 R C)
      = val_main_v66 (F := Ideal) x0 x1 x2 x3 x4 x5 x6 x7 x8 x9 x10 x11 (ix3 ⟨R.val / 8192, by omega⟩ ⟨R.val % 8192, by omega⟩ C) := by
  unfold val_main_v68
  pointwise

end Cert.MergeE.Ref

end
-- ==== Proof.MergeEArray.lean ====
/- The arrays the merge returns are the reference's. -/
module

public import proofs.«01_k».proof.Proof.MergeEBlock
public import proofs.«01_k».proof.Proof.MergeEReads
public import proofs.«01_k».proof.Proof.MergeERef
public import Idealize.ShloMosaic.Lib.Pipeline.Covers
public import Idealize.ShloMosaic.Lib.Claim

@[expose] public section

set_option maxRecDepth 16384

noncomputable section

namespace Cert.MergeE

open Idealize.ShloMosaic Idealize.ShloMosaic.TcCoe Idealize.SL.Sem Cert.Kernel5Ideal Cert.Kernel5Ideal.Gen Cert.Merge

variable (m : (ℓ : Loc nD τ sig) → Buf (Elt Ideal) ℓ) (c : Dev nD)

theorem res_value (t : Fin grid0.N) (y : Fin 512) (e : Fin 1024) (R : Fin 65536) (hR : R.val = t.val * 512 + y.val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 y e)
      = Cert.Reference5Ideal.Read.val_main_v67 (F := Ideal) (arg0 m c) (arg1 m c) (arg2 m c) (arg3 m c) (arg4 m c) (arg5 m c) (arg6 m c) (arg7 m c) (arg8 m c) (arg9 m c) (arg10 m c) (ix2 R e) := by
  refine (res_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y e).trans (Eq.trans ?_ ((Ref.res_at (arg0 m c) (arg1 m c) (arg2 m c) (arg3 m c) (arg4 m c) (arg5 m c) (arg6 m c) (arg7 m c) (arg8 m c) (arg9 m c) (arg10 m c) R e).trans (Ref.residual_apply (arg0 m c) (arg1 m c) (arg2 m c) (arg3 m c) (arg4 m c) (arg5 m c) (arg6 m c) (arg7 m c) (arg8 m c) (arg9 m c) (arg10 m c) _ _ e)).symm)
  exact residRow_congr (funext fun i => read0 m c t y i R hR) (funext fun i => read1 m c t y i R hR) (funext fun i => read2 m c t y i R hR)
    (funext fun i => read7 m c t i) (funext fun i => read4 m c t y i R hR) (funext fun i => read5 m c t y i R hR) (funext fun i => mod_read2 m c t y i R hR)
    (funext fun i => read3 m c t y i R hR) (funext fun i => funext fun j => read8 m c t i j) (funext fun i => funext fun j => read9 m c t i j)
    (funext fun i => funext fun j => read10 m c t i j) e

theorem norm_value (t : Fin grid0.N) (y : Fin 512) (e : Fin 1024) (R : Fin 65536) (hR : R.val = t.val * 512 + y.val) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 y e)
      = Cert.Reference5Ideal.Read.val_main_v68 (F := Ideal) (arg0 m c) (arg1 m c) (arg2 m c) (arg3 m c) (arg4 m c) (arg5 m c) (arg6 m c) (arg7 m c) (arg8 m c) (arg9 m c) (arg10 m c) (arg11 m c) (ix2 R e) := by
  refine (normed_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y e).trans (Eq.trans ?_ ((Ref.norm_at (arg0 m c) (arg1 m c) (arg2 m c) (arg3 m c) (arg4 m c) (arg5 m c) (arg6 m c) (arg7 m c) (arg8 m c) (arg9 m c) (arg10 m c) (arg11 m c) R e).trans (Ref.normed_apply (arg0 m c) (arg1 m c) (arg2 m c) (arg3 m c) (arg4 m c) (arg5 m c) (arg6 m c) (arg7 m c) (arg8 m c) (arg9 m c) (arg10 m c) (arg11 m c) _ _ e)).symm)
  exact normed_congr (funext fun i => read0 m c t y i R hR) (funext fun i => read1 m c t y i R hR) (funext fun i => read2 m c t y i R hR)
    (funext fun i => read7 m c t i) (funext fun i => read4 m c t y i R hR) (funext fun i => read5 m c t y i R hR) (funext fun i => mod_read2 m c t y i R hR)
    (funext fun i => read3 m c t y i R hR) (funext fun i => funext fun j => read8 m c t i j) (funext fun i => funext fun j => read9 m c t i j)
    (funext fun i => funext fun j => read10 m c t i j)
    (funext fun i => read11 m c t i) (funext fun i => mod_read4 m c t y i R hR) (funext fun i => mod_read3 m c t y i R hR) e

theorem covers13 : (cfg0.win 13).Covers :=
  (cfg0.win 13).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index13 ⟨(β 0).val, _⟩) a).trans ?_
      fin_cases a
      · rfl
      · show 0 = (β 1).val
        omega

theorem arrAt13 : (dats m 0 c).arrAt 13 cfg0.N
    = Cert.Reference5Ideal.Read.val_main_v67 (F := Ideal) (arg0 m c) (arg1 m c) (arg2 m c) (arg3 m c) (arg4 m c) (arg5 m c) (arg6 m c) (arg7 m c) (arg8 m c) (arg9 m c) (arg10 m c) := by
  refine (dats m 0 c).arrAt_eq_of_covers 13 _ covers13 fun t hf y => ?_
  blk_simp
  rw [after0_13]
  have h0 := Pipeline.Window.rect_emb_val win0_13 t y 0
  have h1 := Pipeline.Window.rect_emb_val win0_13 t y 1
  rw [index13 t] at h0 h1
  obtain ⟨a, b, rfl⟩ : ∃ (a : Fin 512) (b : Fin 1024), y = ix2 a b := ⟨y 0, y 1, eq_ix2 y⟩
  refine (res_value m c t a b _ h0).trans (congrArg _ ?_)
  refine Eq.trans (congrArg (ix2 _) (Fin.ext ?_)) (eq_ix2 (n0 := 65536) (n1 := 1024) _).symm
  refine Eq.trans ?_ h1.symm
  show b.val = 0 * 1024 + b.val
  omega

theorem covers14 : (cfg0.win 14).Covers :=
  (cfg0.win 14).covers_of_index_surj rfl (by decide) fun β => by
    have h0 : (β 0).val < 128 := (β 0).isLt
    have h1 : (β 1).val < 1 := (β 1).isLt
    refine ⟨⟨(β 0).val, ?_⟩, fun a => ?_⟩
    · show _ < 128
      omega
    · refine (congrFun (index14 ⟨(β 0).val, _⟩) a).trans ?_
      fin_cases a
      · rfl
      · show 0 = (β 1).val
        omega

theorem arrAt14 : (dats m 0 c).arrAt 14 cfg0.N
    = Cert.Reference5Ideal.Read.val_main_v68 (F := Ideal) (arg0 m c) (arg1 m c) (arg2 m c) (arg3 m c) (arg4 m c) (arg5 m c) (arg6 m c) (arg7 m c) (arg8 m c) (arg9 m c) (arg10 m c) (arg11 m c) := by
  refine (dats m 0 c).arrAt_eq_of_covers 14 _ covers14 fun t hf y => ?_
  blk_simp
  rw [after0_14]
  have h0 := Pipeline.Window.rect_emb_val win0_14 t y 0
  have h1 := Pipeline.Window.rect_emb_val win0_14 t y 1
  rw [index14 t] at h0 h1
  obtain ⟨a, b, rfl⟩ : ∃ (a : Fin 512) (b : Fin 1024), y = ix2 a b := ⟨y 0, y 1, eq_ix2 y⟩
  refine (norm_value m c t a b _ h0).trans (congrArg _ ?_)
  refine Eq.trans (congrArg (ix2 _) (Fin.ext ?_)) (eq_ix2 (n0 := 65536) (n1 := 1024) _).symm
  refine Eq.trans ?_ h1.symm
  show b.val = 0 * 1024 + b.val
  omega

end Cert.MergeE

end
-- ==== Proof.MergeEClaim.lean ====
/- The merge's claims: the reference leaves its arguments alone, and the results of the two are the same arrays. -/
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.MergeEArray
public import Idealize.ShloMosaic.Lib.Quiescent
public import Idealize.ShloMosaic.Adequacy
public import Idealize.ShloMosaic.Init

@[expose] public section

set_option maxRecDepth 16384

noncomputable section

namespace Cert.MergeE

open Idealize.ShloMosaic Idealize.SL.Sem

theorem reference_frame : Cert.quiescent_Reference5Ideal (hReference5Ideal := Cert.Reference5Ideal.Gen.facts) := fun m ρ _ =>
  (θ_run _ _ _).mono (fun r h => ⟨fun c => (h c).2.2, sem_eq_zero_of_no_sems rfl r.2⟩) (Cert.Reference5Ideal.Value.run m ρ)

theorem agree0 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) :
    m' ((c.tc : Thread Cert.Reference5Ideal.nD Cert.Reference5Ideal.τ).loc Cert.Reference5Ideal.main_arg0) = arg0 m c := e

theorem agree1 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) :
    m' ((c.tc : Thread Cert.Reference5Ideal.nD Cert.Reference5Ideal.τ).loc Cert.Reference5Ideal.main_arg1) = arg1 m c := e

theorem agree2 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    m' ((c.tc : Thread Cert.Reference5Ideal.nD Cert.Reference5Ideal.τ).loc Cert.Reference5Ideal.main_arg2) = arg2 m c := e

theorem agree3 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    m' ((c.tc : Thread Cert.Reference5Ideal.nD Cert.Reference5Ideal.τ).loc Cert.Reference5Ideal.main_arg3) = arg3 m c := e

theorem agree4 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) :
    m' ((c.tc : Thread Cert.Reference5Ideal.nD Cert.Reference5Ideal.τ).loc Cert.Reference5Ideal.main_arg4) = arg4 m c := e

theorem agree5 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) :
    m' ((c.tc : Thread Cert.Reference5Ideal.nD Cert.Reference5Ideal.τ).loc Cert.Reference5Ideal.main_arg5) = arg5 m c := e

theorem agree6 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) :
    m' ((c.tc : Thread Cert.Reference5Ideal.nD Cert.Reference5Ideal.τ).loc Cert.Reference5Ideal.main_arg6) = arg6 m c := e

theorem agree7 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) :
    m' ((c.tc : Thread Cert.Reference5Ideal.nD Cert.Reference5Ideal.τ).loc Cert.Reference5Ideal.main_arg7) = arg7 m c := e

theorem agree8 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) :
    m' ((c.tc : Thread Cert.Reference5Ideal.nD Cert.Reference5Ideal.τ).loc Cert.Reference5Ideal.main_arg8) = arg8 m c := e

theorem agree9 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) :
    m' ((c.tc : Thread Cert.Reference5Ideal.nD Cert.Reference5Ideal.τ).loc Cert.Reference5Ideal.main_arg9) = arg9 m c := e

theorem agree10 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) :
    m' ((c.tc : Thread Cert.Reference5Ideal.nD Cert.Reference5Ideal.τ).loc Cert.Reference5Ideal.main_arg10) = arg10 m c := e

theorem agree11 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (e : m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) :
    m' ((c.tc : Thread Cert.Reference5Ideal.nD Cert.Reference5Ideal.τ).loc Cert.Reference5Ideal.main_arg11) = arg11 m c := e

theorem same13 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (a0 : m' ((c.tc : Thread Cert.Reference5Ideal.nD Cert.Reference5Ideal.τ).loc Cert.Reference5Ideal.main_arg0) = arg0 m c) (a1 : m' ((c.tc : Thread Cert.Reference5Ideal.nD Cert.Reference5Ideal.τ).loc Cert.Reference5Ideal.main_arg1) = arg1 m c) (a2 : m' ((c.tc : Thread Cert.Reference5Ideal.nD Cert.Reference5Ideal.τ).loc Cert.Reference5Ideal.main_arg2) = arg2 m c) (a3 : m' ((c.tc : Thread Cert.Reference5Ideal.nD Cert.Reference5Ideal.τ).loc Cert.Reference5Ideal.main_arg3) = arg3 m c) (a4 : m' ((c.tc : Thread Cert.Reference5Ideal.nD Cert.Reference5Ideal.τ).loc Cert.Reference5Ideal.main_arg4) = arg4 m c) (a5 : m' ((c.tc : Thread Cert.Reference5Ideal.nD Cert.Reference5Ideal.τ).loc Cert.Reference5Ideal.main_arg5) = arg5 m c) (a6 : m' ((c.tc : Thread Cert.Reference5Ideal.nD Cert.Reference5Ideal.τ).loc Cert.Reference5Ideal.main_arg6) = arg6 m c) (a7 : m' ((c.tc : Thread Cert.Reference5Ideal.nD Cert.Reference5Ideal.τ).loc Cert.Reference5Ideal.main_arg7) = arg7 m c) (a8 : m' ((c.tc : Thread Cert.Reference5Ideal.nD Cert.Reference5Ideal.τ).loc Cert.Reference5Ideal.main_arg8) = arg8 m c) (a9 : m' ((c.tc : Thread Cert.Reference5Ideal.nD Cert.Reference5Ideal.τ).loc Cert.Reference5Ideal.main_arg9) = arg9 m c) (a10 : m' ((c.tc : Thread Cert.Reference5Ideal.nD Cert.Reference5Ideal.τ).loc Cert.Reference5Ideal.main_arg10) = arg10 m c) :
    Cert.Reference5Ideal.Read.val_main_v67 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10))
      = (Cert.Kernel5Ideal.Gen.dats m 0 c).arrAt 13 Cert.Kernel5Ideal.cfg0.N := by
  rw [a0, a1, a2, a3, a4, a5, a6, a7, a8, a9, a10]
  exact (arrAt13 m c).symm

theorem same14 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev 1)
    (a0 : m' ((c.tc : Thread Cert.Reference5Ideal.nD Cert.Reference5Ideal.τ).loc Cert.Reference5Ideal.main_arg0) = arg0 m c) (a1 : m' ((c.tc : Thread Cert.Reference5Ideal.nD Cert.Reference5Ideal.τ).loc Cert.Reference5Ideal.main_arg1) = arg1 m c) (a2 : m' ((c.tc : Thread Cert.Reference5Ideal.nD Cert.Reference5Ideal.τ).loc Cert.Reference5Ideal.main_arg2) = arg2 m c) (a3 : m' ((c.tc : Thread Cert.Reference5Ideal.nD Cert.Reference5Ideal.τ).loc Cert.Reference5Ideal.main_arg3) = arg3 m c) (a4 : m' ((c.tc : Thread Cert.Reference5Ideal.nD Cert.Reference5Ideal.τ).loc Cert.Reference5Ideal.main_arg4) = arg4 m c) (a5 : m' ((c.tc : Thread Cert.Reference5Ideal.nD Cert.Reference5Ideal.τ).loc Cert.Reference5Ideal.main_arg5) = arg5 m c) (a6 : m' ((c.tc : Thread Cert.Reference5Ideal.nD Cert.Reference5Ideal.τ).loc Cert.Reference5Ideal.main_arg6) = arg6 m c) (a7 : m' ((c.tc : Thread Cert.Reference5Ideal.nD Cert.Reference5Ideal.τ).loc Cert.Reference5Ideal.main_arg7) = arg7 m c) (a8 : m' ((c.tc : Thread Cert.Reference5Ideal.nD Cert.Reference5Ideal.τ).loc Cert.Reference5Ideal.main_arg8) = arg8 m c) (a9 : m' ((c.tc : Thread Cert.Reference5Ideal.nD Cert.Reference5Ideal.τ).loc Cert.Reference5Ideal.main_arg9) = arg9 m c) (a10 : m' ((c.tc : Thread Cert.Reference5Ideal.nD Cert.Reference5Ideal.τ).loc Cert.Reference5Ideal.main_arg10) = arg10 m c) (a11 : m' ((c.tc : Thread Cert.Reference5Ideal.nD Cert.Reference5Ideal.τ).loc Cert.Reference5Ideal.main_arg11) = arg11 m c) :
    Cert.Reference5Ideal.Read.val_main_v68 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11))
      = (Cert.Kernel5Ideal.Gen.dats m 0 c).arrAt 14 Cert.Kernel5Ideal.cfg0.N := by
  rw [a0, a1, a2, a3, a4, a5, a6, a7, a8, a9, a10, a11]
  exact (arrAt14 m c).symm

/-- The call's run, its two results named, the arguments unchanged. -/
theorem kernel_run (m : (ℓ : Loc Cert.Kernel5Ideal.nD Cert.Kernel5Ideal.τ Cert.Kernel5Ideal.sig) → Buf (Elt Ideal) ℓ) (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩
      (fun r => ∀ c : Dev Cert.Kernel5Ideal.nD,
      r.2.mem ((c.tc : Thread Cert.Kernel5Ideal.nD Cert.Kernel5Ideal.τ).loc Cert.Kernel5Ideal.main_v21_0) = (Cert.Kernel5Ideal.Gen.dats m 0 c).arrAt 13 Cert.Kernel5Ideal.cfg0.N
      ∧ r.2.mem ((c.tc : Thread Cert.Kernel5Ideal.nD Cert.Kernel5Ideal.τ).loc Cert.Kernel5Ideal.main_v21_1) = (Cert.Kernel5Ideal.Gen.dats m 0 c).arrAt 14 Cert.Kernel5Ideal.cfg0.N
      ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)) :=
  (θ_run _ _ _).mono (fun r h c => ⟨(h c).1 13, (h c).1 14,
      ((h c).2 Cert.Kernel5Ideal.main_arg0 (Pipeline.mem_restRefs_of Cert.Kernel5Ideal.main_arg0 (by decide) (by decide))).trans (Cert.Kernel5Ideal.Gen.V_main_arg0 m c),
      ((h c).2 Cert.Kernel5Ideal.main_arg1 (Pipeline.mem_restRefs_of Cert.Kernel5Ideal.main_arg1 (by decide) (by decide))).trans (Cert.Kernel5Ideal.Gen.V_main_arg1 m c),
      ((h c).2 Cert.Kernel5Ideal.main_arg2 (Pipeline.mem_restRefs_of Cert.Kernel5Ideal.main_arg2 (by decide) (by decide))).trans (Cert.Kernel5Ideal.Gen.V_main_arg2 m c),
      ((h c).2 Cert.Kernel5Ideal.main_arg3 (Pipeline.mem_restRefs_of Cert.Kernel5Ideal.main_arg3 (by decide) (by decide))).trans (Cert.Kernel5Ideal.Gen.V_main_arg3 m c),
      ((h c).2 Cert.Kernel5Ideal.main_arg4 (Pipeline.mem_restRefs_of Cert.Kernel5Ideal.main_arg4 (by decide) (by decide))).trans (Cert.Kernel5Ideal.Gen.V_main_arg4 m c),
      ((h c).2 Cert.Kernel5Ideal.main_arg5 (Pipeline.mem_restRefs_of Cert.Kernel5Ideal.main_arg5 (by decide) (by decide))).trans (Cert.Kernel5Ideal.Gen.V_main_arg5 m c),
      ((h c).2 Cert.Kernel5Ideal.main_arg6 (Pipeline.mem_restRefs_of Cert.Kernel5Ideal.main_arg6 (by decide) (by decide))).trans (Cert.Kernel5Ideal.Gen.V_main_arg6 m c),
      ((h c).2 Cert.Kernel5Ideal.main_arg7 (Pipeline.mem_restRefs_of Cert.Kernel5Ideal.main_arg7 (by decide) (by decide))).trans (Cert.Kernel5Ideal.Gen.V_main_arg7 m c),
      ((h c).2 Cert.Kernel5Ideal.main_arg8 (Pipeline.mem_restRefs_of Cert.Kernel5Ideal.main_arg8 (by decide) (by decide))).trans (Cert.Kernel5Ideal.Gen.V_main_arg8 m c),
      ((h c).2 Cert.Kernel5Ideal.main_arg9 (Pipeline.mem_restRefs_of Cert.Kernel5Ideal.main_arg9 (by decide) (by decide))).trans (Cert.Kernel5Ideal.Gen.V_main_arg9 m c),
      ((h c).2 Cert.Kernel5Ideal.main_arg10 (Pipeline.mem_restRefs_of Cert.Kernel5Ideal.main_arg10 (by decide) (by decide))).trans (Cert.Kernel5Ideal.Gen.V_main_arg10 m c),
      ((h c).2 Cert.Kernel5Ideal.main_arg11 (Pipeline.mem_restRefs_of Cert.Kernel5Ideal.main_arg11 (by decide) (by decide))).trans (Cert.Kernel5Ideal.Gen.V_main_arg11 m c),
      ((h c).2 Cert.Kernel5Ideal.main_arg12 (Pipeline.mem_restRefs_of Cert.Kernel5Ideal.main_arg12 (by decide) (by decide))).trans (Cert.Kernel5Ideal.Gen.V_main_arg12 m c)⟩)
    (Cert.Kernel5Ideal.Gen.run_main m g)

/-- The reference's run, each result named by its stage. -/
theorem reference_run (m' : (ℓ : Loc Cert.Reference5Ideal.nD Cert.Reference5Ideal.τ Cert.Reference5Ideal.sig) → Buf (Elt Ideal) ℓ) (g' : Dev Cert.Reference5Ideal.nD → PrngReg) :
    θ_run (Cert.Reference5Ideal.defs (F := Ideal)) (onTc (τ := Cert.Reference5Ideal.τ) (Cert.Reference5Ideal.main (F := Ideal))) ⟨m', fun _ => 0, g'⟩
      (fun r => ∀ c : Dev Cert.Reference5Ideal.nD,
      r.2.mem ((c.tc : Thread Cert.Reference5Ideal.nD Cert.Reference5Ideal.τ).loc Cert.Reference5Ideal.main_v67) = Cert.Reference5Ideal.Read.val_main_v67 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10))
      ∧ r.2.mem ((c.tc : Thread Cert.Reference5Ideal.nD Cert.Reference5Ideal.τ).loc Cert.Reference5Ideal.main_v68) = Cert.Reference5Ideal.Read.val_main_v68 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11))
      ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)) :=
  (θ_run _ _ _).mono (fun r h c => ⟨
      (h c).1.trans (Cert.Reference5Ideal.Read.val_main_v67_eq (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10))),
      (h c).2.1.trans (Cert.Reference5Ideal.Read.val_main_v68_eq (F := Ideal) m' c),
      (h c).2.2⟩) (Cert.Reference5Ideal.Value.run m' g')

set_option maxHeartbeats 2000000 in
/-- The call's results and the reference's are the same arrays. -/
theorem algebraic : Cert.algebraic_Kernel5Ideal_Reference5Ideal
    (hKernel5Ideal := Cert.Kernel5Ideal.Gen.facts) (hReference5Ideal := Cert.Reference5Ideal.Gen.facts) := by
  intro m g m' g' _ hagree
  refine ⟨fun c => (Cert.Kernel5Ideal.Gen.dats m 0 c).arrAt 13 Cert.Kernel5Ideal.cfg0.N, fun c => (Cert.Kernel5Ideal.Gen.dats m 0 c).arrAt 14 Cert.Kernel5Ideal.cfg0.N, kernel_run m g, ?_⟩
  refine (θ_run _ _ _).mono (fun r h c => ?_) (reference_run m' g')
  obtain ⟨e0, e1, e2, e3, e4, e5, e6, e7, e8, e9, e10, e11, e12⟩ := hagree c
  have a0 := agree0 m m' c e0
  have a1 := agree1 m m' c e1
  have a2 := agree2 m m' c e2
  have a3 := agree3 m m' c e3
  have a4 := agree4 m m' c e4
  have a5 := agree5 m m' c e5
  have a6 := agree6 m m' c e6
  have a7 := agree7 m m' c e7
  have a8 := agree8 m m' c e8
  have a9 := agree9 m m' c e9
  have a10 := agree10 m m' c e10
  have a11 := agree11 m m' c e11
  refine ⟨?_, ?_, (h c).2.2⟩
  · exact (h c).1.trans (same13 m m' c a0 a1 a2 a3 a4 a5 a6 a7 a8 a9 a10)
  · exact (h c).2.1.trans (same14 m m' c a0 a1 a2 a3 a4 a5 a6 a7 a8 a9 a10 a11)

end Cert.MergeE

end
-- ==== Proof.ModulRef.lean ====
/- The modulation's reference at one element, and what its precondition gives. -/
module

public import proofs.«01_k».proof.Proof.Finite
public import proofs.«01_k».proof.Pre_factors_finite
public import proofs.«01_k».proof.Proof.Gen.Pre_factors_finite
public import proofs.«01_k».proof.Proof.Gen.Reference6Ideal.Read
public import Idealize.ShloMosaic.Lib.Pointwise
public import Idealize.ShloMosaic.Lib.ReduceAll

@[expose] public section

set_option maxRecDepth 16384

noncomputable section

namespace Cert.Modul

open Idealize.ShloMosaic Cert.Attn

/-- `x · sigmoid x`. -/
def silu (x : EReal) : EReal := x * Ideal.div 1 (1 + Ideal.exp (-x))

theorem silu_finite (x : EReal) (h : Fin' x) : Fin' (silu x) := by
  obtain ⟨r, rfl⟩ := h
  refine ⟨r * (1 * (1 / (1 + Real.exp (-r)))), ?_⟩
  unfold silu
  have hp : (1 + Real.exp (-r)) ≠ 0 := (add_pos one_pos (Real.exp_pos _)).ne'
  have he : (1 : EReal) + Ideal.exp (-(r : EReal)) = ((1 + Real.exp (-r) : ℝ) : EReal) := by
    rw [← EReal.coe_neg, Ideal.exp_coe, EReal.coe_add, EReal.coe_one]
  rw [he, Ideal.div_coe hp, EReal.coe_mul, EReal.coe_mul, EReal.coe_one]

/-- The rest of a real number after itself is taken away is zero. -/
theorem rest_zero (x : EReal) (h : Fin' x) : x - x = 0 := by
  obtain ⟨r, rfl⟩ := h
  rw [← EReal.coe_sub, sub_self, EReal.coe_zero]

/-- A sum of products of two factors written as a leading part and a rest is the sum of the products. -/
theorem split_sum {n : ℕ} (s w : Fin n → EReal) (hs : ∀ e, Fin' (s e)) (hw : ∀ e, Fin' (w e)) :
    (∑ e, s e * w e) + ((∑ e, s e * (w e - w e)) + ∑ e, (s e - s e) * w e) = ∑ e, s e * w e := by
  have h1 : (∑ e, s e * (w e - w e)) = 0 := Finset.sum_eq_zero fun e _ => by rw [rest_zero _ (hw e), mul_zero]
  have h2 : (∑ e, (s e - s e) * w e) = 0 := Finset.sum_eq_zero fun e _ => by rw [rest_zero _ (hs e), zero_mul]
  rw [h1, h2, add_zero, add_zero]

end Cert.Modul

namespace Cert.Modul.Pre

open Idealize.ShloMosaic Cert.Attn Cert.Pre_factors_finite

instance : Subsingleton S_.Idx := ⟨fun a b => funext fun i => i.elim0⟩

variable (x0 : FVec Ideal S8x1024 .f32) (x1 : FVec Ideal S1024 .f32) (x2 : FVec Ideal S1024x6144 .f32) (x3 : FVec Ideal S6144 .f32)

theorem finite_of_pre (h : Cert.Pre_factors_finite.fn (F := Ideal) x0 x1 x2 x3 = fun _ => 1#1) :
    (∀ i, Fin' (x0 i)) ∧ (∀ i, Fin' (x1 i)) ∧ ∀ i, Fin' (x2 i) := by
  have hj := congrFun h fun i => i.elim0
  obtain ⟨h1, h2⟩ := IntOp.andi_eq_one.1 hj
  obtain ⟨h0, h1⟩ := IntOp.andi_eq_one.1 h1
  exact ⟨finite_of_all x0 _ _ _ _ h0, finite_of_all x1 _ _ _ _ h1, finite_of_all x2 _ _ _ _ h2⟩

end Cert.Modul.Pre

namespace Cert.Modul.Ref

open Idealize.ShloMosaic Idealize.ShloMosaic.TcCoe Idealize.SL.Sem Cert.Reference6Ideal Cert.Reference6Ideal.Gen Cert.Reference6Ideal.Read Cert.Attn

variable (x0 : FVec Ideal S8x1024 .f32) (x1 : FVec Ideal S1024 .f32) (x2 : FVec Ideal S1024x6144 .f32) (x3 : FVec Ideal S6144 .f32)

/-- One element of the sixteen rows: the eight timesteps, the context's one, and zeros. -/
def rowAt (R : Fin 16) (e : Fin 1024) : EReal :=
  if h : R.val < 8 then x0 (ix2 ⟨R.val, h⟩ e) else if R.val < 9 then x1 (ix1 e) else 0

theorem rowAt_finite (h0 : ∀ i, Fin' (x0 i)) (h1 : ∀ i, Fin' (x1 i)) (R : Fin 16) (e : Fin 1024) : Fin' (rowAt x0 x1 R e) := by
  unfold rowAt
  split
  · exact h0 _
  · split
    · exact h1 _
    · exact ⟨0, EReal.coe_zero.symm⟩

theorem v2_apply (R : Fin 16) (e : Fin 1024) : val_main_v2 (F := Ideal) x0 x1 (ix2 R e) = rowAt x0 x1 R e := by
  unfold val_main_v2 val_main_v1 val_main_v0 val_main_cst rowAt
  pointwise
  split_ifs <;> first | rfl | (exfalso; omega)

theorem v7_apply (R : Fin 16) (C : Fin 6144) :
    val_main_v7 (F := Ideal) x0 x1 x2 x3 (ix2 R C)
      = (∑ e : Fin 1024, silu (rowAt x0 x1 R e) * x2 (ix2 e C)) + x3 (ix1 C) := by
  unfold val_main_v7 val_main_v6 val_main_v5 val_main_v4 val_main_v3 val_main_call0_v5 val_main_call0_v4 val_main_call0_v3
    val_main_call0_v2 val_main_call0_v1 val_main_call0_v0 val_main_call0_cst val_main_call0_cst_0 silu
  pointwise
  simp only [v2_apply]

end Cert.Modul.Ref

end
-- ==== Proof.ModulArray.lean ====
/- The modulation's array, element by element. -/
module

public import proofs.«01_k».proof.Proof.ModulRef
public import proofs.«01_k».proof.Proof.Gen.Kernel6Ideal.Frame
public import proofs.«01_k».proof.Proof.Gen.Kernel6Ideal.Value
public import Idealize.ShloMosaic.Lib.Pipeline.Covers
public import Idealize.ShloMosaic.Lib.Claim
public import Idealize.ShloMosaic.Lib.Pipeline.ValueKit

@[expose] public section

set_option maxRecDepth 16384

noncomputable section

namespace Cert.Modul

open Idealize.ShloMosaic Idealize.ShloMosaic.TcCoe Idealize.SL.Sem Cert.Kernel6Ideal Cert.Kernel6Ideal.Gen Cert.Attn

theorem ofBits_one : Ideal.ofBits .f32 0x3F800000#32 = 1 := by
  simp [Ideal.ofBits, Ideal.ieee, -EReal.coe_mul]; try norm_num

/-- The body's result: the product of the halved factors, without the product of the two rests, plus the bias. -/
theorem pay1_apply (x : Vec Ideal S16x1024 .f32) (w : Vec Ideal S1024x1024 .f32) (b : Vec Ideal S1x1024 .f32) (R : Fin 16) (l : Fin 1024) :
    k0_pay1 x w b (ix2 R l)
      = ((∑ e : Fin 1024, silu (x (ix2 R e)) * w (ix2 e l))
          + ((∑ e : Fin 1024, silu (x (ix2 R e)) * (w (ix2 e l) - w (ix2 e l)))
            + ∑ e : Fin 1024, (silu (x (ix2 R e)) - silu (x (ix2 R e))) * w (ix2 e l)))
        + b (ix2 0 l) := by
  unfold k0_pay1 silu
  pointwise
  simp only [ofBits_one, sub_eq_add_neg, zero_add]

theorem ld0 (x : Vec Ideal S16x1024 .f32) : View.ld x r0_0 = x := View.ld_unit_zero (funext fun a => by fin_cases a <;> rfl) _ x
theorem ld1 (x : Vec Ideal S1024x1024 .f32) : View.ld x r0_1 = x := View.ld_unit_zero (funext fun a => by fin_cases a <;> rfl) _ x
theorem ld2 (x : Vec Ideal S1x1024 .f32) : View.ld x r0_2 = x := View.ld_unit_zero (funext fun a => by fin_cases a <;> rfl) _ x

theorem out3_eq (x0 : Vec Ideal S16x1024 .f32) (x1 : Vec Ideal S1024x1024 .f32) (x2 : Vec Ideal S1x1024 .f32) :
    out0_3 x0 x1 x2 = k0_pay1 x0 x1 x2 := by
  unfold out0_3
  refine (View.canon_unit_zero (funext fun a => by fin_cases a <;> rfl) _ _).trans ?_
  simp only [ld0, ld1, ld2]

variable (m : (ℓ : Loc nD τ sig) → Buf (Elt Ideal) ℓ) (c : Dev nD)

/-- The timesteps, the context's timestep, the weight and the bias given. -/
def argX : FVec Ideal S8x1024 .f32 := m ((c : Thread nD τ).loc main_arg0)
@[inherit_doc argX] def argE : FVec Ideal S1024 .f32 := m ((c : Thread nD τ).loc main_arg1)
@[inherit_doc argX] def argW : FVec Ideal S1024x6144 .f32 := m ((c : Thread nD τ).loc main_arg2)
@[inherit_doc argX] def argB : FVec Ideal S6144 .f32 := m ((c : Thread nD τ).loc main_arg3)

/-- The arrays the call's windows read. -/
def prepX : FVec Ideal S16x1024 .f32 := V m c main_v2
@[inherit_doc prepX] def prepB : FVec Ideal S1x6144 .f32 := V m c main_v3

theorem prepX_apply (R : Fin 16) (e : Fin 1024) : prepX m c (ix2 R e) = Ref.rowAt (argX m c) (argE m c) R e := by
  unfold prepX argX argE Ref.rowAt V
  after_results
  pointwise
  split_ifs <;> first | (exfalso; omega) | skip
  all_goals simp only [↓ StableHlo.readResult]
  all_goals pointwise
  · exact (if_pos (by omega)).symm
  · exact (if_neg (by omega)).symm

theorem prepB_apply (C : Fin 6144) : prepB m c (ix2 0 C) = argB m c (ix1 C) := by
  unfold prepB argB V
  after_results
  pointwise

theorem index0 : ∀ t : Fin grid0.N, win0_0.index t = ![0, 0] := by decide +kernel
theorem index1 : ∀ t : Fin grid0.N, win0_1.index t = ![0, t.val] := by decide +kernel
theorem index2 : ∀ t : Fin grid0.N, win0_2.index t = ![0, t.val] := by decide +kernel
theorem index3 : ∀ t : Fin grid0.N, win0_3.index t = ![0, t.val] := by decide +kernel

theorem blk0_apply (t : Fin grid0.N) (R : Fin 16) (e : Fin 1024) : iblk m c 0 t (ix2 R e) = V m c main_v2 (ix2 R e) := by
  blk_ext [iblk, index0 t]

theorem blk1_apply (t : Fin grid0.N) (e l : Fin 1024) (C : Fin 6144) (hC : C.val = t.val * 1024 + l.val) :
    iblk m c 1 t (ix2 e l) = V m c main_arg2 (ix2 e C) := by
  blk_ext [iblk, index1 t]

theorem blk2_apply (t : Fin grid0.N) (l : Fin 1024) (C : Fin 6144) (hC : C.val = t.val * 1024 + l.val) :
    iblk m c 2 t (ix2 0 l) = V m c main_v3 (ix2 0 C) := by
  blk_ext [iblk, index2 t]

/-- One element of the modulation. -/
def modAt (x0 : FVec Ideal S8x1024 .f32) (x1 : FVec Ideal S1024 .f32) (x2 : FVec Ideal S1024x6144 .f32) (x3 : FVec Ideal S6144 .f32)
    (R : Fin 16) (C : Fin 6144) : EReal :=
  (∑ e : Fin 1024, silu (Ref.rowAt x0 x1 R e) * x2 (ix2 e C)) + x3 (ix1 C)

theorem outs_value (h0 : ∀ i, Fin' (argX m c i)) (h1 : ∀ i, Fin' (argE m c i)) (h2 : ∀ i, Fin' (argW m c i))
    (t : Fin grid0.N) (R : Fin 16) (l : Fin 1024) (C : Fin 6144) (hC : C.val = t.val * 1024 + l.val) :
    out0_3 (iblk m c 0 t) (iblk m c 1 t) (iblk m c 2 t) (ix2 R l) = modAt (argX m c) (argE m c) (argW m c) (argB m c) R C := by
  refine (congrFun (out3_eq _ _ _) _).trans ((pay1_apply _ _ _ R l).trans ?_)
  have hx : ∀ e, (iblk m c 0 t : Vec Ideal S16x1024 .f32) (ix2 R e) = Ref.rowAt (argX m c) (argE m c) R e :=
    fun e => (blk0_apply m c t R e).trans (prepX_apply m c R e)
  have hw : ∀ e, (iblk m c 1 t : Vec Ideal S1024x1024 .f32) (ix2 e l) = argW m c (ix2 e C) :=
    fun e => (blk1_apply m c t e l C hC).trans (congrFun (V_main_arg2 m c) _)
  have hb : (iblk m c 2 t : Vec Ideal S1x1024 .f32) (ix2 0 l) = argB m c (ix1 C) :=
    (blk2_apply m c t l C hC).trans (prepB_apply m c C)
  refine congrArg₂ (· + ·) ?_ hb
  refine (split_sum (fun e => silu ((iblk m c 0 t : Vec Ideal S16x1024 .f32) (ix2 R e))) (fun e => (iblk m c 1 t : Vec Ideal S1024x1024 .f32) (ix2 e l))
    (fun e => ?_) (fun e => ?_)).trans (Finset.sum_congr rfl fun e _ => congrArg₂ (· * ·) (congrArg silu (hx e)) (hw e))
  · show Fin' (silu _)
    rw [hx e]
    exact silu_finite _ (Ref.rowAt_finite _ _ h0 h1 R e)
  · show Fin' _
    rw [hw e]
    exact h2 _

theorem covers3 : (cfg0.win 3).Covers :=
  (cfg0.win 3).covers_of_index_surj rfl (by decide) fun β => by
    have h0 : (β 0).val < 1 := (β 0).isLt
    have h1 : (β 1).val < 6 := (β 1).isLt
    refine ⟨⟨(β 1).val, ?_⟩, fun a => ?_⟩
    · show _ < 6
      omega
    · refine (congrFun (index3 ⟨(β 1).val, _⟩) a).trans ?_
      fin_cases a
      · show 0 = (β 0).val
        omega
      · rfl

/-- The array of a function of its two coordinates. -/
def arrayOf (f : Fin 16 → Fin 6144 → EReal) : FVec Ideal S16x6144 .f32 := fun y => f (y 0) (y 1)

theorem arrAt3 (h0 : ∀ i, Fin' (argX m c i)) (h1 : ∀ i, Fin' (argE m c i)) (h2 : ∀ i, Fin' (argW m c i)) :
    (dats m 0 c).arrAt 3 cfg0.N = arrayOf (modAt (argX m c) (argE m c) (argW m c) (argB m c)) := by
  refine (dats m 0 c).arrAt_eq_of_covers 3 _ covers3 fun t hf y => ?_
  blk_simp
  rw [after0_3]
  have e0 := Pipeline.Window.rect_emb_val win0_3 t y 0
  have e1 := Pipeline.Window.rect_emb_val win0_3 t y 1
  rw [index3 t] at e0 e1
  unfold arrayOf
  refine (congrArg (out0_3 (iblk m c 0 t) (iblk m c 1 t) (iblk m c 2 t)) (eq_ix2 (n0 := 16) (n1 := 1024) y)).trans ?_
  refine (outs_value m c h0 h1 h2 t (y 0) (y 1) _ e1).trans (congrArg (fun r => modAt _ _ _ _ r _) (Fin.ext ?_))
  refine Eq.trans ?_ e0.symm
  show (y 0).val = 0 * 16 + (y 0).val
  omega

end Cert.Modul

end
-- ==== Proof.ModulClaim.lean ====
/- The modulation's claims: the reference leaves its arguments alone, and the result of the two is the same array. -/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.ModulArray
public import Idealize.ShloMosaic.Lib.Quiescent
public import Idealize.ShloMosaic.Adequacy
public import Idealize.ShloMosaic.Init

@[expose] public section

noncomputable section

namespace Cert.Modul

open Idealize.ShloMosaic Idealize.SL.Sem

theorem reference_frame : Cert.quiescent_Reference6Ideal (hReference6Ideal := Cert.Reference6Ideal.Gen.facts) := fun m ρ _ =>
  (θ_run _ _ _).mono (fun r h => ⟨fun c => (h c).2, sem_eq_zero_of_no_sems rfl r.2⟩) (Cert.Reference6Ideal.Value.run m ρ)

theorem agrees (x0 : FVec Ideal Cert.Reference6Ideal.S8x1024 .f32) (x1 : FVec Ideal Cert.Reference6Ideal.S1024 .f32)
    (x2 : FVec Ideal Cert.Reference6Ideal.S1024x6144 .f32) (x3 : FVec Ideal Cert.Reference6Ideal.S6144 .f32) :
    arrayOf (modAt x0 x1 x2 x3) = Cert.Reference6Ideal.Read.val_main_v7 (F := Ideal) x0 x1 x2 x3 := by
  refine funext fun y => ?_
  refine Eq.trans ?_ (congrArg (Cert.Reference6Ideal.Read.val_main_v7 (F := Ideal) x0 x1 x2 x3) (eq_ix2 (n0 := 16) (n1 := 6144) y)).symm
  exact (Ref.v7_apply x0 x1 x2 x3 (y 0) (y 1)).symm

/-- The call's result and the reference's are the same array where the factors of the split product are finite. -/
theorem algebraic : Cert.algebraic_Kernel6Ideal_Reference6Ideal_pre_factors_finite
    (hKernel6Ideal := Cert.Kernel6Ideal.Gen.facts) (hReference6Ideal := Cert.Reference6Ideal.Gen.facts)
    (hPre_factors_finite := Cert.Pre_factors_finite.Gen.facts) := by
  intro m g m' g' hpre hagree
  refine ⟨fun c => (Cert.Kernel6Ideal.Gen.dats m 0 c).arrAt 3 Cert.Kernel6Ideal.cfg0.N, Cert.Kernel6Ideal.Value.run_blocks m g, ?_⟩
  refine (θ_run _ _ _).mono (fun r h c => ?_) (Cert.Reference6Ideal.Value.run m' g')
  obtain ⟨hv, hargs⟩ := h c
  refine ⟨hv.trans ?_, hargs⟩
  obtain ⟨h0, h1, h2⟩ := Pre.finite_of_pre _ _ _ _ (hpre c)
  obtain ⟨e0, e1, e2, e3⟩ := hagree c
  rw [Cert.Reference6Ideal.Read.val_main_v7_eq, e0, e1, e2, e3]
  exact ((arrAt3 m c h0 h1 h2).trans (agrees _ _ _ _)).symm

end Cert.Modul

end
-- ==== Proof.MergeCtxParts.lean ====
/- The parts of the body of the context's merge, read at an index. -/
module

public import proofs.«01_k».proof.Proof.MergeMath
public import proofs.«01_k».proof.Proof.Gen.Kernel7Ideal.Frame

@[expose] public section

set_option maxRecDepth 16384

noncomputable section

namespace Cert.MergeCtx

open Idealize.ShloMosaic Idealize.ShloMosaic.TcCoe Idealize.SL.Sem Cert.Kernel7Ideal Cert.Kernel7Ideal.Gen Cert.Merge

theorem gated_apply (a b z : Vec Ideal S256x1024 .bf16) (y : Fin 256) (e : Fin 1024) :
    k0_pay4 a b z (ix2 y e) = gated (fun i => a (ix2 y i)) (fun i => b (ix2 y i)) (fun i => z (ix2 y i)) e := by
  unfold k0_pay4 gated sigm
  pointwise
  simp only [ofBits_one, sub_eq_add_neg, zero_add]

theorem left_apply (a b z : Vec Ideal S256x1024 .bf16) (y : Fin 256) (e : Fin 512) :
    k0_pay5 a b z (ix2 y e) = halfNorm (fun i => k0_pay4 a b z (ix2 y i)) ⟨e.val, by omega⟩ := by
  unfold k0_pay5 halfNorm
  pointwise
  simp only [Nat.div_eq_of_lt e.isLt, Nat.zero_mul, Nat.zero_add]

theorem right_apply (a b z : Vec Ideal S256x1024 .bf16) (y : Fin 256) (e : Fin 512) :
    k0_pay6 a b z (ix2 y e) * k0_pay7 a b z (ix2 y 0) = halfNorm (fun i => k0_pay4 a b z (ix2 y i)) ⟨512 + e.val, by omega⟩ := by
  have q : (512 + e.val) / 512 = 1 := by omega
  unfold k0_pay7 k0_pay6 halfNorm
  pointwise
  simp only [q, Nat.one_mul]

theorem mix_apply (a b z : Vec Ideal S256x1024 .bf16) (w : Vec Ideal S1x1024 .f32) (g : Vec Ideal S256x2048 .bf16) (ws : Vec Ideal S1024x1024 .bf16)
    (n : Vec Ideal S256x1024 .bf16) (wn : Vec Ideal S1024x1024 .bf16) (y : Fin 256) (e : Fin 1024) :
    k0_pay8 (k0_pay5 a b z) (k0_pay6 a b z) (k0_pay7 a b z) w g ws n wn (ix2 y e)
      = mixRow (fun i => k0_pay4 a b z (ix2 y i)) (fun i => w (ix2 0 i)) (fun i => g (ix2 y i)) (fun i => n (ix2 y i))
          (fun i j => ws (ix2 i j)) (fun i j => wn (ix2 i j)) e := by
  unfold k0_pay8 mixRow sigm
  pointwise
  simp only [ofBits_one, sub_eq_add_neg, zero_add]
  refine congrArg₂ (· + ·) (congrArg₂ (· * ·) rfl ?_) rfl
  rw [sum_halves]
  refine congrArg₂ (· + ·) (Finset.sum_congr rfl fun j _ => ?_) (Finset.sum_congr rfl fun j _ => ?_)
  · rw [left_apply]
  · rw [right_apply]

theorem res_apply (m : FVec Ideal S6x1024 .f32) (x h : FVec Ideal S256x1024 .f32) (wo : Vec Ideal S1024x1024 .bf16) (y : Fin 256) (e : Fin 1024) :
    k0_pay1 m x h wo (ix2 y e) = resRow (fun i => h (ix2 y i)) (fun i => m (ix2 2 i)) (fun i => x (ix2 y i)) (fun i j => wo (ix2 i j)) e := by
  unfold k0_pay1 resRow
  pointwise

theorem norm_apply (m : FVec Ideal S6x1024 .f32) (x h : FVec Ideal S256x1024 .f32) (wo : Vec Ideal S1024x1024 .bf16) (w : Vec Ideal S1x1024 .f32)
    (y : Fin 256) (e : Fin 1024) :
    k0_pay2 m x h wo w (ix2 y e) = rowNorm (fun i => k0_pay1 m x h wo (ix2 y i)) (fun i => w (ix2 0 i)) (fun i => m (ix2 4 i)) (fun i => m (ix2 3 i)) e := by
  unfold k0_pay2 rowNorm
  pointwise

end Cert.MergeCtx

end
-- ==== Proof.MergeCtxBlock.lean ====
/- What one grid point of the context's merge leaves: its 256 rows. -/
module

public import proofs.«01_k».proof.Proof.MergeCtxParts

@[expose] public section

set_option maxRecDepth 16384

noncomputable section

namespace Cert.MergeCtx

open Idealize.ShloMosaic Idealize.ShloMosaic.TcCoe Idealize.SL.Sem Cert.Kernel7Ideal Cert.Kernel7Ideal.Gen Cert.Merge

theorem ld0 {e : EltTy} (x : Vec Ideal S1x6x1024 e) : View.ld x r0_0 = x :=
  View.ld_unit_lit _ x (by intro a; fin_cases a <;> rfl)

theorem ld1 {e : EltTy} (x : Vec Ideal S256x1024 e) : View.ld x r0_1 = x :=
  View.ld_unit_lit _ x (by intro a; fin_cases a <;> rfl)

theorem ld2 {e : EltTy} (x : Vec Ideal S1x1024 e) : View.ld x r0_2 = x :=
  View.ld_unit_lit _ x (by intro a; fin_cases a <;> rfl)

theorem ld3 {e : EltTy} (x : Vec Ideal S256x2048 e) : View.ld x r0_3 = x :=
  View.ld_unit_lit _ x (by intro a; fin_cases a <;> rfl)

theorem ld4 {e : EltTy} (x : Vec Ideal S1024x1024 e) : View.ld x r0_4 = x :=
  View.ld_unit_lit _ x (by intro a; fin_cases a <;> rfl)

theorem mod_apply (x : Vec Ideal S1x6x1024 .f32) (k : Fin 6) (e : Fin 1024) : k0_pay3 x (ix2 k e) = x (ix3 0 k e) := by
  unfold k0_pay3
  pointwise

theorem stream_apply (x : Vec Ideal S256x1024 .f32) (y : Fin 256) (e : Fin 1024) : k0_pay9 x (ix2 y e) = x (ix2 y e) := by
  unfold k0_pay9
  pointwise

variable (x0 : Vec Ideal S256x1024 .bf16) (x1 : Vec Ideal S256x1024 .bf16) (x2 : Vec Ideal S256x1024 .bf16) (x3 : Vec Ideal S256x2048 .bf16) (x4 : Vec Ideal S256x1024 .bf16) (x5 : Vec Ideal S256x1024 .f32) (x6 : Vec Ideal S1x6x1024 .f32) (x7 : Vec Ideal S1x1024 .f32) (x8 : Vec Ideal S1024x1024 .bf16) (x9 : Vec Ideal S1024x1024 .bf16) (x10 : Vec Ideal S1024x1024 .bf16) (x11 : Vec Ideal S1x1024 .f32)

theorem res_block (y : Fin 256) (e : Fin 1024) :
    k0_pay1 (k0_pay10 x0 x1 x2 x3 x4 x5 x6 x7 x8 x9 x10 x11) (k0_pay11 x0 x1 x2 x3 x4 x5 x6 x7 x8 x9 x10 x11) (k0_pay12 x0 x1 x2 x3 x4 x5 x6 x7 x8 x9 x10 x11) x10 (ix2 y e)
      = residRow (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j)) e := by
  unfold k0_pay10 k0_pay11 k0_pay12 residRow
  simp only [ld0, ld1, ld2, ld3, ld4]
  rw [res_apply]
  simp only [mix_apply, gated_apply, mod_apply, stream_apply]

theorem res_out (y : Fin 256) (e : Fin 1024) :
    out0_12 x0 x1 x2 x3 x4 x5 x6 x7 x8 x9 x10 x11 (ix2 y e)
      = residRow (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j)) e := by
  refine Eq.trans (congrFun ?_ _) (res_block x0 x1 x2 x3 x4 x5 x6 x7 x8 x9 x10 x11 y e)
  unfold out0_12
  refine (View.canon_unit_zero (funext fun a => by fin_cases a <;> rfl) _ _).trans ?_
  simp only [ld4]

theorem normed_out (y : Fin 256) (e : Fin 1024) :
    out0_13 x0 x1 x2 x3 x4 x5 x6 x7 x8 x9 x10 x11 (ix2 y e)
      = normed (fun i => x0 (ix2 y i)) (fun i => x1 (ix2 y i)) (fun i => x2 (ix2 y i)) (fun i => x7 (ix2 0 i)) (fun i => x4 (ix2 y i))
          (fun i => x5 (ix2 y i)) (fun i => x6 (ix3 0 2 i)) (fun i => x3 (ix2 y i)) (fun i j => x8 (ix2 i j)) (fun i j => x9 (ix2 i j)) (fun i j => x10 (ix2 i j))
          (fun i => x11 (ix2 0 i)) (fun i => x6 (ix3 0 4 i)) (fun i => x6 (ix3 0 3 i)) e := by
  have h : out0_13 x0 x1 x2 x3 x4 x5 x6 x7 x8 x9 x10 x11
      = k0_pay2 (k0_pay10 x0 x1 x2 x3 x4 x5 x6 x7 x8 x9 x10 x11) (k0_pay11 x0 x1 x2 x3 x4 x5 x6 x7 x8 x9 x10 x11) (k0_pay12 x0 x1 x2 x3 x4 x5 x6 x7 x8 x9 x10 x11) x10 x11 := by
    unfold out0_13
    refine (View.canon_unit_zero (funext fun a => by fin_cases a <;> rfl) _ _).trans ?_
    simp only [ld4, ld2]
  rw [h, norm_apply]
  simp only [res_block]
  unfold k0_pay10 normed
  simp only [ld0, mod_apply]

end Cert.MergeCtx

end
-- ==== Proof.MergeCtxReads.lean ====
/- The arrays the windows of the context's merge read, and its blocks, as the arguments at an index. -/
module

public import proofs.«01_k».proof.Proof.MergeCtxParts

@[expose] public section

set_option maxRecDepth 16384

noncomputable section

namespace Cert.MergeCtx

open Idealize.ShloMosaic Idealize.ShloMosaic.TcCoe Idealize.SL.Sem Cert.Kernel7Ideal Cert.Kernel7Ideal.Gen Cert.Merge

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![8, 0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![t.val, 0] := by decide +kernel
theorem index13 : ∀ t : Fin grid0.N, win0_13.index t = ![t.val, 0] := by decide +kernel

theorem point_lt (t : Fin grid0.N) : t.val < 8 := lt_of_lt_of_eq t.isLt N_0

variable (m : (ℓ : Loc nD τ sig) → Buf (Elt Ideal) ℓ) (c : Dev nD)

/-- The arguments given, in order. -/
def arg0 : FVec Ideal S8x256x1024 .f32 := m ((c : Thread nD τ).loc main_arg0)
@[inherit_doc arg0] def arg1 : FVec Ideal S6144 .f32 := m ((c : Thread nD τ).loc main_arg1)
@[inherit_doc arg0] def arg2 : FVec Ideal S8x256x1024 .f32 := m ((c : Thread nD τ).loc main_arg2)
@[inherit_doc arg0] def arg3 : FVec Ideal S8x256x1024 .f32 := m ((c : Thread nD τ).loc main_arg3)
@[inherit_doc arg0] def arg4 : FVec Ideal S8x256x1024 .f32 := m ((c : Thread nD τ).loc main_arg4)
@[inherit_doc arg0] def arg5 : FVec Ideal S8x256x2048 .f32 := m ((c : Thread nD τ).loc main_arg5)
@[inherit_doc arg0] def arg6 : FVec Ideal S8x256x1024 .f32 := m ((c : Thread nD τ).loc main_arg6)
@[inherit_doc arg0] def arg7 : FVec Ideal S1024 .f32 := m ((c : Thread nD τ).loc main_arg7)
@[inherit_doc arg0] def arg8 : FVec Ideal S1024x1024 .f32 := m ((c : Thread nD τ).loc main_arg8)
@[inherit_doc arg0] def arg9 : FVec Ideal S1024x1024 .f32 := m ((c : Thread nD τ).loc main_arg9)
@[inherit_doc arg0] def arg10 : FVec Ideal S1024x1024 .f32 := m ((c : Thread nD τ).loc main_arg10)
@[inherit_doc arg0] def arg11 : FVec Ideal S1024 .f32 := m ((c : Thread nD τ).loc main_arg11)

/-- The arrays the windows read, in order. -/
def prep0 : FVec Ideal S2048x1024 .bf16 := V m c main_v6
@[inherit_doc prep0] def prep1 : FVec Ideal S2048x1024 .bf16 := V m c main_v8
@[inherit_doc prep0] def prep2 : FVec Ideal S2048x1024 .bf16 := V m c main_v10
@[inherit_doc prep0] def prep3 : FVec Ideal S2048x2048 .bf16 := V m c main_v12
@[inherit_doc prep0] def prep4 : FVec Ideal S2048x1024 .bf16 := V m c main_v14
@[inherit_doc prep0] def prep5 : FVec Ideal S2048x1024 .f32 := V m c main_v15
@[inherit_doc prep0] def prep6 : FVec Ideal S16x6x1024 .f32 := V m c main_v4
@[inherit_doc prep0] def prep7 : FVec Ideal S1x1024 .f32 := V m c main_v16
@[inherit_doc prep0] def prep8 : FVec Ideal S1024x1024 .bf16 := V m c main_v17
@[inherit_doc prep0] def prep9 : FVec Ideal S1024x1024 .bf16 := V m c main_v18
@[inherit_doc prep0] def prep10 : FVec Ideal S1024x1024 .bf16 := V m c main_v19
@[inherit_doc prep0] def prep11 : FVec Ideal S1x1024 .f32 := V m c main_v20

theorem prep0_apply (R : Fin 2048) (C : Fin 1024) :
    prep0 m c (ix2 R C) = arg2 m c (ix3 ⟨R.val / 256, by omega⟩ ⟨R.val % 256, by omega⟩ C) := by
  unfold prep0 arg2 V
  after_results
  pointwise

theorem prep1_apply (R : Fin 2048) (C : Fin 1024) :
    prep1 m c (ix2 R C) = arg3 m c (ix3 ⟨R.val / 256, by omega⟩ ⟨R.val % 256, by omega⟩ C) := by
  unfold prep1 arg3 V
  after_results
  pointwise

theorem prep2_apply (R : Fin 2048) (C : Fin 1024) :
    prep2 m c (ix2 R C) = arg4 m c (ix3 ⟨R.val / 256, by omega⟩ ⟨R.val % 256, by omega⟩ C) := by
  unfold prep2 arg4 V
  after_results
  pointwise

theorem prep3_apply (R : Fin 2048) (C : Fin 2048) :
    prep3 m c (ix2 R C) = arg5 m c (ix3 ⟨R.val / 256, by omega⟩ ⟨R.val % 256, by omega⟩ C) := by
  unfold prep3 arg5 V
  after_results
  pointwise

theorem prep4_apply (R : Fin 2048) (C : Fin 1024) :
    prep4 m c (ix2 R C) = arg6 m c (ix3 ⟨R.val / 256, by omega⟩ ⟨R.val % 256, by omega⟩ C) := by
  unfold prep4 arg6 V
  after_results
  pointwise

theorem prep5_apply (R : Fin 2048) (C : Fin 1024) :
    prep5 m c (ix2 R C) = arg0 m c (ix3 ⟨R.val / 256, by omega⟩ ⟨R.val % 256, by omega⟩ C) := by
  unfold prep5 arg0 V
  after_results
  pointwise

theorem prep6_apply2 (C : Fin 1024) : prep6 m c (ix3 8 2 C) = arg1 m c (ix1 ⟨2048 + C.val, by omega⟩) := by
  unfold prep6 arg1 V
  after_results
  pointwise
  simp only [↓ StableHlo.readResult]
  pointwise

theorem prep6_apply3 (C : Fin 1024) : prep6 m c (ix3 8 3 C) = arg1 m c (ix1 ⟨3072 + C.val, by omega⟩) := by
  unfold prep6 arg1 V
  after_results
  pointwise
  simp only [↓ StableHlo.readResult]
  pointwise

theorem prep6_apply4 (C : Fin 1024) : prep6 m c (ix3 8 4 C) = arg1 m c (ix1 ⟨4096 + C.val, by omega⟩) := by
  unfold prep6 arg1 V
  after_results
  pointwise
  simp only [↓ StableHlo.readResult]
  pointwise

theorem prep7_apply (C : Fin 1024) : prep7 m c (ix2 0 C) = arg7 m c (ix1 C) := by
  unfold prep7 arg7 V
  after_results
  pointwise

theorem prep8_apply (i j : Fin 1024) : prep8 m c (ix2 i j) = arg8 m c (ix2 i j) := by
  unfold prep8 arg8 V
  after_results
  pointwise

theorem prep9_apply (i j : Fin 1024) : prep9 m c (ix2 i j) = arg9 m c (ix2 i j) := by
  unfold prep9 arg9 V
  after_results
  pointwise

theorem prep10_apply (i j : Fin 1024) : prep10 m c (ix2 i j) = arg10 m c (ix2 i j) := by
  unfold prep10 arg10 V
  after_results
  pointwise

theorem prep11_apply (C : Fin 1024) : prep11 m c (ix2 0 C) = arg11 m c (ix1 C) := by
  unfold prep11 arg11 V
  after_results
  pointwise

theorem read0 (t : Fin grid0.N) (y : Fin 256) (e : Fin 1024) (R : Fin 2048) (hR : R.val = t.val * 256 + y.val) :
    iblk m c 0 t (ix2 y e) = arg2 m c (ix3 ⟨R.val / 256, by omega⟩ ⟨R.val % 256, by omega⟩ e) := by
  have h : iblk m c 0 t (ix2 y e) = V m c main_v6 (ix2 R e) := by blk_ext [iblk, index0 t]
  exact h.trans (prep0_apply m c R e)

theorem read1 (t : Fin grid0.N) (y : Fin 256) (e : Fin 1024) (R : Fin 2048) (hR : R.val = t.val * 256 + y.val) :
    iblk m c 1 t (ix2 y e) = arg3 m c (ix3 ⟨R.val / 256, by omega⟩ ⟨R.val % 256, by omega⟩ e) := by
  have h : iblk m c 1 t (ix2 y e) = V m c main_v8 (ix2 R e) := by blk_ext [iblk, index1 t]
  exact h.trans (prep1_apply m c R e)

theorem read2 (t : Fin grid0.N) (y : Fin 256) (e : Fin 1024) (R : Fin 2048) (hR : R.val = t.val * 256 + y.val) :
    iblk m c 2 t (ix2 y e) = arg4 m c (ix3 ⟨R.val / 256, by omega⟩ ⟨R.val % 256, by omega⟩ e) := by
  have h : iblk m c 2 t (ix2 y e) = V m c main_v10 (ix2 R e) := by blk_ext [iblk, index2 t]
  exact h.trans (prep2_apply m c R e)

theorem read3 (t : Fin grid0.N) (y : Fin 256) (e : Fin 2048) (R : Fin 2048) (hR : R.val = t.val * 256 + y.val) :
    iblk m c 3 t (ix2 y e) = arg5 m c (ix3 ⟨R.val / 256, by omega⟩ ⟨R.val % 256, by omega⟩ e) := by
  have h : iblk m c 3 t (ix2 y e) = V m c main_v12 (ix2 R e) := by blk_ext [iblk, index3 t]
  exact h.trans (prep3_apply m c R e)

theorem read4 (t : Fin grid0.N) (y : Fin 256) (e : Fin 1024) (R : Fin 2048) (hR : R.val = t.val * 256 + y.val) :
    iblk m c 4 t (ix2 y e) = arg6 m c (ix3 ⟨R.val / 256, by omega⟩ ⟨R.val % 256, by omega⟩ e) := by
  have h : iblk m c 4 t (ix2 y e) = V m c main_v14 (ix2 R e) := by blk_ext [iblk, index4 t]
  exact h.trans (prep4_apply m c R e)

theorem read5 (t : Fin grid0.N) (y : Fin 256) (e : Fin 1024) (R : Fin 2048) (hR : R.val = t.val * 256 + y.val) :
    iblk m c 5 t (ix2 y e) = arg0 m c (ix3 ⟨R.val / 256, by omega⟩ ⟨R.val % 256, by omega⟩ e) := by
  have h : iblk m c 5 t (ix2 y e) = V m c main_v15 (ix2 R e) := by blk_ext [iblk, index5 t]
  exact h.trans (prep5_apply m c R e)

theorem mod_block (t : Fin grid0.N) (k : Fin 6) (e : Fin 1024) (b : Fin 16) (hb : b.val = 8) :
    iblk m c 6 t (ix3 0 k e) = V m c main_v4 (ix3 b k e) := by
  blk_ext [iblk, index6 t]

theorem mod_read2 (t : Fin grid0.N) (e : Fin 1024) :
    iblk m c 6 t (ix3 0 2 e) = arg1 m c (ix1 ⟨2048 + e.val, by omega⟩) :=
  (mod_block m c t 2 e 8 rfl).trans (prep6_apply2 m c e)

theorem mod_read3 (t : Fin grid0.N) (e : Fin 1024) :
    iblk m c 6 t (ix3 0 3 e) = arg1 m c (ix1 ⟨3072 + e.val, by omega⟩) :=
  (mod_block m c t 3 e 8 rfl).trans (prep6_apply3 m c e)

theorem mod_read4 (t : Fin grid0.N) (e : Fin 1024) :
    iblk m c 6 t (ix3 0 4 e) = arg1 m c (ix1 ⟨4096 + e.val, by omega⟩) :=
  (mod_block m c t 4 e 8 rfl).trans (prep6_apply4 m c e)

theorem read7 (t : Fin grid0.N) (e : Fin 1024) : iblk m c 7 t (ix2 0 e) = arg7 m c (ix1 e) := by
  have h : iblk m c 7 t (ix2 0 e) = V m c main_v16 (ix2 0 e) := by blk_ext [iblk, index7 t]
  exact h.trans (prep7_apply m c e)

theorem read8 (t : Fin grid0.N) (i j : Fin 1024) : iblk m c 8 t (ix2 i j) = arg8 m c (ix2 i j) := by
  have h : iblk m c 8 t (ix2 i j) = V m c main_v17 (ix2 i j) := by blk_ext [iblk, index8 t]
  exact h.trans (prep8_apply m c i j)

theorem read9 (t : Fin grid0.N) (i j : Fin 1024) : iblk m c 9 t (ix2 i j) = arg9 m c (ix2 i j) := by
  have h : iblk m c 9 t (ix2 i j) = V m c main_v18 (ix2 i j) := by blk_ext [iblk, index9 t]
  exact h.trans (prep9_apply m c i j)

theorem read10 (t : Fin grid0.N) (i j : Fin 1024) : iblk m c 10 t (ix2 i j) = arg10 m c (ix2 i j) := by
  have h : iblk m c 10 t (ix2 i j) = V m c main_v19 (ix2 i j) := by blk_ext [iblk, index10 t]
  exact h.trans (prep10_apply m c i j)

theorem read11 (t : Fin grid0.N) (e : Fin 1024) : iblk m c 11 t (ix2 0 e) = arg11 m c (ix1 e) := by
  have h : iblk m c 11 t (ix2 0 e) = V m c main_v20 (ix2 0 e) := by blk_ext [iblk, index11 t]
  exact h.trans (prep11_apply m c e)

end Cert.MergeCtx

end
-- ==== Proof.MergeCtxRef.lean ====
/- The context's merge in the reference, element by element. -/
module

public import proofs.«01_k».proof.Proof.MergeMath
public import proofs.«01_k».proof.Proof.Gen.Reference7Ideal.Read

@[expose] public section

set_option maxRecDepth 16384

noncomputable section

namespace Cert.MergeCtx.Ref

open Idealize.ShloMosaic Idealize.ShloMosaic.TcCoe Idealize.SL.Sem Cert.Reference7Ideal Cert.Reference7Ideal.Gen Cert.Reference7Ideal.Read Cert.Merge

variable (x0 : FVec Ideal S8x256x1024 .f32) (x1 : FVec Ideal S6144 .f32) (x2 x3 x4 : FVec Ideal S8x256x1024 .f32)
  (x5 : FVec Ideal S8x256x2048 .f32) (x6 : FVec Ideal S8x256x1024 .f32) (x7 : FVec Ideal S1024 .f32)
  (x8 x9 x10 : FVec Ideal S1024x1024 .f32) (x11 : FVec Ideal S1024 .f32)

theorem gated_apply (b : Fin 8) (n : Fin 256) (e : Fin 1024) :
    val_main_v11 (F := Ideal) x2 x3 x4 (ix3 b n e)
      = gated (fun i => x2 (ix3 b n i)) (fun i => x3 (ix3 b n i)) (fun i => x4 (ix3 b n i)) e := by
  unfold val_main_v11 val_main_v10 val_main_v9 val_main_call0_v5 val_main_call0_v4 val_main_call0_v3 val_main_call0_v2
    val_main_call0_v1 val_main_call0_v0 val_main_call0_cst val_main_call0_cst_0 gated sigm
  pointwise

theorem half_apply (b : Fin 8) (n : Fin 256) (e : Fin 1024) :
    val_main_v23 (F := Ideal) x2 x3 x4 (ix3 b n e) = halfNorm (fun i => val_main_v11 (F := Ideal) x2 x3 x4 (ix3 b n i)) e := by
  unfold val_main_v23 val_main_v22 val_main_v21 val_main_v20 val_main_v19 val_main_v18 val_main_v17 val_main_v16 val_main_v15
    val_main_v14 val_main_v13 val_main_v12 val_main_cst val_main_cst_0 val_main_cst_1 halfNorm
  pointwise

theorem mix_apply (b : Fin 8) (n : Fin 256) (e : Fin 1024) :
    val_main_v43 (F := Ideal) x2 x3 x4 x5 x6 x7 x8 x9 (ix3 b n e)
      = mixRow (fun i => val_main_v11 (F := Ideal) x2 x3 x4 (ix3 b n i)) (fun i => x7 (ix1 i)) (fun i => x5 (ix3 b n i)) (fun i => x6 (ix3 b n i))
          (fun i j => x8 (ix2 i j)) (fun i j => x9 (ix2 i j)) e := by
  unfold val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v25 val_main_v24
    val_main_v1 val_main_v0 val_main_cst_2 val_main_cst_3 val_main_cst_4 val_main_cst_5 mixRow sigm
  pointwise
  simp only [half_apply]

theorem residual_apply (b : Fin 8) (n : Fin 256) (e : Fin 1024) :
    val_main_v47 (F := Ideal) x0 x1 x2 x3 x4 x5 x6 x7 x8 x9 x10 (ix3 b n e)
      = residRow (fun i => x2 (ix3 b n i)) (fun i => x3 (ix3 b n i)) (fun i => x4 (ix3 b n i)) (fun i => x7 (ix1 i)) (fun i => x6 (ix3 b n i))
          (fun i => x0 (ix3 b n i)) (fun i => x1 (ix1 ⟨2048 + i.val, by omega⟩)) (fun i => x5 (ix3 b n i)) (fun i j => x8 (ix2 i j))
          (fun i j => x9 (ix2 i j)) (fun i j => x10 (ix2 i j)) e := by
  unfold val_main_v47 val_main_v46 val_main_v45 val_main_v44 val_main_v5 val_main_v2 residRow resRow
  pointwise
  simp only [mix_apply, gated_apply]

theorem normed_apply (b : Fin 8) (n : Fin 256) (e : Fin 1024) :
    val_main_v66 (F := Ideal) x0 x1 x2 x3 x4 x5 x6 x7 x8 x9 x10 x11 (ix3 b n e)
      = normed (fun i => x2 (ix3 b n i)) (fun i => x3 (ix3 b n i)) (fun i => x4 (ix3 b n i)) (fun i => x7 (ix1 i)) (fun i => x6 (ix3 b n i))
          (fun i => x0 (ix3 b n i)) (fun i => x1 (ix1 ⟨2048 + i.val, by omega⟩)) (fun i => x5 (ix3 b n i)) (fun i j => x8 (ix2 i j))
          (fun i j => x9 (ix2 i j)) (fun i j => x10 (ix2 i j)) (fun i => x11 (ix1 i)) (fun i => x1 (ix1 ⟨4096 + i.val, by omega⟩))
          (fun i => x1 (ix1 ⟨3072 + i.val, by omega⟩)) e := by
  unfold normed rowNorm val_main_v66 val_main_v65 val_main_v64 val_main_v63 val_main_v62 val_main_v61 val_main_v60 val_main_v59 val_main_v58
    val_main_v57 val_main_v56 val_main_v55 val_main_v54 val_main_v53 val_main_v52 val_main_v51 val_main_v50 val_main_v49 val_main_v48
    val_main_v7 val_main_v6 val_main_v2 val_main_cst_6 val_main_cst_7 val_main_cst_8 val_main_cst_9
  pointwise
  simp only [residual_apply]

theorem res_at (R : Fin 2048) (C : Fin 1024) :
    val_main_v67 (F := Ideal) x0 x1 x2 x3 x4 x5 x6 x7 x8 x9 x10 (ix2 R C)
      = val_main_v47 (F := Ideal) x0 x1 x2 x3 x4 x5 x6 x7 x8 x9 x10 (ix3 ⟨R.val / 256, by omega⟩ ⟨R.val % 256, by omega⟩ C) := by
  unfold val_main_v67
  pointwise

theorem norm_at (R : Fin 2048) (C : Fin 1024) :
    val_main_v69 (F := Ideal) x0 x1 x2 x3 x4 x5 x6 x7 x8 x9 x10 x11 (ix2 R C)
      = val_main_v66 (F := Ideal) x0 x1 x2 x3 x4 x5 x6 x7 x8 x9 x10 x11 (ix3 ⟨R.val / 256, by omega⟩ ⟨R.val % 256, by omega⟩ C) := by
  unfold val_main_v69 val_main_v68
  pointwise

end Cert.MergeCtx.Ref

end
-- ==== Proof.MergeCtxArray.lean ====
/- The arrays the context's merge returns are the reference's. -/
module

public import proofs.«01_k».proof.Proof.MergeCtxBlock
public import proofs.«01_k».proof.Proof.MergeCtxReads
public import proofs.«01_k».proof.Proof.MergeCtxRef
public import Idealize.ShloMosaic.Lib.Pipeline.Covers
public import Idealize.ShloMosaic.Lib.Claim

@[expose] public section

set_option maxRecDepth 16384

noncomputable section

namespace Cert.MergeCtx

open Idealize.ShloMosaic Idealize.ShloMosaic.TcCoe Idealize.SL.Sem Cert.Kernel7Ideal Cert.Kernel7Ideal.Gen Cert.Merge

variable (m : (ℓ : Loc nD τ sig) → Buf (Elt Ideal) ℓ) (c : Dev nD)

theorem res_value (t : Fin grid0.N) (y : Fin 256) (e : Fin 1024) (R : Fin 2048) (hR : R.val = t.val * 256 + y.val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 y e)
      = Cert.Reference7Ideal.Read.val_main_v67 (F := Ideal) (arg0 m c) (arg1 m c) (arg2 m c) (arg3 m c) (arg4 m c) (arg5 m c) (arg6 m c) (arg7 m c) (arg8 m c) (arg9 m c) (arg10 m c) (ix2 R e) := by
  refine (res_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y e).trans (Eq.trans ?_ ((Ref.res_at (arg0 m c) (arg1 m c) (arg2 m c) (arg3 m c) (arg4 m c) (arg5 m c) (arg6 m c) (arg7 m c) (arg8 m c) (arg9 m c) (arg10 m c) R e).trans (Ref.residual_apply (arg0 m c) (arg1 m c) (arg2 m c) (arg3 m c) (arg4 m c) (arg5 m c) (arg6 m c) (arg7 m c) (arg8 m c) (arg9 m c) (arg10 m c) _ _ e)).symm)
  exact residRow_congr (funext fun i => read0 m c t y i R hR) (funext fun i => read1 m c t y i R hR) (funext fun i => read2 m c t y i R hR)
    (funext fun i => read7 m c t i) (funext fun i => read4 m c t y i R hR) (funext fun i => read5 m c t y i R hR) (funext fun i => mod_read2 m c t i)
    (funext fun i => read3 m c t y i R hR) (funext fun i => funext fun j => read8 m c t i j) (funext fun i => funext fun j => read9 m c t i j)
    (funext fun i => funext fun j => read10 m c t i j) e

theorem norm_value (t : Fin grid0.N) (y : Fin 256) (e : Fin 1024) (R : Fin 2048) (hR : R.val = t.val * 256 + y.val) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 y e)
      = Cert.Reference7Ideal.Read.val_main_v69 (F := Ideal) (arg0 m c) (arg1 m c) (arg2 m c) (arg3 m c) (arg4 m c) (arg5 m c) (arg6 m c) (arg7 m c) (arg8 m c) (arg9 m c) (arg10 m c) (arg11 m c) (ix2 R e) := by
  refine (normed_out (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y e).trans (Eq.trans ?_ ((Ref.norm_at (arg0 m c) (arg1 m c) (arg2 m c) (arg3 m c) (arg4 m c) (arg5 m c) (arg6 m c) (arg7 m c) (arg8 m c) (arg9 m c) (arg10 m c) (arg11 m c) R e).trans (Ref.normed_apply (arg0 m c) (arg1 m c) (arg2 m c) (arg3 m c) (arg4 m c) (arg5 m c) (arg6 m c) (arg7 m c) (arg8 m c) (arg9 m c) (arg10 m c) (arg11 m c) _ _ e)).symm)
  exact normed_congr (funext fun i => read0 m c t y i R hR) (funext fun i => read1 m c t y i R hR) (funext fun i => read2 m c t y i R hR)
    (funext fun i => read7 m c t i) (funext fun i => read4 m c t y i R hR) (funext fun i => read5 m c t y i R hR) (funext fun i => mod_read2 m c t i)
    (funext fun i => read3 m c t y i R hR) (funext fun i => funext fun j => read8 m c t i j) (funext fun i => funext fun j => read9 m c t i j)
    (funext fun i => funext fun j => read10 m c t i j)
    (funext fun i => read11 m c t i) (funext fun i => mod_read4 m c t i) (funext fun i => mod_read3 m c t i) e

theorem covers12 : (cfg0.win 12).Covers :=
  (cfg0.win 12).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index12 ⟨(β 0).val, _⟩) a).trans ?_
      fin_cases a
      · rfl
      · show 0 = (β 1).val
        omega

theorem arrAt12 : (dats m 0 c).arrAt 12 cfg0.N
    = Cert.Reference7Ideal.Read.val_main_v67 (F := Ideal) (arg0 m c) (arg1 m c) (arg2 m c) (arg3 m c) (arg4 m c) (arg5 m c) (arg6 m c) (arg7 m c) (arg8 m c) (arg9 m c) (arg10 m c) := by
  refine (dats m 0 c).arrAt_eq_of_covers 12 _ covers12 fun t hf y => ?_
  blk_simp
  rw [after0_12]
  have h0 := Pipeline.Window.rect_emb_val win0_12 t y 0
  have h1 := Pipeline.Window.rect_emb_val win0_12 t y 1
  rw [index12 t] at h0 h1
  obtain ⟨a, b, rfl⟩ : ∃ (a : Fin 256) (b : Fin 1024), y = ix2 a b := ⟨y 0, y 1, eq_ix2 y⟩
  refine (res_value m c t a b _ h0).trans (congrArg _ ?_)
  refine Eq.trans (congrArg (ix2 _) (Fin.ext ?_)) (eq_ix2 (n0 := 2048) (n1 := 1024) _).symm
  refine Eq.trans ?_ h1.symm
  show b.val = 0 * 1024 + b.val
  omega

theorem covers13 : (cfg0.win 13).Covers :=
  (cfg0.win 13).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index13 ⟨(β 0).val, _⟩) a).trans ?_
      fin_cases a
      · rfl
      · show 0 = (β 1).val
        omega

theorem arrAt13 : (dats m 0 c).arrAt 13 cfg0.N
    = Cert.Reference7Ideal.Read.val_main_v69 (F := Ideal) (arg0 m c) (arg1 m c) (arg2 m c) (arg3 m c) (arg4 m c) (arg5 m c) (arg6 m c) (arg7 m c) (arg8 m c) (arg9 m c) (arg10 m c) (arg11 m c) := by
  refine (dats m 0 c).arrAt_eq_of_covers 13 _ covers13 fun t hf y => ?_
  blk_simp
  rw [after0_13]
  have h0 := Pipeline.Window.rect_emb_val win0_13 t y 0
  have h1 := Pipeline.Window.rect_emb_val win0_13 t y 1
  rw [index13 t] at h0 h1
  obtain ⟨a, b, rfl⟩ : ∃ (a : Fin 256) (b : Fin 1024), y = ix2 a b := ⟨y 0, y 1, eq_ix2 y⟩
  refine (norm_value m c t a b _ h0).trans (congrArg _ ?_)
  refine Eq.trans (congrArg (ix2 _) (Fin.ext ?_)) (eq_ix2 (n0 := 2048) (n1 := 1024) _).symm
  refine Eq.trans ?_ h1.symm
  show b.val = 0 * 1024 + b.val
  omega

end Cert.MergeCtx

end
-- ==== Proof.MergeCtxClaim.lean ====
/- The merge's claims: the reference leaves its arguments alone, and the results of the two are the same arrays. -/
module

public import proofs.«01_k».proof.Defs
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.MergeCtxArray
public import Idealize.ShloMosaic.Lib.Quiescent
public import Idealize.ShloMosaic.Adequacy
public import Idealize.ShloMosaic.Init

@[expose] public section

set_option maxRecDepth 16384

noncomputable section

namespace Cert.MergeCtx

open Idealize.ShloMosaic Idealize.SL.Sem

theorem reference_frame : Cert.quiescent_Reference7Ideal (hReference7Ideal := Cert.Reference7Ideal.Gen.facts) := fun m ρ _ =>
  (θ_run _ _ _).mono (fun r h => ⟨fun c => (h c).2.2, sem_eq_zero_of_no_sems rfl r.2⟩) (Cert.Reference7Ideal.Value.run m ρ)

theorem agree0 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) :
    m' ((c.tc : Thread Cert.Reference7Ideal.nD Cert.Reference7Ideal.τ).loc Cert.Reference7Ideal.main_arg0) = arg0 m c := e

theorem agree1 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) :
    m' ((c.tc : Thread Cert.Reference7Ideal.nD Cert.Reference7Ideal.τ).loc Cert.Reference7Ideal.main_arg1) = arg1 m c := e

theorem agree2 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) :
    m' ((c.tc : Thread Cert.Reference7Ideal.nD Cert.Reference7Ideal.τ).loc Cert.Reference7Ideal.main_arg2) = arg2 m c := e

theorem agree3 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) :
    m' ((c.tc : Thread Cert.Reference7Ideal.nD Cert.Reference7Ideal.τ).loc Cert.Reference7Ideal.main_arg3) = arg3 m c := e

theorem agree4 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) :
    m' ((c.tc : Thread Cert.Reference7Ideal.nD Cert.Reference7Ideal.τ).loc Cert.Reference7Ideal.main_arg4) = arg4 m c := e

theorem agree5 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) :
    m' ((c.tc : Thread Cert.Reference7Ideal.nD Cert.Reference7Ideal.τ).loc Cert.Reference7Ideal.main_arg5) = arg5 m c := e

theorem agree6 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) :
    m' ((c.tc : Thread Cert.Reference7Ideal.nD Cert.Reference7Ideal.τ).loc Cert.Reference7Ideal.main_arg6) = arg6 m c := e

theorem agree7 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) :
    m' ((c.tc : Thread Cert.Reference7Ideal.nD Cert.Reference7Ideal.τ).loc Cert.Reference7Ideal.main_arg7) = arg7 m c := e

theorem agree8 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) :
    m' ((c.tc : Thread Cert.Reference7Ideal.nD Cert.Reference7Ideal.τ).loc Cert.Reference7Ideal.main_arg8) = arg8 m c := e

theorem agree9 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) :
    m' ((c.tc : Thread Cert.Reference7Ideal.nD Cert.Reference7Ideal.τ).loc Cert.Reference7Ideal.main_arg9) = arg9 m c := e

theorem agree10 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) :
    m' ((c.tc : Thread Cert.Reference7Ideal.nD Cert.Reference7Ideal.τ).loc Cert.Reference7Ideal.main_arg10) = arg10 m c := e

theorem agree11 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (e : m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)) :
    m' ((c.tc : Thread Cert.Reference7Ideal.nD Cert.Reference7Ideal.τ).loc Cert.Reference7Ideal.main_arg11) = arg11 m c := e

theorem same12 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (a0 : m' ((c.tc : Thread Cert.Reference7Ideal.nD Cert.Reference7Ideal.τ).loc Cert.Reference7Ideal.main_arg0) = arg0 m c) (a1 : m' ((c.tc : Thread Cert.Reference7Ideal.nD Cert.Reference7Ideal.τ).loc Cert.Reference7Ideal.main_arg1) = arg1 m c) (a2 : m' ((c.tc : Thread Cert.Reference7Ideal.nD Cert.Reference7Ideal.τ).loc Cert.Reference7Ideal.main_arg2) = arg2 m c) (a3 : m' ((c.tc : Thread Cert.Reference7Ideal.nD Cert.Reference7Ideal.τ).loc Cert.Reference7Ideal.main_arg3) = arg3 m c) (a4 : m' ((c.tc : Thread Cert.Reference7Ideal.nD Cert.Reference7Ideal.τ).loc Cert.Reference7Ideal.main_arg4) = arg4 m c) (a5 : m' ((c.tc : Thread Cert.Reference7Ideal.nD Cert.Reference7Ideal.τ).loc Cert.Reference7Ideal.main_arg5) = arg5 m c) (a6 : m' ((c.tc : Thread Cert.Reference7Ideal.nD Cert.Reference7Ideal.τ).loc Cert.Reference7Ideal.main_arg6) = arg6 m c) (a7 : m' ((c.tc : Thread Cert.Reference7Ideal.nD Cert.Reference7Ideal.τ).loc Cert.Reference7Ideal.main_arg7) = arg7 m c) (a8 : m' ((c.tc : Thread Cert.Reference7Ideal.nD Cert.Reference7Ideal.τ).loc Cert.Reference7Ideal.main_arg8) = arg8 m c) (a9 : m' ((c.tc : Thread Cert.Reference7Ideal.nD Cert.Reference7Ideal.τ).loc Cert.Reference7Ideal.main_arg9) = arg9 m c) (a10 : m' ((c.tc : Thread Cert.Reference7Ideal.nD Cert.Reference7Ideal.τ).loc Cert.Reference7Ideal.main_arg10) = arg10 m c) :
    Cert.Reference7Ideal.Read.val_main_v67 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9)) (m' ((c.tc : Thread Cert.Reference7Ideal.nD Cert.Reference7Ideal.τ).loc Cert.Reference7Ideal.main_arg10))
      = (Cert.Kernel7Ideal.Gen.dats m 0 c).arrAt 12 Cert.Kernel7Ideal.cfg0.N := by
  rw [a0, a1, a2, a3, a4, a5, a6, a7, a8, a9, a10]
  exact (arrAt12 m c).symm

theorem same13 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ) (c : Dev 1)
    (a0 : m' ((c.tc : Thread Cert.Reference7Ideal.nD Cert.Reference7Ideal.τ).loc Cert.Reference7Ideal.main_arg0) = arg0 m c) (a1 : m' ((c.tc : Thread Cert.Reference7Ideal.nD Cert.Reference7Ideal.τ).loc Cert.Reference7Ideal.main_arg1) = arg1 m c) (a2 : m' ((c.tc : Thread Cert.Reference7Ideal.nD Cert.Reference7Ideal.τ).loc Cert.Reference7Ideal.main_arg2) = arg2 m c) (a3 : m' ((c.tc : Thread Cert.Reference7Ideal.nD Cert.Reference7Ideal.τ).loc Cert.Reference7Ideal.main_arg3) = arg3 m c) (a4 : m' ((c.tc : Thread Cert.Reference7Ideal.nD Cert.Reference7Ideal.τ).loc Cert.Reference7Ideal.main_arg4) = arg4 m c) (a5 : m' ((c.tc : Thread Cert.Reference7Ideal.nD Cert.Reference7Ideal.τ).loc Cert.Reference7Ideal.main_arg5) = arg5 m c) (a6 : m' ((c.tc : Thread Cert.Reference7Ideal.nD Cert.Reference7Ideal.τ).loc Cert.Reference7Ideal.main_arg6) = arg6 m c) (a7 : m' ((c.tc : Thread Cert.Reference7Ideal.nD Cert.Reference7Ideal.τ).loc Cert.Reference7Ideal.main_arg7) = arg7 m c) (a8 : m' ((c.tc : Thread Cert.Reference7Ideal.nD Cert.Reference7Ideal.τ).loc Cert.Reference7Ideal.main_arg8) = arg8 m c) (a9 : m' ((c.tc : Thread Cert.Reference7Ideal.nD Cert.Reference7Ideal.τ).loc Cert.Reference7Ideal.main_arg9) = arg9 m c) (a10 : m' ((c.tc : Thread Cert.Reference7Ideal.nD Cert.Reference7Ideal.τ).loc Cert.Reference7Ideal.main_arg10) = arg10 m c) (a11 : m' ((c.tc : Thread Cert.Reference7Ideal.nD Cert.Reference7Ideal.τ).loc Cert.Reference7Ideal.main_arg11) = arg11 m c) :
    Cert.Reference7Ideal.Read.val_main_v69 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg11))
      = (Cert.Kernel7Ideal.Gen.dats m 0 c).arrAt 13 Cert.Kernel7Ideal.cfg0.N := by
  rw [a0, a1, a2, a3, a4, a5, a6, a7, a8, a9, a10, a11]
  exact (arrAt13 m c).symm

/-- The call's run, its two results named, the arguments unchanged. -/
theorem kernel_run (m : (ℓ : Loc Cert.Kernel7Ideal.nD Cert.Kernel7Ideal.τ Cert.Kernel7Ideal.sig) → Buf (Elt Ideal) ℓ) (g : Dev Cert.Kernel7Ideal.nD → PrngReg) :
    θ_run (Cert.Kernel7Ideal.defs (F := Ideal)) (onTc (τ := Cert.Kernel7Ideal.τ) (Cert.Kernel7Ideal.main (F := Ideal))) ⟨m, fun _ => 0, g⟩
      (fun r => ∀ c : Dev Cert.Kernel7Ideal.nD,
      r.2.mem ((c.tc : Thread Cert.Kernel7Ideal.nD Cert.Kernel7Ideal.τ).loc Cert.Kernel7Ideal.main_v21_0) = (Cert.Kernel7Ideal.Gen.dats m 0 c).arrAt 12 Cert.Kernel7Ideal.cfg0.N
      ∧ r.2.mem ((c.tc : Thread Cert.Kernel7Ideal.nD Cert.Kernel7Ideal.τ).loc Cert.Kernel7Ideal.main_v21_1) = (Cert.Kernel7Ideal.Gen.dats m 0 c).arrAt 13 Cert.Kernel7Ideal.cfg0.N
      ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)) :=
  (θ_run _ _ _).mono (fun r h c => ⟨(h c).1 12, (h c).1 13,
      ((h c).2 Cert.Kernel7Ideal.main_arg0 (Pipeline.mem_restRefs_of Cert.Kernel7Ideal.main_arg0 (by decide) (by decide))).trans (Cert.Kernel7Ideal.Gen.V_main_arg0 m c),
      ((h c).2 Cert.Kernel7Ideal.main_arg1 (Pipeline.mem_restRefs_of Cert.Kernel7Ideal.main_arg1 (by decide) (by decide))).trans (Cert.Kernel7Ideal.Gen.V_main_arg1 m c),
      ((h c).2 Cert.Kernel7Ideal.main_arg2 (Pipeline.mem_restRefs_of Cert.Kernel7Ideal.main_arg2 (by decide) (by decide))).trans (Cert.Kernel7Ideal.Gen.V_main_arg2 m c),
      ((h c).2 Cert.Kernel7Ideal.main_arg3 (Pipeline.mem_restRefs_of Cert.Kernel7Ideal.main_arg3 (by decide) (by decide))).trans (Cert.Kernel7Ideal.Gen.V_main_arg3 m c),
      ((h c).2 Cert.Kernel7Ideal.main_arg4 (Pipeline.mem_restRefs_of Cert.Kernel7Ideal.main_arg4 (by decide) (by decide))).trans (Cert.Kernel7Ideal.Gen.V_main_arg4 m c),
      ((h c).2 Cert.Kernel7Ideal.main_arg5 (Pipeline.mem_restRefs_of Cert.Kernel7Ideal.main_arg5 (by decide) (by decide))).trans (Cert.Kernel7Ideal.Gen.V_main_arg5 m c),
      ((h c).2 Cert.Kernel7Ideal.main_arg6 (Pipeline.mem_restRefs_of Cert.Kernel7Ideal.main_arg6 (by decide) (by decide))).trans (Cert.Kernel7Ideal.Gen.V_main_arg6 m c),
      ((h c).2 Cert.Kernel7Ideal.main_arg7 (Pipeline.mem_restRefs_of Cert.Kernel7Ideal.main_arg7 (by decide) (by decide))).trans (Cert.Kernel7Ideal.Gen.V_main_arg7 m c),
      ((h c).2 Cert.Kernel7Ideal.main_arg8 (Pipeline.mem_restRefs_of Cert.Kernel7Ideal.main_arg8 (by decide) (by decide))).trans (Cert.Kernel7Ideal.Gen.V_main_arg8 m c),
      ((h c).2 Cert.Kernel7Ideal.main_arg9 (Pipeline.mem_restRefs_of Cert.Kernel7Ideal.main_arg9 (by decide) (by decide))).trans (Cert.Kernel7Ideal.Gen.V_main_arg9 m c),
      ((h c).2 Cert.Kernel7Ideal.main_arg10 (Pipeline.mem_restRefs_of Cert.Kernel7Ideal.main_arg10 (by decide) (by decide))).trans (Cert.Kernel7Ideal.Gen.V_main_arg10 m c),
      ((h c).2 Cert.Kernel7Ideal.main_arg11 (Pipeline.mem_restRefs_of Cert.Kernel7Ideal.main_arg11 (by decide) (by decide))).trans (Cert.Kernel7Ideal.Gen.V_main_arg11 m c)⟩)
    (Cert.Kernel7Ideal.Gen.run_main m g)

/-- The reference's run, each result named by its stage. -/
theorem reference_run (m' : (ℓ : Loc Cert.Reference7Ideal.nD Cert.Reference7Ideal.τ Cert.Reference7Ideal.sig) → Buf (Elt Ideal) ℓ) (g' : Dev Cert.Reference7Ideal.nD → PrngReg) :
    θ_run (Cert.Reference7Ideal.defs (F := Ideal)) (onTc (τ := Cert.Reference7Ideal.τ) (Cert.Reference7Ideal.main (F := Ideal))) ⟨m', fun _ => 0, g'⟩
      (fun r => ∀ c : Dev Cert.Reference7Ideal.nD,
      r.2.mem ((c.tc : Thread Cert.Reference7Ideal.nD Cert.Reference7Ideal.τ).loc Cert.Reference7Ideal.main_v67) = Cert.Reference7Ideal.Read.val_main_v67 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9)) (m' ((c.tc : Thread Cert.Reference7Ideal.nD Cert.Reference7Ideal.τ).loc Cert.Reference7Ideal.main_arg10))
      ∧ r.2.mem ((c.tc : Thread Cert.Reference7Ideal.nD Cert.Reference7Ideal.τ).loc Cert.Reference7Ideal.main_v69) = Cert.Reference7Ideal.Read.val_main_v69 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9)) (m' ((c.tc : Thread Cert.Reference7Ideal.nD Cert.Reference7Ideal.τ).loc Cert.Reference7Ideal.main_arg10)) (m' ((c.tc : Thread Cert.Reference7Ideal.nD Cert.Reference7Ideal.τ).loc Cert.Reference7Ideal.main_arg11))
      ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)) :=
  (θ_run _ _ _).mono (fun r h c => ⟨
      (h c).1.trans (Cert.Reference7Ideal.Read.val_main_v67_eq (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6)) (m' ((c.tc : Thread Cert.Reference7Ideal.nD Cert.Reference7Ideal.τ).loc Cert.Reference7Ideal.main_arg7)) (m' ((c.tc : Thread Cert.Reference7Ideal.nD Cert.Reference7Ideal.τ).loc Cert.Reference7Ideal.main_arg8)) (m' ((c.tc : Thread Cert.Reference7Ideal.nD Cert.Reference7Ideal.τ).loc Cert.Reference7Ideal.main_arg9)) (m' ((c.tc : Thread Cert.Reference7Ideal.nD Cert.Reference7Ideal.τ).loc Cert.Reference7Ideal.main_arg10))),
      (h c).2.1.trans (Cert.Reference7Ideal.Read.val_main_v69_eq (F := Ideal) m' c),
      (h c).2.2⟩) (Cert.Reference7Ideal.Value.run m' g')

set_option maxHeartbeats 2000000 in
/-- The call's results and the reference's are the same arrays. -/
theorem algebraic : Cert.algebraic_Kernel7Ideal_Reference7Ideal
    (hKernel7Ideal := Cert.Kernel7Ideal.Gen.facts) (hReference7Ideal := Cert.Reference7Ideal.Gen.facts) := by
  intro m g m' g' _ hagree
  refine ⟨fun c => (Cert.Kernel7Ideal.Gen.dats m 0 c).arrAt 12 Cert.Kernel7Ideal.cfg0.N, fun c => (Cert.Kernel7Ideal.Gen.dats m 0 c).arrAt 13 Cert.Kernel7Ideal.cfg0.N, kernel_run m g, ?_⟩
  refine (θ_run _ _ _).mono (fun r h c => ?_) (reference_run m' g')
  obtain ⟨e0, e1, e2, e3, e4, e5, e6, e7, e8, e9, e10, e11⟩ := hagree c
  have a0 := agree0 m m' c e0
  have a1 := agree1 m m' c e1
  have a2 := agree2 m m' c e2
  have a3 := agree3 m m' c e3
  have a4 := agree4 m m' c e4
  have a5 := agree5 m m' c e5
  have a6 := agree6 m m' c e6
  have a7 := agree7 m m' c e7
  have a8 := agree8 m m' c e8
  have a9 := agree9 m m' c e9
  have a10 := agree10 m m' c e10
  have a11 := agree11 m m' c e11
  refine ⟨?_, ?_, (h c).2.2⟩
  · exact (h c).1.trans (same12 m m' c a0 a1 a2 a3 a4 a5 a6 a7 a8 a9 a10)
  · exact (h c).2.1.trans (same13 m m' c a0 a1 a2 a3 a4 a5 a6 a7 a8 a9 a10 a11)

end Cert.MergeCtx

end
-- ==== Proof.FfnCtxParts.lean ====
/- The parts of the feed-forward body, element by element. -/
module

public import proofs.«01_k».proof.Proof.Gen.Kernel8Ideal.Frame
public import Idealize.ShloMosaic.Lib.Pipeline.ValueKit
public import Idealize.ShloMosaic.Lib.Pointwise

@[expose] public section

set_option maxRecDepth 16384

noncomputable section

namespace Cert.FfnCtx

open Idealize.ShloMosaic Idealize.ShloMosaic.TcCoe Idealize.SL.Sem Cert.Kernel8Ideal Cert.Kernel8Ideal.Gen

theorem ofBits_one : Ideal.ofBits .f32 0x3F800000#32 = 1 := by
  simp [Ideal.ofBits, Ideal.ieee, -EReal.coe_mul]; try norm_num

/-- A gated hidden unit: `s · sigmoid s`, times the second product. -/
def gate (x a b : Fin 1024 → EReal) : EReal :=
  (∑ e, x e * a e) * Ideal.div 1 (1 + Ideal.exp (-∑ e, x e * a e)) * ∑ e, x e * b e

theorem pay4_apply (f : Vec Ideal S256x1024 .bf16) (a b : Vec Ideal S1024x512 .bf16) (y : Fin 256) (l : Fin 512) :
    k0_pay4 f a b (ix2 y l) = gate (fun e => f (ix2 y e)) (fun e => a (ix2 e l)) (fun e => b (ix2 e l)) := by
  unfold k0_pay4 k0_pay3 gate
  pointwise
  simp only [ofBits_one, sub_eq_add_neg, zero_add]

theorem pay6_apply (f : Vec Ideal S256x1024 .bf16) (a b : Vec Ideal S1024x512 .bf16) (y : Fin 256) (l : Fin 512) :
    k0_pay6 (k0_pay5 f a b) (ix2 y l) = gate (fun e => f (ix2 y e)) (fun e => a (ix2 e l)) (fun e => b (ix2 e l)) := by
  unfold k0_pay6 k0_pay5 k0_pay3 gate
  pointwise
  simp only [ofBits_one, sub_eq_add_neg, zero_add]

theorem pay7_apply (f : Vec Ideal S256x1024 .bf16) (a b : Vec Ideal S1024x512 .bf16) (y : Fin 256) (l : Fin 512) :
    k0_pay7 (k0_pay3 f) a b (ix2 y l) = gate (fun e => f (ix2 y e)) (fun e => a (ix2 e l)) (fun e => b (ix2 e l)) := by
  unfold k0_pay7 k0_pay3 gate
  pointwise
  simp only [ofBits_one, sub_eq_add_neg, zero_add]

theorem pay11_apply (f : Vec Ideal S256x1024 .bf16) (a b : Vec Ideal S1024x512 .bf16) (y : Fin 256) (l : Fin 512) :
    k0_pay11 (k0_pay8 (k0_pay3 f) a) (k0_pay9 (k0_pay3 f) b) (k0_pay10 (k0_pay3 f) a) (ix2 y l)
      = gate (fun e => f (ix2 y e)) (fun e => a (ix2 e l)) (fun e => b (ix2 e l)) := by
  unfold k0_pay11 k0_pay10 k0_pay9 k0_pay8 k0_pay3 gate
  pointwise
  simp only [ofBits_one, sub_eq_add_neg, zero_add]

theorem pay12_apply (f : Vec Ideal S256x1024 .bf16) (a b : Vec Ideal S1024x512 .bf16) (y : Fin 256) (l : Fin 512) :
    k0_pay12 (k0_pay3 f) a b (ix2 y l) = gate (fun e => f (ix2 y e)) (fun e => a (ix2 e l)) (fun e => b (ix2 e l)) := by
  unfold k0_pay12 k0_pay3 gate
  pointwise
  simp only [ofBits_one, sub_eq_add_neg, zero_add]

theorem pay1_apply (f : Vec Ideal S256x1024 .bf16) (a b : Vec Ideal S1024x256 .bf16) (y : Fin 256) (l : Fin 256) :
    k0_pay1 (k0_pay13 (k0_pay3 f) a) (k0_pay14 (k0_pay3 f) b) (k0_pay15 (k0_pay3 f) a) (FloatOps.ofBits FTy.f32 1065353216#32) (ix2 y l)
      = gate (fun e => f (ix2 y e)) (fun e => a (ix2 e l)) (fun e => b (ix2 e l)) := by
  unfold k0_pay1 k0_pay15 k0_pay14 k0_pay13 k0_pay3 gate
  pointwise
  simp only [ofBits_one, sub_eq_add_neg, zero_add]

theorem pay2_apply (h : Vec Ideal S256x1024 .f32) (g : Vec Ideal S1x6x1024 .f32) (u : Vec Ideal S256x2816 .bf16)
    (w : Vec Ideal S2816x1024 .bf16) (y : Fin 256) (l : Fin 1024) :
    k0_pay2 h g u w (ix2 y l) = h (ix2 y l) + g (ix3 0 5 l) * ∑ j : Fin 2816, u (ix2 y j) * w (ix2 j l) := by
  unfold k0_pay2
  pointwise

end Cert.FfnCtx

end
-- ==== Proof.FfnCtxBlock.lean ====
/- What one grid point of the context's feed-forward call leaves: its 256 rows, each from the hidden units written in six parts. -/
module

public import proofs.«01_k».proof.Proof.FfnCtxParts

@[expose] public section

set_option maxRecDepth 16384

noncomputable section

namespace Cert.FfnCtx

open Idealize.ShloMosaic Idealize.ShloMosaic.TcCoe Idealize.SL.Sem Cert.Kernel8Ideal Cert.Kernel8Ideal.Gen

/-- The hidden units of a block of 256 rows. -/
def hidden (f : Vec Ideal S256x1024 .bf16) (w1 w3 : Vec Ideal S1024x2816 .bf16) : Vec Ideal S256x2816 .bf16 :=
  fun y => gate (fun e => f (ix2 (y 0) e)) (fun e => w1 (ix2 e (y 1))) (fun e => w3 (ix2 e (y 1)))

/-- Columns `o` to `o + n` of a weight array. -/
theorem cols_apply (w : Vec Ideal S1024x2816 .bf16) (o n : Nat) (inb : ∀ a, (![0, o] : Fin 2 → Nat) a + (![1024, n] : Fin 2 → Nat) a ≤ S1024x2816.size a)
    (e : Fin 1024) (l : Fin n) (C : Fin 2816) (hC : C.val = o + l.val) :
    View.ld w (Rect.unit (s := S1024x2816) ![0, o] ![1024, n] inb) (ix2 e l) = w (ix2 e C) := by
  refine congrArg w (funext fun a => Fin.ext ?_)
  fin_cases a
  · show 0 + 1 * e.val = e.val
    omega
  · show o + 1 * l.val = C.val
    omega

/-- The part of the hidden units in columns `o` to `o + n`. -/
theorem tile_at (f : Vec Ideal S256x1024 .bf16) (w1 w3 : Vec Ideal S1024x2816 .bf16) (o n : Nat)
    (inb : ∀ a, (![0, o] : Fin 2 → Nat) a + (![1024, n] : Fin 2 → Nat) a ≤ S1024x2816.size a)
    (P : (⟨2, ![256, n]⟩ : Shape).Idx → EReal)
    (hP : ∀ (y : Fin 256) (l : Fin n), P (ix2 y l) = gate (fun e => f (ix2 y e))
      (fun e => View.ld w1 (Rect.unit (s := S1024x2816) ![0, o] ![1024, n] inb) (ix2 e l))
      (fun e => View.ld w3 (Rect.unit (s := S1024x2816) ![0, o] ![1024, n] inb) (ix2 e l)))
    (y : S256x2816.Idx) :
    View.TileAt (Val := Elt Ideal) (e := .bf16) (S := S256x2816) y ![0, o] ![256, n] P (hidden f w1 w3 y) := by
  intro x hx
  obtain ⟨a, b, rfl⟩ : ∃ (a : Fin 256) (b : Fin n), x = ix2 a b := ⟨x 0, x 1, eq_ix2 x⟩
  have h0 : (y 0).val = 0 + a.val := hx 0
  have h1 : (y 1).val = o + b.val := hx 1
  have e0 : a = y 0 := Fin.ext (by omega)
  refine (hP a b).trans ?_
  unfold hidden
  rw [e0]
  exact congrArg₂ (gate _) (funext fun e => cols_apply w1 o n inb e b (y 1) h1) (funext fun e => cols_apply w3 o n inb e b (y 1) h1)

theorem cover_at {L : List (View.Piece (Elt Ideal) S256x2816 .bf16)} (o n : Nat) (inb) (w) (y : S256x2816.Idx)
    (hm : (⟨Rect.unit (s := S256x2816) ![0, o] ![256, n] inb, w⟩ : View.Piece (Elt Ideal) S256x2816 .bf16) ∈ L)
    (h : o ≤ (y 1).val ∧ (y 1).val < o + n) : ∃ p ∈ L, y ∈ p.1.set := by
  refine ⟨_, hm, (Rect.mem_set_unit (s := S256x2816) (off := ![0, o]) (size := ![256, n]) (inb := inb)).mpr fun a => ?_⟩
  have h0 : (y 0).val < 256 := (y 0).isLt
  fin_cases a
  · show 0 ≤ (y 0).val ∧ (y 0).val < 0 + 256
    omega
  · exact h

/-- The block a point leaves. -/
theorem outsAt0_apply (m : (ℓ : Loc nD τ sig) → Buf (Elt Ideal) ℓ) (c : Dev nD) (t : Fin cfg0.N) :
    outsAt0 m c t = k0_pay2 (iblk m c 1 t) (iblk m c 2 t) (hidden (iblk m c 0 t) (iblk m c 3 t) (iblk m c 4 t)) (iblk m c 5 t) := by
  unfold outsAt0
  frame_out
  rw [View.readCov_eq_canon']
  refine congrArg (fun u => k0_pay2 (iblk m c 1 t) (iblk m c 2 t) u (iblk m c 5 t)) (funext fun y => ?_)
  have hy : (Rect.unit (s := S256x2816) ![0, 0] ![256, 2816] inb_S256x2816_S256x2816_0_0).toLoadRect.idx y = y := by
    refine funext fun a => Fin.ext ?_
    fin_cases a
    · show 0 + 1 * (y 0).val = (y 0).val
      omega
    · show 0 + 1 * (y 1).val = (y 1).val
      omega
  refine (congrArg _ hy).trans ?_
  have h1 : (y 1).val < 2816 := (y 1).isLt
  refine View.canon_eq_of_allAt _ y _ ?_ ?_
  · rcases Nat.lt_or_ge (y 1).val 512 with h | h
    · exact cover_at 0 512 _ _ y (.tail _ (.tail _ (.tail _ (.tail _ (.tail _ (.head _)))))) ⟨by omega, by omega⟩
    rcases Nat.lt_or_ge (y 1).val 1024 with h | h
    · exact cover_at 512 512 _ _ y (.tail _ (.tail _ (.tail _ (.tail _ (.head _))))) ⟨by omega, by omega⟩
    rcases Nat.lt_or_ge (y 1).val 1536 with h | h
    · exact cover_at 1024 512 _ _ y (.tail _ (.tail _ (.tail _ (.head _)))) ⟨by omega, by omega⟩
    rcases Nat.lt_or_ge (y 1).val 2048 with h | h
    · exact cover_at 1536 512 _ _ y (.tail _ (.tail _ (.head _))) ⟨by omega, by omega⟩
    rcases Nat.lt_or_ge (y 1).val 2560 with h | h
    · exact cover_at 2048 512 _ _ y (.tail _ (.head _)) ⟨by omega, by omega⟩
    · exact cover_at 2560 256 _ _ y (.head _) ⟨by omega, by omega⟩
  · refine View.allAt_cons_unit _ _ _ _ _ (tile_at _ _ _ 2560 256 inb_S1024x2816_S1024x256_0_2560 _ (pay1_apply _ _ _) y) ?_
    refine View.allAt_cons_unit _ _ _ _ _ (tile_at _ _ _ 2048 512 inb_S1024x2816_S1024x512_0_2048 _ (pay12_apply _ _ _) y) ?_
    refine View.allAt_cons_unit _ _ _ _ _ (tile_at _ _ _ 1536 512 inb_S1024x2816_S1024x512_0_1536 _ (pay11_apply _ _ _) y) ?_
    refine View.allAt_cons_unit _ _ _ _ _ (tile_at _ _ _ 1024 512 inb_S1024x2816_S1024x512_0_1024 _ (pay7_apply _ _ _) y) ?_
    refine View.allAt_cons_unit _ _ _ _ _ (tile_at _ _ _ 512 512 inb_S1024x2816_S1024x512_0_512 _ (pay6_apply _ _ _) y) ?_
    refine View.allAt_cons_unit _ _ _ _ _ (tile_at _ _ _ 0 512 inb_S1024x2816_S1024x512_0_0 _ (pay4_apply _ _ _) y) ?_
    exact View.allAt_nil _ _

end Cert.FfnCtx

end
-- ==== Proof.FfnCtxArray.lean ====
/- The array the context's feed-forward call returns, and that it is the reference's. -/
module

public import proofs.«01_k».proof.Proof.FfnCtxBlock
public import proofs.«01_k».proof.Proof.Gen.Kernel8Ideal.Value
public import Idealize.ShloMosaic.Lib.Pipeline.Covers
public import Idealize.ShloMosaic.Lib.Claim

@[expose] public section

set_option maxRecDepth 16384

noncomputable section

namespace Cert.FfnCtx

open Idealize.ShloMosaic Idealize.ShloMosaic.TcCoe Idealize.SL.Sem Cert.Kernel8Ideal Cert.Kernel8Ideal.Gen

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![8, 0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![t.val, 0] := by decide +kernel

theorem point_lt (t : Fin grid0.N) : t.val < 8 := lt_of_lt_of_eq t.isLt N_0

variable (m : (ℓ : Loc nD τ sig) → Buf (Elt Ideal) ℓ) (c : Dev nD)

/-- The tokens, the stream, the modulation and the three weights given. -/
def argF : FVec Ideal S8x256x1024 .f32 := m ((c : Thread nD τ).loc main_arg0)
@[inherit_doc argF] def argH : FVec Ideal S8x256x1024 .f32 := m ((c : Thread nD τ).loc main_arg1)
@[inherit_doc argF] def argM : FVec Ideal S6144 .f32 := m ((c : Thread nD τ).loc main_arg2)
@[inherit_doc argF] def argW1 : FVec Ideal S1024x2816 .f32 := m ((c : Thread nD τ).loc main_arg3)
@[inherit_doc argF] def argW3 : FVec Ideal S1024x2816 .f32 := m ((c : Thread nD τ).loc main_arg4)
@[inherit_doc argF] def argW2 : FVec Ideal S2816x1024 .f32 := m ((c : Thread nD τ).loc main_arg5)

/-- The arrays the call's windows read. -/
def prepF : FVec Ideal S2048x1024 .bf16 := V m c main_v6
@[inherit_doc prepF] def prepH : FVec Ideal S2048x1024 .f32 := V m c main_v7
@[inherit_doc prepF] def prepM : FVec Ideal S16x6x1024 .f32 := V m c main_v4
@[inherit_doc prepF] def prepW1 : FVec Ideal S1024x2816 .bf16 := V m c main_v8
@[inherit_doc prepF] def prepW3 : FVec Ideal S1024x2816 .bf16 := V m c main_v9
@[inherit_doc prepF] def prepW2 : FVec Ideal S2816x1024 .bf16 := V m c main_v10

theorem prepF_apply (R : Fin 2048) (C : Fin 1024) :
    prepF m c (ix2 R C) = argF m c (ix3 ⟨R.val / 256, by omega⟩ ⟨R.val % 256, by omega⟩ C) := by
  unfold prepF argF V
  after_results
  pointwise

theorem prepH_apply (R : Fin 2048) (C : Fin 1024) :
    prepH m c (ix2 R C) = argH m c (ix3 ⟨R.val / 256, by omega⟩ ⟨R.val % 256, by omega⟩ C) := by
  unfold prepH argH V
  after_results
  pointwise

theorem prepW1_apply (e : Fin 1024) (j : Fin 2816) : prepW1 m c (ix2 e j) = argW1 m c (ix2 e j) := by
  unfold prepW1 argW1 V
  after_results
  pointwise

theorem prepW3_apply (e : Fin 1024) (j : Fin 2816) : prepW3 m c (ix2 e j) = argW3 m c (ix2 e j) := by
  unfold prepW3 argW3 V
  after_results
  pointwise

theorem prepW2_apply (j : Fin 2816) (C : Fin 1024) : prepW2 m c (ix2 j C) = argW2 m c (ix2 j C) := by
  unfold prepW2 argW2 V
  after_results
  pointwise

theorem prepM_apply (C : Fin 1024) :
    prepM m c (ix3 8 5 C) = argM m c (ix1 ⟨5120 + C.val, by omega⟩) := by
  unfold prepM argM V
  after_results
  pointwise
  simp only [↓ StableHlo.readResult]
  pointwise

theorem blk0_apply (t : Fin grid0.N) (y : Fin 256) (e : Fin 1024) (R : Fin 2048) (hR : R.val = t.val * 256 + y.val) :
    iblk m c 0 t (ix2 y e) = V m c main_v6 (ix2 R e) := by
  blk_ext [iblk, index0 t]

theorem blk1_apply (t : Fin grid0.N) (y : Fin 256) (e : Fin 1024) (R : Fin 2048) (hR : R.val = t.val * 256 + y.val) :
    iblk m c 1 t (ix2 y e) = V m c main_v7 (ix2 R e) := by
  blk_ext [iblk, index1 t]

theorem blk2_apply (t : Fin grid0.N) (k : Fin 6) (e : Fin 1024) (b : Fin 16) (hb : b.val = 8) :
    iblk m c 2 t (ix3 0 k e) = V m c main_v4 (ix3 b k e) := by
  blk_ext [iblk, index2 t]

theorem blk3_apply (t : Fin grid0.N) (e : Fin 1024) (j : Fin 2816) : iblk m c 3 t (ix2 e j) = V m c main_v8 (ix2 e j) := by
  blk_ext [iblk, index3 t]

theorem blk4_apply (t : Fin grid0.N) (e : Fin 1024) (j : Fin 2816) : iblk m c 4 t (ix2 e j) = V m c main_v9 (ix2 e j) := by
  blk_ext [iblk, index4 t]

theorem blk5_apply (t : Fin grid0.N) (e : Fin 2816) (j : Fin 1024) : iblk m c 5 t (ix2 e j) = V m c main_v10 (ix2 e j) := by
  blk_ext [iblk, index5 t]

/-- One element of the feed-forward part's result. -/
def ffnAt (f h : FVec Ideal S8x256x1024 .f32) (x2 : FVec Ideal S6144 .f32) (w1 w3 : FVec Ideal S1024x2816 .f32)
    (w2 : FVec Ideal S2816x1024 .f32) (R : Fin 2048) (C : Fin 1024) : EReal :=
  h (ix3 ⟨R.val / 256, by omega⟩ ⟨R.val % 256, by omega⟩ C)
    + x2 (ix1 ⟨5120 + C.val, by omega⟩)
      * ∑ j : Fin 2816, gate (fun e => f (ix3 ⟨R.val / 256, by omega⟩ ⟨R.val % 256, by omega⟩ e))
          (fun e => w1 (ix2 e j)) (fun e => w3 (ix2 e j)) * w2 (ix2 j C)

theorem outsAt0_value (t : Fin grid0.N) (y : Fin 256) (C : Fin 1024) (R : Fin 2048) (hR : R.val = t.val * 256 + y.val) :
    outsAt0 m c t (ix2 y C) = ffnAt (argF m c) (argH m c) (argM m c) (argW1 m c) (argW3 m c) (argW2 m c) R C := by
  rw [outsAt0_apply]
  refine (pay2_apply _ _ _ _ y C).trans ?_
  refine congrArg₂ (· + ·) ((blk1_apply m c t y C R hR).trans (prepH_apply m c R C)) (congrArg₂ (· * ·)
    ((blk2_apply m c t 5 C 8 rfl).trans (prepM_apply m c C))
    (Finset.sum_congr rfl fun j _ => congrArg₂ (· * ·) ?_ ((blk5_apply m c t j C).trans (prepW2_apply m c j C))))
  show gate _ _ _ = gate _ _ _
  refine congr (congr (congrArg gate (funext fun e => ?_)) (funext fun e => ?_)) (funext fun e => ?_)
  · exact (blk0_apply m c t y e R hR).trans (prepF_apply m c R e)
  · exact (blk3_apply m c t e j).trans (prepW1_apply m c e j)
  · exact (blk4_apply m c t e j).trans (prepW3_apply m c e j)

theorem covers6 : (cfg0.win 6).Covers :=
  (cfg0.win 6).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index6 ⟨(β 0).val, _⟩) a).trans ?_
      fin_cases a
      · rfl
      · show 0 = (β 1).val
        omega

/-- The array of a function of its two coordinates. -/
def arrayOf (f : Fin 2048 → Fin 1024 → EReal) : FVec Ideal S2048x1024 .f32 := fun y => f (y 0) (y 1)

theorem arrAt6 : (dats m 0 c).arrAt 6 cfg0.N
    = arrayOf (ffnAt (argF m c) (argH m c) (argM m c) (argW1 m c) (argW3 m c) (argW2 m c)) := by
  refine (dats m 0 c).arrAt_eq_of_covers 6 _ covers6 fun t hf y => ?_
  blk_simp
  rw [after0_6]
  have h0 := Pipeline.Window.rect_emb_val win0_6 t y 0
  have h1 := Pipeline.Window.rect_emb_val win0_6 t y 1
  rw [index6 t] at h0 h1
  unfold arrayOf
  refine (congrArg (outsAt0 m c t) (eq_ix2 (n0 := 256) (n1 := 1024) y)).trans ?_
  refine (outsAt0_value m c t (y 0) (y 1) _ h0).trans (congrArg _ (Fin.ext ?_))
  refine Eq.trans ?_ h1.symm
  show (y 1).val = 0 * 1024 + (y 1).val
  omega

end Cert.FfnCtx

end
-- ==== Proof.FfnCtxRef.lean ====
/- The feed-forward part in the reference, element by element. -/
module

public import proofs.«01_k».proof.Proof.FfnCtxParts
public import proofs.«01_k».proof.Proof.Gen.Reference8Ideal.Read

@[expose] public section

set_option maxRecDepth 16384

noncomputable section

namespace Cert.FfnCtx.Ref

open Idealize.ShloMosaic Idealize.ShloMosaic.TcCoe Idealize.SL.Sem Cert.Reference8Ideal Cert.Reference8Ideal.Gen Cert.Reference8Ideal.Read

variable (f h : FVec Ideal S8x256x1024 .f32) (x2 : FVec Ideal S6144 .f32) (w1 w3 : FVec Ideal S1024x2816 .f32)
  (w2 : FVec Ideal S2816x1024 .f32)

theorem hidden_apply (b : Fin 8) (n : Fin 256) (j : Fin 2816) :
    val_main_v10 (F := Ideal) f w1 w3 (ix3 b n j)
      = gate (fun e => f (ix3 b n e)) (fun e => w1 (ix2 e j)) (fun e => w3 (ix2 e j)) := by
  unfold val_main_v10 val_main_v9 val_main_v8 val_main_call0_v5 val_main_call0_v4 val_main_call0_v3 val_main_call0_v2
    val_main_call0_v1 val_main_call0_v0 val_main_call0_cst val_main_call0_cst_0 val_main_v7 gate
  pointwise

theorem out_apply (R : Fin 2048) (C : Fin 1024) :
    val_main_v15 (F := Ideal) f h x2 w1 w3 w2 (ix2 R C)
      = h (ix3 ⟨R.val / 256, by omega⟩ ⟨R.val % 256, by omega⟩ C)
        + x2 (ix1 ⟨5120 + C.val, by omega⟩)
          * ∑ j : Fin 2816, gate (fun e => f (ix3 ⟨R.val / 256, by omega⟩ ⟨R.val % 256, by omega⟩ e))
              (fun e => w1 (ix2 e j)) (fun e => w3 (ix2 e j)) * w2 (ix2 j C) := by
  unfold val_main_v15 val_main_v14 val_main_v13 val_main_v12 val_main_v11 val_main_v6 val_main_v0
  pointwise
  simp only [hidden_apply]

end Cert.FfnCtx.Ref

end
-- ==== Proof.FfnCtxAgree.lean ====
/- The context's feed-forward call's array is the reference's. -/
module

public import proofs.«01_k».proof.Proof.FfnCtxArray
public import proofs.«01_k».proof.Proof.FfnCtxRef

@[expose] public section

set_option maxRecDepth 16384

noncomputable section

namespace Cert.FfnCtx

open Idealize.ShloMosaic

theorem agrees (f h : FVec Ideal Cert.Kernel8Ideal.S8x256x1024 .f32) (x2 : FVec Ideal Cert.Kernel8Ideal.S6144 .f32)
    (w1 w3 : FVec Ideal Cert.Kernel8Ideal.S1024x2816 .f32) (w2 : FVec Ideal Cert.Kernel8Ideal.S2816x1024 .f32) :
    arrayOf (ffnAt f h x2 w1 w3 w2) = Cert.Reference8Ideal.Read.val_main_v15 (F := Ideal) f h x2 w1 w3 w2 := by
  funext y
  refine Eq.trans ?_ (congrArg (Cert.Reference8Ideal.Read.val_main_v15 (F := Ideal) f h x2 w1 w3 w2)
    (eq_ix2 (n0 := 2048) (n1 := 1024) y)).symm
  exact (Ref.out_apply f h x2 w1 w3 w2 (y 0) (y 1)).symm

end Cert.FfnCtx

end
-- ==== Proof.FfnCtxClaim.lean ====
/- The context's feed-forward call's claims: the reference leaves its arguments alone, and the two results are one array. -/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.FfnCtxAgree
public import Idealize.ShloMosaic.Lib.Quiescent
public import Idealize.ShloMosaic.Adequacy
public import Idealize.ShloMosaic.Init

@[expose] public section

noncomputable section

namespace Cert.FfnCtx

open Idealize.ShloMosaic Idealize.SL.Sem

theorem reference_frame : Cert.quiescent_Reference8Ideal (hReference8Ideal := Cert.Reference8Ideal.Gen.facts) := fun m ρ _ =>
  (θ_run _ _ _).mono (fun r h => ⟨fun c => (h c).2, sem_eq_zero_of_no_sems rfl r.2⟩) (Cert.Reference8Ideal.Value.run m ρ)

/-- The call's result and the reference's are one array. -/
theorem algebraic : Cert.algebraic_Kernel8Ideal_Reference8Ideal
    (hKernel8Ideal := Cert.Kernel8Ideal.Gen.facts) (hReference8Ideal := Cert.Reference8Ideal.Gen.facts) := by
  intro m g m' g' _ hagree
  refine ⟨fun c => (Cert.Kernel8Ideal.Gen.dats m 0 c).arrAt 6 Cert.Kernel8Ideal.cfg0.N, Cert.Kernel8Ideal.Value.run_blocks m g, ?_⟩
  refine (θ_run _ _ _).mono (fun r h c => ?_) (Cert.Reference8Ideal.Value.run m' g')
  obtain ⟨hv, hargs⟩ := h c
  refine ⟨hv.trans ?_, hargs⟩
  obtain ⟨e0, e1, e2, e3, e4, e5⟩ := hagree c
  rw [Cert.Reference8Ideal.Read.val_main_v15_eq, e0, e1, e2, e3, e4, e5]
  exact ((arrAt6 m c).trans (agrees _ _ _ _ _ _)).symm

end Cert.FfnCtx

end
-- ==== Proof.ProjCtxParts.lean ====
/- The parts of the context's input projection's body, read at an index: the normalised token, the plain projections,
   and a column block of the queries or keys (two heads), normalised by head. -/
module

public import proofs.«01_k».proof.Proof.Gen.Kernel9Ideal.Frame
public import proofs.«01_k».proof.Proof.ProjStep
public import Idealize.ShloMosaic.Lib.Pipeline.ValueKit
public import Idealize.ShloMosaic.Lib.Pointwise

@[expose] public section

set_option maxRecDepth 16384

noncomputable section

namespace Cert.ProjCtx

open Idealize.ShloMosaic Idealize.ShloMosaic.TcCoe Idealize.SL.Sem Cert.Kernel9Ideal Cert.Kernel9Ideal.Gen
open Cert.Proj (tokenNorm pairNorm laneCol laneCol_zero headNorm sameHead sum_head pairNorm_eq headWord headBit softplusOf)

theorem pay2_apply (m : Vec Ideal S1x6x1024 .f32) (h : Vec Ideal S256x1024 .f32) (w : Vec Ideal S1x1024 .f32) (y : Fin 256) (e : Fin 1024) :
    k0_pay2 m h w (ix2 y e) = tokenNorm (fun i => h (ix2 y i)) (fun i => w (ix2 0 i)) (fun i => m (ix3 0 1 i)) (fun i => m (ix3 0 0 i)) e := by
  unfold k0_pay2
  pointwise
  rfl

theorem pay3_apply (m : Vec Ideal S1x6x1024 .f32) (h : Vec Ideal S256x1024 .f32) (w : Vec Ideal S1x1024 .f32) (p : Vec Ideal S1024x2048 .bf16)
    (y : Fin 256) (l : Fin 2048) :
    k0_pay3 m h w p (ix2 y l) = ∑ e : Fin 1024, k0_pay2 m h w (ix2 y e) * p (ix2 e l) := by
  unfold k0_pay3
  pointwise

theorem pay4_apply (m : Vec Ideal S1x6x1024 .f32) (h : Vec Ideal S256x1024 .f32) (w : Vec Ideal S1x1024 .f32) (p : Vec Ideal S1024x1024 .bf16)
    (y : Fin 256) (l : Fin 1024) :
    k0_pay4 m h w p (ix2 y l) = ∑ e : Fin 1024, k0_pay2 m h w (ix2 y e) * p (ix2 e l) := by
  unfold k0_pay4
  pointwise

theorem pay5_apply (a : FVec Ideal S256x1024 .bf16) (p : Vec Ideal S1024x1536 .bf16) (y : Fin 256) (l : Fin 1536) :
    k0_pay5 a p (ix2 y l) = ∑ e : Fin 1024, a (ix2 y e) * p (ix2 e l) := by
  unfold k0_pay5
  pointwise

theorem pay6_apply (a : FVec Ideal S256x1024 .bf16) (p : Vec Ideal S1024x1024 .bf16) (y : Fin 256) (l : Fin 1024) :
    k0_pay6 a p (ix2 y l) = ∑ e : Fin 1024, a (ix2 y e) * p (ix2 e l) := by
  unfold k0_pay6
  pointwise

theorem pay10_apply (a : FVec Ideal S256x1024 .bf16) (p : FVec Ideal S1024x1024 .bf16) (y : Fin 256) (l : Fin 1024) :
    k0_pay10 a p (ix2 y l) = ∑ e : Fin 1024, a (ix2 y e) * p (ix2 e l) := by
  unfold k0_pay10
  pointwise

theorem pay23_apply (a : FVec Ideal S256x1024 .bf16) (p : Vec Ideal S1024x1024 .bf16) (y : Fin 256) (l : Fin 1024) :
    k0_pay23 a p (ix2 y l) = ∑ e : Fin 1024, a (ix2 y e) * p (ix2 e l) := by
  unfold k0_pay23
  pointwise

theorem pay8_eq (x : Vec Ideal S128x128 .bf16) : k0_pay8 x = x := by
  funext y
  obtain ⟨a, b, rfl⟩ : ∃ (a : Fin 128) (b : Fin 128), y = ix2 a b := ⟨y 0, y 1, eq_ix2 y⟩
  unfold k0_pay8
  pointwise

theorem pay9_eq (x : Vec Ideal S1024x1024 .bf16) : k0_pay9 x = x := by
  funext y
  obtain ⟨a, b, rfl⟩ : ∃ (a : Fin 1024) (b : Fin 1024), y = ix2 a b := ⟨y 0, y 1, eq_ix2 y⟩
  unfold k0_pay9
  pointwise

theorem pay11_eq (x : Vec Ideal S1x128 .f32) : k0_pay11 x = x := by
  funext y
  obtain ⟨a, b, rfl⟩ : ∃ (a : Fin 1) (b : Fin 128), y = ix2 a b := ⟨y 0, y 1, eq_ix2 y⟩
  unfold k0_pay11
  pointwise

theorem pay24_eq (x : Vec Ideal S1x128 .f32) : k0_pay24 x = x := by
  funext y
  obtain ⟨a, b, rfl⟩ : ∃ (a : Fin 1) (b : Fin 128), y = ix2 a b := ⟨y 0, y 1, eq_ix2 y⟩
  unfold k0_pay24
  pointwise

theorem q0_apply (a : FVec Ideal S256x1024 .bf16) (bd : FVec Ideal S128x128 .bf16) (w : FVec Ideal S1024x1024 .bf16) (nw : Vec Ideal S1x128 .f32) (y : Fin 256) (l : Fin 128) :
    k0_pay12 a bd w nw (ix2 y l) =
      pairNorm (fun i => k0_pay10 a w (ix2 y (laneCol 0 (by omega) i))) (fun i j => bd (ix2 i j)) (fun i => nw (ix2 0 i)) l * Ideal.ofBits FTy.f32 1040187392#32 := by
  unfold k0_pay12 k0_pay11
  simp only [laneCol_zero]
  pointwise
  rfl

theorem q128_apply (a : FVec Ideal S256x1024 .bf16) (bd : FVec Ideal S128x128 .bf16) (w : FVec Ideal S1024x1024 .bf16) (nw : Vec Ideal S1x128 .f32) (y : Fin 256) (l : Fin 128) :
    k0_pay13 a bd w nw (ix2 y l) =
      pairNorm (fun i => k0_pay10 a w (ix2 y (laneCol 128 (by omega) i))) (fun i j => bd (ix2 i j)) (fun i => nw (ix2 0 i)) l * Ideal.ofBits FTy.f32 1040187392#32 := by
  unfold k0_pay13 k0_pay11
  pointwise
  rfl

theorem q256_apply (a : FVec Ideal S256x1024 .bf16) (bd : FVec Ideal S128x128 .bf16) (w : FVec Ideal S1024x1024 .bf16) (nw : FVec Ideal S1x128 .f32) (y : Fin 256) (l : Fin 128) :
    k0_pay16 nw (k0_pay14 a w) (k0_pay15 a bd w) (ix2 y l) =
      pairNorm (fun i => k0_pay10 a w (ix2 y (laneCol 256 (by omega) i))) (fun i j => bd (ix2 i j)) (fun i => nw (ix2 0 i)) l * Ideal.ofBits FTy.f32 1040187392#32 := by
  unfold k0_pay16 k0_pay15 k0_pay14
  pointwise
  rfl

theorem q384_apply (bd : FVec Ideal S128x128 .bf16) (full : FVec Ideal S256x1024 .f32) (nw : FVec Ideal S1x128 .f32) (y : Fin 256) (l : Fin 128) :
    k0_pay17 bd full nw (ix2 y l) =
      pairNorm (fun i => full (ix2 y (laneCol 384 (by omega) i))) (fun i j => bd (ix2 i j)) (fun i => nw (ix2 0 i)) l * Ideal.ofBits FTy.f32 1040187392#32 := by
  unfold k0_pay17
  pointwise
  rfl

theorem q512_apply (bd : FVec Ideal S128x128 .bf16) (full : FVec Ideal S256x1024 .f32) (nw : FVec Ideal S1x128 .f32) (y : Fin 256) (l : Fin 128) :
    k0_pay18 bd full nw (ix2 y l) =
      pairNorm (fun i => full (ix2 y (laneCol 512 (by omega) i))) (fun i j => bd (ix2 i j)) (fun i => nw (ix2 0 i)) l * Ideal.ofBits FTy.f32 1040187392#32 := by
  unfold k0_pay18
  pointwise
  rfl

theorem q640_apply (bd : FVec Ideal S128x128 .bf16) (full : FVec Ideal S256x1024 .f32) (nw : FVec Ideal S1x128 .f32) (y : Fin 256) (l : Fin 128) :
    k0_pay19 bd full nw (ix2 y l) =
      pairNorm (fun i => full (ix2 y (laneCol 640 (by omega) i))) (fun i j => bd (ix2 i j)) (fun i => nw (ix2 0 i)) l * Ideal.ofBits FTy.f32 1040187392#32 := by
  unfold k0_pay19
  pointwise
  rfl

theorem q768_apply (bd : FVec Ideal S128x128 .bf16) (full : FVec Ideal S256x1024 .f32) (nw : FVec Ideal S1x128 .f32) (y : Fin 256) (l : Fin 128) :
    k0_pay20 bd full nw (ix2 y l) =
      pairNorm (fun i => full (ix2 y (laneCol 768 (by omega) i))) (fun i j => bd (ix2 i j)) (fun i => nw (ix2 0 i)) l * Ideal.ofBits FTy.f32 1040187392#32 := by
  unfold k0_pay20
  pointwise
  rfl

theorem q896_apply (bd : FVec Ideal S128x128 .bf16) (full : FVec Ideal S256x1024 .f32) (nw : FVec Ideal S1x128 .f32) (y : Fin 256) (l : Fin 128) :
    k0_pay22 nw (k0_pay21 bd full) (ix2 y l) =
      pairNorm (fun i => full (ix2 y (laneCol 896 (by omega) i))) (fun i j => bd (ix2 i j)) (fun i => nw (ix2 0 i)) l * Ideal.ofBits FTy.f32 1040187392#32 := by
  unfold k0_pay22 k0_pay21
  pointwise
  rfl

theorem k0_apply (a : FVec Ideal S256x1024 .bf16) (bd : FVec Ideal S128x128 .bf16) (w : Vec Ideal S1024x1024 .bf16) (nw : Vec Ideal S1x128 .f32) (y : Fin 256) (l : Fin 128) :
    k0_pay25 a bd w nw (ix2 y l) =
      pairNorm (fun i => k0_pay23 a w (ix2 y (laneCol 0 (by omega) i))) (fun i j => bd (ix2 i j)) (fun i => nw (ix2 0 i)) l := by
  unfold k0_pay25 k0_pay24
  simp only [laneCol_zero]
  pointwise
  rfl

theorem k128_apply (a : FVec Ideal S256x1024 .bf16) (bd : FVec Ideal S128x128 .bf16) (w : Vec Ideal S1024x1024 .bf16) (nw : Vec Ideal S1x128 .f32) (y : Fin 256) (l : Fin 128) :
    k0_pay28 (k0_pay26 a bd w nw) (k0_pay27 (F := Ideal)) (ix2 y l) =
      pairNorm (fun i => k0_pay23 a w (ix2 y (laneCol 128 (by omega) i))) (fun i j => bd (ix2 i j)) (fun i => nw (ix2 0 i)) l := by
  unfold k0_pay28 k0_pay26 k0_pay27 k0_pay24
  pointwise
  rfl

theorem k256_apply (bd : FVec Ideal S128x128 .bf16) (full : FVec Ideal S256x1024 .f32) (nw : FVec Ideal S1x128 .f32) (y : Fin 256) (l : Fin 128) :
    k0_pay29 bd full nw (ix2 y l) =
      pairNorm (fun i => full (ix2 y (laneCol 256 (by omega) i))) (fun i j => bd (ix2 i j)) (fun i => nw (ix2 0 i)) l := by
  unfold k0_pay29
  pointwise
  rfl

theorem k384_apply (bd : FVec Ideal S128x128 .bf16) (full : FVec Ideal S256x1024 .f32) (nw : FVec Ideal S1x128 .f32) (y : Fin 256) (l : Fin 128) :
    k0_pay30 bd full nw (ix2 y l) =
      pairNorm (fun i => full (ix2 y (laneCol 384 (by omega) i))) (fun i j => bd (ix2 i j)) (fun i => nw (ix2 0 i)) l := by
  unfold k0_pay30
  pointwise
  rfl

theorem k512_apply (bd : FVec Ideal S128x128 .bf16) (full : FVec Ideal S256x1024 .f32) (nw : FVec Ideal S1x128 .f32) (y : Fin 256) (l : Fin 128) :
    k0_pay33 nw (k0_pay31 full) (k0_pay32 bd full) (ix2 y l) =
      pairNorm (fun i => full (ix2 y (laneCol 512 (by omega) i))) (fun i j => bd (ix2 i j)) (fun i => nw (ix2 0 i)) l := by
  unfold k0_pay33 k0_pay32 k0_pay31
  pointwise
  rfl

theorem k640_apply (bd : FVec Ideal S128x128 .bf16) (full : FVec Ideal S256x1024 .f32) (nw : FVec Ideal S1x128 .f32) (y : Fin 256) (l : Fin 128) :
    k0_pay34 bd full nw (ix2 y l) =
      pairNorm (fun i => full (ix2 y (laneCol 640 (by omega) i))) (fun i j => bd (ix2 i j)) (fun i => nw (ix2 0 i)) l := by
  unfold k0_pay34
  pointwise
  rfl

theorem k768_apply (bd : FVec Ideal S128x128 .bf16) (full : FVec Ideal S256x1024 .f32) (nw : FVec Ideal S1x128 .f32) (y : Fin 256) (l : Fin 128) :
    k0_pay35 bd full nw (ix2 y l) =
      pairNorm (fun i => full (ix2 y (laneCol 768 (by omega) i))) (fun i j => bd (ix2 i j)) (fun i => nw (ix2 0 i)) l := by
  unfold k0_pay35
  pointwise
  rfl

theorem k896_apply (bd : FVec Ideal S128x128 .bf16) (full : FVec Ideal S256x1024 .f32) (nw : FVec Ideal S1x128 .f32) (y : Fin 256) (l : Fin 128) :
    k0_pay1 bd full nw (ix2 y l) =
      pairNorm (fun i => full (ix2 y (laneCol 896 (by omega) i))) (fun i j => bd (ix2 i j)) (fun i => nw (ix2 0 i)) l := by
  unfold k0_pay1
  pointwise
  rfl

end Cert.ProjCtx

end
-- ==== Proof.ProjCtxBlocks.lean ====
/- What one grid point of the context's input projection leaves in each of its outputs, from the blocks it reads. -/
module

public import proofs.«01_k».proof.Proof.ProjCtxParts

@[expose] public section

set_option maxRecDepth 16384

noncomputable section

namespace Cert.ProjCtx

open Idealize.ShloMosaic Idealize.ShloMosaic.TcCoe Idealize.SL.Sem Cert.Kernel9Ideal Cert.Kernel9Ideal.Gen
open Cert.Proj (tokenNorm pairNorm laneCol laneCol_zero headNorm sameHead sum_head pairNorm_eq headWord headBit softplusOf)

theorem ld0 {e : EltTy} (x : Vec Ideal S1x6x1024 e) : View.ld x r0_0 = x :=
  View.ld_unit_lit _ x (by intro a; fin_cases a <;> rfl)

theorem ld1 {e : EltTy} (x : Vec Ideal S256x1024 e) : View.ld x r0_1 = x :=
  View.ld_unit_lit _ x (by intro a; fin_cases a <;> rfl)

theorem ld2 {e : EltTy} (x : Vec Ideal S1x1024 e) : View.ld x r0_2 = x :=
  View.ld_unit_lit _ x (by intro a; fin_cases a <;> rfl)

theorem ld3 {e : EltTy} (x : Vec Ideal S1024x2048 e) : View.ld x r0_3 = x :=
  View.ld_unit_lit _ x (by intro a; fin_cases a <;> rfl)

theorem ld5 {e : EltTy} (x : Vec Ideal S1024x1024 e) : View.ld x r0_5 = x :=
  View.ld_unit_lit _ x (by intro a; fin_cases a <;> rfl)

theorem ld6 {e : EltTy} (x : Vec Ideal S1024x1536 e) : View.ld x r0_6 = x :=
  View.ld_unit_lit _ x (by intro a; fin_cases a <;> rfl)

theorem ld8 {e : EltTy} (x : Vec Ideal S1024x256 e) : View.ld x r0_8 = x :=
  View.ld_unit_lit _ x (by intro a; fin_cases a <;> rfl)

theorem ld9 {e : EltTy} (x : Vec Ideal S1x256 e) : View.ld x r0_9 = x :=
  View.ld_unit_lit _ x (by intro a; fin_cases a <;> rfl)

theorem ld11 {e : EltTy} (x : Vec Ideal S128x128 e) : View.ld x r0_11 = x :=
  View.ld_unit_lit _ x (by intro a; fin_cases a <;> rfl)

theorem ld12 {e : EltTy} (x : Vec Ideal S1x128 e) : View.ld x r0_12 = x :=
  View.ld_unit_lit _ x (by intro a; fin_cases a <;> rfl)

variable (x0 : Vec Ideal S256x1024 .f32) (x1 : Vec Ideal S1x6x1024 .f32) (x2 : Vec Ideal S1x1024 .f32) (x3 : Vec Ideal S1024x2048 .bf16)
  (x4 : Vec Ideal S1024x1024 .bf16) (x5 : Vec Ideal S1024x1536 .bf16) (x6 : Vec Ideal S1024x256 .bf16) (x7 x8 x9 : Vec Ideal S1024x1024 .bf16)
  (x10 : Vec Ideal S128x128 .bf16) (x11 x12 : Vec Ideal S1x128 .f32) (x13 : Vec Ideal S1x256 .f32)

theorem out14_eq : out0_14 x0 x1 x2 x3 x4 x5 x6 x7 x8 x9 x10 x11 x12 x13 = k0_pay3 x1 x0 x2 x3 := by
  unfold_out out0_14
  refine (View.canon_unit_zero (funext fun a => by fin_cases a <;> rfl) _ _).trans ?_
  simp only [ld0, ld1, ld2, ld3, ld5, ld6, ld8, ld9]

theorem out15_eq : out0_15 x0 x1 x2 x3 x4 x5 x6 x7 x8 x9 x10 x11 x12 x13 = k0_pay4 x1 x0 x2 x4 := by
  unfold_out out0_15
  refine (View.canon_unit_zero (funext fun a => by fin_cases a <;> rfl) _ _).trans ?_
  simp only [ld0, ld1, ld2, ld3, ld5, ld6, ld8, ld9]

theorem out16_eq : out0_16 x0 x1 x2 x3 x4 x5 x6 x7 x8 x9 x10 x11 x12 x13 = k0_pay5 (k0_pay2 x1 x0 x2) x5 := by
  unfold_out out0_16
  refine (View.canon_unit_zero (funext fun a => by fin_cases a <;> rfl) _ _).trans ?_
  simp only [ld0, ld1, ld2, ld3, ld5, ld6, ld8, ld9]

theorem out17_eq : out0_17 x0 x1 x2 x3 x4 x5 x6 x7 x8 x9 x10 x11 x12 x13 = k0_pay7 (k0_pay2 x1 x0 x2) x6 x13 := by
  unfold_out out0_17
  refine (View.canon_unit_zero (funext fun a => by fin_cases a <;> rfl) _ _).trans ?_
  simp only [ld0, ld1, ld2, ld3, ld5, ld6, ld8, ld9]

theorem out20_eq : out0_20 x0 x1 x2 x3 x4 x5 x6 x7 x8 x9 x10 x11 x12 x13 = k0_pay6 (k0_pay2 x1 x0 x2) x9 := by
  unfold_out out0_20
  refine (View.canon_unit_zero (funext fun a => by fin_cases a <;> rfl) _ _).trans ?_
  simp only [ld0, ld1, ld2, ld3, ld5, ld6, ld8, ld9]

/-- A column of the queries or keys of a block of 256 rows: its pair of heads normalised, then `g`. -/
def pairAt (g : EReal → EReal) (full : FVec Ideal S256x1024 .f32) (bd : FVec Ideal S128x128 .bf16) (nw : FVec Ideal S1x128 .f32)
    (y : S256x1024.Idx) : EReal :=
  g (pairNorm (fun i => full (ix2 (y 0) ⟨(y 1).val / 128 * 128 + i.val, by have h : (y 1).val < 1024 := (y 1).isLt; omega⟩)) (fun i j => bd (ix2 i j))
    (fun i => nw (ix2 0 i)) ⟨(y 1).val % 128, Nat.mod_lt _ (by omega)⟩)

/-- The piece of columns `o` to `o + 128`. -/
theorem pair_tile (g : EReal → EReal) (full : FVec Ideal S256x1024 .f32) (bd : FVec Ideal S128x128 .bf16) (nw : FVec Ideal S1x128 .f32)
    (o : ℕ) (ho : o ≤ 896) (hd : o % 128 = 0) (P : (⟨2, ![256, 128]⟩ : Shape).Idx → EReal)
    (hP : ∀ (y : Fin 256) (l : Fin 128), P (ix2 y l) = g (pairNorm (fun i => full (ix2 y (laneCol o ho i))) (fun i j => bd (ix2 i j))
      (fun i => nw (ix2 0 i)) l))
    (y : S256x1024.Idx) :
    View.TileAt (Val := Elt Ideal) (e := .bf16) (S := S256x1024) y ![0, o] ![256, 128] P (pairAt g full bd nw y) := by
  intro x hx
  obtain ⟨a, b, rfl⟩ : ∃ (a : Fin 256) (b : Fin 128), x = ix2 a b := ⟨x 0, x 1, eq_ix2 x⟩
  have h0 : (y 0).val = 0 + a.val := hx 0
  have h1 : (y 1).val = o + b.val := hx 1
  have e0 : y 0 = a := Fin.ext (by omega)
  refine (hP a b).trans ?_
  unfold pairAt
  rw [e0]
  have e1 : (⟨(y 1).val % 128, Nat.mod_lt _ (by omega)⟩ : Fin 128) = b := Fin.ext (by show (y 1).val % 128 = b.val; omega)
  rw [e1]
  refine congrArg g (congrFun (congrFun (congrFun (congrArg pairNorm (funext fun i => ?_)) _) _) _)
  refine congrArg (fun z => full (ix2 a z)) (Fin.ext ?_)
  show o + i.val = (y 1).val / 128 * 128 + i.val
  omega

theorem pair_cover {L : List (View.Piece (Elt Ideal) S256x1024 .bf16)} (o : ℕ) (inb) (w) (y : S256x1024.Idx)
    (hm : (⟨Rect.unit (s := S256x1024) ![0, o] ![256, 128] inb, w⟩ : View.Piece (Elt Ideal) S256x1024 .bf16) ∈ L)
    (h : o ≤ (y 1).val ∧ (y 1).val < o + 128) : ∃ p ∈ L, y ∈ p.1.set := by
  refine ⟨_, hm, (Rect.mem_set_unit (s := S256x1024) (off := ![0, o]) (size := ![256, 128]) (inb := inb)).mpr fun a => ?_⟩
  have h0 : (y 0).val < 256 := (y 0).isLt
  fin_cases a
  · show 0 ≤ (y 0).val ∧ (y 0).val < 0 + 256
    omega
  · exact h

/-- The block of the queries a point leaves. -/
theorem out18_eq : out0_18 x0 x1 x2 x3 x4 x5 x6 x7 x8 x9 x10 x11 x12 x13 =
    pairAt (· * Ideal.ofBits FTy.f32 1040187392#32) (k0_pay10 (k0_pay2 x1 x0 x2) x7) x10 x11 := by
  funext y
  unfold_out out0_18
  simp only [ld0, ld1, ld2, ld3, ld5, ld6, ld11, ld12, pay8_eq, pay9_eq, pay11_eq, pay24_eq]
  have h1 : (y 1).val < 1024 := (y 1).isLt
  refine View.canon_eq_of_allAt _ y _ ?_ ?_
  · rcases Nat.lt_or_ge (y 1).val 128 with h | h
    · exact pair_cover 0 _ _ y (.tail _ (.tail _ (.tail _ (.tail _ (.tail _ (.tail _ (.tail _ (.head _)))))))) ⟨by omega, by omega⟩
    rcases Nat.lt_or_ge (y 1).val 256 with h | h
    · exact pair_cover 128 _ _ y (.tail _ (.tail _ (.tail _ (.tail _ (.tail _ (.tail _ (.head _))))))) ⟨by omega, by omega⟩
    rcases Nat.lt_or_ge (y 1).val 384 with h | h
    · exact pair_cover 256 _ _ y (.tail _ (.tail _ (.tail _ (.tail _ (.tail _ (.head _)))))) ⟨by omega, by omega⟩
    rcases Nat.lt_or_ge (y 1).val 512 with h | h
    · exact pair_cover 384 _ _ y (.tail _ (.tail _ (.tail _ (.tail _ (.head _))))) ⟨by omega, by omega⟩
    rcases Nat.lt_or_ge (y 1).val 640 with h | h
    · exact pair_cover 512 _ _ y (.tail _ (.tail _ (.tail _ (.head _)))) ⟨by omega, by omega⟩
    rcases Nat.lt_or_ge (y 1).val 768 with h | h
    · exact pair_cover 640 _ _ y (.tail _ (.tail _ (.head _))) ⟨by omega, by omega⟩
    rcases Nat.lt_or_ge (y 1).val 896 with h | h
    · exact pair_cover 768 _ _ y (.tail _ (.head _)) ⟨by omega, by omega⟩
    · exact pair_cover 896 _ _ y (.head _) ⟨by omega, by omega⟩
  · refine View.allAt_cons_unit _ _ _ _ _ (pair_tile (· * Ideal.ofBits FTy.f32 1040187392#32) (k0_pay10 (k0_pay2 x1 x0 x2) x7) x10 x11 896 (by omega) (by omega) _
        (q896_apply _ _ _) y) ?_
    refine View.allAt_cons_unit _ _ _ _ _ (pair_tile (· * Ideal.ofBits FTy.f32 1040187392#32) (k0_pay10 (k0_pay2 x1 x0 x2) x7) x10 x11 768 (by omega) (by omega) _
        (q768_apply _ _ _) y) ?_
    refine View.allAt_cons_unit _ _ _ _ _ (pair_tile (· * Ideal.ofBits FTy.f32 1040187392#32) (k0_pay10 (k0_pay2 x1 x0 x2) x7) x10 x11 640 (by omega) (by omega) _
        (q640_apply _ _ _) y) ?_
    refine View.allAt_cons_unit _ _ _ _ _ (pair_tile (· * Ideal.ofBits FTy.f32 1040187392#32) (k0_pay10 (k0_pay2 x1 x0 x2) x7) x10 x11 512 (by omega) (by omega) _
        (q512_apply _ _ _) y) ?_
    refine View.allAt_cons_unit _ _ _ _ _ (pair_tile (· * Ideal.ofBits FTy.f32 1040187392#32) (k0_pay10 (k0_pay2 x1 x0 x2) x7) x10 x11 384 (by omega) (by omega) _
        (q384_apply _ _ _) y) ?_
    refine View.allAt_cons_unit _ _ _ _ _ (pair_tile (· * Ideal.ofBits FTy.f32 1040187392#32) (k0_pay10 (k0_pay2 x1 x0 x2) x7) x10 x11 256 (by omega) (by omega) _
        (q256_apply _ _ _ _) y) ?_
    refine View.allAt_cons_unit _ _ _ _ _ (pair_tile (· * Ideal.ofBits FTy.f32 1040187392#32) (k0_pay10 (k0_pay2 x1 x0 x2) x7) x10 x11 128 (by omega) (by omega) _
        (q128_apply _ _ _ _) y) ?_
    refine View.allAt_cons_unit _ _ _ _ _ (pair_tile (· * Ideal.ofBits FTy.f32 1040187392#32) (k0_pay10 (k0_pay2 x1 x0 x2) x7) x10 x11 0 (by omega) (by omega) _
        (q0_apply _ _ _ _) y) ?_
    exact View.allAt_nil _ _

/-- The block of the keys a point leaves. -/
theorem out19_eq : out0_19 x0 x1 x2 x3 x4 x5 x6 x7 x8 x9 x10 x11 x12 x13 =
    pairAt id (k0_pay23 (k0_pay2 x1 x0 x2) x8) x10 x12 := by
  funext y
  unfold_out out0_19
  simp only [ld0, ld1, ld2, ld3, ld5, ld6, ld11, ld12, pay8_eq, pay9_eq, pay11_eq, pay24_eq]
  have h1 : (y 1).val < 1024 := (y 1).isLt
  refine View.canon_eq_of_allAt _ y _ ?_ ?_
  · rcases Nat.lt_or_ge (y 1).val 128 with h | h
    · exact pair_cover 0 _ _ y (.tail _ (.tail _ (.tail _ (.tail _ (.tail _ (.tail _ (.tail _ (.head _)))))))) ⟨by omega, by omega⟩
    rcases Nat.lt_or_ge (y 1).val 256 with h | h
    · exact pair_cover 128 _ _ y (.tail _ (.tail _ (.tail _ (.tail _ (.tail _ (.tail _ (.head _))))))) ⟨by omega, by omega⟩
    rcases Nat.lt_or_ge (y 1).val 384 with h | h
    · exact pair_cover 256 _ _ y (.tail _ (.tail _ (.tail _ (.tail _ (.tail _ (.head _)))))) ⟨by omega, by omega⟩
    rcases Nat.lt_or_ge (y 1).val 512 with h | h
    · exact pair_cover 384 _ _ y (.tail _ (.tail _ (.tail _ (.tail _ (.head _))))) ⟨by omega, by omega⟩
    rcases Nat.lt_or_ge (y 1).val 640 with h | h
    · exact pair_cover 512 _ _ y (.tail _ (.tail _ (.tail _ (.head _)))) ⟨by omega, by omega⟩
    rcases Nat.lt_or_ge (y 1).val 768 with h | h
    · exact pair_cover 640 _ _ y (.tail _ (.tail _ (.head _))) ⟨by omega, by omega⟩
    rcases Nat.lt_or_ge (y 1).val 896 with h | h
    · exact pair_cover 768 _ _ y (.tail _ (.head _)) ⟨by omega, by omega⟩
    · exact pair_cover 896 _ _ y (.head _) ⟨by omega, by omega⟩
  · refine View.allAt_cons_unit _ _ _ _ _ (pair_tile id (k0_pay23 (k0_pay2 x1 x0 x2) x8) x10 x12 896 (by omega) (by omega) _
        (k896_apply _ _ _) y) ?_
    refine View.allAt_cons_unit _ _ _ _ _ (pair_tile id (k0_pay23 (k0_pay2 x1 x0 x2) x8) x10 x12 768 (by omega) (by omega) _
        (k768_apply _ _ _) y) ?_
    refine View.allAt_cons_unit _ _ _ _ _ (pair_tile id (k0_pay23 (k0_pay2 x1 x0 x2) x8) x10 x12 640 (by omega) (by omega) _
        (k640_apply _ _ _) y) ?_
    refine View.allAt_cons_unit _ _ _ _ _ (pair_tile id (k0_pay23 (k0_pay2 x1 x0 x2) x8) x10 x12 512 (by omega) (by omega) _
        (k512_apply _ _ _) y) ?_
    refine View.allAt_cons_unit _ _ _ _ _ (pair_tile id (k0_pay23 (k0_pay2 x1 x0 x2) x8) x10 x12 384 (by omega) (by omega) _
        (k384_apply _ _ _) y) ?_
    refine View.allAt_cons_unit _ _ _ _ _ (pair_tile id (k0_pay23 (k0_pay2 x1 x0 x2) x8) x10 x12 256 (by omega) (by omega) _
        (k256_apply _ _ _) y) ?_
    refine View.allAt_cons_unit _ _ _ _ _ (pair_tile id (k0_pay23 (k0_pay2 x1 x0 x2) x8) x10 x12 128 (by omega) (by omega) _
        (k128_apply _ _ _ _) y) ?_
    refine View.allAt_cons_unit _ _ _ _ _ (pair_tile id (k0_pay23 (k0_pay2 x1 x0 x2) x8) x10 x12 0 (by omega) (by omega) _
        (k0_apply _ _ _ _) y) ?_
    exact View.allAt_nil _ _

end Cert.ProjCtx

end
-- ==== Proof.ProjCtxRef.lean ====
/- The context's input projection's reference at an index: the normalised token, the projection, a head of the queries or
   keys, normalised, and the step sizes. -/
module

public import proofs.«01_k».proof.Proof.Gen.Reference9Ideal.Read
public import proofs.«01_k».proof.Proof.ProjStep

@[expose] public section

set_option maxRecDepth 16384

noncomputable section

namespace Cert.ProjCtx

open Idealize.ShloMosaic Idealize.ShloMosaic.TcCoe Idealize.SL.Sem Cert.Reference9Ideal Cert.Reference9Ideal.Gen Cert.Reference9Ideal.Read
open Cert.Proj (tokenNorm pairNorm laneCol laneCol_zero headNorm sameHead sum_head pairNorm_eq headWord headBit softplusOf)

variable (x0 : FVec Ideal S8x256x1024 .f32) (x1 : FVec Ideal S6144 .f32) (x2 : FVec Ideal S1024 .f32) (x3 : FVec Ideal S1024x7712 .f32)

theorem token_apply (b : Fin 8) (t : Fin 256) (e : Fin 1024) :
    val_main_v25 (F := Ideal) x0 x1 x2 (ix3 b t e) = tokenNorm (fun i => x0 (ix3 b t i)) (fun i => x2 (ix1 i))
      (fun i => x1 (ix1 ⟨1024 + i.val, by omega⟩)) (fun i => x1 (ix1 ⟨i.val, by omega⟩)) e := by
  unfold val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v2 val_main_v1 val_main_v0 val_main_cst_2 val_main_cst_1 val_main_cst_0 val_main_cst
  pointwise
  rfl

theorem v27_apply (b : Fin 8) (t : Fin 256) (l : Fin 2048) :
    val_main_v27 (F := Ideal) x0 x1 x2 x3 (ix3 b t l) = ∑ e : Fin 1024, val_main_v25 (F := Ideal) x0 x1 x2 (ix3 b t e) * x3 (ix2 e ⟨l.val, by omega⟩) := by
  unfold val_main_v27 val_main_v26
  pointwise

theorem v28_apply (b : Fin 8) (t : Fin 256) (l : Fin 1024) :
    val_main_v28 (F := Ideal) x0 x1 x2 x3 (ix3 b t l) = ∑ e : Fin 1024, val_main_v25 (F := Ideal) x0 x1 x2 (ix3 b t e) * x3 (ix2 e ⟨2048 + l.val, by omega⟩) := by
  unfold val_main_v28 val_main_v26
  pointwise

theorem v29_apply (b : Fin 8) (t : Fin 256) (l : Fin 1536) :
    val_main_v29 (F := Ideal) x0 x1 x2 x3 (ix3 b t l) = ∑ e : Fin 1024, val_main_v25 (F := Ideal) x0 x1 x2 (ix3 b t e) * x3 (ix2 e ⟨3072 + l.val, by omega⟩) := by
  unfold val_main_v29 val_main_v26
  pointwise

theorem v31_apply (b : Fin 8) (t : Fin 256) (l : Fin 1024) :
    val_main_v31 (F := Ideal) x0 x1 x2 x3 (ix3 b t l) = ∑ e : Fin 1024, val_main_v25 (F := Ideal) x0 x1 x2 (ix3 b t e) * x3 (ix2 e ⟨4640 + l.val, by omega⟩) := by
  unfold val_main_v31 val_main_v26
  pointwise

theorem v32_apply (b : Fin 8) (t : Fin 256) (l : Fin 1024) :
    val_main_v32 (F := Ideal) x0 x1 x2 x3 (ix3 b t l) = ∑ e : Fin 1024, val_main_v25 (F := Ideal) x0 x1 x2 (ix3 b t e) * x3 (ix2 e ⟨5664 + l.val, by omega⟩) := by
  unfold val_main_v32 val_main_v26
  pointwise

theorem v33_apply (b : Fin 8) (t : Fin 256) (l : Fin 1024) :
    val_main_v33 (F := Ideal) x0 x1 x2 x3 (ix3 b t l) = ∑ e : Fin 1024, val_main_v25 (F := Ideal) x0 x1 x2 (ix3 b t e) * x3 (ix2 e ⟨6688 + l.val, by omega⟩) := by
  unfold val_main_v33 val_main_v26
  pointwise

theorem qNorm_apply (x5 : FVec Ideal S64 .f32) (b : Fin 8) (t : Fin 256) (h : Fin 16) (d : Fin 64) :
    val_main_v47 (F := Ideal) x0 x1 x2 x3 x5 (ix4 b t h d) =
      headNorm (fun i => val_main_v31 (F := Ideal) x0 x1 x2 x3 (ix3 b t ⟨h.val * 64 + i.val, by omega⟩)) (fun i => x5 (ix1 i)) d := by
  unfold val_main_v47 val_main_v46 val_main_v45 val_main_v44 val_main_v43 val_main_v42 val_main_v41 val_main_v40 val_main_v39 val_main_v38 val_main_v37 val_main_v36 val_main_v35 val_main_v34 val_main_cst_3 val_main_cst_4 val_main_cst_5
  pointwise
  rfl

theorem kNorm_apply (x6 : FVec Ideal S64 .f32) (b : Fin 8) (t : Fin 256) (h : Fin 16) (d : Fin 64) :
    val_main_v63 (F := Ideal) x0 x1 x2 x3 x6 (ix4 b t h d) =
      headNorm (fun i => val_main_v32 (F := Ideal) x0 x1 x2 x3 (ix3 b t ⟨h.val * 64 + i.val, by omega⟩)) (fun i => x6 (ix1 i)) d := by
  unfold val_main_v63 val_main_v62 val_main_v61 val_main_v60 val_main_v59 val_main_v58 val_main_v57 val_main_v56 val_main_v55 val_main_v54 val_main_v53 val_main_v52 val_main_v51 val_main_v50 val_main_cst_7 val_main_cst_8 val_main_cst_9
  pointwise
  rfl

theorem v65_apply (R : Fin 2048) (C : Fin 2048) :
    val_main_v65 (F := Ideal) x0 x1 x2 x3 (ix2 R C) = val_main_v27 (F := Ideal) x0 x1 x2 x3 (ix3 ⟨R.val / 256, by omega⟩ ⟨R.val % 256, by omega⟩ C) := by
  unfold val_main_v65 val_main_v64
  pointwise

theorem v67_apply (R : Fin 2048) (C : Fin 1024) :
    val_main_v67 (F := Ideal) x0 x1 x2 x3 (ix2 R C) = val_main_v28 (F := Ideal) x0 x1 x2 x3 (ix3 ⟨R.val / 256, by omega⟩ ⟨R.val % 256, by omega⟩ C) := by
  unfold val_main_v67 val_main_v66
  pointwise

theorem v69_apply (R : Fin 2048) (C : Fin 1536) :
    val_main_v69 (F := Ideal) x0 x1 x2 x3 (ix2 R C) = val_main_v29 (F := Ideal) x0 x1 x2 x3 (ix3 ⟨R.val / 256, by omega⟩ ⟨R.val % 256, by omega⟩ C) := by
  unfold val_main_v69 val_main_v68
  pointwise

theorem v75_apply (R : Fin 2048) (C : Fin 1024) :
    val_main_v75 (F := Ideal) x0 x1 x2 x3 (ix2 R C) = val_main_v33 (F := Ideal) x0 x1 x2 x3 (ix3 ⟨R.val / 256, by omega⟩ ⟨R.val % 256, by omega⟩ C) := by
  unfold val_main_v75 val_main_v74
  pointwise

theorem v71_apply (x5 : FVec Ideal S64 .f32) (R : Fin 2048) (C : Fin 1024) :
    val_main_v71 (F := Ideal) x0 x1 x2 x3 x5 (ix2 R C) = val_main_v47 (F := Ideal) x0 x1 x2 x3 x5 (ix4 ⟨R.val / 256, by omega⟩ ⟨R.val % 256, by omega⟩ ⟨C.val / 64, by omega⟩ ⟨C.val % 64, by omega⟩) * Ideal.ofBits FTy.f32 1040187392#32 := by
  unfold val_main_v71 val_main_v70 val_main_v49 val_main_v48 val_main_cst_6
  pointwise

theorem v73_apply (x6 : FVec Ideal S64 .f32) (R : Fin 2048) (C : Fin 1024) :
    val_main_v73 (F := Ideal) x0 x1 x2 x3 x6 (ix2 R C) = val_main_v63 (F := Ideal) x0 x1 x2 x3 x6 (ix4 ⟨R.val / 256, by omega⟩ ⟨R.val % 256, by omega⟩ ⟨C.val / 64, by omega⟩ ⟨C.val % 64, by omega⟩) := by
  unfold val_main_v73 val_main_v72
  pointwise

theorem v80_apply (x4 : FVec Ideal S2x16 .f32) (b : Fin 8) (t : Fin 256) (d : Fin 2) (h : Fin 16) :
    val_main_v80 (F := Ideal) x0 x1 x2 x3 x4 (ix4 b t d h)
      = (∑ e : Fin 1024, val_main_v25 (F := Ideal) x0 x1 x2 (ix3 b t e) * x3 (ix2 e ⟨4608 + (d.val * 16 + h.val), by omega⟩)) + x4 (ix2 d h) := by
  unfold val_main_v80 val_main_v79 val_main_v78 val_main_v77 val_main_v76 val_main_v30 val_main_v26
  pointwise

theorem v83_apply (x4 : FVec Ideal S2x16 .f32) (R : Fin 2048) (l : Fin 256) :
    val_main_v83 (F := Ideal) x0 x1 x2 x3 x4 (ix2 R l)
      = softplusOf (if h : l.val % 128 < 16 then
          val_main_v80 (F := Ideal) x0 x1 x2 x3 x4 (ix4 ⟨R.val / 256, by omega⟩ ⟨R.val % 256, by omega⟩ ⟨l.val / 128, by omega⟩ ⟨l.val % 128, h⟩)
        else 0) := by
  unfold val_main_v83 val_main_v82 val_main_call1_v11 val_main_call1_v10 val_main_call1_v9 val_main_call1_v8 val_main_call1_v7 val_main_call1_v6 val_main_call1_v5
    val_main_call1_v4 val_main_call1_v3 val_main_call1_v2 val_main_call1_v1 val_main_call1_v0 val_main_call1_cst val_main_v81 val_main_call0_v0 val_main_c
  pointwise
  rw [if_neg fun h => h rfl]
  by_cases h : l.val % 128 < 16
  · have hc : R.val / 256 < 8 ∧ R.val % 256 < 256 ∧ l.val / 128 < 2 ∧ l.val % 128 < 16 := ⟨by omega, by omega, by omega, h⟩
    simp only [dif_pos hc, dif_pos h]
    rfl
  · have hc : ¬(R.val / 256 < 8 ∧ R.val % 256 < 256 ∧ l.val / 128 < 2 ∧ l.val % 128 < 16) := fun hh => h hh.2.2.2
    have hz : (FloatOps.sitofp .f32 0#32 : Ideal .f32) = 0 := by
      show (((0#32).toInt : ℝ) : EReal) = 0
      simp
    simp only [dif_neg hc, dif_neg h, hz]
    rfl

end Cert.ProjCtx

end
-- ==== Proof.ProjCtxReads.lean ====
/- The arrays the context's input projection reads, and the blocks of them a grid point sees. -/
module

public import proofs.«01_k».proof.Proof.ProjCtxBlocks
public import proofs.«01_k».proof.Proof.ProjCtxRef
public import proofs.«01_k».proof.Proof.Gen.Kernel9Ideal.Value
public import Idealize.ShloMosaic.Lib.Pipeline.Covers
public import Idealize.ShloMosaic.Lib.Claim

@[expose] public section

set_option maxRecDepth 16384

noncomputable section

namespace Cert.ProjCtx

open Idealize.ShloMosaic Idealize.ShloMosaic.TcCoe Idealize.SL.Sem Cert.Kernel9Ideal Cert.Kernel9Ideal.Gen
open Cert.Proj (tokenNorm pairNorm laneCol laneCol_zero headNorm sameHead sum_head pairNorm_eq headWord headBit softplusOf)

theorem index0 : ∀ t : Fin grid0.N, win0_0.index t = ![t.val, 0] := by decide +kernel
theorem index1 : ∀ t : Fin grid0.N, win0_1.index t = ![8, 0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![0, 0] := by decide +kernel
theorem index14 : ∀ t : Fin grid0.N, win0_14.index t = ![t.val, 0] := by decide +kernel
theorem index15 : ∀ t : Fin grid0.N, win0_15.index t = ![t.val, 0] := by decide +kernel
theorem index16 : ∀ t : Fin grid0.N, win0_16.index t = ![t.val, 0] := by decide +kernel
theorem index17 : ∀ t : Fin grid0.N, win0_17.index t = ![t.val, 0] := by decide +kernel
theorem index18 : ∀ t : Fin grid0.N, win0_18.index t = ![t.val, 0] := by decide +kernel
theorem index19 : ∀ t : Fin grid0.N, win0_19.index t = ![t.val, 0] := by decide +kernel
theorem index20 : ∀ t : Fin grid0.N, win0_20.index t = ![t.val, 0] := by decide +kernel

theorem point_lt (t : Fin grid0.N) : t.val < 8 := lt_of_lt_of_eq t.isLt N_0

variable (m : (ℓ : Loc nD τ sig) → Buf (Elt Ideal) ℓ) (c : Dev nD)

/-- The context's tokens, the modulation, the norm's weight, the projection, the step sizes' bias and the weights of the two
    norms of a head. -/
def argH : FVec Ideal S8x256x1024 .f32 := m ((c : Thread nD τ).loc main_arg0)
@[inherit_doc argH] def argM : FVec Ideal S6144 .f32 := m ((c : Thread nD τ).loc main_arg1)
@[inherit_doc argH] def argN : FVec Ideal S1024 .f32 := m ((c : Thread nD τ).loc main_arg2)
@[inherit_doc argH] def argP : FVec Ideal S1024x7712 .f32 := m ((c : Thread nD τ).loc main_arg3)
@[inherit_doc argH] def argB : FVec Ideal S2x16 .f32 := m ((c : Thread nD τ).loc main_arg4)
@[inherit_doc argH] def argQ : FVec Ideal S64 .f32 := m ((c : Thread nD τ).loc main_arg5)
@[inherit_doc argH] def argK : FVec Ideal S64 .f32 := m ((c : Thread nD τ).loc main_arg6)

/-- The arrays the call's windows read. -/
def prepH : FVec Ideal S2048x1024 .f32 := V m c main_v5
@[inherit_doc prepH] def prepM : FVec Ideal S16x6x1024 .f32 := V m c main_v4
@[inherit_doc prepH] def prepN : FVec Ideal S1x1024 .f32 := V m c main_v6
@[inherit_doc prepH] def prepG : FVec Ideal S1024x2048 .bf16 := V m c main_v42
@[inherit_doc prepH] def prepZ : FVec Ideal S1024x1024 .bf16 := V m c main_v43
@[inherit_doc prepH] def prepX : FVec Ideal S1024x1536 .bf16 := V m c main_v44
@[inherit_doc prepH] def prepWd : FVec Ideal S1024x256 .bf16 := V m c main_v45
@[inherit_doc prepH] def prepWq : FVec Ideal S1024x1024 .bf16 := V m c main_v46
@[inherit_doc prepH] def prepWk : FVec Ideal S1024x1024 .bf16 := V m c main_v47
@[inherit_doc prepH] def prepWv : FVec Ideal S1024x1024 .bf16 := V m c main_v48
@[inherit_doc prepH] def prepBd : FVec Ideal S128x128 .bf16 := V m c main_v33
@[inherit_doc prepH] def prepNq : FVec Ideal S1x128 .f32 := V m c main_v37
@[inherit_doc prepH] def prepNk : FVec Ideal S1x128 .f32 := V m c main_v41
@[inherit_doc prepH] def prepB : FVec Ideal S1x256 .f32 := V m c main_v24

theorem prepH_apply (R : Fin 2048) (C : Fin 1024) :
    prepH m c (ix2 R C) = argH m c (ix3 ⟨R.val / 256, by omega⟩ ⟨R.val % 256, by omega⟩ C) := by
  unfold prepH argH V
  simp only [List.flatten_cons, List.flatten_nil, List.append_nil, List.cons_append, List.nil_append]
  after_results
  pointwise

theorem prepM0_apply (C : Fin 1024) : prepM m c (ix3 8 0 C) = argM m c (ix1 ⟨C.val, by omega⟩) := by
  unfold prepM argM V
  simp only [List.flatten_cons, List.flatten_nil, List.append_nil, List.cons_append, List.nil_append]
  after_results
  pointwise
  simp only [↓ StableHlo.readResult]
  pointwise

theorem prepM1_apply (C : Fin 1024) : prepM m c (ix3 8 1 C) = argM m c (ix1 ⟨1024 + C.val, by omega⟩) := by
  unfold prepM argM V
  simp only [List.flatten_cons, List.flatten_nil, List.append_nil, List.cons_append, List.nil_append]
  after_results
  pointwise
  simp only [↓ StableHlo.readResult]
  pointwise

theorem prepN_apply (C : Fin 1024) : prepN m c (ix2 0 C) = argN m c (ix1 C) := by
  unfold prepN argN V
  simp only [List.flatten_cons, List.flatten_nil, List.append_nil, List.cons_append, List.nil_append]
  after_results
  pointwise

theorem prepG_apply (e : Fin 1024) (l : Fin 2048) : prepG m c (ix2 e l) = argP m c (ix2 e ⟨l.val, by omega⟩) := by
  unfold prepG argP V
  simp only [List.flatten_cons, List.flatten_nil, List.append_nil, List.cons_append, List.nil_append]
  after_results
  pointwise

theorem prepZ_apply (e : Fin 1024) (l : Fin 1024) : prepZ m c (ix2 e l) = argP m c (ix2 e ⟨2048 + l.val, by omega⟩) := by
  unfold prepZ argP V
  simp only [List.flatten_cons, List.flatten_nil, List.append_nil, List.cons_append, List.nil_append]
  after_results
  pointwise

theorem prepX_apply (e : Fin 1024) (l : Fin 1536) : prepX m c (ix2 e l) = argP m c (ix2 e ⟨3072 + l.val, by omega⟩) := by
  unfold prepX argP V
  simp only [List.flatten_cons, List.flatten_nil, List.append_nil, List.cons_append, List.nil_append]
  after_results
  pointwise

theorem prepWq_apply (e : Fin 1024) (l : Fin 1024) : prepWq m c (ix2 e l) = argP m c (ix2 e ⟨4640 + l.val, by omega⟩) := by
  unfold prepWq argP V
  simp only [List.flatten_cons, List.flatten_nil, List.append_nil, List.cons_append, List.nil_append]
  after_results
  pointwise

theorem prepWk_apply (e : Fin 1024) (l : Fin 1024) : prepWk m c (ix2 e l) = argP m c (ix2 e ⟨5664 + l.val, by omega⟩) := by
  unfold prepWk argP V
  simp only [List.flatten_cons, List.flatten_nil, List.append_nil, List.cons_append, List.nil_append]
  after_results
  pointwise

theorem prepWv_apply (e : Fin 1024) (l : Fin 1024) : prepWv m c (ix2 e l) = argP m c (ix2 e ⟨6688 + l.val, by omega⟩) := by
  unfold prepWv argP V
  simp only [List.flatten_cons, List.flatten_nil, List.append_nil, List.cons_append, List.nil_append]
  after_results
  pointwise

theorem prepNq_apply (l : Fin 128) : prepNq m c (ix2 0 l) = argQ m c (ix1 ⟨l.val % 64, by omega⟩) := by
  unfold prepNq argQ V
  simp only [List.flatten_cons, List.flatten_nil, List.append_nil, List.cons_append, List.nil_append]
  after_results
  pointwise

theorem prepNk_apply (l : Fin 128) : prepNk m c (ix2 0 l) = argK m c (ix1 ⟨l.val % 64, by omega⟩) := by
  unfold prepNk argK V
  simp only [List.flatten_cons, List.flatten_nil, List.append_nil, List.cons_append, List.nil_append]
  after_results
  pointwise

/-- The word of a lane's head. -/
theorem prepBd_apply (i l : Fin 128) : prepBd m c (ix2 i l) = sameHead i l := by
  unfold prepBd V
  simp only [List.flatten_cons, List.flatten_nil, List.append_nil, List.cons_append, List.nil_append]
  after_results
  simp only [StableHlo.TRef.ofBuf_toBuf]
  simp only [StableHlo.TRef.ofBuf, StableHlo.TRef.toBuf, cast_eq, id_eq]
  pointwise
  refine (congrArg₂ (fun a b => FloatOps.uitofp FTy.bf16 (IntOp.cmpi CmpIPredicate.eq a b)) (headWord i) (headWord l)).trans ?_
  exact headBit i l

set_option maxHeartbeats 1000000 in
theorem prepWd_apply (e : Fin 1024) (l : Fin 256) :
    prepWd m c (ix2 e l) = if h : l.val % 128 < 16 then argP m c (ix2 e ⟨4608 + (l.val / 128 * 16 + l.val % 128), by omega⟩) else 0 := by
  unfold prepWd argP V
  simp only [List.flatten_cons, List.flatten_nil, List.append_nil, List.cons_append, List.nil_append]
  after_results
  pointwise
  split_ifs <;> first | (exfalso; omega) | skip
  all_goals simp only [↓ StableHlo.readResult]
  all_goals pointwise
  all_goals first
    | (rw [dif_neg (by omega)]; done)
    | (rw [dif_pos (by omega)]
       refine congrArg (m (c, Proc.tc.devRef main_arg3)) (congrArg₂ ix2 (Fin.ext ?_) (Fin.ext ?_)) <;> first | rfl | (show _ = _; dsimp only; omega))
    | skip

set_option maxHeartbeats 1000000 in
theorem prepB_apply (l : Fin 256) :
    prepB m c (ix2 0 l) = if h : l.val % 128 < 16 then argB m c (ix2 ⟨l.val / 128, by omega⟩ ⟨l.val % 128, h⟩) else 0 := by
  unfold prepB argB V
  simp only [List.flatten_cons, List.flatten_nil, List.append_nil, List.cons_append, List.nil_append]
  after_results
  pointwise
  split_ifs <;> first | (exfalso; omega) | skip
  all_goals simp only [↓ StableHlo.readResult]
  all_goals pointwise
  all_goals first
    | (rw [dif_neg (by omega)]; done)
    | (rw [dif_pos (by omega)]
       exact congrArg (m (c, Proc.tc.devRef main_arg4)) (congrArg₂ ix2 (Fin.ext (show 0 = l.val / 128 by omega)) (Fin.ext (show l.val = l.val % 128 by omega))))
    | (rw [dif_pos (by omega)]
       exact congrArg (m (c, Proc.tc.devRef main_arg4)) (congrArg₂ ix2 (Fin.ext (show 1 = l.val / 128 by omega)) (Fin.ext (show l.val - 16 - 112 = l.val % 128 by omega))))
    | skip

theorem blk0_apply (t : Fin grid0.N) (y : Fin 256) (e : Fin 1024) (R : Fin 2048) (hR : R.val = t.val * 256 + y.val) :
    iblk m c 0 t (ix2 y e) = V m c main_v5 (ix2 R e) := by
  blk_ext [iblk, index0 t]

theorem blk1_apply (t : Fin grid0.N) (k : Fin 6) (e : Fin 1024) (b : Fin 16) (hb : b.val = 8) :
    iblk m c 1 t (ix3 0 k e) = V m c main_v4 (ix3 b k e) := by
  blk_ext [iblk, index1 t]

theorem blk3_apply (t : Fin grid0.N) (e : Fin 1024) (l : Fin 2048) : iblk m c 3 t (ix2 e l) = V m c main_v42 (ix2 e l) := by
  blk_ext [iblk, index3 t]

theorem blk4_apply (t : Fin grid0.N) (e : Fin 1024) (l : Fin 1024) : iblk m c 4 t (ix2 e l) = V m c main_v43 (ix2 e l) := by
  blk_ext [iblk, index4 t]

theorem blk5_apply (t : Fin grid0.N) (e : Fin 1024) (l : Fin 1536) : iblk m c 5 t (ix2 e l) = V m c main_v44 (ix2 e l) := by
  blk_ext [iblk, index5 t]

theorem blk6_apply (t : Fin grid0.N) (e : Fin 1024) (l : Fin 256) : iblk m c 6 t (ix2 e l) = V m c main_v45 (ix2 e l) := by
  blk_ext [iblk, index6 t]

theorem blk7_apply (t : Fin grid0.N) (e : Fin 1024) (l : Fin 1024) : iblk m c 7 t (ix2 e l) = V m c main_v46 (ix2 e l) := by
  blk_ext [iblk, index7 t]

theorem blk8_apply (t : Fin grid0.N) (e : Fin 1024) (l : Fin 1024) : iblk m c 8 t (ix2 e l) = V m c main_v47 (ix2 e l) := by
  blk_ext [iblk, index8 t]

theorem blk9_apply (t : Fin grid0.N) (e : Fin 1024) (l : Fin 1024) : iblk m c 9 t (ix2 e l) = V m c main_v48 (ix2 e l) := by
  blk_ext [iblk, index9 t]

theorem blk10_apply (t : Fin grid0.N) (e l : Fin 128) : iblk m c 10 t (ix2 e l) = V m c main_v33 (ix2 e l) := by
  blk_ext [iblk, index10 t]

theorem blk2_apply (t : Fin grid0.N) (l : Fin 1024) : iblk m c 2 t (ix2 0 l) = V m c main_v6 (ix2 0 l) := by
  blk_ext [iblk, index2 t]

theorem blk11_apply (t : Fin grid0.N) (l : Fin 128) : iblk m c 11 t (ix2 0 l) = V m c main_v37 (ix2 0 l) := by
  blk_ext [iblk, index11 t]

theorem blk12_apply (t : Fin grid0.N) (l : Fin 128) : iblk m c 12 t (ix2 0 l) = V m c main_v41 (ix2 0 l) := by
  blk_ext [iblk, index12 t]

theorem blk13_apply (t : Fin grid0.N) (l : Fin 256) : iblk m c 13 t (ix2 0 l) = V m c main_v24 (ix2 0 l) := by
  blk_ext [iblk, index13 t]

end Cert.ProjCtx

end
-- ==== Proof.ProjCtxArray.lean ====
/- The arrays the context's input projection returns are the reference's. -/
module

public import proofs.«01_k».proof.Proof.ProjCtxReads

@[expose] public section

set_option maxRecDepth 16384

noncomputable section

namespace Cert.ProjCtx

open Idealize.ShloMosaic Idealize.ShloMosaic.TcCoe Idealize.SL.Sem Cert.Kernel9Ideal Cert.Kernel9Ideal.Gen
open Cert.Proj (tokenNorm pairNorm laneCol laneCol_zero headNorm sameHead sum_head pairNorm_eq headWord headBit softplusOf)
open Cert.Reference9Ideal.Read (val_main_v25 val_main_v27 val_main_v28 val_main_v29 val_main_v31 val_main_v32 val_main_v33 val_main_v65 val_main_v67
  val_main_v69 val_main_v71 val_main_v73 val_main_v75 val_main_v80 val_main_v83)

theorem pairNorm_congr {u u' : Fin 128 → EReal} {bd bd' : Fin 128 → Fin 128 → EReal} {nw nw' : Fin 128 → EReal} (l : Fin 128)
    (hu : ∀ i, u i = u' i) (hb : ∀ i j, bd i j = bd' i j) (hn : ∀ i, nw i = nw' i) : pairNorm u bd nw l = pairNorm u' bd' nw' l := by
  obtain rfl : u = u' := funext hu
  obtain rfl : bd = bd' := funext fun i => funext (hb i)
  obtain rfl : nw = nw' := funext hn
  rfl

/-- A column of the queries or keys: its lane of the pair of heads is its place in its own head. -/
theorem pairCol_eq (u : Fin 1024 → EReal) (w : Fin 64 → EReal) (C : Fin 1024) :
    pairNorm (fun i => u ⟨C.val / 128 * 128 + i.val, by omega⟩) sameHead (fun i => w ⟨i.val % 64, Nat.mod_lt _ (by omega)⟩)
        ⟨C.val % 128, Nat.mod_lt _ (by omega)⟩
      = headNorm (fun i => u ⟨C.val / 64 * 64 + i.val, by omega⟩) w ⟨C.val % 64, Nat.mod_lt _ (by omega)⟩ := by
  have hC : C.val < 1024 := C.isLt
  rw [pairNorm_eq]
  refine congr (congrFun (congrArg headNorm (funext fun k => congrArg u (Fin.ext ?_))) w) (Fin.ext ?_)
  · show C.val / 128 * 128 + (C.val % 128 / 64 * 64 + k.val) = C.val / 64 * 64 + k.val
    omega
  · show C.val % 128 % 64 = C.val % 64
    omega

theorem pay7_apply (a : FVec Ideal S256x1024 .bf16) (w : Vec Ideal S1024x256 .bf16) (b : Vec Ideal S1x256 .f32) (y : Fin 256) (l : Fin 256) :
    k0_pay7 a w b (ix2 y l)
      = max ((∑ e, a (ix2 y e) * w (ix2 e l)) + b (ix2 0 l)) 0
        + Ideal.log (1 + Ideal.exp (-max ((∑ e, a (ix2 y e) * w (ix2 e l)) + b (ix2 0 l)) (-((∑ e, a (ix2 y e) * w (ix2 e l)) + b (ix2 0 l))))) := by
  unfold k0_pay7
  pointwise
  simp only [sub_eq_add_neg, zero_add]
  rfl

variable (m : (ℓ : Loc nD τ sig) → Buf (Elt Ideal) ℓ) (c : Dev nD)

/-- The normalised token of a row. -/
theorem token_value (t : Fin grid0.N) (y : Fin 256) (e : Fin 1024) (R : Fin 2048) (hR : R.val = t.val * 256 + y.val) :
    k0_pay2 (iblk m c 1 t) (iblk m c 0 t) (iblk m c 2 t) (ix2 y e)
      = val_main_v25 (F := Ideal) (argH m c) (argM m c) (argN m c) (ix3 ⟨R.val / 256, by omega⟩ ⟨R.val % 256, by omega⟩ e) := by
  refine (pay2_apply _ _ _ y e).trans (Eq.trans ?_ (token_apply _ _ _ _ _ _).symm)
  refine congrFun (congr (congr (congr (congrArg tokenNorm (funext fun i => ?_)) (funext fun i => ?_)) (funext fun i => ?_)) (funext fun i => ?_)) e
  · exact (blk0_apply m c t y i R hR).trans (prepH_apply m c R i)
  · exact (blk2_apply m c t i).trans (prepN_apply m c i)
  · exact (blk1_apply m c t 1 i 8 rfl).trans (prepM1_apply m c i)
  · exact (blk1_apply m c t 0 i 8 rfl).trans (prepM0_apply m c i)

theorem value14 (t : Fin grid0.N) (y : Fin 256) (C : Fin 2048) (R : Fin 2048) (hR : R.val = t.val * 256 + y.val) :
    out0_14 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 y C)
      = val_main_v65 (F := Ideal) (argH m c) (argM m c) (argN m c) (argP m c) (ix2 R C) := by
  rw [out14_eq]
  refine (pay3_apply _ _ _ _ y C).trans (Eq.trans ?_ ((v65_apply _ _ _ _ R C).trans (v27_apply _ _ _ _ _ _ C)).symm)
  exact Finset.sum_congr rfl fun e _ => congrArg₂ (· * ·) (token_value m c t y e R hR) ((blk3_apply m c t e C).trans (prepG_apply m c e C))

theorem value15 (t : Fin grid0.N) (y : Fin 256) (C : Fin 1024) (R : Fin 2048) (hR : R.val = t.val * 256 + y.val) :
    out0_15 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 y C)
      = val_main_v67 (F := Ideal) (argH m c) (argM m c) (argN m c) (argP m c) (ix2 R C) := by
  rw [out15_eq]
  refine (pay4_apply _ _ _ _ y C).trans (Eq.trans ?_ ((v67_apply _ _ _ _ R C).trans (v28_apply _ _ _ _ _ _ C)).symm)
  exact Finset.sum_congr rfl fun e _ => congrArg₂ (· * ·) (token_value m c t y e R hR) ((blk4_apply m c t e C).trans (prepZ_apply m c e C))

theorem value16 (t : Fin grid0.N) (y : Fin 256) (C : Fin 1536) (R : Fin 2048) (hR : R.val = t.val * 256 + y.val) :
    out0_16 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 y C)
      = val_main_v69 (F := Ideal) (argH m c) (argM m c) (argN m c) (argP m c) (ix2 R C) := by
  rw [out16_eq]
  refine (pay5_apply _ _ y C).trans (Eq.trans ?_ ((v69_apply _ _ _ _ R C).trans (v29_apply _ _ _ _ _ _ C)).symm)
  exact Finset.sum_congr rfl fun e _ => congrArg₂ (· * ·) (token_value m c t y e R hR) ((blk5_apply m c t e C).trans (prepX_apply m c e C))

theorem value20 (t : Fin grid0.N) (y : Fin 256) (C : Fin 1024) (R : Fin 2048) (hR : R.val = t.val * 256 + y.val) :
    out0_20 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 y C)
      = val_main_v75 (F := Ideal) (argH m c) (argM m c) (argN m c) (argP m c) (ix2 R C) := by
  rw [out20_eq]
  refine (pay6_apply _ _ y C).trans (Eq.trans ?_ ((v75_apply _ _ _ _ R C).trans (v33_apply _ _ _ _ _ _ C)).symm)
  exact Finset.sum_congr rfl fun e _ => congrArg₂ (· * ·) (token_value m c t y e R hR) ((blk9_apply m c t e C).trans (prepWv_apply m c e C))

theorem full18 (t : Fin grid0.N) (y : Fin 256) (C : Fin 1024) (R : Fin 2048) (hR : R.val = t.val * 256 + y.val) :
    k0_pay10 (k0_pay2 (iblk m c 1 t) (iblk m c 0 t) (iblk m c 2 t)) (iblk m c 7 t) (ix2 y C)
      = val_main_v31 (F := Ideal) (argH m c) (argM m c) (argN m c) (argP m c) (ix3 ⟨R.val / 256, by omega⟩ ⟨R.val % 256, by omega⟩ C) := by
  refine (pay10_apply _ _ y C).trans (Eq.trans ?_ (v31_apply _ _ _ _ _ _ C).symm)
  exact Finset.sum_congr rfl fun e _ => congrArg₂ (· * ·) (token_value m c t y e R hR) ((blk7_apply m c t e C).trans (prepWq_apply m c e C))

theorem value18 (t : Fin grid0.N) (y : Fin 256) (C : Fin 1024) (R : Fin 2048) (hR : R.val = t.val * 256 + y.val) :
    out0_18 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 y C)
      = val_main_v71 (F := Ideal) (argH m c) (argM m c) (argN m c) (argP m c) (argQ m c) (ix2 R C) := by
  have hC : C.val < 1024 := C.isLt
  rw [out18_eq]
  unfold pairAt
  show pairNorm _ _ _ _ * Ideal.ofBits FTy.f32 1040187392#32 = _
  rw [v71_apply]
  refine congrArg (· * Ideal.ofBits FTy.f32 1040187392#32) ?_
  rw [qNorm_apply]
  refine (pairNorm_congr (u' := fun i => (fun j => val_main_v31 (F := Ideal) (argH m c) (argM m c) (argN m c) (argP m c)
      (ix3 ⟨R.val / 256, by omega⟩ ⟨R.val % 256, by omega⟩ j)) ⟨C.val / 128 * 128 + i.val, by omega⟩)
    (bd' := sameHead) (nw' := fun i => (fun j => argQ m c (ix1 j)) ⟨i.val % 64, Nat.mod_lt _ (by omega)⟩) _
    (fun i => full18 m c t y _ R hR) (fun i j => (blk10_apply m c t i j).trans (prepBd_apply m c i j))
    (fun i => (blk11_apply m c t i).trans (prepNq_apply m c i))).trans ?_
  exact pairCol_eq (fun j => val_main_v31 (F := Ideal) (argH m c) (argM m c) (argN m c) (argP m c) (ix3 ⟨R.val / 256, by omega⟩ ⟨R.val % 256, by omega⟩ j))
    (fun j => argQ m c (ix1 j)) C

theorem full19 (t : Fin grid0.N) (y : Fin 256) (C : Fin 1024) (R : Fin 2048) (hR : R.val = t.val * 256 + y.val) :
    k0_pay23 (k0_pay2 (iblk m c 1 t) (iblk m c 0 t) (iblk m c 2 t)) (iblk m c 8 t) (ix2 y C)
      = val_main_v32 (F := Ideal) (argH m c) (argM m c) (argN m c) (argP m c) (ix3 ⟨R.val / 256, by omega⟩ ⟨R.val % 256, by omega⟩ C) := by
  refine (pay23_apply _ _ y C).trans (Eq.trans ?_ (v32_apply _ _ _ _ _ _ C).symm)
  exact Finset.sum_congr rfl fun e _ => congrArg₂ (· * ·) (token_value m c t y e R hR) ((blk8_apply m c t e C).trans (prepWk_apply m c e C))

theorem value19 (t : Fin grid0.N) (y : Fin 256) (C : Fin 1024) (R : Fin 2048) (hR : R.val = t.val * 256 + y.val) :
    out0_19 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 y C)
      = val_main_v73 (F := Ideal) (argH m c) (argM m c) (argN m c) (argP m c) (argK m c) (ix2 R C) := by
  have hC : C.val < 1024 := C.isLt
  rw [out19_eq]
  unfold pairAt
  show pairNorm _ _ _ _ = _
  rw [v73_apply]
  rw [kNorm_apply]
  refine (pairNorm_congr (u' := fun i => (fun j => val_main_v32 (F := Ideal) (argH m c) (argM m c) (argN m c) (argP m c)
      (ix3 ⟨R.val / 256, by omega⟩ ⟨R.val % 256, by omega⟩ j)) ⟨C.val / 128 * 128 + i.val, by omega⟩)
    (bd' := sameHead) (nw' := fun i => (fun j => argK m c (ix1 j)) ⟨i.val % 64, Nat.mod_lt _ (by omega)⟩) _
    (fun i => full19 m c t y _ R hR) (fun i j => (blk10_apply m c t i j).trans (prepBd_apply m c i j))
    (fun i => (blk12_apply m c t i).trans (prepNk_apply m c i))).trans ?_
  exact pairCol_eq (fun j => val_main_v32 (F := Ideal) (argH m c) (argM m c) (argN m c) (argP m c) (ix3 ⟨R.val / 256, by omega⟩ ⟨R.val % 256, by omega⟩ j))
    (fun j => argK m c (ix1 j)) C

theorem value17 (t : Fin grid0.N) (y : Fin 256) (l : Fin 256) (R : Fin 2048) (hR : R.val = t.val * 256 + y.val) :
    out0_17 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (ix2 y l)
      = val_main_v83 (F := Ideal) (argH m c) (argM m c) (argN m c) (argP m c) (argB m c) (ix2 R l) := by
  rw [out17_eq]
  refine (pay7_apply _ _ _ y l).trans (Eq.trans ?_ (v83_apply _ _ _ _ _ R l).symm)
  refine congrArg softplusOf (Eq.trans (congrArg₂ (· + ·) (Finset.sum_congr rfl fun e _ => congrArg₂ (· * ·) (token_value m c t y e R hR)
    ((blk6_apply m c t e l).trans (prepWd_apply m c e l))) ((blk13_apply m c t l).trans (prepB_apply m c l))) ?_)
  by_cases h : l.val % 128 < 16
  · simp only [dif_pos h]
    exact (v80_apply _ _ _ _ _ ⟨R.val / 256, by omega⟩ ⟨R.val % 256, by omega⟩ ⟨l.val / 128, by omega⟩ ⟨l.val % 128, h⟩).symm
  · simp only [dif_neg h, mul_zero, Finset.sum_const_zero, add_zero]

theorem covers14 : (cfg0.win 14).Covers :=
  (cfg0.win 14).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index14 ⟨(β 0).val, _⟩) a).trans ?_
      fin_cases a
      · rfl
      · show 0 = (β 1).val
        omega

theorem arrAt14 : (dats m 0 c).arrAt 14 cfg0.N
    = Cert.Reference9Ideal.Read.val_main_v65 (F := Ideal) (argH m c) (argM m c) (argN m c) (argP m c) := by
  refine (dats m 0 c).arrAt_eq_of_covers 14 _ covers14 fun t hf y => ?_
  blk_simp
  rw [after0_14]
  have h0 := Pipeline.Window.rect_emb_val win0_14 t y 0
  have h1 := Pipeline.Window.rect_emb_val win0_14 t y 1
  rw [index14 t] at h0 h1
  obtain ⟨a, b, rfl⟩ : ∃ (a : Fin 256) (b : Fin 2048), y = ix2 a b := ⟨y 0, y 1, eq_ix2 y⟩
  refine (value14 m c t a b _ h0).trans (congrArg _ ?_)
  refine Eq.trans (congrArg (ix2 _) (Fin.ext ?_)) (eq_ix2 (n0 := 2048) (n1 := 2048) _).symm
  refine Eq.trans ?_ h1.symm
  show b.val = 0 * 2048 + b.val
  omega

theorem covers15 : (cfg0.win 15).Covers :=
  (cfg0.win 15).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index15 ⟨(β 0).val, _⟩) a).trans ?_
      fin_cases a
      · rfl
      · show 0 = (β 1).val
        omega

theorem arrAt15 : (dats m 0 c).arrAt 15 cfg0.N
    = Cert.Reference9Ideal.Read.val_main_v67 (F := Ideal) (argH m c) (argM m c) (argN m c) (argP m c) := by
  refine (dats m 0 c).arrAt_eq_of_covers 15 _ covers15 fun t hf y => ?_
  blk_simp
  rw [after0_15]
  have h0 := Pipeline.Window.rect_emb_val win0_15 t y 0
  have h1 := Pipeline.Window.rect_emb_val win0_15 t y 1
  rw [index15 t] at h0 h1
  obtain ⟨a, b, rfl⟩ : ∃ (a : Fin 256) (b : Fin 1024), y = ix2 a b := ⟨y 0, y 1, eq_ix2 y⟩
  refine (value15 m c t a b _ h0).trans (congrArg _ ?_)
  refine Eq.trans (congrArg (ix2 _) (Fin.ext ?_)) (eq_ix2 (n0 := 2048) (n1 := 1024) _).symm
  refine Eq.trans ?_ h1.symm
  show b.val = 0 * 1024 + b.val
  omega

theorem covers16 : (cfg0.win 16).Covers :=
  (cfg0.win 16).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index16 ⟨(β 0).val, _⟩) a).trans ?_
      fin_cases a
      · rfl
      · show 0 = (β 1).val
        omega

theorem arrAt16 : (dats m 0 c).arrAt 16 cfg0.N
    = Cert.Reference9Ideal.Read.val_main_v69 (F := Ideal) (argH m c) (argM m c) (argN m c) (argP m c) := by
  refine (dats m 0 c).arrAt_eq_of_covers 16 _ covers16 fun t hf y => ?_
  blk_simp
  rw [after0_16]
  have h0 := Pipeline.Window.rect_emb_val win0_16 t y 0
  have h1 := Pipeline.Window.rect_emb_val win0_16 t y 1
  rw [index16 t] at h0 h1
  obtain ⟨a, b, rfl⟩ : ∃ (a : Fin 256) (b : Fin 1536), y = ix2 a b := ⟨y 0, y 1, eq_ix2 y⟩
  refine (value16 m c t a b _ h0).trans (congrArg _ ?_)
  refine Eq.trans (congrArg (ix2 _) (Fin.ext ?_)) (eq_ix2 (n0 := 2048) (n1 := 1536) _).symm
  refine Eq.trans ?_ h1.symm
  show b.val = 0 * 1536 + b.val
  omega

theorem covers17 : (cfg0.win 17).Covers :=
  (cfg0.win 17).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index17 ⟨(β 0).val, _⟩) a).trans ?_
      fin_cases a
      · rfl
      · show 0 = (β 1).val
        omega

theorem arrAt17 : (dats m 0 c).arrAt 17 cfg0.N
    = Cert.Reference9Ideal.Read.val_main_v83 (F := Ideal) (argH m c) (argM m c) (argN m c) (argP m c) (argB m c) := by
  refine (dats m 0 c).arrAt_eq_of_covers 17 _ covers17 fun t hf y => ?_
  blk_simp
  rw [after0_17]
  have h0 := Pipeline.Window.rect_emb_val win0_17 t y 0
  have h1 := Pipeline.Window.rect_emb_val win0_17 t y 1
  rw [index17 t] at h0 h1
  obtain ⟨a, b, rfl⟩ : ∃ (a : Fin 256) (b : Fin 256), y = ix2 a b := ⟨y 0, y 1, eq_ix2 y⟩
  refine (value17 m c t a b _ h0).trans (congrArg _ ?_)
  refine Eq.trans (congrArg (ix2 _) (Fin.ext ?_)) (eq_ix2 (n0 := 2048) (n1 := 256) _).symm
  refine Eq.trans ?_ h1.symm
  show b.val = 0 * 256 + b.val
  omega

theorem covers18 : (cfg0.win 18).Covers :=
  (cfg0.win 18).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index18 ⟨(β 0).val, _⟩) a).trans ?_
      fin_cases a
      · rfl
      · show 0 = (β 1).val
        omega

theorem arrAt18 : (dats m 0 c).arrAt 18 cfg0.N
    = Cert.Reference9Ideal.Read.val_main_v71 (F := Ideal) (argH m c) (argM m c) (argN m c) (argP m c) (argQ m c) := by
  refine (dats m 0 c).arrAt_eq_of_covers 18 _ covers18 fun t hf y => ?_
  blk_simp
  rw [after0_18]
  have h0 := Pipeline.Window.rect_emb_val win0_18 t y 0
  have h1 := Pipeline.Window.rect_emb_val win0_18 t y 1
  rw [index18 t] at h0 h1
  obtain ⟨a, b, rfl⟩ : ∃ (a : Fin 256) (b : Fin 1024), y = ix2 a b := ⟨y 0, y 1, eq_ix2 y⟩
  refine (value18 m c t a b _ h0).trans (congrArg _ ?_)
  refine Eq.trans (congrArg (ix2 _) (Fin.ext ?_)) (eq_ix2 (n0 := 2048) (n1 := 1024) _).symm
  refine Eq.trans ?_ h1.symm
  show b.val = 0 * 1024 + b.val
  omega

theorem covers19 : (cfg0.win 19).Covers :=
  (cfg0.win 19).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index19 ⟨(β 0).val, _⟩) a).trans ?_
      fin_cases a
      · rfl
      · show 0 = (β 1).val
        omega

theorem arrAt19 : (dats m 0 c).arrAt 19 cfg0.N
    = Cert.Reference9Ideal.Read.val_main_v73 (F := Ideal) (argH m c) (argM m c) (argN m c) (argP m c) (argK m c) := by
  refine (dats m 0 c).arrAt_eq_of_covers 19 _ covers19 fun t hf y => ?_
  blk_simp
  rw [after0_19]
  have h0 := Pipeline.Window.rect_emb_val win0_19 t y 0
  have h1 := Pipeline.Window.rect_emb_val win0_19 t y 1
  rw [index19 t] at h0 h1
  obtain ⟨a, b, rfl⟩ : ∃ (a : Fin 256) (b : Fin 1024), y = ix2 a b := ⟨y 0, y 1, eq_ix2 y⟩
  refine (value19 m c t a b _ h0).trans (congrArg _ ?_)
  refine Eq.trans (congrArg (ix2 _) (Fin.ext ?_)) (eq_ix2 (n0 := 2048) (n1 := 1024) _).symm
  refine Eq.trans ?_ h1.symm
  show b.val = 0 * 1024 + b.val
  omega

theorem covers20 : (cfg0.win 20).Covers :=
  (cfg0.win 20).covers_of_index_surj rfl (by decide) fun β => by
    have h0 : (β 0).val < 8 := (β 0).isLt
    have h1 : (β 1).val < 1 := (β 1).isLt
    refine ⟨⟨(β 0).val, ?_⟩, fun a => ?_⟩
    · show _ < 8
      omega
    · refine (congrFun (index20 ⟨(β 0).val, _⟩) a).trans ?_
      fin_cases a
      · rfl
      · show 0 = (β 1).val
        omega

theorem arrAt20 : (dats m 0 c).arrAt 20 cfg0.N
    = Cert.Reference9Ideal.Read.val_main_v75 (F := Ideal) (argH m c) (argM m c) (argN m c) (argP m c) := by
  refine (dats m 0 c).arrAt_eq_of_covers 20 _ covers20 fun t hf y => ?_
  blk_simp
  rw [after0_20]
  have h0 := Pipeline.Window.rect_emb_val win0_20 t y 0
  have h1 := Pipeline.Window.rect_emb_val win0_20 t y 1
  rw [index20 t] at h0 h1
  obtain ⟨a, b, rfl⟩ : ∃ (a : Fin 256) (b : Fin 1024), y = ix2 a b := ⟨y 0, y 1, eq_ix2 y⟩
  refine (value20 m c t a b _ h0).trans (congrArg _ ?_)
  refine Eq.trans (congrArg (ix2 _) (Fin.ext ?_)) (eq_ix2 (n0 := 2048) (n1 := 1024) _).symm
  refine Eq.trans ?_ h1.symm
  show b.val = 0 * 1024 + b.val
  omega

end Cert.ProjCtx

end
-- ==== Proof.ProjCtxClaim.lean ====
/- The context's input projection's claims: the reference leaves its arguments alone, and the results of the two are the same arrays. -/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.ProjCtxArray
public import Idealize.ShloMosaic.Lib.Quiescent
public import Idealize.ShloMosaic.Adequacy
public import Idealize.ShloMosaic.Init

@[expose] public section

noncomputable section

namespace Cert.ProjCtx

open Idealize.ShloMosaic Idealize.SL.Sem

theorem reference_frame : Cert.quiescent_Reference9Ideal (hReference9Ideal := Cert.Reference9Ideal.Gen.facts) := fun m ρ _ =>
  (θ_run _ _ _).mono (fun r h => ⟨fun c => (h c).2.2.2.2.2.2.2, sem_eq_zero_of_no_sems rfl r.2⟩) (Cert.Reference9Ideal.Value.run m ρ)

theorem agree0 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (e : m' ((c.tc : Thread Cert.Reference9Ideal.nD Cert.Reference9Ideal.τ).loc Cert.Reference9Ideal.main_arg0)
      = m ((c.tc : Thread Cert.Kernel9Ideal.nD Cert.Kernel9Ideal.τ).loc Cert.Kernel9Ideal.main_arg0)) :
    m' ((c.tc : Thread Cert.Reference9Ideal.nD Cert.Reference9Ideal.τ).loc Cert.Reference9Ideal.main_arg0) = argH m c := e

theorem agree1 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (e : m' ((c.tc : Thread Cert.Reference9Ideal.nD Cert.Reference9Ideal.τ).loc Cert.Reference9Ideal.main_arg1)
      = m ((c.tc : Thread Cert.Kernel9Ideal.nD Cert.Kernel9Ideal.τ).loc Cert.Kernel9Ideal.main_arg1)) :
    m' ((c.tc : Thread Cert.Reference9Ideal.nD Cert.Reference9Ideal.τ).loc Cert.Reference9Ideal.main_arg1) = argM m c := e

theorem agree2 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (e : m' ((c.tc : Thread Cert.Reference9Ideal.nD Cert.Reference9Ideal.τ).loc Cert.Reference9Ideal.main_arg2)
      = m ((c.tc : Thread Cert.Kernel9Ideal.nD Cert.Kernel9Ideal.τ).loc Cert.Kernel9Ideal.main_arg2)) :
    m' ((c.tc : Thread Cert.Reference9Ideal.nD Cert.Reference9Ideal.τ).loc Cert.Reference9Ideal.main_arg2) = argN m c := e

theorem agree3 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (e : m' ((c.tc : Thread Cert.Reference9Ideal.nD Cert.Reference9Ideal.τ).loc Cert.Reference9Ideal.main_arg3)
      = m ((c.tc : Thread Cert.Kernel9Ideal.nD Cert.Kernel9Ideal.τ).loc Cert.Kernel9Ideal.main_arg3)) :
    m' ((c.tc : Thread Cert.Reference9Ideal.nD Cert.Reference9Ideal.τ).loc Cert.Reference9Ideal.main_arg3) = argP m c := e

theorem agree4 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (e : m' ((c.tc : Thread Cert.Reference9Ideal.nD Cert.Reference9Ideal.τ).loc Cert.Reference9Ideal.main_arg4)
      = m ((c.tc : Thread Cert.Kernel9Ideal.nD Cert.Kernel9Ideal.τ).loc Cert.Kernel9Ideal.main_arg4)) :
    m' ((c.tc : Thread Cert.Reference9Ideal.nD Cert.Reference9Ideal.τ).loc Cert.Reference9Ideal.main_arg4) = argB m c := e

theorem agree5 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (e : m' ((c.tc : Thread Cert.Reference9Ideal.nD Cert.Reference9Ideal.τ).loc Cert.Reference9Ideal.main_arg5)
      = m ((c.tc : Thread Cert.Kernel9Ideal.nD Cert.Kernel9Ideal.τ).loc Cert.Kernel9Ideal.main_arg5)) :
    m' ((c.tc : Thread Cert.Reference9Ideal.nD Cert.Reference9Ideal.τ).loc Cert.Reference9Ideal.main_arg5) = argQ m c := e

theorem agree6 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (e : m' ((c.tc : Thread Cert.Reference9Ideal.nD Cert.Reference9Ideal.τ).loc Cert.Reference9Ideal.main_arg6)
      = m ((c.tc : Thread Cert.Kernel9Ideal.nD Cert.Kernel9Ideal.τ).loc Cert.Kernel9Ideal.main_arg6)) :
    m' ((c.tc : Thread Cert.Reference9Ideal.nD Cert.Reference9Ideal.τ).loc Cert.Reference9Ideal.main_arg6) = argK m c := e

theorem same14 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (a0 : m' ((c.tc : Thread Cert.Reference9Ideal.nD Cert.Reference9Ideal.τ).loc Cert.Reference9Ideal.main_arg0) = argH m c) (a1 : m' ((c.tc : Thread Cert.Reference9Ideal.nD Cert.Reference9Ideal.τ).loc Cert.Reference9Ideal.main_arg1) = argM m c) (a2 : m' ((c.tc : Thread Cert.Reference9Ideal.nD Cert.Reference9Ideal.τ).loc Cert.Reference9Ideal.main_arg2) = argN m c) (a3 : m' ((c.tc : Thread Cert.Reference9Ideal.nD Cert.Reference9Ideal.τ).loc Cert.Reference9Ideal.main_arg3) = argP m c) :
    Cert.Reference9Ideal.Read.val_main_v65 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      = (Cert.Kernel9Ideal.Gen.dats m 0 c).arrAt 14 Cert.Kernel9Ideal.cfg0.N := by
  rw [a0, a1, a2, a3]
  exact (arrAt14 m c).symm

theorem same15 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (a0 : m' ((c.tc : Thread Cert.Reference9Ideal.nD Cert.Reference9Ideal.τ).loc Cert.Reference9Ideal.main_arg0) = argH m c) (a1 : m' ((c.tc : Thread Cert.Reference9Ideal.nD Cert.Reference9Ideal.τ).loc Cert.Reference9Ideal.main_arg1) = argM m c) (a2 : m' ((c.tc : Thread Cert.Reference9Ideal.nD Cert.Reference9Ideal.τ).loc Cert.Reference9Ideal.main_arg2) = argN m c) (a3 : m' ((c.tc : Thread Cert.Reference9Ideal.nD Cert.Reference9Ideal.τ).loc Cert.Reference9Ideal.main_arg3) = argP m c) :
    Cert.Reference9Ideal.Read.val_main_v67 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      = (Cert.Kernel9Ideal.Gen.dats m 0 c).arrAt 15 Cert.Kernel9Ideal.cfg0.N := by
  rw [a0, a1, a2, a3]
  exact (arrAt15 m c).symm

theorem same16 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (a0 : m' ((c.tc : Thread Cert.Reference9Ideal.nD Cert.Reference9Ideal.τ).loc Cert.Reference9Ideal.main_arg0) = argH m c) (a1 : m' ((c.tc : Thread Cert.Reference9Ideal.nD Cert.Reference9Ideal.τ).loc Cert.Reference9Ideal.main_arg1) = argM m c) (a2 : m' ((c.tc : Thread Cert.Reference9Ideal.nD Cert.Reference9Ideal.τ).loc Cert.Reference9Ideal.main_arg2) = argN m c) (a3 : m' ((c.tc : Thread Cert.Reference9Ideal.nD Cert.Reference9Ideal.τ).loc Cert.Reference9Ideal.main_arg3) = argP m c) :
    Cert.Reference9Ideal.Read.val_main_v69 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      = (Cert.Kernel9Ideal.Gen.dats m 0 c).arrAt 16 Cert.Kernel9Ideal.cfg0.N := by
  rw [a0, a1, a2, a3]
  exact (arrAt16 m c).symm

theorem same17 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (a0 : m' ((c.tc : Thread Cert.Reference9Ideal.nD Cert.Reference9Ideal.τ).loc Cert.Reference9Ideal.main_arg0) = argH m c) (a1 : m' ((c.tc : Thread Cert.Reference9Ideal.nD Cert.Reference9Ideal.τ).loc Cert.Reference9Ideal.main_arg1) = argM m c) (a2 : m' ((c.tc : Thread Cert.Reference9Ideal.nD Cert.Reference9Ideal.τ).loc Cert.Reference9Ideal.main_arg2) = argN m c) (a3 : m' ((c.tc : Thread Cert.Reference9Ideal.nD Cert.Reference9Ideal.τ).loc Cert.Reference9Ideal.main_arg3) = argP m c) (a4 : m' ((c.tc : Thread Cert.Reference9Ideal.nD Cert.Reference9Ideal.τ).loc Cert.Reference9Ideal.main_arg4) = argB m c) :
    Cert.Reference9Ideal.Read.val_main_v83 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4))
      = (Cert.Kernel9Ideal.Gen.dats m 0 c).arrAt 17 Cert.Kernel9Ideal.cfg0.N := by
  rw [a0, a1, a2, a3, a4]
  exact (arrAt17 m c).symm

theorem same18 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (a0 : m' ((c.tc : Thread Cert.Reference9Ideal.nD Cert.Reference9Ideal.τ).loc Cert.Reference9Ideal.main_arg0) = argH m c) (a1 : m' ((c.tc : Thread Cert.Reference9Ideal.nD Cert.Reference9Ideal.τ).loc Cert.Reference9Ideal.main_arg1) = argM m c) (a2 : m' ((c.tc : Thread Cert.Reference9Ideal.nD Cert.Reference9Ideal.τ).loc Cert.Reference9Ideal.main_arg2) = argN m c) (a3 : m' ((c.tc : Thread Cert.Reference9Ideal.nD Cert.Reference9Ideal.τ).loc Cert.Reference9Ideal.main_arg3) = argP m c) (a5 : m' ((c.tc : Thread Cert.Reference9Ideal.nD Cert.Reference9Ideal.τ).loc Cert.Reference9Ideal.main_arg5) = argQ m c) :
    Cert.Reference9Ideal.Read.val_main_v71 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg5))
      = (Cert.Kernel9Ideal.Gen.dats m 0 c).arrAt 18 Cert.Kernel9Ideal.cfg0.N := by
  rw [a0, a1, a2, a3, a5]
  exact (arrAt18 m c).symm

theorem same19 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (a0 : m' ((c.tc : Thread Cert.Reference9Ideal.nD Cert.Reference9Ideal.τ).loc Cert.Reference9Ideal.main_arg0) = argH m c) (a1 : m' ((c.tc : Thread Cert.Reference9Ideal.nD Cert.Reference9Ideal.τ).loc Cert.Reference9Ideal.main_arg1) = argM m c) (a2 : m' ((c.tc : Thread Cert.Reference9Ideal.nD Cert.Reference9Ideal.τ).loc Cert.Reference9Ideal.main_arg2) = argN m c) (a3 : m' ((c.tc : Thread Cert.Reference9Ideal.nD Cert.Reference9Ideal.τ).loc Cert.Reference9Ideal.main_arg3) = argP m c) (a6 : m' ((c.tc : Thread Cert.Reference9Ideal.nD Cert.Reference9Ideal.τ).loc Cert.Reference9Ideal.main_arg6) = argK m c) :
    Cert.Reference9Ideal.Read.val_main_v73 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg6))
      = (Cert.Kernel9Ideal.Gen.dats m 0 c).arrAt 19 Cert.Kernel9Ideal.cfg0.N := by
  rw [a0, a1, a2, a3, a6]
  exact (arrAt19 m c).symm

theorem same20 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ) (c : Dev 1)
    (a0 : m' ((c.tc : Thread Cert.Reference9Ideal.nD Cert.Reference9Ideal.τ).loc Cert.Reference9Ideal.main_arg0) = argH m c) (a1 : m' ((c.tc : Thread Cert.Reference9Ideal.nD Cert.Reference9Ideal.τ).loc Cert.Reference9Ideal.main_arg1) = argM m c) (a2 : m' ((c.tc : Thread Cert.Reference9Ideal.nD Cert.Reference9Ideal.τ).loc Cert.Reference9Ideal.main_arg2) = argN m c) (a3 : m' ((c.tc : Thread Cert.Reference9Ideal.nD Cert.Reference9Ideal.τ).loc Cert.Reference9Ideal.main_arg3) = argP m c) :
    Cert.Reference9Ideal.Read.val_main_v75 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      = (Cert.Kernel9Ideal.Gen.dats m 0 c).arrAt 20 Cert.Kernel9Ideal.cfg0.N := by
  rw [a0, a1, a2, a3]
  exact (arrAt20 m c).symm

/-- The reference's run, each result named by its stage. -/
theorem reference_run (m' : (ℓ : Loc Cert.Reference9Ideal.nD Cert.Reference9Ideal.τ Cert.Reference9Ideal.sig) → Buf (Elt Ideal) ℓ)
    (g' : Dev Cert.Reference9Ideal.nD → PrngReg) :
    θ_run (Cert.Reference9Ideal.defs (F := Ideal)) (onTc (τ := Cert.Reference9Ideal.τ) (Cert.Reference9Ideal.main (F := Ideal))) ⟨m', fun _ => 0, g'⟩
      (fun r => ∀ c : Dev Cert.Reference9Ideal.nD,
      r.2.mem ((c.tc : Thread Cert.Reference9Ideal.nD Cert.Reference9Ideal.τ).loc Cert.Reference9Ideal.main_v65) = Cert.Reference9Ideal.Read.val_main_v65 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_v67) = Cert.Reference9Ideal.Read.val_main_v67 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_v69) = Cert.Reference9Ideal.Read.val_main_v69 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_v71) = Cert.Reference9Ideal.Read.val_main_v71 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg5))
      ∧ r.2.mem ((c.tc : Thread Cert.Reference9Ideal.nD Cert.Reference9Ideal.τ).loc Cert.Reference9Ideal.main_v73) = Cert.Reference9Ideal.Read.val_main_v73 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg6))
      ∧ r.2.mem ((c.tc : Thread Cert.Reference9Ideal.nD Cert.Reference9Ideal.τ).loc Cert.Reference9Ideal.main_v75) = Cert.Reference9Ideal.Read.val_main_v75 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
      ∧ r.2.mem ((c.tc : Thread Cert.Reference9Ideal.nD Cert.Reference9Ideal.τ).loc Cert.Reference9Ideal.main_v83) = Cert.Reference9Ideal.Read.val_main_v83 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4))
      ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)) :=
  (θ_run _ _ _).mono (fun r h c => ⟨
      (h c).1.trans (Cert.Reference9Ideal.Read.val_main_v65_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))),
      (h c).2.1.trans (Cert.Reference9Ideal.Read.val_main_v67_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))),
      (h c).2.2.1.trans (Cert.Reference9Ideal.Read.val_main_v69_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))),
      (h c).2.2.2.1.trans (Cert.Reference9Ideal.Read.val_main_v71_eq (F := Ideal) m' c),
      (h c).2.2.2.2.1.trans (Cert.Reference9Ideal.Read.val_main_v73_eq (F := Ideal) m' c),
      (h c).2.2.2.2.2.1.trans (Cert.Reference9Ideal.Read.val_main_v75_eq (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))),
      (h c).2.2.2.2.2.2.1.trans (Cert.Reference9Ideal.Read.val_main_v83_eq (F := Ideal) m' c),
      (h c).2.2.2.2.2.2.2⟩) (Cert.Reference9Ideal.Value.run m' g')

set_option maxHeartbeats 2000000 in
/-- The call's results and the reference's are the same arrays. -/
theorem algebraic : Cert.algebraic_Kernel9Ideal_Reference9Ideal
    (hKernel9Ideal := Cert.Kernel9Ideal.Gen.facts) (hReference9Ideal := Cert.Reference9Ideal.Gen.facts) := by
  intro m g m' g' _ hagree
  refine ⟨fun c => (Cert.Kernel9Ideal.Gen.dats m 0 c).arrAt 14 Cert.Kernel9Ideal.cfg0.N, fun c => (Cert.Kernel9Ideal.Gen.dats m 0 c).arrAt 15 Cert.Kernel9Ideal.cfg0.N, fun c => (Cert.Kernel9Ideal.Gen.dats m 0 c).arrAt 16 Cert.Kernel9Ideal.cfg0.N, fun c => (Cert.Kernel9Ideal.Gen.dats m 0 c).arrAt 18 Cert.Kernel9Ideal.cfg0.N, fun c => (Cert.Kernel9Ideal.Gen.dats m 0 c).arrAt 19 Cert.Kernel9Ideal.cfg0.N, fun c => (Cert.Kernel9Ideal.Gen.dats m 0 c).arrAt 20 Cert.Kernel9Ideal.cfg0.N, fun c => (Cert.Kernel9Ideal.Gen.dats m 0 c).arrAt 17 Cert.Kernel9Ideal.cfg0.N, ?_, ?_⟩
  · refine (θ_run _ _ _).mono (fun r h c => ?_) (Cert.Kernel9Ideal.Value.run_blocks m g)
    obtain ⟨h14, h15, h16, h17, h18, h19, h20, hargs⟩ := h c
    exact ⟨h14, h15, h16, h18, h19, h20, h17, hargs⟩
  refine (θ_run _ _ _).mono (fun r h c => ?_) (reference_run m' g')
  obtain ⟨e0, e1, e2, e3, e4, e5, e6⟩ := hagree c
  have a0 := agree0 m m' c e0
  have a1 := agree1 m m' c e1
  have a2 := agree2 m m' c e2
  have a3 := agree3 m m' c e3
  have a4 := agree4 m m' c e4
  have a5 := agree5 m m' c e5
  have a6 := agree6 m m' c e6
  refine ⟨?_, ?_, ?_, ?_, ?_, ?_, ?_, (h c).2.2.2.2.2.2.2⟩
  · exact (h c).1.trans (same14 m m' c a0 a1 a2 a3)
  · exact (h c).2.1.trans (same15 m m' c a0 a1 a2 a3)
  · exact (h c).2.2.1.trans (same16 m m' c a0 a1 a2 a3)
  · exact (h c).2.2.2.1.trans (same18 m m' c a0 a1 a2 a3 a5)
  · exact (h c).2.2.2.2.1.trans (same19 m m' c a0 a1 a2 a3 a6)
  · exact (h c).2.2.2.2.2.1.trans (same20 m m' c a0 a1 a2 a3)
  · exact (h c).2.2.2.2.2.2.1.trans (same17 m m' c a0 a1 a2 a3 a4)

end Cert.ProjCtx

end
-- ==== Proof.lean ====
/- The claims: each of the nine calls keeps its arguments and ends with its semaphores at zero, at the machine's arithmetic
   and the idealized one; no operation is replaced; and its results are the reference's: the attention's where the queries,
   the keys and the bias table are finite, the modulation's where the factors of its split product are finite, the input
   projections', the feed-forwards' and the merges' always. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference2Ideal
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_factors_finite
public import proofs.«01_k».proof.Proof.Gen.Pre_scores_finite
public import proofs.«01_k».proof.Proof.Gen.ReferenceIdeal
public import proofs.«01_k».proof.Proof.Gen.ReferenceIdeal.Run
public import proofs.«01_k».proof.Proof.Gen.ReferenceIdeal.Read
public import proofs.«01_k».proof.Proof.Finite
public import proofs.«01_k».proof.Proof.Agree
public import proofs.«01_k».proof.Proof.ProjClaim
public import proofs.«01_k».proof.Proof.FfnClaim
public import proofs.«01_k».proof.Proof.MergeClaim
public import proofs.«01_k».proof.Proof.MergeEClaim
public import proofs.«01_k».proof.Proof.ModulClaim
public import proofs.«01_k».proof.Proof.MergeCtxClaim
public import proofs.«01_k».proof.Proof.FfnCtxClaim
public import proofs.«01_k».proof.Proof.ProjCtxClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments alone; it has no semaphore. -/
theorem reference_frame : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- The call's result and the reference's are one array, where the precondition holds. -/
theorem algebraic : Cert.algebraic_KernelIdeal_ReferenceIdeal_pre_scores_finite
    (hKernelIdeal := Cert.KernelIdeal.Gen.facts) (hReferenceIdeal := Cert.ReferenceIdeal.Gen.facts)
    (hPre_scores_finite := Cert.Pre_scores_finite.Gen.facts) := by
  intro m g m' g' hpre hagree
  refine ⟨fun c => (Cert.KernelIdeal.Gen.dats m 0 c).arrAt 6 Cert.KernelIdeal.cfg0.N, Cert.KernelIdeal.Value.run_blocks m g, ?_⟩
  refine (θ_run _ _ _).mono (fun r h c => ?_) (Cert.ReferenceIdeal.Value.run m' g')
  obtain ⟨hv, hargs⟩ := h c
  refine ⟨hv.trans ?_, hargs⟩
  obtain ⟨hq, hk, hkc, h5⟩ := Cert.Attn.finite_of_pre _ _ _ _ _ _ (hpre c)
  obtain ⟨e0, e1, e2, e3, e4, e5⟩ := hagree c
  rw [Cert.ReferenceIdeal.Read.val_main_v111_eq, e0, e1, e2, e3, e4, e5]
  exact ((Cert.Attn.arrAt6 m c).trans (Cert.Attn.agrees _ _ _ _ _ _ hq hk hkc h5)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_scores_finite.Gen.facts, Cert.Pre_factors_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Kernel2.Gen.frame m ρ,
  fun m ρ _ => Cert.Kernel2Ideal.Gen.frame m ρ,
  Cert.Proj.reference_frame,
  fun m ρ _ => Cert.Kernel3.Gen.frame m ρ,
  fun m ρ _ => Cert.Kernel3Ideal.Gen.frame m ρ,
  Cert.Ffn.reference_frame,
  fun m ρ _ => Cert.Kernel4.Gen.frame m ρ,
  fun m ρ _ => Cert.Kernel4Ideal.Gen.frame m ρ,
  Cert.Merge.reference_frame,
  fun m ρ _ => Cert.Kernel5.Gen.frame m ρ,
  fun m ρ _ => Cert.Kernel5Ideal.Gen.frame m ρ,
  Cert.MergeE.reference_frame,
  fun m ρ _ => Cert.Kernel6.Gen.frame m ρ,
  fun m ρ _ => Cert.Kernel6Ideal.Gen.frame m ρ,
  fun m ρ _ => Cert.Kernel6Ideal.Gen.frame m ρ,
  Cert.Modul.reference_frame,
  fun m ρ _ => Cert.Modul.reference_frame m ρ trivial,
  fun m ρ _ => Cert.Kernel7.Gen.frame m ρ,
  fun m ρ _ => Cert.Kernel7Ideal.Gen.frame m ρ,
  Cert.MergeCtx.reference_frame,
  fun m ρ _ => Cert.Kernel8.Gen.frame m ρ,
  fun m ρ _ => Cert.Kernel8Ideal.Gen.frame m ρ,
  Cert.FfnCtx.reference_frame,
  fun m ρ _ => Cert.Kernel9.Gen.frame m ρ,
  fun m ρ _ => Cert.Kernel9Ideal.Gen.frame m ρ,
  Cert.ProjCtx.reference_frame,
  trivial,
  algebraic,
  trivial,
  Cert.Proj.algebraic,
  trivial,
  Cert.Ffn.algebraic,
  trivial,
  Cert.Merge.algebraic,
  trivial,
  Cert.MergeE.algebraic,
  trivial,
  Cert.Modul.algebraic,
  trivial,
  Cert.MergeCtx.algebraic,
  trivial,
  Cert.FfnCtx.algebraic,
  trivial,
  Cert.ProjCtx.algebraic⟩

end Cert.Proof

end
